-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![4096, 128]⟩ ⟨2, ![4096, 1024]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![128, 4096]⟩ ⟨2, ![1024, 4096]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 4096]⟩ ⟨2, ![1024, 4096]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v31) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S4x256x4096 : Shape := ⟨3, ![4, 256, 4096]⟩
abbrev S4096x128 : Shape := ⟨2, ![4096, 128]⟩
abbrev S128x4096 : Shape := ⟨2, ![128, 4096]⟩
abbrev S4096x4096 : Shape := ⟨2, ![4096, 4096]⟩
abbrev S4096x2048 : Shape := ⟨2, ![4096, 2048]⟩
abbrev S4096x64 : Shape := ⟨2, ![4096, 64]⟩
abbrev S_ : Shape := ⟨0, ![]⟩

class Facts : Prop where
  bcast_S_S4x256x4096 : S_.BroadcastsInDim S4x256x4096 (![] : Fin 0 → Fin S4x256x4096.rank)
  bcast_S_S4096x128 : S_.BroadcastsInDim S4096x128 (![] : Fin 0 → Fin S4096x128.rank)
  bcast_S_S128x4096 : S_.BroadcastsInDim S128x4096 (![] : Fin 0 → Fin S128x4096.rank)
  bcast_S_S4096x4096 : S_.BroadcastsInDim S4096x4096 (![] : Fin 0 → Fin S4096x4096.rank)
  bcast_S_S4096x2048 : S_.BroadcastsInDim S4096x2048 (![] : Fin 0 → Fin S4096x2048.rank)
  bcast_S_S4096x64 : S_.BroadcastsInDim S4096x64 (![] : Fin 0 → Fin S4096x64.rank)

variable [Facts]

def fn {F : FTy → Type} [FloatOps F] (main_arg0 : FVec F S4x256x4096 .f32) (main_arg1 : FVec F S4096x128 .f32) (main_arg2 : FVec F S128x4096 .f32) (main_arg3 : FVec F S128x4096 .f32) (main_arg4 : FVec F S4096x4096 .f32) (main_arg5 : FVec F S4096x2048 .f32) (main_arg6 : FVec F S4096x64 .f32) (main_arg7 : FVec F S4096x4096 .f32) : IVec S4x256x4096 1 × IVec S4096x128 1 × IVec S128x4096 1 × IVec S4096x4096 1 × IVec S4096x2048 1 × IVec S4096x64 1 :=
  let main_v0 : FVec F S4x256x4096 .f32 := Host.absf main_arg0
  let main_cst : FVec F S_ .f32 := constant S_ .f32 0x7F800000#32
  let main_v1 : FVec F S4x256x4096 .f32 := broadcastInDim S4x256x4096 ![] bcast_S_S4x256x4096 main_cst
  let main_v2 : IVec S4x256x4096 1 := cmpf .olt main_v0 main_v1
  let main_v3 : FVec F S4096x128 .f32 := Host.absf main_arg1
  let main_cst_0 : FVec F S_ .f32 := constant S_ .f32 0x7F800000#32
  let main_v4 : FVec F S4096x128 .f32 := broadcastInDim S4096x128 ![] bcast_S_S4096x128 main_cst_0
  let main_v5 : IVec S4096x128 1 := cmpf .olt main_v3 main_v4
  let main_v6 : FVec F S128x4096 .f32 := Host.absf main_arg2
  let main_cst_1 : FVec F S_ .f32 := constant S_ .f32 0x7F800000#32
  let main_v7 : FVec F S128x4096 .f32 := broadcastInDim S128x4096 ![] bcast_S_S128x4096 main_cst_1
  let main_v8 : IVec S128x4096 1 := cmpf .olt main_v6 main_v7
  let main_v9 : FVec F S4096x4096 .f32 := Host.absf main_arg4
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_v12 : FVec F S4096x2048 .f32 := Host.absf main_arg5
  let main_cst_3 : FVec F S_ .f32 := constant S_ .f32 0x7F800000#32
  let main_v13 : FVec F S4096x2048 .f32 := broadcastInDim S4096x2048 ![] bcast_S_S4096x2048 main_cst_3
  let main_v14 : IVec S4096x2048 1 := cmpf .olt main_v12 main_v13
  let main_v15 : FVec F S4096x64 .f32 := Host.absf main_arg6
  let main_cst_4 : FVec F S_ .f32 := constant S_ .f32 0x7F800000#32
  let main_v16 : FVec F S4096x64 .f32 := broadcastInDim S4096x64 ![] bcast_S_S4096x64 main_cst_4
  let main_v17 : IVec S4096x64 1 := cmpf .olt main_v15 main_v16
  (main_v2, main_v5, main_v8, main_v11, main_v14, main_v17)
-- ==== Pre_finite_ReferenceIdeal.lean ====
abbrev S4x256x4096 : Shape := ⟨3, ![4, 256, 4096]⟩
abbrev S4096x1024 : Shape := ⟨2, ![4096, 1024]⟩
abbrev S1024x4096 : Shape := ⟨2, ![1024, 4096]⟩
abbrev S4096x4096 : Shape := ⟨2, ![4096, 4096]⟩
abbrev S4096x2048 : Shape := ⟨2, ![4096, 2048]⟩
abbrev S4096x64 : Shape := ⟨2, ![4096, 64]⟩
abbrev S_ : Shape := ⟨0, ![]⟩

class Facts : Prop where
  bcast_S_S4x256x4096 : S_.BroadcastsInDim S4x256x4096 (![] : Fin 0 → Fin S4x256x4096.rank)
  bcast_S_S4096x1024 : S_.BroadcastsInDim S4096x1024 (![] : Fin 0 → Fin S4096x1024.rank)
  bcast_S_S1024x4096 : S_.BroadcastsInDim S1024x4096 (![] : Fin 0 → Fin S1024x4096.rank)
  bcast_S_S4096x4096 : S_.BroadcastsInDim S4096x4096 (![] : Fin 0 → Fin S4096x4096.rank)
  bcast_S_S4096x2048 : S_.BroadcastsInDim S4096x2048 (![] : Fin 0 → Fin S4096x2048.rank)
  bcast_S_S4096x64 : S_.BroadcastsInDim S4096x64 (![] : Fin 0 → Fin S4096x64.rank)

variable [Facts]

def fn {F : FTy → Type} [FloatOps F] (main_arg0 : FVec F S4x256x4096 .f32) (main_arg1 : FVec F S4096x1024 .f32) (main_arg2 : FVec F S1024x4096 .f32) (main_arg3 : FVec F S1024x4096 .f32) (main_arg4 : FVec F S4096x4096 .f32) (main_arg5 : FVec F S4096x2048 .f32) (main_arg6 : FVec F S4096x64 .f32) (main_arg7 : FVec F S4096x4096 .f32) : IVec S4x256x4096 1 × IVec S4096x1024 1 × IVec S1024x4096 1 × IVec S4096x4096 1 × IVec S4096x2048 1 × IVec S4096x64 1 :=
  let main_v0 : FVec F S4x256x4096 .f32 := Host.absf main_arg0
  let main_cst : FVec F S_ .f32 := constant S_ .f32 0x7F800000#32
  let main_v1 : FVec F S4x256x4096 .f32 := broadcastInDim S4x256x4096 ![] bcast_S_S4x256x4096 main_cst
  let main_v2 : IVec S4x256x4096 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S4096x4096 .f32 := Host.absf main_arg4
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_v12 : FVec F S4096x2048 .f32 := Host.absf main_arg5
  let main_cst_3 : FVec F S_ .f32 := constant S_ .f32 0x7F800000#32
  let main_v13 : FVec F S4096x2048 .f32 := broadcastInDim S4096x2048 ![] bcast_S_S4096x2048 main_cst_3
  let main_v14 : IVec S4096x2048 1 := cmpf .olt main_v12 main_v13
  let main_v15 : FVec F S4096x64 .f32 := Host.absf main_arg6
  let main_cst_4 : FVec F S_ .f32 := constant S_ .f32 0x7F800000#32
  let main_v16 : FVec F S4096x64 .f32 := broadcastInDim S4096x64 ![] bcast_S_S4096x64 main_cst_4
  let main_v17 : IVec S4096x64 1 := cmpf .olt main_v15 main_v16
  (main_v2, main_v5, main_v8, main_v11, main_v14, main_v17)
-- ==== Kernel.lean ====
abbrev S4x256x4096 : Shape := ⟨3, ![4, 256, 4096]⟩
abbrev S4096x128 : Shape := ⟨2, ![4096, 128]⟩
abbrev S128x4096 : Shape := ⟨2, ![128, 4096]⟩
abbrev S4096x4096 : Shape := ⟨2, ![4096, 4096]⟩
abbrev S4096x2048 : Shape := ⟨2, ![4096, 2048]⟩
abbrev S4096x64 : Shape := ⟨2, ![4096, 64]⟩
abbrev S1024x4096 : Shape := ⟨2, ![1024, 4096]⟩
abbrev S1024x1024 : Shape := ⟨2, ![1024, 1024]⟩
abbrev S1024x512 : Shape := ⟨2, ![1024, 512]⟩
abbrev S2x512x2048 : Shape := ⟨3, ![2, 512, 2048]⟩
abbrev S4096x512 : Shape := ⟨2, ![4096, 512]⟩
abbrev S4096x256 : Shape := ⟨2, ![4096, 256]⟩
abbrev S2x256x4096 : Shape := ⟨3, ![2, 256, 4096]⟩
abbrev S3x8 : Shape := ⟨2, ![3, 8]⟩
abbrev S8 : Shape := ⟨1, ![8]⟩
abbrev S3x2 : Shape := ⟨2, ![3, 2]⟩
abbrev S2 : Shape := ⟨1, ![2]⟩
abbrev S3 : Shape := ⟨1, ![3]⟩
abbrev S_ : Shape := ⟨0, ![]⟩
abbrev S1 : Shape := ⟨1, ![1]⟩
abbrev S1x512x2048 : Shape := ⟨3, ![1, 512, 2048]⟩
abbrev S512x2048 : Shape := ⟨2, ![512, 2048]⟩
abbrev S1x256x4096 : Shape := ⟨3, ![1, 256, 4096]⟩
abbrev S256x4096 : Shape := ⟨2, ![256, 4096]⟩
abbrev S1x1 : Shape := ⟨2, ![1, 1]⟩
abbrev S128x512 : Shape := ⟨2, ![128, 512]⟩
abbrev S1024x128 : Shape := ⟨2, ![1024, 128]⟩
abbrev S1024x64 : Shape := ⟨2, ![1024, 64]⟩
abbrev S1024x256 : Shape := ⟨2, ![1024, 256]⟩
abbrev S1024x768 : Shape := ⟨2, ![1024, 768]⟩
abbrev S256x128 : Shape := ⟨2, ![256, 128]⟩
abbrev S256x192 : Shape := ⟨2, ![256, 192]⟩
abbrev S256x256 : Shape := ⟨2, ![256, 256]⟩
abbrev S256 : Shape := ⟨1, ![256]⟩
abbrev S256x1 : Shape := ⟨2, ![256, 1]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S4x256x4096, .f32⟩
  | .hbm, ⟨1, _⟩ => ⟨S4096x128, .f32⟩
  | .hbm, ⟨2, _⟩ => ⟨S128x4096, .f32⟩
  | .hbm, ⟨3, _⟩ => ⟨S128x4096, .f32⟩
  | .hbm, ⟨4, _⟩ => ⟨S4096x4096, .f32⟩
  | .hbm, ⟨5, _⟩ => ⟨S4096x2048, .f32⟩
  | .hbm, ⟨6, _⟩ => ⟨S4096x64, .f32⟩
  | .hbm, ⟨7, _⟩ => ⟨S4096x4096, .f32⟩
  | .hbm, ⟨8, _⟩ => ⟨S1024x4096, .bf16⟩
  | .local _ .vmem, ⟨0, _⟩ => ⟨S4096x64, .f32⟩
  | .local _ .vmem, ⟨1, _⟩ => ⟨S1024x4096, .bf16⟩
  | .local _ .vmem, ⟨2, _⟩ => ⟨S1024x1024, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S2x512x2048, .f32⟩
  | .local _ .vmem, ⟨8, _⟩ => ⟨S4096x512, .f32⟩
  | .local _ .vmem, ⟨9, _⟩ => ⟨S4096x256, .f32⟩
  | .local _ .vmem, ⟨10, _⟩ => ⟨S1024x4096, .bf16⟩
  | .local _ .vmem, ⟨11, _⟩ => ⟨S2x256x4096, .f32⟩
  | .local _ .vmem, ⟨12, _⟩ => ⟨S4096x128, .f32⟩
  | .local _ .vmem, ⟨13, _⟩ => ⟨S128x4096, .f32⟩
  | .local _ .vmem, ⟨14, _⟩ => ⟨S128x4096, .f32⟩
  | .local _ .vmem, ⟨15, _⟩ => ⟨S4096x128, .bf16⟩
  | .local _ .vmem, ⟨16, _⟩ => ⟨S128x4096, .bf16⟩
  | .local _ .vmem, ⟨17, _⟩ => ⟨S128x4096, .bf16⟩
  | _, _ => ⟨S4x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 1 → Bool
  | ⟨0, _⟩ => false
  | _ => false

abbrev dmaSemScoped : Fin 103 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | _ => false

abbrev sig : RefSig :=
  (ofTc nBuf bufTy 1 103 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_scratch11 : Ref sig .tc := ⟨.vmem, 13, rfl⟩
abbrev cc0_scratch12 : Ref sig .tc := ⟨.vmem, 14, rfl⟩
abbrev cc0_scratch13 : Ref sig .tc := ⟨.vmem, 15, rfl⟩
abbrev cc0_scratch14 : Ref sig .tc := ⟨.vmem, 16, rfl⟩
abbrev cc0_scratch15 : Ref sig .tc := ⟨.vmem, 17, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 2 → Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v32 : BitVec 32 := Scalar.muli v2 c512_i32
  ![0, v32.toNat]
def k0_off2 (d0 : Dev nD) : Fin 2 → Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v33 : BitVec 32 := Scalar.muli v2 c256_i32
  ![0, v33.toNat]
def k0_off3 (d0 : Dev nD) (c0_i32_36 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v46 : BitVec 32 := Scalar.addi v2 c0_i32_36
  let c8_i32_37 : BitVec 32 := 8#32
  let v47 : BitVec 32 := Scalar.remsi v46 c8_i32_37
  let c512_i32_38 : BitVec 32 := 512#32
  let v48 : BitVec 32 := Scalar.muli v47 c512_i32_38
  let c0_i32_43 : BitVec 32 := 0#32
  ![v48.toNat, 0]
def k0_off4 (d0 : Dev nD) (c1_i32_80 : BitVec 32) : Fin 2 → Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v95 : BitVec 32 := Scalar.addi v2 c1_i32_80
  let c8_i32_81 : BitVec 32 := 8#32
  let v96 : BitVec 32 := Scalar.remsi v95 c8_i32_81
  ![0, v96.toNat]
def k0_off5 (d0 : Dev nD) : Fin 2 → Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v98 : BitVec 32 := Scalar.muli v2 c128_i32
  let c0_i32_87 : BitVec 32 := 0#32
  ![v98.toNat, 0]
def k0_off7 (d0 : Dev nD) (c1_i32_80 : BitVec 32) : Fin 2 → Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v95 : BitVec 32 := Scalar.addi v2 c1_i32_80
  let c8_i32_81 : BitVec 32 := 8#32
  let v96 : BitVec 32 := Scalar.remsi v95 c8_i32_81
  let c512_i32_82 : BitVec 32 := 512#32
  let v97 : BitVec 32 := Scalar.muli v96 c512_i32_82
  ![0, v97.toNat]
def k0_dev8 (d0 : Dev nD) : Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_80 : BitVec 32 := 1#32
  let v95 : BitVec 32 := Scalar.addi v2 c1_i32_80
  let c8_i32_81 : BitVec 32 := 8#32
  let v96 : BitVec 32 := Scalar.remsi v95 c8_i32_81
  let c1_i32_85 : BitVec 32 := 1#32
  let v99 : BitVec 32 := Scalar.muli v96 c1_i32_85
  let v100 : BitVec 32 := Scalar.addi c0_i32_86 v99
  v100.toNat
def k0_off8 (d0 : Dev nD) (c1_i32_80 : BitVec 32) : Fin 2 → Nat :=
  let c1_i32_92 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v95 : BitVec 32 := Scalar.addi v2 c1_i32_80
  let c8_i32_81 : BitVec 32 := 8#32
  let v96 : BitVec 32 := Scalar.remsi v95 c8_i32_81
  ![1, v96.toNat]
def k0_off9 (d0 : Dev nD) : Fin 2 → Nat :=
  let c1_i32_91 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_dev9 (d0 : Dev nD) : Nat :=
  let c0_i32_94 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_80 : BitVec 32 := 1#32
  let v95 : BitVec 32 := Scalar.addi v2 c1_i32_80
  let c8_i32_81 : BitVec 32 := 8#32
  let v96 : BitVec 32 := Scalar.remsi v95 c8_i32_81
  let c1_i32_93 : BitVec 32 := 1#32
  let v109 : BitVec 32 := Scalar.muli v96 c1_i32_93
  let v110 : BitVec 32 := Scalar.addi c0_i32_94 v109
  v110.toNat
def k0_dev10 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_97 : BitVec 32 := 2#32
  let v117 : BitVec 32 := Scalar.addi v2 c2_i32_97
  let c8_i32_98 : BitVec 32 := 8#32
  let v118 : BitVec 32 := Scalar.remsi v117 c8_i32_98
  let c1_i32_103 : BitVec 32 := 1#32
  let v121 : BitVec 32 := Scalar.muli v118 c1_i32_103
  let v122 : BitVec 32 := Scalar.addi c0_i32_104 v121
  v122.toNat
def k0_dev11 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_97 : BitVec 32 := 2#32
  let v117 : BitVec 32 := Scalar.addi v2 c2_i32_97
  let c8_i32_98 : BitVec 32 := 8#32
  let v118 : BitVec 32 := Scalar.remsi v117 c8_i32_98
  let c1_i32_111 : BitVec 32 := 1#32
  let v131 : BitVec 32 := Scalar.muli v118 c1_i32_111
  let v132 : BitVec 32 := Scalar.addi c0_i32_112 v131
  v132.toNat
def k0_dev12 (d0 : Dev nD) : Nat :=
  let c0_i32_122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_115 : BitVec 32 := 3#32
  let v139 : BitVec 32 := Scalar.addi v2 c3_i32_115
  let c8_i32_116 : BitVec 32 := 8#32
  let v140 : BitVec 32 := Scalar.remsi v139 c8_i32_116
  let c1_i32_121 : BitVec 32 := 1#32
  let v143 : BitVec 32 := Scalar.muli v140 c1_i32_121
  let v144 : BitVec 32 := Scalar.addi c0_i32_122 v143
  v144.toNat
def k0_dev13 (d0 : Dev nD) : Nat :=
  let c0_i32_130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_115 : BitVec 32 := 3#32
  let v139 : BitVec 32 := Scalar.addi v2 c3_i32_115
  let c8_i32_116 : BitVec 32 := 8#32
  let v140 : BitVec 32 := Scalar.remsi v139 c8_i32_116
  let c1_i32_129 : BitVec 32 := 1#32
  let v153 : BitVec 32 := Scalar.muli v140 c1_i32_129
  let v154 : BitVec 32 := Scalar.addi c0_i32_130 v153
  v154.toNat
def k0_dev14 (d0 : Dev nD) : Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_133 : BitVec 32 := 4#32
  let v161 : BitVec 32 := Scalar.addi v2 c4_i32_133
  let c8_i32_134 : BitVec 32 := 8#32
  let v162 : BitVec 32 := Scalar.remsi v161 c8_i32_134
  let c1_i32_139 : BitVec 32 := 1#32
  let v165 : BitVec 32 := Scalar.muli v162 c1_i32_139
  let v166 : BitVec 32 := Scalar.addi c0_i32_140 v165
  v166.toNat
def k0_dev15 (d0 : Dev nD) : Nat :=
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_133 : BitVec 32 := 4#32
  let v161 : BitVec 32 := Scalar.addi v2 c4_i32_133
  let c8_i32_134 : BitVec 32 := 8#32
  let v162 : BitVec 32 := Scalar.remsi v161 c8_i32_134
  let c1_i32_147 : BitVec 32 := 1#32
  let v175 : BitVec 32 := Scalar.muli v162 c1_i32_147
  let v176 : BitVec 32 := Scalar.addi c0_i32_148 v175
  v176.toNat
def k0_dev16 (d0 : Dev nD) : Nat :=
  let c0_i32_158 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_151 : BitVec 32 := 5#32
  let v183 : BitVec 32 := Scalar.addi v2 c5_i32_151
  let c8_i32_152 : BitVec 32 := 8#32
  let v184 : BitVec 32 := Scalar.remsi v183 c8_i32_152
  let c1_i32_157 : BitVec 32 := 1#32
  let v187 : BitVec 32 := Scalar.muli v184 c1_i32_157
  let v188 : BitVec 32 := Scalar.addi c0_i32_158 v187
  v188.toNat
def k0_dev17 (d0 : Dev nD) : Nat :=
  let c0_i32_166 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_151 : BitVec 32 := 5#32
  let v183 : BitVec 32 := Scalar.addi v2 c5_i32_151
  let c8_i32_152 : BitVec 32 := 8#32
  let v184 : BitVec 32 := Scalar.remsi v183 c8_i32_152
  let c1_i32_165 : BitVec 32 := 1#32
  let v197 : BitVec 32 := Scalar.muli v184 c1_i32_165
  let v198 : BitVec 32 := Scalar.addi c0_i32_166 v197
  v198.toNat
def k0_dev18 (d0 : Dev nD) : Nat :=
  let c0_i32_176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_169 : BitVec 32 := 6#32
  let v205 : BitVec 32 := Scalar.addi v2 c6_i32_169
  let c8_i32_170 : BitVec 32 := 8#32
  let v206 : BitVec 32 := Scalar.remsi v205 c8_i32_170
  let c1_i32_175 : BitVec 32 := 1#32
  let v209 : BitVec 32 := Scalar.muli v206 c1_i32_175
  let v210 : BitVec 32 := Scalar.addi c0_i32_176 v209
  v210.toNat
def k0_dev19 (d0 : Dev nD) : Nat :=
  let c0_i32_184 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_169 : BitVec 32 := 6#32
  let v205 : BitVec 32 := Scalar.addi v2 c6_i32_169
  let c8_i32_170 : BitVec 32 := 8#32
  let v206 : BitVec 32 := Scalar.remsi v205 c8_i32_170
  let c1_i32_183 : BitVec 32 := 1#32
  let v219 : BitVec 32 := Scalar.muli v206 c1_i32_183
  let v220 : BitVec 32 := Scalar.addi c0_i32_184 v219
  v220.toNat
def k0_dev20 (d0 : Dev nD) : Nat :=
  let c0_i32_194 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_187 : BitVec 32 := 7#32
  let v227 : BitVec 32 := Scalar.addi v2 c7_i32_187
  let c8_i32_188 : BitVec 32 := 8#32
  let v228 : BitVec 32 := Scalar.remsi v227 c8_i32_188
  let c1_i32_193 : BitVec 32 := 1#32
  let v231 : BitVec 32 := Scalar.muli v228 c1_i32_193
  let v232 : BitVec 32 := Scalar.addi c0_i32_194 v231
  v232.toNat
def k0_dev21 (d0 : Dev nD) : Nat :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_187 : BitVec 32 := 7#32
  let v227 : BitVec 32 := Scalar.addi v2 c7_i32_187
  let c8_i32_188 : BitVec 32 := 8#32
  let v228 : BitVec 32 := Scalar.remsi v227 c8_i32_188
  let c1_i32_201 : BitVec 32 := 1#32
  let v241 : BitVec 32 := Scalar.muli v228 c1_i32_201
  let v242 : BitVec 32 := Scalar.addi c0_i32_202 v241
  v242.toNat
def k0_off10 (d0 : Dev nD) : Fin 2 → Nat :=
  let c0_268 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_267 : BitVec 32 := 128#32
  let v313 : BitVec 32 := Scalar.muli v2 c128_i32_267
  let v314 : Index := Scalar.indexCast v313
  ![0, v314.toNat]
def k0_off11 (d0 : Dev nD) (c1_i32_269 : BitVec 32) : Fin 2 → Nat :=
  let c2_i32_274 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v318 : BitVec 32 := Scalar.addi v2 c1_i32_269
  let c8_i32_270 : BitVec 32 := 8#32
  let v319 : BitVec 32 := Scalar.remsi v318 c8_i32_270
  ![2, v319.toNat]
def k0_off12 (d0 : Dev nD) : Fin 2 → Nat :=
  let c2_i32_273 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![2, v2.toNat]
def k0_off13 (d0 : Dev nD) : Fin 2 → Nat :=
  let c0_i32_277 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_272 : BitVec 32 := 128#32
  let v321 : BitVec 32 := Scalar.muli v2 c128_i32_272
  ![0, v321.toNat]
def k0_dev22 (d0 : Dev nD) : Nat :=
  let c0_i32_276 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_269 : BitVec 32 := 1#32
  let v318 : BitVec 32 := Scalar.addi v2 c1_i32_269
  let c8_i32_270 : BitVec 32 := 8#32
  let v319 : BitVec 32 := Scalar.remsi v318 c8_i32_270
  let c1_i32_275 : BitVec 32 := 1#32
  let v322 : BitVec 32 := Scalar.muli v319 c1_i32_275
  let v323 : BitVec 32 := Scalar.addi c0_i32_276 v322
  v323.toNat
def k0_dev23 (d0 : Dev nD) : Nat :=
  let c0_i32_286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_279 : BitVec 32 := 2#32
  let v330 : BitVec 32 := Scalar.addi v2 c2_i32_279
  let c8_i32_280 : BitVec 32 := 8#32
  let v331 : BitVec 32 := Scalar.remsi v330 c8_i32_280
  let c1_i32_285 : BitVec 32 := 1#32
  let v334 : BitVec 32 := Scalar.muli v331 c1_i32_285
  let v335 : BitVec 32 := Scalar.addi c0_i32_286 v334
  v335.toNat
def k0_dev24 (d0 : Dev nD) : Nat :=
  let c0_i32_296 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_289 : BitVec 32 := 3#32
  let v342 : BitVec 32 := Scalar.addi v2 c3_i32_289
  let c8_i32_290 : BitVec 32 := 8#32
  let v343 : BitVec 32 := Scalar.remsi v342 c8_i32_290
  let c1_i32_295 : BitVec 32 := 1#32
  let v346 : BitVec 32 := Scalar.muli v343 c1_i32_295
  let v347 : BitVec 32 := Scalar.addi c0_i32_296 v346
  v347.toNat
def k0_dev25 (d0 : Dev nD) : Nat :=
  let c0_i32_306 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_299 : BitVec 32 := 4#32
  let v354 : BitVec 32 := Scalar.addi v2 c4_i32_299
  let c8_i32_300 : BitVec 32 := 8#32
  let v355 : BitVec 32 := Scalar.remsi v354 c8_i32_300
  let c1_i32_305 : BitVec 32 := 1#32
  let v358 : BitVec 32 := Scalar.muli v355 c1_i32_305
  let v359 : BitVec 32 := Scalar.addi c0_i32_306 v358
  v359.toNat
def k0_dev26 (d0 : Dev nD) : Nat :=
  let c0_i32_316 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_309 : BitVec 32 := 5#32
  let v366 : BitVec 32 := Scalar.addi v2 c5_i32_309
  let c8_i32_310 : BitVec 32 := 8#32
  let v367 : BitVec 32 := Scalar.remsi v366 c8_i32_310
  let c1_i32_315 : BitVec 32 := 1#32
  let v370 : BitVec 32 := Scalar.muli v367 c1_i32_315
  let v371 : BitVec 32 := Scalar.addi c0_i32_316 v370
  v371.toNat
def k0_dev27 (d0 : Dev nD) : Nat :=
  let c0_i32_326 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_319 : BitVec 32 := 6#32
  let v378 : BitVec 32 := Scalar.addi v2 c6_i32_319
  let c8_i32_320 : BitVec 32 := 8#32
  let v379 : BitVec 32 := Scalar.remsi v378 c8_i32_320
  let c1_i32_325 : BitVec 32 := 1#32
  let v382 : BitVec 32 := Scalar.muli v379 c1_i32_325
  let v383 : BitVec 32 := Scalar.addi c0_i32_326 v382
  v383.toNat
def k0_dev28 (d0 : Dev nD) : Nat :=
  let c0_i32_336 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_329 : BitVec 32 := 7#32
  let v390 : BitVec 32 := Scalar.addi v2 c7_i32_329
  let c8_i32_330 : BitVec 32 := 8#32
  let v391 : BitVec 32 := Scalar.remsi v390 c8_i32_330
  let c1_i32_335 : BitVec 32 := 1#32
  let v394 : BitVec 32 := Scalar.muli v391 c1_i32_335
  let v395 : BitVec 32 := Scalar.addi c0_i32_336 v394
  v395.toNat
def k0_off14 (d0 : Dev nD) : Fin 2 → Nat :=
  let c0_340 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_339 : BitVec 32 := 512#32
  let v402 : BitVec 32 := Scalar.muli v2 c512_i32_339
  let v403 : Index := Scalar.indexCast v402
  ![0, v403.toNat]
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_341 : BitVec 32 := 128#32
  let v405 : BitVec 32 := Scalar.muli v2 c128_i32_341
  let v406 : Index := Scalar.indexCast v405
  let c0_342 : Index := 0#32
  ![v406.toNat, 0]
def k0_off16 (d0 : Dev nD) (c1_i32_360 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v437 : BitVec 32 := Scalar.addi v2 c1_i32_360
  let c8_i32_361 : BitVec 32 := 8#32
  let v438 : BitVec 32 := Scalar.remsi v437 c8_i32_361
  let c128_i32_363 : BitVec 32 := 128#32
  let v440 : BitVec 32 := Scalar.muli v438 c128_i32_363
  let c0_i32_368 : BitVec 32 := 0#32
  ![v440.toNat, 0]
def k0_off17 (d0 : Dev nD) (c1_i32_360 : BitVec 32) : Fin 2 → Nat :=
  let c0_i32_384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v437 : BitVec 32 := Scalar.addi v2 c1_i32_360
  let c8_i32_361 : BitVec 32 := 8#32
  let v438 : BitVec 32 := Scalar.remsi v437 c8_i32_361
  let c128_i32_379 : BitVec 32 := 128#32
  let v456 : BitVec 32 := Scalar.muli v438 c128_i32_379
  ![0, v456.toNat]
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_572 : BitVec 32 := 0#32
  let v708 : BitVec 1 := Scalar.cmpi .ne v2 c0_i32_572
  let v709 : BitVec 32 := Scalar.extui v708
  let c0_i32_573 : BitVec 32 := 0#32
  let v710 : BitVec 1 := Scalar.cmpi .ne v709 c0_i32_573
  v710

def k0_off18 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_1562 : BitVec 32 := 128#32
  let v1827 : BitVec 32 := Scalar.muli v2 c128_i32_1562
  let c0_i32_1567 : BitVec 32 := 0#32
  ![v1827.toNat, 0]
def k0_dev29 : Nat :=
  let c0_i32_1566 : BitVec 32 := 0#32
  let c0_i32_1564 : BitVec 32 := 0#32
  let c1_i32_1565 : BitVec 32 := 1#32
  let v1828 : BitVec 32 := Scalar.muli c0_i32_1564 c1_i32_1565
  let v1829 : BitVec 32 := Scalar.addi c0_i32_1566 v1828
  v1829.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_576 : BitVec 32 := 1#32
  let v714 : BitVec 1 := Scalar.cmpi .ne v2 c1_i32_576
  let v715 : BitVec 32 := Scalar.extui v714
  let c0_i32_577 : BitVec 32 := 0#32
  let v716 : BitVec 1 := Scalar.cmpi .ne v715 c0_i32_577
  v716

def k0_off20 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off21 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_1562 : BitVec 32 := 128#32
  let v1827 : BitVec 32 := Scalar.muli v2 c128_i32_1562
  let c0_i32_1567 : BitVec 32 := 0#32
  ![v1827.toNat, 0]
def k0_dev30 : Nat :=
  let c0_i32_1566 : BitVec 32 := 0#32
  let c1_i32_1564 : BitVec 32 := 1#32
  let c1_i32_1565 : BitVec 32 := 1#32
  let v1828 : BitVec 32 := Scalar.muli c1_i32_1564 c1_i32_1565
  let v1829 : BitVec 32 := Scalar.addi c0_i32_1566 v1828
  v1829.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_604 : BitVec 32 := 2#32
  let v788 : BitVec 1 := Scalar.cmpi .ne v2 c2_i32_604
  let v789 : BitVec 32 := Scalar.extui v788
  let c0_i32_605 : BitVec 32 := 0#32
  let v790 : BitVec 1 := Scalar.cmpi .ne v789 c0_i32_605
  v790

def k0_off22 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off23 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_1562 : BitVec 32 := 128#32
  let v1827 : BitVec 32 := Scalar.muli v2 c128_i32_1562
  let c0_i32_1567 : BitVec 32 := 0#32
  ![v1827.toNat, 0]
def k0_dev31 : Nat :=
  let c0_i32_1566 : BitVec 32 := 0#32
  let c2_i32_1564 : BitVec 32 := 2#32
  let c1_i32_1565 : BitVec 32 := 1#32
  let v1828 : BitVec 32 := Scalar.muli c2_i32_1564 c1_i32_1565
  let v1829 : BitVec 32 := Scalar.addi c0_i32_1566 v1828
  v1829.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_608 : BitVec 32 := 3#32
  let v794 : BitVec 1 := Scalar.cmpi .ne v2 c3_i32_608
  let v795 : BitVec 32 := Scalar.extui v794
  let c0_i32_609 : BitVec 32 := 0#32
  let v796 : BitVec 1 := Scalar.cmpi .ne v795 c0_i32_609
  v796

def k0_off24 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off25 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_1562 : BitVec 32 := 128#32
  let v1827 : BitVec 32 := Scalar.muli v2 c128_i32_1562
  let c0_i32_1567 : BitVec 32 := 0#32
  ![v1827.toNat, 0]
def k0_dev32 : Nat :=
  let c0_i32_1566 : BitVec 32 := 0#32
  let c3_i32_1564 : BitVec 32 := 3#32
  let c1_i32_1565 : BitVec 32 := 1#32
  let v1828 : BitVec 32 := Scalar.muli c3_i32_1564 c1_i32_1565
  let v1829 : BitVec 32 := Scalar.addi c0_i32_1566 v1828
  v1829.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_636 : BitVec 32 := 4#32
  let v868 : BitVec 1 := Scalar.cmpi .ne v2 c4_i32_636
  let v869 : BitVec 32 := Scalar.extui v868
  let c0_i32_637 : BitVec 32 := 0#32
  let v870 : BitVec 1 := Scalar.cmpi .ne v869 c0_i32_637
  v870

def k0_off26 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off27 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_1562 : BitVec 32 := 128#32
  let v1827 : BitVec 32 := Scalar.muli v2 c128_i32_1562
  let c0_i32_1567 : BitVec 32 := 0#32
  ![v1827.toNat, 0]
def k0_dev33 : Nat :=
  let c0_i32_1566 : BitVec 32 := 0#32
  let c4_i32_1564 : BitVec 32 := 4#32
  let c1_i32_1565 : BitVec 32 := 1#32
  let v1828 : BitVec 32 := Scalar.muli c4_i32_1564 c1_i32_1565
  let v1829 : BitVec 32 := Scalar.addi c0_i32_1566 v1828
  v1829.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_640 : BitVec 32 := 5#32
  let v874 : BitVec 1 := Scalar.cmpi .ne v2 c5_i32_640
  let v875 : BitVec 32 := Scalar.extui v874
  let c0_i32_641 : BitVec 32 := 0#32
  let v876 : BitVec 1 := Scalar.cmpi .ne v875 c0_i32_641
  v876

def k0_off28 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off29 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_1562 : BitVec 32 := 128#32
  let v1827 : BitVec 32 := Scalar.muli v2 c128_i32_1562
  let c0_i32_1567 : BitVec 32 := 0#32
  ![v1827.toNat, 0]
def k0_dev34 : Nat :=
  let c0_i32_1566 : BitVec 32 := 0#32
  let c5_i32_1564 : BitVec 32 := 5#32
  let c1_i32_1565 : BitVec 32 := 1#32
  let v1828 : BitVec 32 := Scalar.muli c5_i32_1564 c1_i32_1565
  let v1829 : BitVec 32 := Scalar.addi c0_i32_1566 v1828
  v1829.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_668 : BitVec 32 := 6#32
  let v948 : BitVec 1 := Scalar.cmpi .ne v2 c6_i32_668
  let v949 : BitVec 32 := Scalar.extui v948
  let c0_i32_669 : BitVec 32 := 0#32
  let v950 : BitVec 1 := Scalar.cmpi .ne v949 c0_i32_669
  v950

def k0_off30 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off31 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_1562 : BitVec 32 := 128#32
  let v1827 : BitVec 32 := Scalar.muli v2 c128_i32_1562
  let c0_i32_1567 : BitVec 32 := 0#32
  ![v1827.toNat, 0]
def k0_dev35 : Nat :=
  let c0_i32_1566 : BitVec 32 := 0#32
  let c6_i32_1564 : BitVec 32 := 6#32
  let c1_i32_1565 : BitVec 32 := 1#32
  let v1828 : BitVec 32 := Scalar.muli c6_i32_1564 c1_i32_1565
  let v1829 : BitVec 32 := Scalar.addi c0_i32_1566 v1828
  v1829.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_672 : BitVec 32 := 7#32
  let v954 : BitVec 1 := Scalar.cmpi .ne v2 c7_i32_672
  let v955 : BitVec 32 := Scalar.extui v954
  let c0_i32_673 : BitVec 32 := 0#32
  let v956 : BitVec 1 := Scalar.cmpi .ne v955 c0_i32_673
  v956

def k0_off32 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off33 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_1562 : BitVec 32 := 128#32
  let v1827 : BitVec 32 := Scalar.muli v2 c128_i32_1562
  let c0_i32_1567 : BitVec 32 := 0#32
  ![v1827.toNat, 0]
def k0_dev36 : Nat :=
  let c0_i32_1566 : BitVec 32 := 0#32
  let c7_i32_1564 : BitVec 32 := 7#32
  let c1_i32_1565 : BitVec 32 := 1#32
  let v1828 : BitVec 32 := Scalar.muli c7_i32_1564 c1_i32_1565
  let v1829 : BitVec 32 := Scalar.addi c0_i32_1566 v1828
  v1829.toNat
def k0_off34 (d0 : Dev nD) (c0_i32_686 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v970 : BitVec 32 := Scalar.addi v2 c0_i32_686
  let c8_i32_687 : BitVec 32 := 8#32
  let v971 : BitVec 32 := Scalar.remsi v970 c8_i32_687
  let c128_i32_696 : BitVec 32 := 128#32
  let v980 : BitVec 32 := Scalar.muli v971 c128_i32_696
  let v981 : Index := Scalar.indexCast v980
  let c0_697 : Index := 0#32
  ![v981.toNat, 0]
def k0_off35 (d0 : Dev nD) (c1_i32_710 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v996 : BitVec 32 := Scalar.addi v2 c1_i32_710
  let c8_i32_711 : BitVec 32 := 8#32
  let v997 : BitVec 32 := Scalar.remsi v996 c8_i32_711
  ![v997.toNat]
def k0_off36 (d0 : Dev nD) (c0_i32_882 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1192 : BitVec 32 := Scalar.addi v2 c0_i32_882
  let c8_i32_883 : BitVec 32 := 8#32
  let v1193 : BitVec 32 := Scalar.remsi v1192 c8_i32_883
  let c512_i32_884 : BitVec 32 := 512#32
  let v1194 : BitVec 32 := Scalar.muli v1193 c512_i32_884
  let c2048_i32 : BitVec 32 := 2048#32
  ![v1194.toNat, 2048]
def k0_off37 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_919 : BitVec 32 := 128#32
  let v1235 : BitVec 32 := Scalar.muli v2 c128_i32_919
  let v1236 : Index := Scalar.indexCast v1235
  let c0_920 : Index := 0#32
  ![v1236.toNat, 0]
def k0_off38 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_921 : BitVec 32 := 128#32
  let v1238 : BitVec 32 := Scalar.muli v2 c128_i32_921
  let c0_i32_928 : BitVec 32 := 0#32
  ![v1238.toNat, 0]
def k0_dev37 (d0 : Dev nD) : Nat :=
  let c0_i32_927 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_676 : BitVec 32 := 1#32
  let v960 : BitVec 32 := Scalar.xori v2 c1_i32_676
  let c1_i32_926 : BitVec 32 := 1#32
  let v1239 : BitVec 32 := Scalar.muli v960 c1_i32_926
  let v1240 : BitVec 32 := Scalar.addi c0_i32_927 v1239
  v1240.toNat
def k0_dev38 (d0 : Dev nD) : Nat :=
  let c0_i32_936 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_677 : BitVec 32 := 3#32
  let v961 : BitVec 32 := Scalar.xori v2 c3_i32_677
  let c1_i32_935 : BitVec 32 := 1#32
  let v1248 : BitVec 32 := Scalar.muli v961 c1_i32_935
  let v1249 : BitVec 32 := Scalar.addi c0_i32_936 v1248
  v1249.toNat
def k0_dev39 (d0 : Dev nD) : Nat :=
  let c0_i32_945 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_678 : BitVec 32 := 4#32
  let v962 : BitVec 32 := Scalar.xori v2 c4_i32_678
  let c1_i32_944 : BitVec 32 := 1#32
  let v1257 : BitVec 32 := Scalar.muli v962 c1_i32_944
  let v1258 : BitVec 32 := Scalar.addi c0_i32_945 v1257
  v1258.toNat
def k0_off39 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_1125 : BitVec 32 := 128#32
  let v1459 : BitVec 32 := Scalar.muli v2 c128_i32_1125
  let v1460 : Index := Scalar.indexCast v1459
  let c2048 : Index := 2048#32
  ![v1460.toNat, 2048]
def k0_off40 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_1126 : BitVec 32 := 128#32
  let v1462 : BitVec 32 := Scalar.muli v2 c128_i32_1126
  let c2048_i32_1133 : BitVec 32 := 2048#32
  ![v1462.toNat, 2048]
def k0_dev40 (d0 : Dev nD) : Nat :=
  let c0_i32_1132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_676 : BitVec 32 := 1#32
  let v960 : BitVec 32 := Scalar.xori v2 c1_i32_676
  let c1_i32_1131 : BitVec 32 := 1#32
  let v1463 : BitVec 32 := Scalar.muli v960 c1_i32_1131
  let v1464 : BitVec 32 := Scalar.addi c0_i32_1132 v1463
  v1464.toNat
def k0_dev41 (d0 : Dev nD) : Nat :=
  let c0_i32_1141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_677 : BitVec 32 := 3#32
  let v961 : BitVec 32 := Scalar.xori v2 c3_i32_677
  let c1_i32_1140 : BitVec 32 := 1#32
  let v1472 : BitVec 32 := Scalar.muli v961 c1_i32_1140
  let v1473 : BitVec 32 := Scalar.addi c0_i32_1141 v1472
  v1473.toNat
def k0_dev42 (d0 : Dev nD) : Nat :=
  let c0_i32_1150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_678 : BitVec 32 := 4#32
  let v962 : BitVec 32 := Scalar.xori v2 c4_i32_678
  let c1_i32_1149 : BitVec 32 := 1#32
  let v1481 : BitVec 32 := Scalar.muli v962 c1_i32_1149
  let v1482 : BitVec 32 := Scalar.addi c0_i32_1150 v1481
  v1482.toNat
def k0_off41 (d0 : Dev nD) (c3_i32_677 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v961 : BitVec 32 := Scalar.xori v2 c3_i32_677
  let c128_i32_1153 : BitVec 32 := 128#32
  let v1489 : BitVec 32 := Scalar.muli v961 c128_i32_1153
  let c0_i32_1160 : BitVec 32 := 0#32
  ![v1489.toNat, 0]
def k0_dev43 (d0 : Dev nD) : Nat :=
  let c0_i32_1168 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_676 : BitVec 32 := 1#32
  let v960 : BitVec 32 := Scalar.xori v2 c1_i32_676
  let c1_i32_1167 : BitVec 32 := 1#32
  let v1497 : BitVec 32 := Scalar.muli v960 c1_i32_1167
  let v1498 : BitVec 32 := Scalar.addi c0_i32_1168 v1497
  v1498.toNat
def k0_dev44 (d0 : Dev nD) : Nat :=
  let c0_i32_1186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_677 : BitVec 32 := 3#32
  let v961 : BitVec 32 := Scalar.xori v2 c3_i32_677
  let c1_i32_1185 : BitVec 32 := 1#32
  let v1513 : BitVec 32 := Scalar.muli v961 c1_i32_1185
  let v1514 : BitVec 32 := Scalar.addi c0_i32_1186 v1513
  v1514.toNat
def k0_dev45 (d0 : Dev nD) : Nat :=
  let c0_i32_1204 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_678 : BitVec 32 := 4#32
  let v962 : BitVec 32 := Scalar.xori v2 c4_i32_678
  let c1_i32_1203 : BitVec 32 := 1#32
  let v1529 : BitVec 32 := Scalar.muli v962 c1_i32_1203
  let v1530 : BitVec 32 := Scalar.addi c0_i32_1204 v1529
  v1530.toNat
def k0_off42 (d0 : Dev nD) (c3_i32_677 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v961 : BitVec 32 := Scalar.xori v2 c3_i32_677
  let c128_i32_1207 : BitVec 32 := 128#32
  let v1537 : BitVec 32 := Scalar.muli v961 c128_i32_1207
  let c2048_i32_1214 : BitVec 32 := 2048#32
  ![v1537.toNat, 2048]
def k0_dev46 (d0 : Dev nD) : Nat :=
  let c0_i32_1222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_676 : BitVec 32 := 1#32
  let v960 : BitVec 32 := Scalar.xori v2 c1_i32_676
  let c1_i32_1221 : BitVec 32 := 1#32
  let v1545 : BitVec 32 := Scalar.muli v960 c1_i32_1221
  let v1546 : BitVec 32 := Scalar.addi c0_i32_1222 v1545
  v1546.toNat
def k0_dev47 (d0 : Dev nD) : Nat :=
  let c0_i32_1240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_677 : BitVec 32 := 3#32
  let v961 : BitVec 32 := Scalar.xori v2 c3_i32_677
  let c1_i32_1239 : BitVec 32 := 1#32
  let v1561 : BitVec 32 := Scalar.muli v961 c1_i32_1239
  let v1562 : BitVec 32 := Scalar.addi c0_i32_1240 v1561
  v1562.toNat
def k0_dev48 (d0 : Dev nD) : Nat :=
  let c0_i32_1258 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_678 : BitVec 32 := 4#32
  let v962 : BitVec 32 := Scalar.xori v2 c4_i32_678
  let c1_i32_1257 : BitVec 32 := 1#32
  let v1577 : BitVec 32 := Scalar.muli v962 c1_i32_1257
  let v1578 : BitVec 32 := Scalar.addi c0_i32_1258 v1577
  v1578.toNat
def k0_dev49 (d0 : Dev nD) : Nat :=
  let c0_i32_1293 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_676 : BitVec 32 := 1#32
  let v960 : BitVec 32 := Scalar.xori v2 c1_i32_676
  let c1_i32_1292 : BitVec 32 := 1#32
  let v1608 : BitVec 32 := Scalar.muli v960 c1_i32_1292
  let v1609 : BitVec 32 := Scalar.addi c0_i32_1293 v1608
  v1609.toNat
def k0_dev50 (d0 : Dev nD) : Nat :=
  let c0_i32_1328 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_677 : BitVec 32 := 3#32
  let v961 : BitVec 32 := Scalar.xori v2 c3_i32_677
  let c1_i32_1327 : BitVec 32 := 1#32
  let v1639 : BitVec 32 := Scalar.muli v961 c1_i32_1327
  let v1640 : BitVec 32 := Scalar.addi c0_i32_1328 v1639
  v1640.toNat
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1546 : BitVec 32 := 0#32
  let v1803 : BitVec 1 := Scalar.cmpi .ne v2 c0_i32_1546
  let v1804 : BitVec 32 := Scalar.extui v1803
  let c0_i32_1547 : BitVec 32 := 0#32
  let v1805 : BitVec 1 := Scalar.cmpi .ne v1804 c0_i32_1547
  v1805

def k0_off43 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_1562 : BitVec 32 := 128#32
  let v1827 : BitVec 32 := Scalar.muli v2 c128_i32_1562
  let c0_i32_1568 : BitVec 32 := 0#32
  ![v1827.toNat, 0]
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1548 : BitVec 32 := 1#32
  let v1806 : BitVec 1 := Scalar.cmpi .ne v2 c1_i32_1548
  let v1807 : BitVec 32 := Scalar.extui v1806
  let c0_i32_1549 : BitVec 32 := 0#32
  let v1808 : BitVec 1 := Scalar.cmpi .ne v1807 c0_i32_1549
  v1808

def k0_off44 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_1562 : BitVec 32 := 128#32
  let v1827 : BitVec 32 := Scalar.muli v2 c128_i32_1562
  let c0_i32_1568 : BitVec 32 := 0#32
  ![v1827.toNat, 0]
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1550 : BitVec 32 := 2#32
  let v1809 : BitVec 1 := Scalar.cmpi .ne v2 c2_i32_1550
  let v1810 : BitVec 32 := Scalar.extui v1809
  let c0_i32_1551 : BitVec 32 := 0#32
  let v1811 : BitVec 1 := Scalar.cmpi .ne v1810 c0_i32_1551
  v1811

def k0_off45 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_1562 : BitVec 32 := 128#32
  let v1827 : BitVec 32 := Scalar.muli v2 c128_i32_1562
  let c0_i32_1568 : BitVec 32 := 0#32
  ![v1827.toNat, 0]
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1552 : BitVec 32 := 3#32
  let v1812 : BitVec 1 := Scalar.cmpi .ne v2 c3_i32_1552
  let v1813 : BitVec 32 := Scalar.extui v1812
  let c0_i32_1553 : BitVec 32 := 0#32
  let v1814 : BitVec 1 := Scalar.cmpi .ne v1813 c0_i32_1553
  v1814

def k0_off46 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_1562 : BitVec 32 := 128#32
  let v1827 : BitVec 32 := Scalar.muli v2 c128_i32_1562
  let c0_i32_1567 : BitVec 32 := 0#32
  ![v1827.toNat, 0]
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1554 : BitVec 32 := 4#32
  let v1815 : BitVec 1 := Scalar.cmpi .ne v2 c4_i32_1554
  let v1816 : BitVec 32 := Scalar.extui v1815
  let c0_i32_1555 : BitVec 32 := 0#32
  let v1817 : BitVec 1 := Scalar.cmpi .ne v1816 c0_i32_1555
  v1817

def k0_off47 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_1562 : BitVec 32 := 128#32
  let v1827 : BitVec 32 := Scalar.muli v2 c128_i32_1562
  let c0_i32_1568 : BitVec 32 := 0#32
  ![v1827.toNat, 0]
def k0_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1556 : BitVec 32 := 5#32
  let v1818 : BitVec 1 := Scalar.cmpi .ne v2 c5_i32_1556
  let v1819 : BitVec 32 := Scalar.extui v1818
  let c0_i32_1557 : BitVec 32 := 0#32
  let v1820 : BitVec 1 := Scalar.cmpi .ne v1819 c0_i32_1557
  v1820

def k0_off48 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_1562 : BitVec 32 := 128#32
  let v1827 : BitVec 32 := Scalar.muli v2 c128_i32_1562
  let c0_i32_1567 : BitVec 32 := 0#32
  ![v1827.toNat, 0]
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1558 : BitVec 32 := 6#32
  let v1821 : BitVec 1 := Scalar.cmpi .ne v2 c6_i32_1558
  let v1822 : BitVec 32 := Scalar.extui v1821
  let c0_i32_1559 : BitVec 32 := 0#32
  let v1823 : BitVec 1 := Scalar.cmpi .ne v1822 c0_i32_1559
  v1823

def k0_off49 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_1562 : BitVec 32 := 128#32
  let v1827 : BitVec 32 := Scalar.muli v2 c128_i32_1562
  let c0_i32_1567 : BitVec 32 := 0#32
  ![v1827.toNat, 0]
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1560 : BitVec 32 := 7#32
  let v1824 : BitVec 1 := Scalar.cmpi .ne v2 c7_i32_1560
  let v1825 : BitVec 32 := Scalar.extui v1824
  let c0_i32_1561 : BitVec 32 := 0#32
  let v1826 : BitVec 1 := Scalar.cmpi .ne v1825 c0_i32_1561
  v1826

def k0_off50 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_1562 : BitVec 32 := 128#32
  let v1827 : BitVec 32 := Scalar.muli v2 c128_i32_1562
  let c0_i32_1567 : BitVec 32 := 0#32
  ![v1827.toNat, 0]
abbrev stage0_0 : Fin 1 → Memref sig .tc .vmem S4096x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x256x4096 : Shape := ⟨3, ![4, 256, 4096]⟩
abbrev S4096x1024 : Shape := ⟨2, ![4096, 1024]⟩
abbrev S1024x4096 : Shape := ⟨2, ![1024, 4096]⟩
abbrev S4096x4096 : Shape := ⟨2, ![4096, 4096]⟩
abbrev S4096x2048 : Shape := ⟨2, ![4096, 2048]⟩
abbrev S4096x64 : Shape := ⟨2, ![4096, 64]⟩
abbrev S4x256x1024 : Shape := ⟨3, ![4, 256, 1024]⟩
abbrev S4x256x32x128 : Shape := ⟨4, ![4, 256, 32, 128]⟩
abbrev S4x256x2048 : Shape := ⟨3, ![4, 256, 2048]⟩
abbrev S4x256x32x64 : Shape := ⟨4, ![4, 256, 32, 64]⟩
abbrev S4x256x64 : Shape := ⟨3, ![4, 256, 64]⟩
abbrev S4x256x1x64 : Shape := ⟨4, ![4, 256, 1, 64]⟩
abbrev S4x32x256x256 : Shape := ⟨4, ![4, 32, 256, 256]⟩
abbrev S_ : Shape := ⟨0, ![]⟩
abbrev S4x32x256 : Shape := ⟨3, ![4, 32, 256]⟩
abbrev S4x32x256x1 : Shape := ⟨4, ![4, 32, 256, 1]⟩
abbrev S4x32x128x256 : Shape := ⟨4, ![4, 32, 128, 256]⟩

abbrev nBuf : Space → Nat
  | .hbm => 43
  | .vmem => 0
  | .smem => 0
  | _ => 0

abbrev bufTy : (tb : Table) → Fin (tcTables nBuf tb) → BufTy
  | .hbm, ⟨0, _⟩ => ⟨S4x256x4096, .f32⟩
  | .hbm, ⟨1, _⟩ => ⟨S4096x1024, .f32⟩
  | .hbm, ⟨2, _⟩ => ⟨S1024x4096, .f32⟩
  | .hbm, ⟨3, _⟩ => ⟨S1024x4096, .f32⟩
  | .hbm, ⟨4, _⟩ => ⟨S4096x4096, .f32⟩
  | .hbm, ⟨5, _⟩ => ⟨S4096x2048, .f32⟩
  | .hbm, ⟨6, _⟩ => ⟨S4096x64, .f32⟩
  | .hbm, ⟨7, _⟩ => ⟨S4096x4096, .f32⟩
  | .hbm, ⟨8, _⟩ => ⟨S4x256x1024, .f32⟩
  | .hbm, ⟨9, _⟩ => ⟨S4x256x4096, .f32⟩
  | .hbm, ⟨10, _⟩ => ⟨S4x256x32x128, .f32⟩
  | .hbm, ⟨11, _⟩ => ⟨S4x256x4096, .f32⟩
  | .hbm, ⟨12, _⟩ => ⟨S4x256x32x128, .f32⟩
  | .hbm, ⟨13, _⟩ => ⟨S4x256x4096, .f32⟩
  | .hbm, ⟨14, _⟩ => ⟨S4x256x32x128, .f32⟩
  | .hbm, ⟨15, _⟩ => ⟨S4x256x2048, .f32⟩
  | .hbm, ⟨16, _⟩ => ⟨S4x256x32x64, .f32⟩
  | .hbm, ⟨17, _⟩ => ⟨S4x256x64, .f32⟩
  | .hbm, ⟨18, _⟩ => ⟨S4x256x1x64, .f32⟩
  | .hbm, ⟨19, _⟩ => ⟨S4x32x256x256, .f32⟩
  | .hbm, ⟨20, _⟩ => ⟨S4x256x32x64, .f32⟩
  | .hbm, ⟨21, _⟩ => ⟨S4x32x256x256, .f32⟩
  | .hbm, ⟨22, _⟩ => ⟨S4x32x256x256, .f32⟩
  | .hbm, ⟨23, _⟩ => ⟨S_, .f32⟩
  | .hbm, ⟨24, _⟩ => ⟨S4x32x256x256, .f32⟩
  | .hbm, ⟨25, _⟩ => ⟨S4x32x256x256, .f32⟩
  | .hbm, ⟨26, _⟩ => ⟨S_, .f32⟩
  | .hbm, ⟨27, _⟩ => ⟨S4x32x256, .f32⟩
  | .hbm, ⟨28, _⟩ => ⟨S4x32x256x1, .f32⟩
  | .hbm, ⟨29, _⟩ => ⟨S4x32x256x256, .f32⟩
  | .hbm, ⟨30, _⟩ => ⟨S4x32x256x256, .f32⟩
  | .hbm, ⟨31, _⟩ => ⟨S4x32x256x256, .f32⟩
  | .hbm, ⟨32, _⟩ => ⟨S_, .f32⟩
  | .hbm, ⟨33, _⟩ => ⟨S4x32x256, .f32⟩
  | .hbm, ⟨34, _⟩ => ⟨S4x32x256x1, .f32⟩
  | .hbm, ⟨35, _⟩ => ⟨S4x32x256x256, .f32⟩
  | .hbm, ⟨36, _⟩ => ⟨S4x32x256x256, .f32⟩
  | .hbm, ⟨37, _⟩ => ⟨S4x32x128x256, .f32⟩
  | .hbm, ⟨38, _⟩ => ⟨S4x256x32x128, .f32⟩
  | .hbm, ⟨39, _⟩ => ⟨S4x256x4096, .f32⟩
  | .hbm, ⟨40, _⟩ => ⟨S4x256x4096, .f32⟩
  | .hbm, ⟨41, _⟩ => ⟨S1024x4096, .f32⟩
  | .hbm, ⟨42, _⟩ => ⟨S1024x4096, .bf16⟩
  | _, _ => ⟨S4x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Proof.Values.lean ====
/-
# The values the kernel computes, as functions of the launch memory

Each buffer that devices hand to each other gets one closed description of its contents: `callV` (the compressed
cache, the same on all devices), `wukcV`/`wuvcV` (the up-projection columns of a device's own heads), `obufV` (its
heads' attention output), `orowsV` (its rows of every device's output), `outV` (the result). They are stated over
any float values `F`, by the payload functions of the printed program.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ)

/-! ## Indices from numbers -/

/-- The index of a two-axis shape with the given coordinates, each taken modulo its extent. -/
def at2 (n0 n1 : ℕ) [NeZero n0] [NeZero n1] (a b : ℕ) : (⟨2, ![n0, n1]⟩ : Shape).Idx :=
  fun | 0 => (⟨a % n0, Nat.mod_lt _ (NeZero.pos n0)⟩ : Fin n0) | 1 => (⟨b % n1, Nat.mod_lt _ (NeZero.pos n1)⟩ : Fin n1)

/-- The index of a three-axis shape with the given coordinates, each taken modulo its extent. -/
def at3 (n0 n1 n2 : ℕ) [NeZero n0] [NeZero n1] [NeZero n2] (a b e : ℕ) : (⟨3, ![n0, n1, n2]⟩ : Shape).Idx :=
  fun | 0 => (⟨a % n0, Nat.mod_lt _ (NeZero.pos n0)⟩ : Fin n0) | 1 => (⟨b % n1, Nat.mod_lt _ (NeZero.pos n1)⟩ : Fin n1)
      | 2 => (⟨e % n2, Nat.mod_lt _ (NeZero.pos n2)⟩ : Fin n2)

@[simp] theorem at2_val0 (n0 n1 : ℕ) [NeZero n0] [NeZero n1] (a b : ℕ) : (at2 n0 n1 a b 0).val = a % n0 := rfl
@[simp] theorem at2_val1 (n0 n1 : ℕ) [NeZero n0] [NeZero n1] (a b : ℕ) : (at2 n0 n1 a b 1).val = b % n1 := rfl
@[simp] theorem at3_val0 (n0 n1 n2 : ℕ) [NeZero n0] [NeZero n1] [NeZero n2] (a b e : ℕ) : (at3 n0 n1 n2 a b e 0).val = a % n0 := rfl
@[simp] theorem at3_val1 (n0 n1 n2 : ℕ) [NeZero n0] [NeZero n1] [NeZero n2] (a b e : ℕ) : (at3 n0 n1 n2 a b e 1).val = b % n1 := rfl
@[simp] theorem at3_val2 (n0 n1 n2 : ℕ) [NeZero n0] [NeZero n1] [NeZero n2] (a b e : ℕ) : (at3 n0 n1 n2 a b e 2).val = e % n2 := rfl

/-- Two indices of a two-axis shape with equal coordinates are equal. -/
theorem idx2_ext {n0 n1 : ℕ} {i j : (⟨2, ![n0, n1]⟩ : Shape).Idx} (h0 : (i 0).val = (j 0).val) (h1 : (i 1).val = (j 1).val) : i = j := by
  funext a; apply Fin.ext
  match a with
  | ⟨0, _⟩ => exact h0
  | ⟨1, _⟩ => exact h1

theorem idx3_ext {n0 n1 n2 : ℕ} {i j : (⟨3, ![n0, n1, n2]⟩ : Shape).Idx} (h0 : (i 0).val = (j 0).val) (h1 : (i 1).val = (j 1).val)
    (h2 : (i 2).val = (j 2).val) : i = j := by
  funext a; apply Fin.ext
  match a with
  | ⟨0, _⟩ => exact h0
  | ⟨1, _⟩ => exact h1
  | ⟨2, _⟩ => exact h2

theorem lt2_0 {n0 n1 : ℕ} (i : (⟨2, ![n0, n1]⟩ : Shape).Idx) : (i 0).val < n0 := (i 0).isLt
theorem lt2_1 {n0 n1 : ℕ} (i : (⟨2, ![n0, n1]⟩ : Shape).Idx) : (i 1).val < n1 := (i 1).isLt
theorem lt3_0 {n0 n1 n2 : ℕ} (i : (⟨3, ![n0, n1, n2]⟩ : Shape).Idx) : (i 0).val < n0 := (i 0).isLt
theorem lt3_1 {n0 n1 n2 : ℕ} (i : (⟨3, ![n0, n1, n2]⟩ : Shape).Idx) : (i 1).val < n1 := (i 1).isLt
theorem lt3_2 {n0 n1 n2 : ℕ} (i : (⟨3, ![n0, n1, n2]⟩ : Shape).Idx) : (i 2).val < n2 := (i 2).isLt

/-! ## The arguments, per device -/

/-- The contents of device `c`'s buffer `b` at launch. -/
abbrev arg (c : Dev nD) (b : Ref sig .tc) : Buf (Elt F) ((c : Thread nD τ).loc b) := m ((c : Thread nD τ).loc b)

/-- The decoupled key weight as the pipeline stages it. -/
def wkrV (c : Dev nD) : Vec F S4096x64 .f32 := (win0_0.blk t0_0).view.read (Elt F) (arg m c main_arg6)

def wdkvV (c : Dev nD) : Vec F S4096x128 .bf16 := k0_pay2 (k0_pay1 (arg m c main_arg1))
def wukV (c : Dev nD) : Vec F S128x4096 .bf16 := k0_pay3 (arg m c main_arg2)
def wuvV (c : Dev nD) : Vec F S128x4096 .bf16 := k0_pay4 (arg m c main_arg3)

/-- Batch `t` of the input, as a staged slab. -/
def xchunkV (c : Dev nD) (t : ℕ) : Vec F S1x256x4096 .f32 := fun i => (arg m c main_arg0 : Vec F S4x256x4096 .f32) (at3 4 256 4096 t (i 1).val (i 2).val)
/-- The input in the narrow format, batch-major rows. -/
def xbV (c : Dev nD) : Vec F S1024x4096 .bf16 :=
  fun i => k0_pay5 (xchunkV m c ((i 0).val / 256)) (at2 256 4096 (i 0).val (i 1).val)
/-- The compressed cache: device `d`'s columns are columns `128 d …`. -/
def callV : Vec F S1024x1024 .bf16 := fun i =>
  k0_pay9 (xbV m (Fin.ofNat nD ((i 1).val / 128))) (wdkvV m (Fin.ofNat nD ((i 1).val / 128))) (at2 1024 128 (i 0).val (i 1).val)
/-- The key up-projection for the heads of `c`: rows `128 d …` come from device `d`. -/
def wukcV (c : Dev nD) : Vec F S1024x512 .bf16 := fun i =>
  wukV m (Fin.ofNat nD ((i 0).val / 128)) (at2 128 4096 (i 0).val (512 * c.val + (i 1).val))
def wuvcV (c : Dev nD) : Vec F S1024x512 .bf16 := fun i =>
  wuvV m (Fin.ofNat nD ((i 0).val / 128)) (at2 128 4096 (i 0).val (512 * c.val + (i 1).val))

def krV (c : Dev nD) : FVec F S1024x64 .bf16 := k0_pay12 (xbV m c) (wkrV m c)
def wqV (c : Dev nD) : Vec F S4096x512 .f32 := fun i => (arg m c main_arg4 : Vec F S4096x4096 .f32) (at2 4096 4096 (i 0).val (512 * c.val + (i 1).val))
def wqrV (c : Dev nD) : Vec F S4096x256 .f32 := fun i => (arg m c main_arg5 : Vec F S4096x2048 .f32) (at2 4096 2048 (i 0).val (256 * c.val + (i 1).val))
def qcV (c : Dev nD) : FVec F S1024x512 .bf16 := k0_pay13 (xbV m c) (wqV m c)
def qrV (c : Dev nD) : FVec F S1024x256 .bf16 := k0_pay14 (xbV m c) (wqrV m c)
/-- Values, queries and keys of the heads of `c`, over all batches. -/
def vV (c : Dev nD) : FVec F S1024x512 .bf16 := k0_pay15 (callV m) (wuvcV m c)
def qV (c : Dev nD) : FVec F S1024x768 .bf16 := k0_pay16 (qcV m c) (qrV m c)
def kV (c : Dev nD) : FVec F S1024x768 .bf16 := k0_pay17 (krV m c) (callV m) (wukcV m c)

theorem slices_v (b h : Fin 4) : S1024x512.Slices ![256 * b.val, 128 * h.val] S256x128 := by revert b h; decide
theorem slices_qk (b h : Fin 4) : S1024x768.Slices ![256 * b.val, 192 * h.val] S256x192 := by revert b h; decide

/-- One batch and head: the scores of the batch's rows, exponentiated, applied to the values and divided by the row sums. -/
def headV (v : FVec F S1024x512 .bf16) (q k : FVec F S1024x768 .bf16) (b h : Fin 4) : FVec F S256x128 .bf16 :=
  k0_pay21 (extractStridedSlice S256x128 ![256 * b.val, 128 * h.val] v (slices_v b h))
    (matmul dot_S256x192_S256x192_S256x256_1_1_0_0_n_n none (extractStridedSlice S256x192 ![256 * b.val, 192 * h.val] q (slices_qk b h))
      (extractStridedSlice S256x192 ![256 * b.val, 192 * h.val] k (slices_qk b h)) (constant S256x256 .f32 0x00000000#32))
    (Scalar.ofBits .f32 0x3D93CD3A#32)

/-- The attention output of the heads of `c`. -/
def obufV (c : Dev nD) : Vec F S1024x512 .bf16 := fun i =>
  headV (vV m c) (qV m c) (kV m c) (Fin.ofNat 4 ((i 0).val / 256)) (Fin.ofNat 4 ((i 1).val / 128)) (at2 256 128 (i 0).val (i 1).val)
/-- The rows of `c` of every device's attention output: block `p` is device `p`'s. -/
def orowsV (c : Dev nD) : Vec F S1024x512 .bf16 := fun i =>
  obufV m (Fin.ofNat nD ((i 0).val / 128)) (at2 1024 512 (128 * c.val + (i 0).val % 128) (i 1).val)

/-- Rows of the output weight for device `p`'s heads, column half `h`, as a staged slab. -/
def woV (c : Dev nD) (p h : ℕ) : Vec F S1x512x2048 .f32 := fun i =>
  (arg m c main_arg7 : Vec F S4096x4096 .f32) (at2 4096 4096 (512 * p + (i 1).val) (2048 * h + (i 2).val))
/-- The block of `orowsV` that came from device `p`. -/
def orB (c : Dev nD) (p : ℕ) : Vec F S128x512 .bf16 := fun i => orowsV m c (at2 1024 512 (128 * p + (i 0).val) (i 1).val)

/-- Device `c`'s partial sum of the output projection, half `h`, after the blocks `c, c + 1, …, c + j - 1`. -/
def accV (c : Dev nD) (h : ℕ) : ℕ → FVec F S128x2048 .f32
  | 0 => k0_pay54
  | j + 1 => k0_pay55 (accV c h j) (orB m c ((c.val + j) % 8)) (woV m c ((c.val + j) % 8) h)
/-- Device `c`'s chunk of the result, half `h`. -/
def chunkV (c : Dev nD) (h : ℕ) : FVec F S128x2048 .bf16 := k0_pay62 (accV m c h 7) (orB m c ((c.val + 7) % 8)) (woV m c ((c.val + 7) % 8) h)

/-- The result, the same on all devices. -/
def outV : Vec F S1024x4096 .bf16 := fun i =>
  chunkV m (Fin.ofNat nD ((i 0).val / 128)) ((i 1).val / 2048) (at2 128 2048 (i 0).val (i 1).val)

end Cert.Mla
-- ==== Proof.Proto.lean ====
/-
# The cross-device protocol

Device `c` of eight. Every semaphore cell takes part in one round and is waited for once.

* the runtime's barrier semaphore of `c`: each peer signals it once on entry and `c` waits for the seven; a peer's
  signal hands `c` the places in the peer's memory that `c` will copy into;
* transfer `w 0 p`, `w 1 p`: columns of the two up-projection blocks, for the heads of `p`, into block `c` of `p`'s copy;
* `w 2 p`: the columns of the compressed cache that `c` computed, into the same place on `p`;
* `a p`: the rows of `p` of the attention output of `c`, into block `c` of `p`'s rows;
* `o1 l h`, `o2 l h`, `o3 h`: halves of chunks of the result, sent to the three neighbours in three phases: the own
  chunk, then the chunk received from another neighbour, then the chunk received in the second phase.

A transfer `x` of `c` goes to device `dst c x`, where it completes the receive cell of `opp c x`; so `(c, x)` and
`(dst c x, opp c x)` are each other's opposite. The send cell hands the source back, the receive cell the block that
landed, both with their contents.
-/
module

public import proofs.«01_k».proof.Proof.Values

@[expose] public section

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds, the protocol's rounds (duties named by devices), the local copies' counters -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB 𝕄).LandsIn (upEmb : UEmb _ 𝕄) := by unfold ER; infer_instance

abbrev 𝒱₀ : Variants := Variants.none

/-! ## Transfers and cells -/

/-- A transfer of a device. -/
inductive Tr
  | w (t : Fin 3) (p : Dev nD)
  | a (p : Dev nD)
  | o1 (l : Fin 3) (h : Fin 2)
  | o2 (l : Fin 3) (h : Fin 2)
  | o3 (h : Fin 2)
  deriving DecidableEq

/-- The transfers, as a sum. -/
def trE : ((Fin 3 × Dev nD) ⊕ Dev nD) ⊕ ((Fin 3 × Fin 2) ⊕ (Fin 3 × Fin 2)) ⊕ Fin 2 ≃ Tr where
  toFun
    | .inl (.inl (t, p)) => .w t p
    | .inl (.inr p) => .a p
    | .inr (.inl (.inl (l, h))) => .o1 l h
    | .inr (.inl (.inr (l, h))) => .o2 l h
    | .inr (.inr h) => .o3 h
  invFun
    | .w t p => .inl (.inl (t, p))
    | .a p => .inl (.inr p)
    | .o1 l h => .inr (.inl (.inl (l, h)))
    | .o2 l h => .inr (.inl (.inr (l, h)))
    | .o3 h => .inr (.inr h)
  left_inv x := by rcases x with (⟨t, p⟩ | p) | (⟨l, h⟩ | ⟨l, h⟩) | h <;> rfl
  right_inv x := by cases x <;> rfl

instance : Fintype Tr := Fintype.ofEquiv _ trE

/-- A semaphore cell of a device. -/
inductive Cl
  | bar
  | s (x : Tr)
  | r (x : Tr)
  deriving DecidableEq

/-- The cells, as a sum. -/
def clE : Unit ⊕ Tr ⊕ Tr ≃ Cl where
  toFun
    | .inl _ => .bar
    | .inr (.inl x) => .s x
    | .inr (.inr x) => .r x
  invFun
    | .bar => .inl ()
    | .s x => .inr (.inl x)
    | .r x => .inr (.inr x)
  left_inv x := by rcases x with _ | x | x <;> rfl
  right_inv x := by cases x <;> rfl

instance : Fintype Cl := Fintype.ofEquiv _ clE

/-- The three neighbours in the result's exchange. -/
def nbr (c : Dev nD) (l : Fin 3) : Dev nD := match l with | 0 => c ^^^ (1 : Fin 8) | 1 => c ^^^ (3 : Fin 8) | 2 => c ^^^ (4 : Fin 8)
/-- The chunk relayed to neighbour `l` in the second phase. -/
def rel (c : Dev nD) (l : Fin 3) : Dev nD := match l with | 0 => c ^^^ (3 : Fin 8) | 1 => c ^^^ (4 : Fin 8) | 2 => c ^^^ (1 : Fin 8)
/-- The chunk that arrives in the second phase from neighbour `l`. -/
def rcv2 (c : Dev nD) (l : Fin 3) : Dev nD := match l with | 0 => c ^^^ (2 : Fin 8) | 1 => c ^^^ (7 : Fin 8) | 2 => c ^^^ (5 : Fin 8)
/-- The third phase's neighbour and relayed chunk, per half. -/
def nbr3 (c : Dev nD) (h : Fin 2) : Dev nD := match h with | 0 => c ^^^ (1 : Fin 8) | 1 => c ^^^ (3 : Fin 8)
def rel3 (c : Dev nD) (h : Fin 2) : Dev nD := match h with | 0 => c ^^^ (7 : Fin 8) | 1 => c ^^^ (5 : Fin 8)
def rcv3 (c : Dev nD) : Dev nD := c ^^^ (6 : Fin 8)

/-- Where a transfer of `c` goes. -/
def dst (c : Dev nD) : Tr → Dev nD
  | .w _ p => p
  | .a p => p
  | .o1 l _ => nbr c l
  | .o2 l _ => nbr c l
  | .o3 h => nbr3 c h

/-- The opposite transfer, of the device it goes to. -/
def opp (c : Dev nD) : Tr → Tr
  | .w t _ => .w t c
  | .a _ => .a c
  | .o1 l h => .o1 l h
  | .o2 l h => .o2 l h
  | .o3 h => .o3 h

/-- A transfer that takes place: none is to the device itself. -/
def live (c : Dev nD) : Tr → Prop
  | .w _ p => p ≠ c
  | .a p => p ≠ c
  | _ => True

instance live_dec (c : Dev nD) (x : Tr) : Decidable (live c x) := by cases x <;> unfold live <;> infer_instance

theorem dst_opp (c : Dev nD) (x : Tr) : dst (dst c x) (opp c x) = c := by
  cases x with
  | w t p => rfl
  | a p => rfl
  | o1 l h => revert c l h; decide
  | o2 l h => revert c l h; decide
  | o3 h => revert c h; decide
theorem opp_opp (c : Dev nD) (x : Tr) : opp (dst c x) (opp c x) = x := by cases x <;> rfl
theorem live_opp (c : Dev nD) (x : Tr) : live (dst c x) (opp c x) ↔ live c x := by
  cases x <;> simp only [live, dst, opp, ne_eq, not_true_eq_false, iff_true, iff_false] <;> exact not_congr eq_comm

/-- Opposites, as a permutation of all devices' transfers. -/
def oppE : Dev nD × Tr ≃ Dev nD × Tr where
  toFun p := (dst p.1 p.2, opp p.1 p.2)
  invFun p := (dst p.1 p.2, opp p.1 p.2)
  left_inv p := Prod.ext (dst_opp p.1 p.2) (opp_opp p.1 p.2)
  right_inv p := Prod.ext (dst_opp p.1 p.2) (opp_opp p.1 p.2)

/-! ### The semaphores -/

abbrev barS : Sem sig := (SemArray.scalar (sig.barrier 0 rfl) : Sems sig S_).sem

/-- The number of a transfer's send semaphore, -/
def sNo : Tr → ℕ
  | .w t p => 2 + 8 * t.val + p.val
  | .a p => 50 + p.val
  | .o1 l h => 66 + 2 * l.val + h.val
  | .o2 l h => 78 + 2 * l.val + h.val
  | .o3 h => 90 + h.val
/-- of its receive semaphore. -/
def rNo : Tr → ℕ
  | .w t p => 26 + 8 * t.val + p.val
  | .a p => 58 + p.val
  | .o1 l h => 72 + 2 * l.val + h.val
  | .o2 l h => 84 + 2 * l.val + h.val
  | .o3 h => 92 + h.val

theorem sNo_lt (x : Tr) : sNo x < 103 := by
  cases x <;> simp only [sNo] <;> (try have := Fin.isLt (n := 8) ‹Dev nD›) <;> omega
theorem rNo_lt (x : Tr) : rNo x < 103 := by
  cases x <;> simp only [rNo] <;> (try have := Fin.isLt (n := 8) ‹Dev nD›) <;> omega

def sS (x : Tr) : DmaSem sig := (⟨sNo x, sNo_lt x⟩ : Fin 103)
def rS (x : Tr) : DmaSem sig := (⟨rNo x, rNo_lt x⟩ : Fin 103)

/-- A cell's semaphore. -/
def enc : Cl → SemLoc sig
  | .bar => .reg barS
  | .s x => .dma (sS x)
  | .r x => .dma (rS x)

/-- The number of a cell, the barrier's first. -/
def cNo : Cl → ℕ
  | .bar => 0
  | .s x => sNo x
  | .r x => rNo x

/-- The cell of a number. -/
def ofNo (n : ℕ) : Cl :=
  if n < 2 then .bar
  else if n < 26 then .s (.w (Fin.ofNat 3 ((n - 2) / 8)) (Fin.ofNat 8 ((n - 2) % 8)))
  else if n < 50 then .r (.w (Fin.ofNat 3 ((n - 26) / 8)) (Fin.ofNat 8 ((n - 26) % 8)))
  else if n < 58 then .s (.a (Fin.ofNat 8 (n - 50)))
  else if n < 66 then .r (.a (Fin.ofNat 8 (n - 58)))
  else if n < 72 then .s (.o1 (Fin.ofNat 3 ((n - 66) / 2)) (Fin.ofNat 2 (n % 2)))
  else if n < 78 then .r (.o1 (Fin.ofNat 3 ((n - 72) / 2)) (Fin.ofNat 2 (n % 2)))
  else if n < 84 then .s (.o2 (Fin.ofNat 3 ((n - 78) / 2)) (Fin.ofNat 2 (n % 2)))
  else if n < 90 then .r (.o2 (Fin.ofNat 3 ((n - 84) / 2)) (Fin.ofNat 2 (n % 2)))
  else if n < 92 then .s (.o3 (Fin.ofNat 2 (n % 2)))
  else .r (.o3 (Fin.ofNat 2 (n % 2)))

theorem ofNo_cNo (k : Cl) : ofNo (cNo k) = k := by
  rcases k with _ | x | x
  · rfl
  all_goals rcases x with ⟨t, p⟩ | p | ⟨l, h⟩ | ⟨l, h⟩ | h
  · revert t p; decide +kernel
  · revert p; decide +kernel
  · revert l h; decide +kernel
  · revert l h; decide +kernel
  · revert h; decide +kernel
  · revert t p; decide +kernel
  · revert p; decide +kernel
  · revert l h; decide +kernel
  · revert l h; decide +kernel
  · revert h; decide +kernel

theorem cNo_inj : Function.Injective cNo := fun k k' h => by rw [← ofNo_cNo k, h, ofNo_cNo]

theorem enc_inj : Function.Injective enc := by
  intro k k' h
  apply cNo_inj
  cases k with
  | bar => cases k' with
    | bar => rfl
    | s y => cases h
    | r y => cases h
  | s x => cases k' with
    | bar => cases h
    | s y => exact congrArg (fun z : SemLoc sig => match z with | .dma d => d.val | _ => 0) h
    | r y => exact congrArg (fun z : SemLoc sig => match z with | .dma d => d.val | _ => 0) h
  | r x => cases k' with
    | bar => cases h
    | s y => exact congrArg (fun z : SemLoc sig => match z with | .dma d => d.val | _ => 0) h
    | r y => exact congrArg (fun z : SemLoc sig => match z with | .dma d => d.val | _ => 0) h

open Classical in
/-- The cell of a semaphore, if it is one. -/
def dec (sm : SemLoc sig) : Option Cl := if h : ∃ k, enc k = sm then some h.choose else none

theorem dec_enc (k : Cl) : dec (enc k) = some k := by
  unfold dec; rw [dif_pos ⟨k, rfl⟩]
  exact congrArg some (enc_inj (Exists.choose_spec (⟨k, rfl⟩ : ∃ k', enc k' = enc k)))

/-- A cell of a device. -/
abbrev gc (c : Dev nD) (k : Cl) : GSem nD τ sig := ((c : Thread nD τ), enc k)

theorem gc_inj : Function.Injective (fun ck : Dev nD × Cl => gc ck.1 ck.2) := by
  rintro ⟨c, k⟩ ⟨c', k'⟩ h
  have h1 : c = c' := congrArg (fun g : GSem nD τ sig => g.1.1) h
  have h2 : k = k' := enc_inj (congrArg Prod.snd h)
  rw [h1, h2]

/-! ## Amounts and duties -/

/-- The units a transfer's cells count. -/
def trAmt : Tr → ℕ
  | .w 0 _ => 4096
  | .w 1 _ => 4096
  | .w 2 _ => 8192
  | .a _ => 4096
  | .o1 _ _ => 16384
  | .o2 _ _ => 16384
  | .o3 _ => 16384

theorem trAmt_pos (x : Tr) : 0 < trAmt x := by
  unfold trAmt; split <;> decide

def clAmt : Cl → ℕ
  | .bar => 1
  | .s x => trAmt x
  | .r x => trAmt x

theorem clAmt_pos (k : Cl) : 0 < clAmt k := by
  cases k with
  | bar => decide
  | s x => exact trAmt_pos x
  | r x => exact trAmt_pos x

/-- The duties of a cell of `c`: the barrier's one per peer, a transfer's cell one if the transfer takes place. -/
def clDuty (c : Dev nD) : Cl → Finset (Dev nD)
  | .bar => Finset.univ.erase c
  | .s x => if live c x then {0} else ∅
  | .r x => if live c x then {0} else ∅

/-! ## Contents handed over -/

/-- Elements of a two-axis buffer by the block of their row, -/
def rowB {n0 n1 : ℕ} (w p : ℕ) : Finset (⟨2, ![n0, n1]⟩ : Shape).Idx := Finset.univ.filter fun i => (i 0).val / w = p
/-- of their column, -/
def colB {n0 n1 : ℕ} (w p : ℕ) : Finset (⟨2, ![n0, n1]⟩ : Shape).Idx := Finset.univ.filter fun i => (i 1).val / w = p
/-- of both. -/
def boxB {n0 n1 : ℕ} (w p w' q : ℕ) : Finset (⟨2, ![n0, n1]⟩ : Shape).Idx :=
  Finset.univ.filter fun i => (i 0).val / w = p ∧ (i 1).val / w' = q

variable (m : (ℓ : Loc nD τ sig) → Buf (Elt F) ℓ)

/-- Elements `S` of a buffer of device `c`, at share `q` and contents `G`. -/
abbrev pts (c : Dev nD) (b : Ref sig .tc) (S : Finset (Idx ((c : Thread nD τ).loc b))) (q : PosShare TreeShare)
    (G : Buf (Elt F) ((c : Thread nD τ).loc b)) : sProp 𝕄 := ((c : Thread nD τ).loc b) ↦[S]{q} G

/-- What a send cell of `c` hands back: the source. -/
def sPay (c : Dev nD) : Tr → sProp 𝕄
  | .w 0 p => pts c cc0_scratch14 (colB (n0 := 128) (n1 := 4096) 512 p.val) fullShare (wukV m c)
  | .w 1 p => pts c cc0_scratch15 (colB (n0 := 128) (n1 := 4096) 512 p.val) fullShare (wuvV m c)
  | .w 2 p => pts c cc0_scratch0 (colB (n0 := 1024) (n1 := 1024) 128 c.val) (Transfers.shareTokN fullShare p.val) (callV m)
  | .a p => pts c cc0_scratch3 (rowB (n0 := 1024) (n1 := 512) 128 p.val) fullShare (obufV m c)
  | .o1 l h => pts c cc0_stg1_0 (boxB (n0 := 1024) (n1 := 4096) 128 c.val 2048 h.val) (Transfers.shareTokN fullShare l.val) (outV m)
  | .o2 l h => pts c cc0_stg1_0 (boxB (n0 := 1024) (n1 := 4096) 128 (rel c l).val 2048 h.val) fullShare (outV m)
  | .o3 h => pts c cc0_stg1_0 (boxB (n0 := 1024) (n1 := 4096) 128 (rel3 c h).val 2048 h.val) fullShare (outV m)

/-- What a receive cell of `c` hands over: the block that landed. -/
def rPay (c : Dev nD) : Tr → sProp 𝕄
  | .w 0 p => pts c cc0_scratch1 (rowB (n0 := 1024) (n1 := 512) 128 p.val) fullShare (wukcV m c)
  | .w 1 p => pts c cc0_scratch2 (rowB (n0 := 1024) (n1 := 512) 128 p.val) fullShare (wuvcV m c)
  | .w 2 p => pts c cc0_scratch0 (colB (n0 := 1024) (n1 := 1024) 128 p.val) fullShare (callV m)
  | .a p => pts c cc0_scratch4 (rowB (n0 := 1024) (n1 := 512) 128 p.val) fullShare (orowsV m c)
  | .o1 l h => pts c cc0_stg1_0 (boxB (n0 := 1024) (n1 := 4096) 128 (nbr c l).val 2048 h.val) fullShare (outV m)
  | .o2 l h => pts c cc0_stg1_0 (boxB (n0 := 1024) (n1 := 4096) 128 (rcv2 c l).val 2048 h.val) fullShare (outV m)
  | .o3 h => pts c cc0_stg1_0 (boxB (n0 := 1024) (n1 := 4096) 128 (rcv3 c).val 2048 h.val) fullShare (outV m)

/-- The place that the opposite of `x` copies into, on device `c`, at any contents. -/
def rFree (c : Dev nD) : Tr → sProp 𝕄
  | .w 0 p => iprop(∃ f, pts c cc0_scratch1 (rowB (n0 := 1024) (n1 := 512) 128 p.val) fullShare f)
  | .w 1 p => iprop(∃ f, pts c cc0_scratch2 (rowB (n0 := 1024) (n1 := 512) 128 p.val) fullShare f)
  | .w 2 p => iprop(∃ f, pts c cc0_scratch0 (colB (n0 := 1024) (n1 := 1024) 128 p.val) fullShare f)
  | .a p => iprop(∃ f, pts c cc0_scratch4 (rowB (n0 := 1024) (n1 := 512) 128 p.val) fullShare f)
  | .o1 l h => iprop(∃ f, pts c cc0_stg1_0 (boxB (n0 := 1024) (n1 := 4096) 128 (nbr c l).val 2048 h.val) fullShare f)
  | .o2 l h => iprop(∃ f, pts c cc0_stg1_0 (boxB (n0 := 1024) (n1 := 4096) 128 (rcv2 c l).val 2048 h.val) fullShare f)
  | .o3 h => iprop(∃ f, pts c cc0_stg1_0 (boxB (n0 := 1024) (n1 := 4096) 128 (rcv3 c).val 2048 h.val) fullShare f)

/-- What the signal of `d` on the barrier of `c` hands `c`: the places on `d` that `c` copies into. -/
def barPay (c d : Dev nD) : sProp 𝕄 :=
  bigSep Finset.univ fun y : Tr => if dst d y = c ∧ live d y then rFree (F := F) d y else iprop(emp)

def clPay (c : Dev nD) (k : Cl) (d : Dev nD) : sProp 𝕄 := match k with
  | .bar => barPay c d
  | .s x => sPay m c x
  | .r x => rPay m c x

/-! ## The schedule -/

/-- A semaphore's units per duty. -/
def semAmt (sm : SemLoc sig) : ℕ := match dec sm with
  | some k => clAmt k
  | none => 1

theorem semAmt_pos (sm : SemLoc sig) : 0 < semAmt sm := by
  unfold semAmt
  cases dec sm with
  | none => exact Nat.one_pos
  | some k => exact clAmt_pos k

def Rd : Rounds.Schedule (GSem nD τ sig) (Dev nD) 𝕄 where
  duties g r := match dec g.2 with
    | some k => if r = 0 then clDuty g.1.1 k else ∅
    | none => ∅
  unitless _ := False
  amount g _ _ := semAmt g.2
  payload g _ d := match dec g.2 with
    | some k => clPay m g.1.1 k d
    | none => iprop(emp)
  amount_pos _ _ _ _ := semAmt_pos _

instance rFree_storable (c : Dev nD) (x : Tr) : BI.Storable (upEmb : UEmb _ 𝕄) (rFree (F := F) c x) := by
  match x with
  | .w 0 _ => unfold rFree; infer_instance
  | .w 1 _ => unfold rFree; infer_instance
  | .w 2 _ => unfold rFree; infer_instance
  | .a _ => unfold rFree; infer_instance
  | .o1 _ _ => unfold rFree; infer_instance
  | .o2 _ _ => unfold rFree; infer_instance
  | .o3 _ => unfold rFree; infer_instance

instance sPay_storable (c : Dev nD) (x : Tr) : BI.Storable (upEmb : UEmb _ 𝕄) (sPay (F := F) m c x) := by
  match x with
  | .w 0 _ => unfold sPay; infer_instance
  | .w 1 _ => unfold sPay; infer_instance
  | .w 2 _ => unfold sPay; infer_instance
  | .a _ => unfold sPay; infer_instance
  | .o1 _ _ => unfold sPay; infer_instance
  | .o2 _ _ => unfold sPay; infer_instance
  | .o3 _ => unfold sPay; infer_instance

instance rPay_storable (c : Dev nD) (x : Tr) : BI.Storable (upEmb : UEmb _ 𝕄) (rPay (F := F) m c x) := by
  match x with
  | .w 0 _ => unfold rPay; infer_instance
  | .w 1 _ => unfold rPay; infer_instance
  | .w 2 _ => unfold rPay; infer_instance
  | .a _ => unfold rPay; infer_instance
  | .o1 _ _ => unfold rPay; infer_instance
  | .o2 _ _ => unfold rPay; infer_instance
  | .o3 _ => unfold rPay; infer_instance

instance Rd_payload_storable (g : GSem nD τ sig) (r : ℕ) (d : Dev nD) : BI.Storable (upEmb : UEmb _ 𝕄) ((Rd (F := F) m).payload g r d) := by
  dsimp only [Rd]
  cases dec g.2 with
  | none => dsimp only; infer_instance
  | some k =>
    dsimp only
    cases k with
    | bar =>
      unfold clPay barPay
      have : ∀ y, BI.Storable (upEmb : UEmb _ 𝕄) (if dst d y = g.1.1 ∧ live d y then rFree (F := F) d y else iprop(emp)) := fun y => by
        split <;> infer_instance
      infer_instance
    | s x => unfold clPay; infer_instance
    | r x => unfold clPay; infer_instance

theorem Rd_duties (c : Dev nD) (k : Cl) : (Rd (F := F) m).duties (gc c k) 0 = clDuty c k := by
  dsimp only [Rd]; rw [dec_enc]; exact if_pos rfl
theorem Rd_duties_later (c : Dev nD) (k : Cl) (r : ℕ) (hr : 1 ≤ r) : (Rd (F := F) m).duties (gc c k) r = ∅ := by
  dsimp only [Rd]; rw [dec_enc]; exact if_neg (by omega)
theorem Rd_amount (c : Dev nD) (k : Cl) (d : Dev nD) : (Rd (F := F) m).amount (gc c k) 0 d = clAmt k := by
  dsimp only [Rd, semAmt]; rw [dec_enc]
theorem Rd_payload (c : Dev nD) (k : Cl) (d : Dev nD) : (Rd (F := F) m).payload (gc c k) 0 d = clPay m c k d := by
  dsimp only [Rd]; rw [dec_enc]
theorem Rd_expect (c : Dev nD) (k : Cl) : (Rd (F := F) m).expect (gc c k) 0 = (clDuty c k).card * clAmt k := by
  unfold Schedule.expect Schedule.amountOf
  rw [Rd_duties, Finset.sum_congr rfl fun d _ => Rd_amount m c k d, Finset.sum_const, smul_eq_mul]
theorem Rd_rest (c : Dev nD) (k : Cl) :
    bigSep ((Rd (F := F) m).duties (gc c k) 0 \ ∅) (fun d => (Rd (F := F) m).payload (gc c k) 0 d) = bigSep (clDuty c k) (clPay m c k) := by
  rw [Finset.sdiff_empty, Rd_duties]; exact bigSep_congr fun d _ => Rd_payload m c k d

/-! ## What a device owes, and the levels -/

/-- `d`, `c` and an offset: the peer `j` places after `c`. -/
def pe (c : Dev nD) (j : Fin 8) : Dev nD := c + j

/-- The cells that `c` owes units to, in program order; an entry at `c` itself owes nothing. -/
def obl (c : Dev nD) : List (Dev nD × Cl) :=
  [(pe c 1, .bar), (pe c 2, .bar), (pe c 3, .bar), (pe c 4, .bar), (pe c 5, .bar), (pe c 6, .bar), (pe c 7, .bar),
   (pe c 1, .r (.w 0 c)), (pe c 1, .r (.w 1 c)), (pe c 2, .r (.w 0 c)), (pe c 2, .r (.w 1 c)), (pe c 3, .r (.w 0 c)), (pe c 3, .r (.w 1 c)),
   (pe c 4, .r (.w 0 c)), (pe c 4, .r (.w 1 c)), (pe c 5, .r (.w 0 c)), (pe c 5, .r (.w 1 c)), (pe c 6, .r (.w 0 c)), (pe c 6, .r (.w 1 c)),
   (pe c 7, .r (.w 0 c)), (pe c 7, .r (.w 1 c)),
   (pe c 1, .r (.w 2 c)), (pe c 2, .r (.w 2 c)), (pe c 3, .r (.w 2 c)), (pe c 4, .r (.w 2 c)), (pe c 5, .r (.w 2 c)), (pe c 6, .r (.w 2 c)),
   (pe c 7, .r (.w 2 c)),
   (0, .r (.a c)), (1, .r (.a c)), (2, .r (.a c)), (3, .r (.a c)), (4, .r (.a c)), (5, .r (.a c)), (6, .r (.a c)), (7, .r (.a c)),
   (nbr c 0, .r (.o1 0 0)), (nbr c 1, .r (.o1 1 0)), (nbr c 2, .r (.o1 2 0)), (nbr c 0, .r (.o1 0 1)), (nbr c 1, .r (.o1 1 1)), (nbr c 2, .r (.o1 2 1)),
   (nbr c 0, .r (.o2 0 0)), (nbr c 1, .r (.o2 1 0)), (nbr c 2, .r (.o2 2 0)), (nbr c 0, .r (.o2 0 1)), (nbr c 1, .r (.o2 1 1)), (nbr c 2, .r (.o2 2 1)),
   (nbr3 c 0, .r (.o3 0)), (nbr3 c 1, .r (.o3 1))]

def obT (c : Dev nD) (x : Dev nD × Cl) : CellTallies nD τ sig Unit := if x.1 = c then 0 else tallyAt (gc x.1 x.2) () (clAmt x.2)

/-- What `c` still owes after its first `n` dues. -/
def OB (c : Dev nD) (n : ℕ) : CellTallies nD τ sig Unit := (((obl c).drop n).map (obT c)).sum

theorem OB_step (c : Dev nD) (n : ℕ) (x : Dev nD × Cl) (h : (obl c)[n]? = some x) : OB c n = OB c (n + 1) + obT c x := by
  unfold OB
  have hn : n < (obl c).length := by
    by_contra hc; rw [List.getElem?_eq_none (by omega)] at h; cases h
  rw [List.drop_eq_getElem_cons hn, List.map_cons, List.sum_cons, add_comm]
  congr 2
  rw [List.getElem?_eq_getElem hn] at h
  exact Option.some.inj h

def L (g : GSem nD τ sig) : Finset Unit := if g.1.2 = .tc then {()} else ∅

/-- Levels: barrier, then the receive cells phase by phase; a send cell's and every other's at the bottom. -/
def clLv : Cl → ℕ
  | .bar => 1
  | .r (.w _ _) => 2
  | .r (.a _) => 3
  | .r (.o1 _ _) => 4
  | .r (.o2 _ _) => 5
  | .r (.o3 _) => 6
  | .s _ => 0
def lv (g : GSem nD τ sig) (_ : Unit) : ℕ := match dec g.2 with | some k => clLv k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_gc (c : Dev nD) (k : Cl) : lv (gc c k) () = clLv k := by unfold lv; rw [dec_enc]

/-- Where a sum of dues is positive, one of them is. -/
theorem obT_sum_pos (c : Dev nD) (l : List (Dev nD × Cl)) {g : GSem nD τ sig} {u : Unit} (h : 0 < (l.map (obT c)).sum g u) :
    ∃ x ∈ l, g = gc x.1 x.2 := by
  induction l with
  | nil => exact absurd h (Nat.lt_irrefl 0)
  | cons x l ih =>
    rw [List.map_cons, List.sum_cons, Pi.add_apply, Finsupp.add_apply] at h
    by_cases hx : 0 < obT c x g u
    · refine ⟨x, List.mem_cons_self .., ?_⟩
      unfold obT at hx
      split at hx
      · exact absurd hx (Nat.lt_irrefl 0)
      · rw [tallyAt_apply] at hx
        by_contra hne
        rw [if_neg fun h' => hne h'.1] at hx
        exact absurd hx (Nat.lt_irrefl 0)
    · obtain ⟨y, hy, he⟩ := ih (by omega)
      exact ⟨y, List.mem_cons_of_mem _ hy, he⟩

/-- The device may wait at a semaphore below everything it still owes. -/
theorem mayWait_lt (c : Dev nD) (sm : SemLoc sig) (n : ℕ) (h : ∀ x ∈ (obl c).drop n, lv ((c : Thread nD τ), sm) () < clLv x.2) :
    (levAts L lv : sProp 𝕄) ⊢ MayWait (c : Thread nD τ) sm () (OB c n) :=
  Pipeline.mayWait_of_levAts (by rw [L_tc]; exact Finset.mem_singleton_self _) fun g i hg => by
    obtain ⟨x, hx, rfl⟩ := obT_sum_pos c _ hg
    exact ⟨Finset.mem_singleton_self _, by have := h x hx; rwa [← lv_gc x.1 x.2] at this⟩

/-- The levels of the dues, in program order, the same on every device. -/
def oblLv : List ℕ :=
  [1, 1, 1, 1, 1, 1, 1, 2, 2, 2, 2, 2, 2, 2, 2, 2, 2, 2, 2, 2, 2, 2, 2, 2, 2, 2, 2, 2, 3, 3, 3, 3, 3, 3, 3, 3, 4, 4, 4, 4, 4, 4, 5, 5, 5, 5, 5, 5, 6, 6]

theorem obl_lv (c : Dev nD) : (obl c).map (fun x => clLv x.2) = oblLv := rfl

theorem obl_lv_drop (c : Dev nD) (n l : ℕ) (h : ∀ v ∈ oblLv.drop n, l < v) : ∀ x ∈ (obl c).drop n, l < clLv x.2 := fun x hx =>
  h _ (by rw [← obl_lv c, ← List.map_drop]; exact List.mem_map_of_mem hx)

/-- At a cell of the protocol. -/
theorem mayWait_cl (c : Dev nD) (k : Cl) (n : ℕ) (h : ∀ v ∈ oblLv.drop n, clLv k < v) :
    (levAts L lv : sProp 𝕄) ⊢ MayWait (c : Thread nD τ) (enc k) () (OB c n) :=
  mayWait_lt c (enc k) n (by rw [lv_gc]; exact obl_lv_drop c n _ h)

theorem oblLv_pos : ∀ v ∈ oblLv, 0 < v := by decide

/-- At a semaphore that is no cell of the protocol, whatever it owes. -/
theorem mayWait_local (c : Dev nD) (sm : SemLoc sig) (hsm : ∀ k, enc k ≠ sm) (n : ℕ) :
    (levAts L lv : sProp 𝕄) ⊢ MayWait (c : Thread nD τ) sm () (OB c n) :=
  mayWait_lt c sm n fun x hx => by
    have h0 : lv ((c : Thread nD τ), sm) () = 0 := by
      unfold lv dec; rw [dif_neg (fun ⟨k, hk⟩ => hsm k hk)]
    rw [h0]; exact obl_lv_drop c n 0 (fun v hv => oblLv_pos v (List.mem_of_mem_drop hv)) x hx

/-- In particular at the local copies' semaphores, numbered from 94, and the windows', numbered below 2. -/
theorem enc_ne_local (n : ℕ) (hn : n < 103) (h : n < 2 ∨ 94 ≤ n) (k : Cl) : enc k ≠ .dma ((⟨n, hn⟩ : Fin 103) : DmaSem sig) := by
  intro he
  have hv : cNo k = n := by
    cases k with
    | bar => cases he
    | s y => exact congrArg (fun z : SemLoc sig => match z with | .dma d => d.val | _ => 0) he
    | r y => exact congrArg (fun z : SemLoc sig => match z with | .dma d => d.val | _ => 0) he
  rcases k with _ | x | x
  · cases he
  all_goals
    rcases x with ⟨t, p⟩ | p | ⟨l, e⟩ | ⟨l, e⟩ | e <;> simp only [cNo, sNo, rNo] at hv <;> (try have := Fin.isLt (n := 8) p) <;> omega

end Cert.Mla
-- ==== Proof.Steps.lean ====
/-
# The steps of the protocol

One rule per kind of effect on a cell: a signal, a transfer, a wait; and a local copy's start and wait. The device's dues
are counted by `ow c n` (the first `n` paid), a transfer's cells by `SK` (not started), `SC` (in flight), `RK` (to be
received) and `Z` (the cell closed, its counter at zero).
-/
module

public import proofs.«01_k».proof.Proof.Proto

@[expose] public section

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTokN shareDrop Flight Flight_mono)

variable {F : FTy → Type} [FloatOps F]

local notation "𝕄" => MT nD τ sig Unit (Elt F) ℕ UU ℕ
/-- The local copies' counters. -/
abbrev EC : UEmb Counters (MT nD τ sig Unit (Elt F) ℕ UU ℕ) := countersEmb

variable (m : (ℓ : Loc nD τ sig) → Buf (Elt F) ℓ) (K : Dev nD × Cl → ℕ)

/-! ## The records -/

/-- Every cell's invariant, and that its round is open. -/
def Recs : sProp 𝕄 :=
  bigSep Finset.univ fun ck : Dev nD × Cl => iprop(cellInv ER (Rd m) (K ck) (gc ck.1 ck.2) ∗ reached ER (gc ck.1 ck.2) 0)

instance Recs_persistent : BI.Persistent (Recs m K) := by unfold Recs; infer_instance

theorem Recs_at (c : Dev nD) (k : Cl) : Recs m K ⊢ iprop(cellInv ER (Rd m) (K (c, k)) (gc c k) ∗ reached ER (gc c k) 0) :=
  bigSep_elim (Φ := fun ck : Dev nD × Cl => iprop(cellInv ER (Rd m) (K ck) (gc ck.1 ck.2) ∗ reached ER (gc ck.1 ck.2) 0)) (Finset.mem_univ (c, k))

/-- The levels and the records: what every step may consult. -/
def Env : sProp 𝕄 := iprop(Recs m K ∗ levAts L lv)
instance Env_persistent : BI.Persistent (Env m K) := by unfold Env; infer_instance

/-! ## The counted resources -/

/-- The device's dues after the first `n`. -/
abbrev ow (c : Dev nD) (n : ℕ) : sProp 𝕄 := iprop(∃ W, owes (c : Thread nD τ) (OB c n) W)
/-- A transfer not started: its send cell's position and the two duties it will pay. -/
def SK (c : Dev nD) (x : Tr) : sProp 𝕄 :=
  iprop(atPos ER (gc c (.s x)) 0 ∅ 0 ∗ dutyTok ER (gc c (.s x)) 0 0 ∗ dutyTok ER (gc (dst c x) (.r (opp c x))) 0 0)
/-- A transfer in flight: its send cell's position and credit. -/
def SC (c : Dev nD) (x : Tr) : sProp 𝕄 := iprop(atPos ER (gc c (.s x)) 0 ∅ 0 ∗ cred (tallyAt (gc c (.s x)) () (trAmt x)))
/-- A transfer to be received: the receive cell's position and credit. -/
def RK (c : Dev nD) (x : Tr) : sProp 𝕄 := iprop(atPos ER (gc c (.r x)) 0 ∅ 0 ∗ cred (tallyAt (gc c (.r x)) () (trAmt x)))
/-- A cell closed. -/
abbrev Z (c : Dev nD) (k : Cl) : sProp 𝕄 := semVal (gc c k) 0

/-- A goal of the body on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Signals and waits -/

theorem bar_signal (c n : Dev nD) (p : Dev nD) (hn : n = p) (hp : p ≠ c) (no : ℕ) (hob : (obl c)[no]? = some (p, .bar))
    {α : Type} {Q : α → sProp 𝕄} {k : PUnit → Prog (TpuEff nD τ sig (Elt F) Λ₀ .tc) α} :
    Env m K ⊢ iprop(ow c no -∗ dutyTok ER (gc p .bar) 0 c -∗ barPay (F := F) p c -∗ (ow c (no + 1) -∗ WP c (k ⟨⟩) Q)
      -∗ WP c (.op (.semSignal (n : Thread nD τ) barS 1) k) Q) := by
  subst hn
  iintro #HE ⟨%W, HO⟩ Ht Hp Hk
  unfold Env
  icases HE with ⟨#HR, -⟩
  ihave #H := (Recs_at m K n .bar) $$ HR
  icases H with ⟨#HI, #Hr⟩
  iapply (Rounds.wp_signal 𝒱₀ ER (Rd (F := F) m) (c : Thread nD τ) none (dst := (n : Thread nD τ)) (κ := K (n, .bar))
      (d := c) (k' := 1) (by rw [show ((n : Thread nD τ), SemLoc.reg barS) = gc n .bar from rfl, Rd_duties]; exact Finset.mem_erase.2 ⟨hp.symm, Finset.mem_univ _⟩)
      (Rd_amount m n .bar c) () (O₀ := OB c no) (OB c (no + 1))
      (by rw [OB_step c no _ hob]; unfold obT; rw [if_neg hp]; rfl)) $$ [HO Ht Hp]
  · isplitr; · iexact HI
    isplitl [HO]; · iexact HO
    isplitl [Ht]; · iexact Ht
    isplitl [Hp]; · rw [show ((n : Thread nD τ), SemLoc.reg barS) = gc n .bar from rfl, Rd_payload]; unfold clPay; iexact Hp
    iexact Hr
  iintro HO
  iapply Hk
  unfold ow; iexists W; iexact HO

theorem bar_wait (c : Dev nD) {α : Type} {Q : α → sProp 𝕄} {k : PUnit → Prog (TpuEff nD τ sig (Elt F) Λ₀ .tc) α} :
    Env m K ⊢ iprop(ow c 7 -∗ atPos ER (gc c .bar) 0 ∅ 0 -∗ cred (tallyAt (gc c .bar) () 7)
      -∗ ((ow c 7 ∗ Z c .bar ∗ bigSep (Finset.univ.erase c) (barPay (F := F) c)) -∗ WP c (k ⟨⟩) Q)
      -∗ WP c (.op (.semWait barS 7) k) Q) := by
  iintro #HE ⟨%W, HO⟩ Hat Hc Hk
  unfold Env
  icases HE with ⟨#HR, #Hlev⟩
  ihave #H := (Recs_at m K c .bar) $$ HR
  icases H with ⟨#HI, #Hr⟩
  iapply (Rounds.wp_wait_rest_token 𝒱₀ ER (Rd m) (c : Thread nD τ) none (κ := K (c, .bar)) (sm := .reg barS) (k' := 7)
      (wpE_semWait_eq 𝒱₀ (c : Thread nD τ) none Set.univ) (Set.mem_univ _) () (O := OB c 7) (W := W) (R := 0) (m := 0) (T := ∅)
      (by rw [show ((c : Thread nD τ), SemLoc.reg barS) = gc c .bar from rfl, Rd_expect]; unfold clDuty; rw [Finset.card_erase_of_mem (Finset.mem_univ _)]; rfl)) $$ [Hc HO Hat]
  · isplitr; · iexact HI
    isplitl [Hc]; · iexact Hc
    isplitl [HO]; · iexact HO
    isplitr; · iapply (mayWait_cl c .bar 7 (by decide)); iexact Hlev
    iexact Hat
  iintro ⟨HO, Hat, -, Hpay⟩
  ihave Hpay := (Entails.of_eq (show bigSep ((Rd m).duties ((c : Thread nD τ), SemLoc.reg barS) 0 \ ∅) (fun d => (Rd m).payload ((c : Thread nD τ), SemLoc.reg barS) 0 d)
      = bigSep (Finset.univ.erase c) (barPay (F := F) c) from Rd_rest m c .bar)) $$ Hpay
  imod (Rounds.cell_close ER (Rd m) (Set.mem_univ (K (c, .bar))) (fun h => h) (R := 0 + 1) (fun r hr => Rd_duties_later m c .bar r hr)) $$ [Hat] with HZ
  · isplitr; · iexact HI
    iexact Hat
  iapply Hk
  isplitl [HO]; · unfold ow; iexists _; iexact HO
  isplitl [HZ]; · iexact HZ
  iexact Hpay

/-- The wait on a transfer's send cell: the source back. -/
theorem send_wait (c : Dev nD) (x : Tr) (hl : live c x) (n : ℕ) (hn : ∀ v ∈ oblLv.drop n, 0 < v)
    {sp sp' : Space} {s s' : Shape} {e e' : EltTy} {sem : DmaSem sig} (hs : sem = sS x) {srcw : Memref sig .tc sp' s' e'} {dstw : Memref sig .tc sp s e}
    {h1 : srcw.view.WordExact} {h2 : dstw.view.WordExact} (hN : dstw.view.dmaCredit = trAmt x)
    {α : Type} {Q : α → sProp 𝕄} {k : PUnit → Prog (TpuEff nD τ sig (Elt F) Λ₀ .tc) α} :
    Env m K ⊢ iprop(ow c n -∗ SC c x -∗ ((ow c n ∗ Z c (.s x) ∗ sPay m c x) -∗ WP c (k ⟨⟩) Q)
      -∗ WP c (.op (.waitDma2 sem srcw dstw h1 h2) k) Q) := by
  subst hs
  iintro #HE ⟨%W, HO⟩ Hsc Hk
  unfold Env SC
  icases HE with ⟨#HR, #Hlev⟩
  icases Hsc with ⟨Hat, Hc⟩
  ihave #H := (Recs_at m K c (.s x)) $$ HR
  icases H with ⟨#HI, #Hr⟩
  have hd : clDuty c (.s x) = {0} := if_pos hl
  iapply (Rounds.wp_wait_rest_token 𝒱₀ ER (Rd m) (c : Thread nD τ) none (κ := K (c, .s x)) (sm := .dma (sS x)) (k' := dstw.view.dmaCredit)
      (wpE_waitDma2_eq 𝒱₀ (c : Thread nD τ) none Set.univ) (Set.mem_univ _) () (O := OB c n) (W := W) (R := 0) (m := 0) (T := ∅)
      (by rw [show ((c : Thread nD τ), SemLoc.dma (sS x)) = gc c (.s x) from rfl, Rd_expect, hd, hN]; simp [clAmt])) $$ [Hc HO Hat]
  · isplitr; · iexact HI
    isplitl [Hc]; · rw [hN]; iexact Hc
    isplitl [HO]; · iexact HO
    isplitr; · iapply (mayWait_cl c (.s x) n hn); iexact Hlev
    iexact Hat
  iintro ⟨HO, Hat, -, Hpay⟩
  ihave Hpay := (Entails.of_eq (show bigSep ((Rd m).duties ((c : Thread nD τ), SemLoc.dma (sS x)) 0 \ ∅) (fun d => (Rd m).payload ((c : Thread nD τ), SemLoc.dma (sS x)) 0 d)
      = sPay m c x from (Rd_rest m c (.s x)).trans (by rw [hd, bigSep_singleton]; rfl))) $$ Hpay
  imod (Rounds.cell_close ER (Rd m) (Set.mem_univ (K (c, .s x))) (fun h => h) (R := 0 + 1) (fun r hr => Rd_duties_later m c (.s x) r hr)) $$ [Hat] with HZ
  · isplitr; · iexact HI
    iexact Hat
  iapply Hk
  isplitl [HO]; · unfold ow; iexists _; iexact HO
  isplitl [HZ]; · iexact HZ
  iexact Hpay

/-- The wait on a transfer's receive cell: the block that landed. -/
theorem recv_wait (c : Dev nD) (x : Tr) (hl : live c x) (n : ℕ) (hn : ∀ v ∈ oblLv.drop n, clLv (.r x) < v)
    {sp sp' : Space} {s s' : Shape} {e e' : EltTy} {sem : DmaSem sig} (hs : sem = rS x) {srcw : Memref sig .tc sp' s' e'} {dstw : Memref sig .tc sp s e}
    {h1 : srcw.view.WordExact} {h2 : dstw.view.WordExact} (hN : dstw.view.dmaCredit = trAmt x)
    {α : Type} {Q : α → sProp 𝕄} {k : PUnit → Prog (TpuEff nD τ sig (Elt F) Λ₀ .tc) α} :
    Env m K ⊢ iprop(ow c n -∗ RK c x -∗ ((ow c n ∗ Z c (.r x) ∗ rPay m c x) -∗ WP c (k ⟨⟩) Q)
      -∗ WP c (.op (.waitDma2 sem srcw dstw h1 h2) k) Q) := by
  subst hs
  iintro #HE ⟨%W, HO⟩ Hsc Hk
  unfold Env RK
  icases HE with ⟨#HR, #Hlev⟩
  icases Hsc with ⟨Hat, Hc⟩
  ihave #H := (Recs_at m K c (.r x)) $$ HR
  icases H with ⟨#HI, #Hr⟩
  have hd : clDuty c (.r x) = {0} := if_pos hl
  iapply (Rounds.wp_wait_rest_token 𝒱₀ ER (Rd m) (c : Thread nD τ) none (κ := K (c, .r x)) (sm := .dma (rS x)) (k' := dstw.view.dmaCredit)
      (wpE_waitDma2_eq 𝒱₀ (c : Thread nD τ) none Set.univ) (Set.mem_univ _) () (O := OB c n) (W := W) (R := 0) (m := 0) (T := ∅)
      (by rw [show ((c : Thread nD τ), SemLoc.dma (rS x)) = gc c (.r x) from rfl, Rd_expect, hd, hN]; simp [clAmt])) $$ [Hc HO Hat]
  · isplitr; · iexact HI
    isplitl [Hc]; · rw [hN]; iexact Hc
    isplitl [HO]; · iexact HO
    isplitr; · iapply (mayWait_cl c (.r x) n hn); iexact Hlev
    iexact Hat
  iintro ⟨HO, Hat, -, Hpay⟩
  ihave Hpay := (Entails.of_eq (show bigSep ((Rd m).duties ((c : Thread nD τ), SemLoc.dma (rS x)) 0 \ ∅) (fun d => (Rd m).payload ((c : Thread nD τ), SemLoc.dma (rS x)) 0 d)
      = rPay m c x from (Rd_rest m c (.r x)).trans (by rw [hd, bigSep_singleton]; rfl))) $$ Hpay
  imod (Rounds.cell_close ER (Rd m) (Set.mem_univ (K (c, .r x))) (fun h => h) (R := 0 + 1) (fun r hr => Rd_duties_later m c (.r x) r hr)) $$ [Hat] with HZ
  · isplitr; · iexact HI
    iexact Hat
  iapply Hk
  isplitl [HO]; · unfold ow; iexists _; iexact HO
  isplitl [HZ]; · iexact HZ
  iexact Hpay

/-! ## A transfer -/

theorem dst_ne (c : Dev nD) (x : Tr) (hl : live c x) : dst c x ≠ c := by
  cases x with
  | w t p => exact hl
  | a p => exact hl
  | o1 l h => revert c l h; decide
  | o2 l h => revert c l h; decide
  | o3 h => revert c h; decide

/-- A transfer, given that its views and semaphores are the protocol's. -/
theorem send (c : Dev nD) (x : Tr) (hl : live c x) (no : ℕ) (hob : (obl c)[no]? = some (dst c x, .r (opp c x)))
    {n : Dev nD} (hn : n = dst c x) {sp sp' : Space} {s : Shape} {e : EltTy}
    {src : Memref sig .tc sp s e} {dt : Memref sig .tc sp' s e} {ss rs : DmaSem sig} (hss : ss = sS x) (hrs : rs = rS (opp c x))
    {hsc : (dt : Memref sig (Dev.tc n : Thread nD τ).2.kind sp' s e).view.ref.isScScratch = false} {hsrc : src.view.WordExact} {hdst : dt.view.WordExact}
    {hsem : DmaTarget.Typed sp (.dma rs) (.remote (Dev.tc n : Thread nD τ) (dt : Memref sig .tc sp' s e) (.dma ss) hsc)}
    {q : PosShare TreeShare} {fs : Buf (Elt F) (src.view.loc (c : Thread nD τ))}
    (hN : dt.view.amount (.dma rs) = trAmt x)
    (hS : sPay m c x = (src.view.loc (c : Thread nD τ) ↦[src.view.set]{q} fs))
    (hD : rFree (F := F) (dst c x) (opp c x) = iprop(∃ fd : Buf (Elt F) (dt.view.loc (dst c x : Thread nD τ)), dt.view.loc (dst c x : Thread nD τ) ↦[dt.view.set]{fullShare} fd))
    (hR : ∀ fd : Buf (Elt F) (dt.view.loc (dst c x : Thread nD τ)),
      (dt.view.loc (dst c x : Thread nD τ) ↦[dt.view.set]{fullShare} dt.view.write (Elt F) fd (src.view.read (Elt F) fs) Finset.univ) ⊢ rPay m (dst c x) (opp c x))
    {α : Type} {Q : α → sProp 𝕄} {k : PUnit → Prog (TpuEff nD τ sig (Elt F) Λ₀ .tc) α} :
    Env m K ⊢ iprop(ow c no -∗ SK c x -∗ sPay m c x -∗ rFree (F := F) (dst c x) (opp c x) -∗ ((ow c (no + 1) ∗ SC c x) -∗ WP c (k ⟨⟩) Q)
      -∗ WP c (.op (.enqueueDma src (.remote (Dev.tc n : Thread nD τ) dt (.dma ss) hsc) (.dma rs) hsrc hdst hsem) k) Q) := by
  subst hn hss hrs
  have hS' := hS
  rw [hS, hD]
  iintro #HE ⟨%W, HO⟩ Hsk Hs Hd Hk
  unfold Env SK
  icases HE with ⟨#HR, -⟩
  icases Hsk with ⟨Hat, Ht1, Ht2⟩
  icases Hd with ⟨%fd, Hd⟩
  ihave #H1 := (Recs_at m K c (.s x)) $$ HR
  icases H1 with ⟨#HI1, #Hr1⟩
  ihave #H2 := (Recs_at m K (dst c x) (.r (opp c x))) $$ HR
  icases H2 with ⟨#HI2, #Hr2⟩
  have hd1 : clDuty c (.s x) = {0} := if_pos hl
  have hd2 : clDuty (dst c x) (.r (opp c x)) = {0} := if_pos ((live_opp c x).2 hl)
  have ha : trAmt (opp c x) = trAmt x := by cases x with | w t p => (fin_cases t <;> rfl) | _ => rfl
  iapply (Rounds.wp_send_pointsTo 𝒱₀ ER (Rd m) (c : Thread nD τ) none (κ₁ := K (c, .s x)) (κ₂ := K (dst c x, .r (opp c x)))
      (r₁ := 0) (r₂ := 0) (d₁ := 0) (d₂ := 0) (fd := fd) (fs := fs) (q := q)
      (by rw [Rd_duties, hd1]; exact Finset.mem_singleton_self _)
      (show (0 : Dev nD) ∈ (Rd (F := F) m).duties (gc (dst c x) (.r (opp c x))) 0 by rw [Rd_duties, hd2]; exact Finset.mem_singleton_self _)
      () () (trAmt x) hN (Rd_amount m c (.s x) 0) ((Rd_amount m (dst c x) (.r (opp c x)) 0).trans ha) (O₀ := OB c no) (OB c (no + 1))
      (by rw [OB_step c no _ hob]; unfold obT; rw [if_neg (dst_ne c x hl)]; simp only [clAmt, ha]) (W := W)
      (by rw [Rd_payload]; exact Entails.of_eq hS.symm)
      ((hR fd).trans (Entails.of_eq (Rd_payload m (dst c x) (.r (opp c x)) 0).symm))) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · unfold ow; iexists W; iexact HO
  unfold SC
  isplitl [Hat]; · iexact Hat
  iexact Hc

/-! ## Local copies -/

/-- A local copy's start: in flight it will hand over the destination at contents `G` and the source. -/
theorem copy_start (c : Dev nD) {sp sp' : Space} {s : Shape} {e : EltTy} {src : Memref sig .tc sp s e} {dt : Memref sig .tc sp' s e}
    {sm : SemLoc sig} {hsrc : src.view.WordExact} {hdst : dt.view.WordExact} {hsem : DmaTarget.Typed (nD := nD) (p := Proc.tc) sp sm (.here dt)}
    {q : PosShare TreeShare} {fs : Buf (Elt F) (src.view.loc (c : Thread nD τ))} (N : ℕ) (hN : dt.view.amount sm = N) (hN0 : 0 < N)
    (G : Buf (Elt F) (dt.view.loc (c : Thread nD τ)))
    (hG : ∀ fd, ∀ i ∈ dt.view.set, dt.view.write (Elt F) fd (src.view.read (Elt F) fs) Finset.univ i = G i)
    {α : Type} {Q : α → sProp 𝕄} {k : PUnit → Prog (TpuEff nD τ sig (Elt F) Λ₀ .tc) α} {fd : Buf (Elt F) (dt.view.loc (c : Thread nD τ))} :
    (src.view.loc (c : Thread nD τ) ↦[src.view.set]{q} fs)
      ⊢ iprop((dt.view.loc (c : Thread nD τ) ↦[dt.view.set]{fullShare} fd) -∗ semVal ((c : Thread nD τ), sm) 0
        -∗ (Flight EC (c : Thread nD τ) sm () N iprop((dt.view.loc (c : Thread nD τ) ↦[dt.view.set]{fullShare} G)
              ∗ (src.view.loc (c : Thread nD τ) ↦[src.view.set]{q} fs)) -∗ WP c (k ⟨⟩) Q)
        -∗ WP c (.op (.enqueueDma src (.here dt) sm hsrc hdst hsem) k) Q) := by
  iintro Hs Hd Hz Hk
  iapply (Transfers.wp_dmaLocal EC 𝒱₀ (c : Thread nD τ) none (src := src) (dst := dt) (sm := sm) (fs := fs) (q := q) (fd := fd) () N hN hN0 (Finset.Subset.refl _)) $$ [Hs Hd Hz]
  · isplitl [Hs]; · iexact Hs
    isplitl [Hd]; · iexact Hd
    iexact Hz
  iintro Hf
  iapply Hk
  iapply (Flight_mono EC (c : Thread nD τ) (sep_mono_left (Entails.of_eq (pointsTo_congr (hG fd)))))
  iexact Hf

/-- A local copy's wait. -/
theorem copy_wait (c : Dev nD) (n : ℕ) {sem : DmaSem sig} (hs : sem.val < 2 ∨ 94 ≤ sem.val) {sp sp' : Space} {s s' : Shape} {e e' : EltTy}
    {srcw : Memref sig .tc sp' s' e'} {dstw : Memref sig .tc sp s e} {h1 : srcw.view.WordExact} {h2 : dstw.view.WordExact}
    {N : ℕ} (hN : dstw.view.dmaCredit = N) {D : sProp 𝕄}
    {α : Type} {Q : α → sProp 𝕄} {k : PUnit → Prog (TpuEff nD τ sig (Elt F) Λ₀ .tc) α} :
    Env m K ⊢ iprop(ow c n -∗ Flight EC (c : Thread nD τ) (.dma sem) () N D
      -∗ ((ow c n ∗ semVal ((c : Thread nD τ), SemLoc.dma sem) 0 ∗ D) -∗ WP c (k ⟨⟩) Q)
      -∗ WP c (.op (.waitDma2 sem srcw dstw h1 h2) k) Q) := by
  iintro #HE ⟨%W, HO⟩ Hf Hk
  unfold Env
  icases HE with ⟨-, #Hlev⟩
  iapply (Transfers.wp_waitLocalO EC 𝒱₀ (c : Thread nD τ) none () hN (O := OB c n) (W := W)) $$ [Hf HO]
  · isplitl [Hf]; · iexact Hf
    isplitl [HO]; · iexact HO
    iapply (mayWait_local c (.dma sem) (fun k => enc_ne_local sem.val sem.isLt hs k) n); iexact Hlev
  iintro ⟨HD, Hz, HO⟩
  iapply Hk
  isplitl [HO]; · unfold ow; iexists _; iexact HO
  isplitl [Hz]; · iexact Hz
  iexact HD

end Cert.Mla
-- ==== Proof.Geom.lean ====
/-
# The protocol's views, semaphores and contents

For each family of transfers: the elements under its source and destination, the semaphores it completes, that what
lands is the receiver's closed contents; then the family's own send rule.
-/
module

public import proofs.«01_k».proof.Proof.Steps

@[expose] public section

noncomputable section

namespace Cert.Mla

open Cert.KernelIdeal Cert.KernelIdeal.Gen

open Idealize.ShloMosaic
open Idealize.ShloMosaic.TcCoe
open Idealize.ShloMosaic.RefSig (tileCredit)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop Flight Flight_mono)

variable {F : FTy → Type} [FloatOps F]

local notation "𝕄" => MT nD τ sig Unit (Elt F) ℕ UU ℕ

variable (m : (ℓ : Loc nD τ sig) → Buf (Elt F) ℓ) (K : Dev nD × Cl → ℕ)

/-! ## Rectangles and blocks -/

theorem mem_unit2 {n0 n1 : ℕ} {o z : Fin 2 → ℕ} {inb : ∀ a, o a + z a ≤ (⟨2, ![n0, n1]⟩ : Shape).size a} (i : (⟨2, ![n0, n1]⟩ : Shape).Idx) :
    i ∈ (Rect.unit (s := ⟨2, ![n0, n1]⟩) o z inb).set ↔ (o 0 ≤ (i 0).val ∧ (i 0).val < o 0 + z 0) ∧ (o 1 ≤ (i 1).val ∧ (i 1).val < o 1 + z 1) := by
  rw [Rect.mem_set_unit]; exact Fin.forall_fin_two

theorem div_iff {w : ℕ} (hw : 0 < w) (p n : ℕ) : n / w = p ↔ w * p ≤ n ∧ n < w * p + w := by
  constructor
  · rintro rfl; exact ⟨Nat.mul_div_le n w, by have := Nat.div_add_mod n w; have := Nat.mod_lt n hw; omega⟩
  · rintro ⟨h1, h2⟩; exact (Nat.div_eq_of_lt_le (by rw [Nat.mul_comm]; exact h1) (by rw [Nat.mul_comm, Nat.mul_add, Nat.mul_one]; exact h2))

theorem unit_row {n0 n1 w p : ℕ} (hw : 0 < w) {inb : ∀ a, (![w * p, 0] : Fin 2 → ℕ) a + (![w, n1] : Fin 2 → ℕ) a ≤ (⟨2, ![n0, n1]⟩ : Shape).size a} :
    (Rect.unit (s := ⟨2, ![n0, n1]⟩) ![w * p, 0] ![w, n1] inb).set = rowB w p := by
  ext i; rw [mem_unit2]; unfold rowB; rw [Finset.mem_filter, div_iff hw]
  have := lt2_1 i
  simp only [Matrix.cons_val_zero, Matrix.cons_val_one, Finset.mem_univ, true_and]
  omega

theorem unit_col {n0 n1 w p : ℕ} (hw : 0 < w) {inb : ∀ a, (![0, w * p] : Fin 2 → ℕ) a + (![n0, w] : Fin 2 → ℕ) a ≤ (⟨2, ![n0, n1]⟩ : Shape).size a} :
    (Rect.unit (s := ⟨2, ![n0, n1]⟩) ![0, w * p] ![n0, w] inb).set = colB w p := by
  ext i; rw [mem_unit2]; unfold colB; rw [Finset.mem_filter, div_iff hw]
  have := lt2_0 i
  simp only [Matrix.cons_val_zero, Matrix.cons_val_one, Finset.mem_univ, true_and]
  omega

theorem unit_box {n0 n1 w p w' q : ℕ} (hw : 0 < w) (hw' : 0 < w')
    {inb : ∀ a, (![w * p, w' * q] : Fin 2 → ℕ) a + (![w, w'] : Fin 2 → ℕ) a ≤ (⟨2, ![n0, n1]⟩ : Shape).size a} :
    (Rect.unit (s := ⟨2, ![n0, n1]⟩) ![w * p, w' * q] ![w, w'] inb).set = boxB w p w' q := by
  ext i; rw [mem_unit2]; unfold boxB; rw [Finset.mem_filter, div_iff hw, div_iff hw']
  simp only [Matrix.cons_val_zero, Matrix.cons_val_one, Finset.mem_univ, true_and]

/-- A write through a view of what another view reads is the contents that agree through the two. -/
theorem write_read {sp sp' : Space} {s : Shape} {e : EltTy} {src : Memref sig .tc sp s e} {dt : Memref sig .tc sp' s e} {c c' : Dev nD}
    {fs : Buf (Elt F) (src.view.loc (c : Thread nD τ))} {G : Buf (Elt F) (dt.view.loc (c' : Thread nD τ))}
    (h : ∀ y, src.view.read (Elt F) fs y = dt.view.read (Elt F) G y) (fd : Buf (Elt F) (dt.view.loc (c' : Thread nD τ))) :
    ∀ i ∈ dt.view.set, dt.view.write (Elt F) fd (src.view.read (Elt F) fs) Finset.univ i = G i := by
  intro i hi
  unfold View.set at hi
  obtain ⟨y, -, rfl⟩ := Finset.mem_map.1 hi
  rw [View.write_emb_of_mem (v := dt.view) (Val := Elt F) _ _ (Finset.mem_univ y), h y, View.read_apply]
  exact cast_cast _ _ _ |>.trans (cast_eq _ _)

theorem unit_val {n0 n1 : ℕ} {o z : Fin 2 → ℕ} {inb : ∀ a, o a + z a ≤ (⟨2, ![n0, n1]⟩ : Shape).size a}
    (y : (Rect.unit (s := ⟨2, ![n0, n1]⟩) o z inb).shape.Idx) (a : Fin 2) : ((Rect.unit (s := ⟨2, ![n0, n1]⟩) o z inb).emb y a).val = o a + (y a).val := by
  rw [Rect.emb_apply]; simp

/-! ## Semaphores -/

theorem sem_lit {n : ℕ} {a : DmaSem sig} (h : a.val = n) (hn : n < 103) : a = (⟨n, hn⟩ : Fin 103) := Fin.ext h

theorem inb38 (t : Fin 3) (p : Fin 8) : ∀ a, (![t.val, p.val] : Fin 2 → ℕ) a + S1x1.size a ≤ S3x8.size a := by revert t p; decide
theorem inb32 (t : Fin 3) (p : Fin 2) : ∀ a, (![t.val, p.val] : Fin 2 → ℕ) a + S1x1.size a ≤ S3x2.size a := by revert t p; decide
theorem inb8 (p : Fin 8) : ∀ a, (![p.val] : Fin 1 → ℕ) a + S1.size a ≤ S8.size a := by revert p; decide
theorem inb2 (p : Fin 2) : ∀ a, (![p.val] : Fin 1 → ℕ) a + S1.size a ≤ S2.size a := by revert p; decide

theorem sem_w_s : ∀ (t : Fin 3) (p : Dev nD), ((cc0_scratch16.slice (Rect.unit (s := S3x8) ![t.val, p.val] S1x1.size (inb38 t p))).squeeze S_ squeezes_S1x1_S_).sem = sS (.w t p) := by
  decide +kernel
theorem sem_w_r : ∀ (t : Fin 3) (p : Dev nD), ((cc0_scratch17.slice (Rect.unit (s := S3x8) ![t.val, p.val] S1x1.size (inb38 t p))).squeeze S_ squeezes_S1x1_S_).sem = rS (.w t p) := by
  decide +kernel
theorem sem_a_s : ∀ (p : Dev nD), ((cc0_scratch18.slice (Rect.unit (s := S8) ![p.val] S1.size (inb8 p))).squeeze S_ squeezes_S1_S_).sem = sS (.a p) := by
  decide +kernel
theorem sem_a_r : ∀ (p : Dev nD), ((cc0_scratch19.slice (Rect.unit (s := S8) ![p.val] S1.size (inb8 p))).squeeze S_ squeezes_S1_S_).sem = rS (.a p) := by
  decide +kernel
theorem sem_o1_s : ∀ (l : Fin 3) (h : Fin 2), ((cc0_scratch20.slice (Rect.unit (s := S3x2) ![l.val, h.val] S1x1.size (inb32 l h))).squeeze S_ squeezes_S1x1_S_).sem = sS (.o1 l h) := by
  decide +kernel
theorem sem_o1_r : ∀ (l : Fin 3) (h : Fin 2), ((cc0_scratch21.slice (Rect.unit (s := S3x2) ![l.val, h.val] S1x1.size (inb32 l h))).squeeze S_ squeezes_S1x1_S_).sem = rS (.o1 l h) := by
  decide +kernel
theorem sem_o2_s : ∀ (l : Fin 3) (h : Fin 2), ((cc0_scratch22.slice (Rect.unit (s := S3x2) ![l.val, h.val] S1x1.size (inb32 l h))).squeeze S_ squeezes_S1x1_S_).sem = sS (.o2 l h) := by
  decide +kernel
theorem sem_o2_r : ∀ (l : Fin 3) (h : Fin 2), ((cc0_scratch23.slice (Rect.unit (s := S3x2) ![l.val, h.val] S1x1.size (inb32 l h))).squeeze S_ squeezes_S1x1_S_).sem = rS (.o2 l h) := by
  decide +kernel
theorem sem_o3_s : ∀ (h : Fin 2), ((cc0_scratch24.slice (Rect.unit (s := S2) ![h.val] S1.size (inb2 h))).squeeze S_ squeezes_S1_S_).sem = sS (.o3 h) := by
  decide +kernel
theorem sem_o3_r : ∀ (h : Fin 2), ((cc0_scratch25.slice (Rect.unit (s := S2) ![h.val] S1.size (inb2 h))).squeeze S_ squeezes_S1_S_).sem = rS (.o3 h) := by
  decide +kernel

/-! ## The peers -/

theorem pe_ne (c : Dev nD) (r : Fin 7) : pe c r.succ ≠ c := by revert c r; decide +kernel

theorem off7_at (c : Dev nD) (r : Fin 7) : k0_off7 c (BitVec.ofNat 32 (1 + r.val)) = ![0, 512 * (pe c r.succ).val] := by revert c r; decide +kernel
theorem off4_at (c : Dev nD) (r : Fin 7) : k0_off4 c (BitVec.ofNat 32 (1 + r.val)) = ![(0 : Fin 3).val, (pe c r.succ).val] := by revert c r; decide +kernel
theorem off8_at (c : Dev nD) (r : Fin 7) : k0_off8 c (BitVec.ofNat 32 (1 + r.val)) = ![(1 : Fin 3).val, (pe c r.succ).val] := by revert c r; decide +kernel
theorem off11_at (c : Dev nD) (r : Fin 7) : k0_off11 c (BitVec.ofNat 32 (1 + r.val)) = ![(2 : Fin 3).val, (pe c r.succ).val] := by revert c r; decide +kernel
theorem off16_at (c : Dev nD) (r : Fin 7) : k0_off16 c (BitVec.ofNat 32 (1 + r.val)) = ![128 * (pe c r.succ).val, 0] := by revert c r; decide +kernel
theorem off17_at (c : Dev nD) (r : Fin 7) : k0_off17 c (BitVec.ofNat 32 (1 + r.val)) = ![0, 128 * (pe c r.succ).val] := by revert c r; decide +kernel
theorem off35_at (c : Dev nD) (r : Fin 7) : k0_off35 c (BitVec.ofNat 32 (1 + r.val)) = ![(pe c r.succ).val] := by revert c r; decide +kernel

/-! ## Amounts -/

theorem amt_1 : tileCredit S128x512 .bf16 = 4096 := by decide
theorem amt_2 : tileCredit S1024x128 .bf16 = 8192 := by decide
theorem amt_3 : tileCredit S128x2048 .bf16 = 16384 := by decide

/-! ## The slices that transfers name -/

abbrev sl14 (o : Fin 2 → ℕ) (i : ∀ a, o a + S128x512.size a ≤ S128x4096.size a) : Memref sig .tc .vmem S128x512 .bf16 :=
  (Memref.whole cc0_scratch14).slice (Rect.unit (s := S128x4096) o S128x512.size i) (fun _ => rfl)
abbrev sl15 (o : Fin 2 → ℕ) (i : ∀ a, o a + S128x512.size a ≤ S128x4096.size a) : Memref sig .tc .vmem S128x512 .bf16 :=
  (Memref.whole cc0_scratch15).slice (Rect.unit (s := S128x4096) o S128x512.size i) (fun _ => rfl)
abbrev sl0 (o : Fin 2 → ℕ) (i : ∀ a, o a + S1024x128.size a ≤ S1024x1024.size a) : Memref sig .tc .vmem S1024x128 .bf16 :=
  (Memref.whole cc0_scratch0).slice (Rect.unit (s := S1024x1024) o S1024x128.size i) (fun _ => rfl)
abbrev sl1 (o : Fin 2 → ℕ) (i : ∀ a, o a + S128x512.size a ≤ S1024x512.size a) : Memref sig .tc .vmem S128x512 .bf16 :=
  (Memref.whole cc0_scratch1).slice (Rect.unit (s := S1024x512) o S128x512.size i) (fun _ => rfl)
abbrev sl2 (o : Fin 2 → ℕ) (i : ∀ a, o a + S128x512.size a ≤ S1024x512.size a) : Memref sig .tc .vmem S128x512 .bf16 :=
  (Memref.whole cc0_scratch2).slice (Rect.unit (s := S1024x512) o S128x512.size i) (fun _ => rfl)
abbrev sl3 (o : Fin 2 → ℕ) (i : ∀ a, o a + S128x512.size a ≤ S1024x512.size a) : Memref sig .tc .vmem S128x512 .bf16 :=
  (Memref.whole cc0_scratch3).slice (Rect.unit (s := S1024x512) o S128x512.size i) (fun _ => rfl)
abbrev sl4 (o : Fin 2 → ℕ) (i : ∀ a, o a + S128x512.size a ≤ S1024x512.size a) : Memref sig .tc .vmem S128x512 .bf16 :=
  (Memref.whole cc0_scratch4).slice (Rect.unit (s := S1024x512) o S128x512.size i) (fun _ => rfl)
abbrev slO (o : Fin 2 → ℕ) (i : ∀ a, o a + S128x2048.size a ≤ S1024x4096.size a) : Memref sig .tc .vmem S128x2048 .bf16 :=
  (Memref.whole cc0_stg1_0).slice (Rect.unit (s := S1024x4096) o S128x2048.size i) (fun _ => rfl)

/-- The transfer semaphores' slices, by their offsets. -/
abbrev sem38 (a : DmaSems sig S3x8) (o : Fin 2 → ℕ) (i : ∀ a, o a + S1x1.size a ≤ S3x8.size a) : DmaSem sig :=
  ((a.slice (Rect.unit (s := S3x8) o S1x1.size i)).squeeze S_ squeezes_S1x1_S_).sem
abbrev sem32 (a : DmaSems sig S3x2) (o : Fin 2 → ℕ) (i : ∀ a, o a + S1x1.size a ≤ S3x2.size a) : DmaSem sig :=
  ((a.slice (Rect.unit (s := S3x2) o S1x1.size i)).squeeze S_ squeezes_S1x1_S_).sem
abbrev sem8 (a : DmaSems sig S8) (o : Fin 1 → ℕ) (i : ∀ a, o a + S1.size a ≤ S8.size a) : DmaSem sig :=
  ((a.slice (Rect.unit (s := S8) o S1.size i)).squeeze S_ squeezes_S1_S_).sem
abbrev sem2 (a : DmaSems sig S2) (o : Fin 1 → ℕ) (i : ∀ a, o a + S1.size a ≤ S2.size a) : DmaSem sig :=
  ((a.slice (Rect.unit (s := S2) o S1.size i)).squeeze S_ squeezes_S1_S_).sem

/-! ### Their elements -/

theorem set14 (p : ℕ) {i} : (sl14 ![0, 512 * p] i).view.set = colB (n0 := 128) (n1 := 4096) 512 p :=
  (View.set_slice_whole cc0_scratch14 _).trans (unit_col (n0 := 128) (n1 := 4096) (by decide))
theorem set15 (p : ℕ) {i} : (sl15 ![0, 512 * p] i).view.set = colB (n0 := 128) (n1 := 4096) 512 p :=
  (View.set_slice_whole cc0_scratch15 _).trans (unit_col (n0 := 128) (n1 := 4096) (by decide))
theorem set0 (p : ℕ) {i} : (sl0 ![0, 128 * p] i).view.set = colB (n0 := 1024) (n1 := 1024) 128 p :=
  (View.set_slice_whole cc0_scratch0 _).trans (unit_col (n0 := 1024) (n1 := 1024) (by decide))
theorem set1 (p : ℕ) {i} : (sl1 ![128 * p, 0] i).view.set = rowB (n0 := 1024) (n1 := 512) 128 p :=
  (View.set_slice_whole cc0_scratch1 _).trans (unit_row (n0 := 1024) (n1 := 512) (by decide))
theorem set2 (p : ℕ) {i} : (sl2 ![128 * p, 0] i).view.set = rowB (n0 := 1024) (n1 := 512) 128 p :=
  (View.set_slice_whole cc0_scratch2 _).trans (unit_row (n0 := 1024) (n1 := 512) (by decide))
theorem set3 (p : ℕ) {i} : (sl3 ![128 * p, 0] i).view.set = rowB (n0 := 1024) (n1 := 512) 128 p :=
  (View.set_slice_whole cc0_scratch3 _).trans (unit_row (n0 := 1024) (n1 := 512) (by decide))
theorem set4 (p : ℕ) {i} : (sl4 ![128 * p, 0] i).view.set = rowB (n0 := 1024) (n1 := 512) 128 p :=
  (View.set_slice_whole cc0_scratch4 _).trans (unit_row (n0 := 1024) (n1 := 512) (by decide))
theorem setO (p h : ℕ) {i} : (slO ![128 * p, 2048 * h] i).view.set = boxB (n0 := 1024) (n1 := 4096) 128 p 2048 h :=
  (View.set_slice_whole cc0_stg1_0 _).trans (unit_box (n0 := 1024) (n1 := 4096) (by decide) (by decide))

/-! ### What lands -/

/-- The value at a block of rows of one buffer is the value at a block of columns of another. -/
theorem w_land (W : Dev nD → Vec F S128x4096 .bf16) (c p : Dev nD) {i7 : ∀ a, (![0, 512 * p.val] : Fin 2 → ℕ) a + S128x512.size a ≤ S128x4096.size a}
    {i6 : ∀ a, (![128 * c.val, 0] : Fin 2 → ℕ) a + S128x512.size a ≤ S1024x512.size a} (y : S128x512.Idx) :
    W c ((Rect.unit (s := S128x4096) ![0, 512 * p.val] S128x512.size i7).emb y)
      = (fun i : S1024x512.Idx => W (Fin.ofNat nD ((i 0).val / 128)) (at2 128 4096 (i 0).val (512 * p.val + (i 1).val)))
          ((Rect.unit (s := S1024x512) ![128 * c.val, 0] S128x512.size i6).emb y) := by
  have hy0 := lt2_0 (n0 := 128) (n1 := 512) y
  have hy1 := lt2_1 (n0 := 128) (n1 := 512) y
  have hc : c.val < 8 := c.isLt
  have hpv : p.val < 8 := p.isLt
  have e0 : ((Rect.unit (s := S1024x512) ![128 * c.val, 0] S128x512.size i6).emb y 0).val = 128 * c.val + (y 0).val := unit_val (n0 := 1024) (n1 := 512) y 0
  have e1 : ((Rect.unit (s := S1024x512) ![128 * c.val, 0] S128x512.size i6).emb y 1).val = 0 + (y 1).val := unit_val (n0 := 1024) (n1 := 512) y 1
  have f0 : ((Rect.unit (s := S128x4096) ![0, 512 * p.val] S128x512.size i7).emb y 0).val = 0 + (y 0).val := unit_val (n0 := 128) (n1 := 4096) y 0
  have f1 : ((Rect.unit (s := S128x4096) ![0, 512 * p.val] S128x512.size i7).emb y 1).val = 512 * p.val + (y 1).val := unit_val (n0 := 128) (n1 := 4096) y 1
  generalize (Rect.unit (s := S128x4096) ![0, 512 * p.val] S128x512.size i7).emb y = a at f0 f1 ⊢
  generalize (Rect.unit (s := S1024x512) ![128 * c.val, 0] S128x512.size i6).emb y = b at e0 e1 ⊢
  dsimp only
  have e : (Fin.ofNat nD ((b 0).val / 128) : Dev nD) = c := by
    apply Fin.ext; show (b 0).val / 128 % 8 = c.val; omega
  rw [e]
  refine congrArg (W c) (idx2_ext (n0 := 128) (n1 := 4096) ?_ ?_)
  · rw [at2_val0]; omega
  · rw [at2_val1]; omega

/-- The same for the attention output: rows of device `p` of what `c` computed are block `c` of the rows of `p`. -/
theorem a_land (c p : Dev nD) {i3 : ∀ a, (![128 * p.val, 0] : Fin 2 → ℕ) a + S128x512.size a ≤ S1024x512.size a}
    {i4 : ∀ a, (![128 * c.val, 0] : Fin 2 → ℕ) a + S128x512.size a ≤ S1024x512.size a} (y : S128x512.Idx) :
    obufV m c ((Rect.unit (s := S1024x512) ![128 * p.val, 0] S128x512.size i3).emb y)
      = orowsV m p ((Rect.unit (s := S1024x512) ![128 * c.val, 0] S128x512.size i4).emb y) := by
  have hy0 := lt2_0 (n0 := 128) (n1 := 512) y
  have hy1 := lt2_1 (n0 := 128) (n1 := 512) y
  have hc : c.val < 8 := c.isLt
  have hpv : p.val < 8 := p.isLt
  have e0 : ((Rect.unit (s := S1024x512) ![128 * c.val, 0] S128x512.size i4).emb y 0).val = 128 * c.val + (y 0).val := unit_val (n0 := 1024) (n1 := 512) y 0
  have e1 : ((Rect.unit (s := S1024x512) ![128 * c.val, 0] S128x512.size i4).emb y 1).val = 0 + (y 1).val := unit_val (n0 := 1024) (n1 := 512) y 1
  have f0 : ((Rect.unit (s := S1024x512) ![128 * p.val, 0] S128x512.size i3).emb y 0).val = 128 * p.val + (y 0).val := unit_val (n0 := 1024) (n1 := 512) y 0
  have f1 : ((Rect.unit (s := S1024x512) ![128 * p.val, 0] S128x512.size i3).emb y 1).val = 0 + (y 1).val := unit_val (n0 := 1024) (n1 := 512) y 1
  generalize (Rect.unit (s := S1024x512) ![128 * p.val, 0] S128x512.size i3).emb y = a at f0 f1 ⊢
  generalize (Rect.unit (s := S1024x512) ![128 * c.val, 0] S128x512.size i4).emb y = b at e0 e1 ⊢
  unfold orowsV
  have e : (Fin.ofNat nD ((b 0).val / 128) : Dev nD) = c := by
    apply Fin.ext; show (b 0).val / 128 % 8 = c.val; omega
  rw [e]
  refine congrArg (obufV m c) (idx2_ext (n0 := 1024) (n1 := 512) ?_ ?_)
  · rw [at2_val0]; omega
  · rw [at2_val1]; omega

end Cert.Mla
-- ==== Proof.Sends.lean ====
/-
# The families' transfers
-/
module

public import proofs.«01_k».proof.Proof.Geom

@[expose] public section

noncomputable section

namespace Cert.Mla

open Cert.KernelIdeal Cert.KernelIdeal.Gen

open Idealize.ShloMosaic
open Idealize.ShloMosaic.TcCoe
open Idealize.ShloMosaic.RefSig (tileCredit)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop Flight Flight_mono)

variable {F : FTy → Type} [FloatOps F]

local notation "𝕄" => MT nD τ sig Unit (Elt F) ℕ UU ℕ

variable (m : (ℓ : Loc nD τ sig) → Buf (Elt F) ℓ) (K : Dev nD × Cl → ℕ)

/-! ## The families' sends -/

theorem send_w0 (c p : Dev nD) (hp : p ≠ c) (no : ℕ) (hob : (obl c)[no]? = some (p, .r (.w 0 c))) {n : Dev nD} (hn : n = p)
    {o7 o6 o4 o5 : Fin 2 → ℕ} (h7 : o7 = ![0, 512 * p.val]) (h6 : o6 = ![128 * c.val, 0]) (h4 : o4 = ![(0 : Fin 3).val, p.val]) (h5 : o5 = ![(0 : Fin 3).val, c.val])
    {i7 i6 i4 i5 hsc hsrc hdst hsem} {α : Type} {Q : α → sProp 𝕄} {k : PUnit → Prog (TpuEff nD τ sig (Elt F) Λ₀ .tc) α} :
    Env m K ⊢ iprop(ow c no -∗ SK c (.w 0 p) -∗ sPay m c (.w 0 p) -∗ rFree (F := F) p (.w 0 c) -∗ ((ow c (no + 1) ∗ SC c (.w 0 p)) -∗ WP c (k ⟨⟩) Q)
      -∗ WP c (.op (.enqueueDma (sl14 o7 i7) (.remote (Dev.tc n : Thread nD τ) (sl1 o6 i6) (.dma (sem38 cc0_scratch16 o4 i4)) hsc)
        (.dma (sem38 cc0_scratch17 o5 i5)) hsrc hdst hsem) k) Q) := by
  subst h7 h6 h4 h5
  have hL := write_read (c := c) (c' := p) (src := sl14 ![0, 512 * p.val] i7) (dt := sl1 ![128 * c.val, 0] i6) (fs := wukV m c) (G := wukcV m p) (w_land (wukV m) c p)
  have h := send (k := k) (Q := Q) (hsc := hsc) (hsrc := hsrc) (hdst := hdst) (hsem := hsem) m K c (.w 0 p) hp no hob (n := n) hn (src := sl14 ![0, 512 * p.val] i7) (dt := sl1 ![128 * c.val, 0] i6) (sem_w_s 0 p) (sem_w_r 0 c) (q := fullShare) (fs := wukV m c) amt_1
    (congrArg (fun S => pts c cc0_scratch14 S fullShare (wukV m c)) (set14 p.val).symm)
    (congrArg (fun S => iprop(∃ fd, pts (F := F) p cc0_scratch1 S fullShare fd)) (set1 c.val).symm)
    fun fd => Entails.of_eq ((pointsTo_congr (hL fd)).trans (congrArg (fun S => pts p cc0_scratch1 S fullShare (wukcV m p)) (set1 c.val)))
  exact h

theorem send_w1 (c p : Dev nD) (hp : p ≠ c) (no : ℕ) (hob : (obl c)[no]? = some (p, .r (.w 1 c))) {n : Dev nD} (hn : n = p)
    {o7 o6 o4 o5 : Fin 2 → ℕ} (h7 : o7 = ![0, 512 * p.val]) (h6 : o6 = ![128 * c.val, 0]) (h4 : o4 = ![(1 : Fin 3).val, p.val]) (h5 : o5 = ![(1 : Fin 3).val, c.val])
    {i7 i6 i4 i5 hsc hsrc hdst hsem} {α : Type} {Q : α → sProp 𝕄} {k : PUnit → Prog (TpuEff nD τ sig (Elt F) Λ₀ .tc) α} :
    Env m K ⊢ iprop(ow c no -∗ SK c (.w 1 p) -∗ sPay m c (.w 1 p) -∗ rFree (F := F) p (.w 1 c) -∗ ((ow c (no + 1) ∗ SC c (.w 1 p)) -∗ WP c (k ⟨⟩) Q)
      -∗ WP c (.op (.enqueueDma (sl15 o7 i7) (.remote (Dev.tc n : Thread nD τ) (sl2 o6 i6) (.dma (sem38 cc0_scratch16 o4 i4)) hsc)
        (.dma (sem38 cc0_scratch17 o5 i5)) hsrc hdst hsem) k) Q) := by
  subst h7 h6 h4 h5
  have hL := write_read (c := c) (c' := p) (src := sl15 ![0, 512 * p.val] i7) (dt := sl2 ![128 * c.val, 0] i6) (fs := wuvV m c) (G := wuvcV m p) (w_land (wuvV m) c p)
  have h := send (k := k) (Q := Q) (hsc := hsc) (hsrc := hsrc) (hdst := hdst) (hsem := hsem) m K c (.w 1 p) hp no hob (n := n) hn (src := sl15 ![0, 512 * p.val] i7) (dt := sl2 ![128 * c.val, 0] i6) (sem_w_s 1 p) (sem_w_r 1 c) (q := fullShare) (fs := wuvV m c) amt_1
    (congrArg (fun S => pts c cc0_scratch15 S fullShare (wuvV m c)) (set15 p.val).symm)
    (congrArg (fun S => iprop(∃ fd, pts (F := F) p cc0_scratch2 S fullShare fd)) (set2 c.val).symm)
    fun fd => Entails.of_eq ((pointsTo_congr (hL fd)).trans (congrArg (fun S => pts p cc0_scratch2 S fullShare (wuvcV m p)) (set2 c.val)))
  exact h

theorem send_w2 (c p : Dev nD) (hp : p ≠ c) (no : ℕ) (hob : (obl c)[no]? = some (p, .r (.w 2 c))) {n : Dev nD} (hn : n = p)
    {o7 o4 o5 : Fin 2 → ℕ} (h7 : o7 = ![0, 128 * c.val]) (h4 : o4 = ![(2 : Fin 3).val, p.val]) (h5 : o5 = ![(2 : Fin 3).val, c.val])
    {i7 i6 i4 i5 hsc hsrc hdst hsem} {α : Type} {Q : α → sProp 𝕄} {k : PUnit → Prog (TpuEff nD τ sig (Elt F) Λ₀ .tc) α} :
    Env m K ⊢ iprop(ow c no -∗ SK c (.w 2 p) -∗ sPay m c (.w 2 p) -∗ rFree (F := F) p (.w 2 c) -∗ ((ow c (no + 1) ∗ SC c (.w 2 p)) -∗ WP c (k ⟨⟩) Q)
      -∗ WP c (.op (.enqueueDma (sl0 o7 i7) (.remote (Dev.tc n : Thread nD τ) (sl0 o7 i6) (.dma (sem38 cc0_scratch16 o4 i4)) hsc)
        (.dma (sem38 cc0_scratch17 o5 i5)) hsrc hdst hsem) k) Q) := by
  subst h7 h4 h5
  have hL := write_read (c := c) (c' := p) (src := sl0 ![0, 128 * c.val] i7) (dt := sl0 ![0, 128 * c.val] i6) (fs := callV m) (G := callV m) (fun _ => rfl)
  have h := send (k := k) (Q := Q) (hsc := hsc) (hsrc := hsrc) (hdst := hdst) (hsem := hsem) m K c (.w 2 p) hp no hob (n := n) hn (src := sl0 ![0, 128 * c.val] i7) (dt := sl0 ![0, 128 * c.val] i6) (sem_w_s 2 p) (sem_w_r 2 c) (q := shareTokN fullShare p.val) (fs := callV m) amt_2
    (congrArg (fun S => pts c cc0_scratch0 S (shareTokN fullShare p.val) (callV m)) (set0 c.val).symm)
    (congrArg (fun S => iprop(∃ fd, pts (F := F) p cc0_scratch0 S fullShare fd)) (set0 c.val).symm)
    fun fd => Entails.of_eq ((pointsTo_congr (hL fd)).trans (congrArg (fun S => pts p cc0_scratch0 S fullShare (callV m)) (set0 c.val)))
  exact h

theorem send_a (c p : Dev nD) (hp : p ≠ c) (no : ℕ) (hob : (obl c)[no]? = some (p, .r (.a c))) {n : Dev nD} (hn : n = p)
    {o3 o4 : Fin 2 → ℕ} {os or' : Fin 1 → ℕ} (h3 : o3 = ![128 * p.val, 0]) (h4 : o4 = ![128 * c.val, 0]) (hs : os = ![p.val]) (hr : or' = ![c.val])
    {i3 i4 is ir hsc hsrc hdst hsem} {α : Type} {Q : α → sProp 𝕄} {k : PUnit → Prog (TpuEff nD τ sig (Elt F) Λ₀ .tc) α} :
    Env m K ⊢ iprop(ow c no -∗ SK c (.a p) -∗ sPay m c (.a p) -∗ rFree (F := F) p (.a c) -∗ ((ow c (no + 1) ∗ SC c (.a p)) -∗ WP c (k ⟨⟩) Q)
      -∗ WP c (.op (.enqueueDma (sl3 o3 i3) (.remote (Dev.tc n : Thread nD τ) (sl4 o4 i4) (.dma (sem8 cc0_scratch18 os is)) hsc)
        (.dma (sem8 cc0_scratch19 or' ir)) hsrc hdst hsem) k) Q) := by
  subst h3 h4 hs hr
  have hL := write_read (c := c) (c' := p) (src := sl3 ![128 * p.val, 0] i3) (dt := sl4 ![128 * c.val, 0] i4) (fs := obufV m c) (G := orowsV m p) (a_land m c p)
  have h := send (k := k) (Q := Q) (hsc := hsc) (hsrc := hsrc) (hdst := hdst) (hsem := hsem) m K c (.a p) hp no hob (n := n) hn (src := sl3 ![128 * p.val, 0] i3) (dt := sl4 ![128 * c.val, 0] i4) (sem_a_s p) (sem_a_r c) (q := fullShare) (fs := obufV m c) amt_1
    (congrArg (fun S => pts c cc0_scratch3 S fullShare (obufV m c)) (set3 p.val).symm)
    (congrArg (fun S => iprop(∃ fd, pts (F := F) p cc0_scratch4 S fullShare fd)) (set4 c.val).symm)
    fun fd => Entails.of_eq ((pointsTo_congr (hL fd)).trans (congrArg (fun S => pts p cc0_scratch4 S fullShare (orowsV m p)) (set4 c.val)))
  exact h

/-- A half chunk of the result, whichever phase: chunk `d`, half `h`, as source at share `q`. -/
theorem send_o (c : Dev nD) (x : Tr) (hl : live c x) (no : ℕ) (hob : (obl c)[no]? = some (dst c x, .r (opp c x))) {n : Dev nD} (hn : n = dst c x)
    (d h : ℕ) (q : PosShare TreeShare) {o : Fin 2 → ℕ} (ho : o = ![128 * d, 2048 * h]) {ss rs : DmaSem sig} (hss : ss = sS x) (hrs : rs = rS (opp c x))
    (hN : trAmt x = 16384)
    (hS : sPay m c x = pts c cc0_stg1_0 (boxB (n0 := 1024) (n1 := 4096) 128 d 2048 h) q (outV m))
    (hD : rFree (F := F) (dst c x) (opp c x) = iprop(∃ f, pts (dst c x) cc0_stg1_0 (boxB (n0 := 1024) (n1 := 4096) 128 d 2048 h) fullShare f))
    (hR : rPay m (dst c x) (opp c x) = pts (dst c x) cc0_stg1_0 (boxB (n0 := 1024) (n1 := 4096) 128 d 2048 h) fullShare (outV m))
    {i i' hsc hsrc hdst hsem} {α : Type} {Q : α → sProp 𝕄} {k : PUnit → Prog (TpuEff nD τ sig (Elt F) Λ₀ .tc) α} :
    Env m K ⊢ iprop(ow c no -∗ SK c x -∗ sPay m c x -∗ rFree (F := F) (dst c x) (opp c x) -∗ ((ow c (no + 1) ∗ SC c x) -∗ WP c (k ⟨⟩) Q)
      -∗ WP c (.op (.enqueueDma (slO o i) (.remote (Dev.tc n : Thread nD τ) (slO o i') (.dma ss) hsc) (.dma rs) hsrc hdst hsem) k) Q) := by
  subst ho
  have hL := write_read (c := c) (c' := dst c x) (src := slO ![128 * d, 2048 * h] i) (dt := slO ![128 * d, 2048 * h] i') (fs := outV m) (G := outV m) (fun _ => rfl)
  have hh := send (k := k) (Q := Q) (hsc := hsc) (hsrc := hsrc) (hdst := hdst) (hsem := hsem) m K c x hl no hob (n := n) hn (src := slO ![128 * d, 2048 * h] i) (dt := slO ![128 * d, 2048 * h] i') hss hrs (q := q) (fs := outV m) (amt_3.trans hN.symm)
    (hS.trans (congrArg (fun S => pts c cc0_stg1_0 S q (outV m)) (setO d h).symm))
    (hD.trans (congrArg (fun S => iprop(∃ fd, pts (F := F) (dst c x) cc0_stg1_0 S fullShare fd)) (setO d h).symm))
    fun fd => Entails.of_eq ((pointsTo_congr (hL fd)).trans ((congrArg (fun S => pts (dst c x) cc0_stg1_0 S fullShare (outV m)) (setO d h)).trans hR.symm))
  exact hh

end Cert.Mla
-- ==== Proof.Mem.lean ====
/-
# Steps on the device's own memory

A buffer being filled (`Fill`): some elements are known to hold their closed value. Storing a block adds the block to
them, loading a block of a filled buffer reads the closed value. And local copies, which lend a share of their whole
source (`CopyIn`) until they are waited for.
-/
module

public import proofs.«01_k».proof.Proof.Sends

@[expose] public section

noncomputable section

namespace Cert.Mla

open Cert.KernelIdeal Cert.KernelIdeal.Gen

open Idealize.ShloMosaic
open Idealize.ShloMosaic.TcCoe
open Idealize.ShloMosaic.RefSig (tileCredit)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop Flight Flight_mono)

variable {F : FTy → Type} [FloatOps F]

local notation "𝕄" => MT nD τ sig Unit (Elt F) ℕ UU ℕ

variable (m : (ℓ : Loc nD τ sig) → Buf (Elt F) ℓ) (K : Dev nD × Cl → ℕ)

/-- Elements `D` of a buffer, owned, those of `S` at the values `V`. -/
def Fill (c : Dev nD) (b : Ref sig .tc) (D S : Finset (Idx ((c : Thread nD τ).loc b))) (V : Buf (Elt F) ((c : Thread nD τ).loc b)) : sProp 𝕄 :=
  iprop(∃ f, pts c b D fullShare f ∗ ⌜∀ i ∈ S, f i = V i⌝)

theorem Fill_start (c : Dev nD) (b : Ref sig .tc) (D : Finset (Idx ((c : Thread nD τ).loc b))) (V : Buf (Elt F) ((c : Thread nD τ).loc b)) :
    iprop(∃ f, pts (F := F) c b D fullShare f) ⊢ Fill c b D ∅ V := by
  iintro ⟨%f, H⟩
  unfold Fill
  iexists f
  isplitl [H]; · iexact H
  ipureintro; intro i hi; exact absurd hi (Finset.notMem_empty i)

theorem Fill_done (c : Dev nD) (b : Ref sig .tc) {D S : Finset (Idx ((c : Thread nD τ).loc b))} (V : Buf (Elt F) ((c : Thread nD τ).loc b)) (h : D ⊆ S) :
    Fill c b D S V ⊢ pts (F := F) c b D fullShare V := by
  unfold Fill
  iintro ⟨%f, H, %hf⟩
  iapply (Entails.of_eq (pointsTo_congr (fun i hi => hf i (h hi)))) $$ H

/-- A store, preceded by a load of the same block whose value is not used. -/
theorem put (c : Dev nD) {cs : CoreSpace} {s : Shape} {e : EltTy} (M : Memref sig .tc cs s e) {r : Rect s} {w : r.shape.Idx → Elt F e}
    {hl : M.view.LoadsAt r.toLoadRect} {hx : (M.access r).Stores Finset.univ} {hm : (Finset.univ : Finset r.shape.Idx) = Finset.univ ∨ ∀ a, r.stride a = 1}
    {D S : Finset (Idx (M.view.loc (c : Thread nD τ)))} {V : Buf (Elt F) (M.view.loc (c : Thread nD τ))}
    (hD : (M.access r).set ⊆ D) (hV : ∀ y, w y = (M.access r).read (Elt F) V y)
    {α : Type} {Q : α → sProp 𝕄} {k : PUnit → Prog (TpuEff nD τ sig (Elt F) Λ₀ .tc) α} :
    Fill c M.view.ref D S V
      ⊢ iprop((Fill c M.view.ref D (S ∪ (M.access r).set) V -∗ WP c (k ⟨⟩) Q)
        -∗ WP c (.op (.load M r.toLoadRect hl) (fun _ => .op (.store M r w Finset.univ hx hm) k)) Q) := by
  unfold Fill
  iintro ⟨%f, H, %hf⟩ Hk
  iapply (wp_load_rect 𝒱₀ (c : Thread nD τ) none Set.univ (m := M) (r := r) hD) $$ H
  iintro H
  iapply (wp_store 𝒱₀ (c : Thread nD τ) none Set.univ (m := M) (r := r) (Mk := Finset.univ) hD) $$ H
  iintro H
  iapply Hk
  iexists _
  isplitl [H]; · iexact H
  ipureintro
  intro i hi
  by_cases h : i ∈ (M.access r).set
  · unfold View.set at h
    obtain ⟨y, -, rfl⟩ := Finset.mem_map.1 h
    rw [View.write_emb_of_mem (v := M.access r) (Val := Elt F) _ _ (Finset.mem_univ y), hV y, View.read_apply]
    exact cast_cast _ _ _ |>.trans (cast_eq _ _)
  · rw [View.write_of_not_mem (v := M.access r) (Val := Elt F) _ _ _ (show i ∉ (M.access r).setOn Finset.univ from h)]
    exact hf i ((Finset.mem_union.1 hi).resolve_right h)

/-- A load of a block of known contents. -/
theorem get (c : Dev nD) {cs : CoreSpace} {s : Shape} {e : EltTy} (M : Memref sig .tc cs s e) {r : Rect s} {hl : M.view.LoadsAt r.toLoadRect}
    {D : Finset (Idx (M.view.loc (c : Thread nD τ)))} {q : PosShare TreeShare} {f : Buf (Elt F) (M.view.loc (c : Thread nD τ))}
    (hD : (M.access r).set ⊆ D) (v : r.shape.Idx → Elt F e) (hv : ∀ y, (M.access r).read (Elt F) f y = v y)
    {α : Type} {Q : α → sProp 𝕄} {k : (r.shape.Idx → Elt F e) → Prog (TpuEff nD τ sig (Elt F) Λ₀ .tc) α} :
    pts c M.view.ref D q f
      ⊢ iprop((pts c M.view.ref D q f -∗ WP c (k v) Q) -∗ WP c (.op (.load M r.toLoadRect hl) k) Q) := by
  have e : (M.access r).read (Elt F) f = v := funext hv
  subst e
  iintro H Hk
  iapply (wp_load_rect 𝒱₀ (c : Thread nD τ) none Set.univ (m := M) (r := r) hD) $$ H
  iexact Hk

/-! ## Local copies -/

/-- A local copy in flight on semaphore `n`: at its wait, elements `Sd` of `bd` at contents `G`; a share of the whole source
    is lent for it. -/
def CopyIn (c : Dev nD) (n : DmaSem sig) (N : ℕ) (b : Ref sig .tc) (q : PosShare TreeShare) (f : Buf (Elt F) ((c : Thread nD τ).loc b))
    (bd : Ref sig .tc) (Sd : Finset (Idx ((c : Thread nD τ).loc bd))) (G : Buf (Elt F) ((c : Thread nD τ).loc bd)) : sProp 𝕄 :=
  iprop(∃ S : Finset (Idx ((c : Thread nD τ).loc b)), Flight EC (c : Thread nD τ) (.dma n) () N iprop(pts c bd Sd fullShare G ∗ pts c b S q f)
    ∗ pts c b (Finset.univ \ S) q f)

theorem copyin_start (c : Dev nD) (n : DmaSem sig) (N : ℕ) {sp sp' : Space} {s : Shape} {e : EltTy} (src : Memref sig .tc sp s e) (dt : Memref sig .tc sp' s e)
    {sem : DmaSem sig} (hs : sem = n) {hsrc : src.view.WordExact} {hdst : dt.view.WordExact} {hsem : DmaTarget.Typed (nD := nD) (p := Proc.tc) sp (.dma sem) (.here dt)}
    {q : PosShare TreeShare} {f : Buf (Elt F) (src.view.loc (c : Thread nD τ))} (hN : dt.view.amount (.dma sem) = N) (hN0 : 0 < N)
    {Sd : Finset (Idx (dt.view.loc (c : Thread nD τ)))} (hSd : dt.view.set = Sd)
    (G : Buf (Elt F) (dt.view.loc (c : Thread nD τ))) (hG : ∀ y, src.view.read (Elt F) f y = dt.view.read (Elt F) G y)
    {α : Type} {Q : α → sProp 𝕄} {k : PUnit → Prog (TpuEff nD τ sig (Elt F) Λ₀ .tc) α} {fd : Buf (Elt F) (dt.view.loc (c : Thread nD τ))} :
    pts c src.view.ref Finset.univ q f
      ⊢ iprop(pts c dt.view.ref Sd fullShare fd -∗ semVal ((c : Thread nD τ), SemLoc.dma n) 0
        -∗ (CopyIn c n N src.view.ref q f dt.view.ref Sd G -∗ WP c (k ⟨⟩) Q)
        -∗ WP c (.op (.enqueueDma src (.here dt) (.dma sem) hsrc hdst hsem) k) Q) := by
  subst hs hSd
  iintro Hs Hd Hz Hk
  ihave Hs := (pointsTo_split_subset (ℓ := src.view.loc (c : Thread nD τ)) (Finset.subset_univ src.view.set)).1 $$ Hs
  icases Hs with ⟨Hs, Hr⟩
  iapply (copy_start c (src := src) (dt := dt) (sm := .dma sem) (q := q) (fs := f) (fd := fd) (k := k) (Q := Q) N hN hN0 G (fun fd => write_read (c := c) (c' := c) hG fd)) $$ Hs Hd Hz
  iintro Hf
  iapply Hk
  unfold CopyIn
  iexists src.view.set
  isplitl [Hf]; · iexact Hf
  iexact Hr

theorem copyin_wait (c : Dev nD) (no : ℕ) (n : DmaSem sig) {sem : DmaSem sig} (hs : sem = n) (hn : n.val < 2 ∨ 94 ≤ n.val) {sp sp' : Space} {s s' : Shape} {e e' : EltTy}
    {srcw : Memref sig .tc sp' s' e'} {dstw : Memref sig .tc sp s e} {h1 : srcw.view.WordExact} {h2 : dstw.view.WordExact}
    {N : ℕ} (hN : dstw.view.dmaCredit = N) {b bd : Ref sig .tc} {q : PosShare TreeShare} {f : Buf (Elt F) ((c : Thread nD τ).loc b)}
    {Sd : Finset (Idx ((c : Thread nD τ).loc bd))} {G : Buf (Elt F) ((c : Thread nD τ).loc bd)}
    {α : Type} {Q : α → sProp 𝕄} {k : PUnit → Prog (TpuEff nD τ sig (Elt F) Λ₀ .tc) α} :
    Env m K ⊢ iprop(ow c no -∗ CopyIn c n N b q f bd Sd G
      -∗ ((ow c no ∗ semVal ((c : Thread nD τ), SemLoc.dma n) 0 ∗ pts c bd Sd fullShare G ∗ pts c b Finset.univ q f) -∗ WP c (k ⟨⟩) Q)
      -∗ WP c (.op (.waitDma2 sem srcw dstw h1 h2) k) Q) := by
  subst hs
  unfold CopyIn
  iintro #HE HO ⟨%S, Hf, Hr⟩ Hk
  iapply (copy_wait m K c no hn hN) $$ HE HO Hf
  iintro ⟨HO, Hz, Hd, Hs⟩
  iapply Hk
  isplitl [HO]; · iexact HO
  isplitl [Hz]; · iexact Hz
  isplitl [Hd]; · iexact Hd
  iapply (pointsTo_split_subset (ℓ := (c : Thread nD τ).loc b) (Finset.subset_univ S)).2
  isplitl [Hs]; · iexact Hs
  iexact Hr

end Cert.Mla
-- ==== Proof.Local.lean ====
/-
# The steps of the program at the kernel's own buffers

The program's parts take all of the kernel's buffers as arguments; `At` applies a part to them. Then the local copies:
where each one's block lies, and that it lands at its closed value.
-/
module

public import proofs.«01_k».proof.Proof.Mem

@[expose] public section

noncomputable section

namespace Cert.Mla

open Cert.KernelIdeal Cert.KernelIdeal.Gen

open Idealize.ShloMosaic
open Idealize.ShloMosaic.TcCoe
open Idealize.ShloMosaic.RefSig (tileCredit)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop Flight Flight_mono)

variable {F : FTy → Type} [FloatOps F]

local notation "𝕄" => MT nD τ sig Unit (Elt F) ℕ UU ℕ

variable (m : (ℓ : Loc nD τ sig) → Buf (Elt F) ℓ) (K : Dev nD × Cl → ℕ)

/-- A part of the program at the kernel's buffers. -/
abbrev At {β : Type 1} (f : (arg0 : Memref sig .tc .hbm S4x256x4096 .f32) → (harg0 : arg0.IsWhole) → (arg1 : Memref sig .tc .hbm S4096x128 .f32) → (harg1 : arg1.IsWhole) → (arg2 : Memref sig .tc .hbm S128x4096 .f32) → (harg2 : arg2.IsWhole) → (arg3 : Memref sig .tc .hbm S128x4096 .f32) → (harg3 : arg3.IsWhole) → (arg4 : Memref sig .tc .vmem S4096x64 .f32) → (harg4 : arg4.IsWhole) → (arg5 : Memref sig .tc .hbm S4096x4096 .f32) → (harg5 : arg5.IsWhole) → (arg6 : Memref sig .tc .hbm S4096x2048 .f32) → (harg6 : arg6.IsWhole) → (arg7 : Memref sig .tc .hbm S4096x4096 .f32) → (harg7 : arg7.IsWhole) → (arg8 : Memref sig .tc .vmem S1024x4096 .bf16) → (harg8 : arg8.IsWhole) → (arg9 : Memref sig .tc .vmem S1024x1024 .bf16) → (harg9 : arg9.IsWhole) → (arg10 : Memref sig .tc .vmem S1024x512 .bf16) → (harg10 : arg10.IsWhole) → (arg11 : Memref sig .tc .vmem S1024x512 .bf16) → (harg11 : arg11.IsWhole) → (arg12 : Memref sig .tc .vmem S1024x512 .bf16) → (harg12 : arg12.IsWhole) → (arg13 : Memref sig .tc .vmem S1024x512 .bf16) → (harg13 : arg13.IsWhole) → (arg14 : Memref sig .tc .vmem S2x512x2048 .f32) → (harg14 : arg14.IsWhole) → (arg15 : Memref sig .tc .vmem S4096x512 .f32) → (harg15 : arg15.IsWhole) → (arg16 : Memref sig .tc .vmem S4096x256 .f32) → (harg16 : arg16.IsWhole) → (arg17 : Memref sig .tc .vmem S1024x4096 .bf16) → (harg17 : arg17.IsWhole) → (arg18 : Memref sig .tc .vmem S2x256x4096 .f32) → (harg18 : arg18.IsWhole) → (arg19 : Memref sig .tc .vmem S4096x128 .f32) → (harg19 : arg19.IsWhole) → (arg20 : Memref sig .tc .vmem S128x4096 .f32) → (harg20 : arg20.IsWhole) → (arg21 : Memref sig .tc .vmem S128x4096 .f32) → (harg21 : arg21.IsWhole) → (arg22 : Memref sig .tc .vmem S4096x128 .bf16) → (harg22 : arg22.IsWhole) → (arg23 : Memref sig .tc .vmem S128x4096 .bf16) → (harg23 : arg23.IsWhole) → (arg24 : Memref sig .tc .vmem S128x4096 .bf16) → (harg24 : arg24.IsWhole) → (arg25 : DmaSems sig S3x8) → (arg26 : DmaSems sig S3x8) → (arg27 : DmaSems sig S8) → (arg28 : DmaSems sig S8) → (arg29 : DmaSems sig S3x2) → (arg30 : DmaSems sig S3x2) → (arg31 : DmaSems sig S3x2) → (arg32 : DmaSems sig S3x2) → (arg33 : DmaSems sig S2) → (arg34 : DmaSems sig S2) → (arg35 : DmaSems sig S2) → (arg36 : DmaSems sig S2) → (arg37 : DmaSems sig S2) → (arg38 : DmaSems sig S3) → β) : β :=
  f (Memref.whole main_arg0) (Memref.isWhole_whole _) (Memref.whole main_arg1) (Memref.isWhole_whole _) (Memref.whole main_arg2) (Memref.isWhole_whole _) (Memref.whole main_arg3) (Memref.isWhole_whole _) (Memref.whole cc0_stg0_0) (Memref.isWhole_whole _) (Memref.whole main_arg4) (Memref.isWhole_whole _) (Memref.whole main_arg5) (Memref.isWhole_whole _) (Memref.whole main_arg7) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29

/-- The device's number, as the program computes it. -/
abbrev v2w (c : Dev nD) : BitVec 32 := Scalar.remsi (Scalar.divsi (Dev.word c) 1#32) 8#32

/-! ## Slabs of a double buffer -/

/-- The elements of slab `j` of a three-axis buffer. -/
def slab {n0 n1 n2 : ℕ} (j : ℕ) : Finset (⟨3, ![n0, n1, n2]⟩ : Shape).Idx := Finset.univ.filter fun i => (i 0).val = j

theorem mem_unit3 {n0 n1 n2 : ℕ} {o z : Fin 3 → ℕ} {inb : ∀ a, o a + z a ≤ (⟨3, ![n0, n1, n2]⟩ : Shape).size a} (i : (⟨3, ![n0, n1, n2]⟩ : Shape).Idx) :
    i ∈ (Rect.unit (s := ⟨3, ![n0, n1, n2]⟩) o z inb).set
      ↔ (o 0 ≤ (i 0).val ∧ (i 0).val < o 0 + z 0) ∧ (o 1 ≤ (i 1).val ∧ (i 1).val < o 1 + z 1) ∧ (o 2 ≤ (i 2).val ∧ (i 2).val < o 2 + z 2) := by
  rw [Rect.mem_set_unit]
  constructor
  · intro h; exact ⟨h 0, h 1, h 2⟩
  · rintro ⟨h0, h1, h2⟩ a
    match a with
    | ⟨0, _⟩ => exact h0
    | ⟨1, _⟩ => exact h1
    | ⟨2, _⟩ => exact h2

theorem unit_slab {n0 n1 n2 j : ℕ} {inb : ∀ a, (![j, 0, 0] : Fin 3 → ℕ) a + (![1, n1, n2] : Fin 3 → ℕ) a ≤ (⟨3, ![n0, n1, n2]⟩ : Shape).size a} :
    (Rect.unit (s := ⟨3, ![n0, n1, n2]⟩) ![j, 0, 0] ![1, n1, n2] inb).set = slab j := by
  ext i; rw [mem_unit3]; unfold slab; rw [Finset.mem_filter]
  have := lt3_1 i
  have := lt3_2 i
  simp only [Matrix.cons_val_zero, Matrix.cons_val_one, Matrix.cons_val_two, Matrix.head_cons, Matrix.tail_cons, Finset.mem_univ, true_and]
  show (j ≤ (i 0).val ∧ (i 0).val < j + 1) ∧ (0 ≤ (i 1).val ∧ (i 1).val < 0 + n1) ∧ (0 ≤ (i 2).val ∧ (i 2).val < 0 + n2) ↔ (i 0).val = j
  omega

theorem unit_val3 {n0 n1 n2 : ℕ} {o z : Fin 3 → ℕ} {inb : ∀ a, o a + z a ≤ (⟨3, ![n0, n1, n2]⟩ : Shape).size a}
    (y : (Rect.unit (s := ⟨3, ![n0, n1, n2]⟩) o z inb).shape.Idx) (a : Fin 3) : ((Rect.unit (s := ⟨3, ![n0, n1, n2]⟩) o z inb).emb y a).val = o a + (y a).val := by
  rw [Rect.emb_apply]; simp

/-- Batch `t` of the input, and a slab of the output weight's rows for device `p`, as contents of their double buffers. -/
def xsV (c : Dev nD) (t : ℕ) : Vec F S2x256x4096 .f32 := fun i => (arg m c main_arg0 : Vec F S4x256x4096 .f32) (at3 4 256 4096 t (i 1).val (i 2).val)
def wsV (c : Dev nD) (p h : ℕ) : Vec F S2x512x2048 .f32 := fun i =>
  (arg m c main_arg7 : Vec F S4096x4096 .f32) (at2 4096 4096 (512 * p + (i 1).val) (2048 * h + (i 2).val))

abbrev xSrc (o : Fin 3 → ℕ) (i : ∀ a, o a + S1x256x4096.size a ≤ S4x256x4096.size a) : Memref sig .tc .hbm S256x4096 .f32 :=
  ((Memref.whole main_arg0).slice (Rect.unit (s := S4x256x4096) o S1x256x4096.size i) (fun _ => rfl)).squeeze S256x4096 squeezes_S1x256x4096_S256x4096
abbrev xDst (o : Fin 3 → ℕ) (i : ∀ a, o a + S1x256x4096.size a ≤ S2x256x4096.size a) : Memref sig .tc .vmem S256x4096 .f32 :=
  ((Memref.whole cc0_scratch9).slice (Rect.unit (s := S2x256x4096) o S1x256x4096.size i) (fun _ => rfl)).squeeze S256x4096 squeezes_S1x256x4096_S256x4096
abbrev wSrc (o : Fin 2 → ℕ) (i : ∀ a, o a + S512x2048.size a ≤ S4096x4096.size a) : Memref sig .tc .hbm S512x2048 .f32 :=
  (Memref.whole main_arg7).slice (Rect.unit (s := S4096x4096) o S512x2048.size i) (fun _ => rfl)
abbrev wDst (o : Fin 3 → ℕ) (i : ∀ a, o a + S1x512x2048.size a ≤ S2x512x2048.size a) : Memref sig .tc .vmem S512x2048 .f32 :=
  ((Memref.whole cc0_scratch5).slice (Rect.unit (s := S2x512x2048) o S1x512x2048.size i) (fun _ => rfl)).squeeze S512x2048 squeezes_S1x512x2048_S512x2048

theorem set_xDst (j : ℕ) {i} : (xDst ![j, 0, 0] i).view.set = slab (n0 := 2) (n1 := 256) (n2 := 4096) j :=
  (View.set_reshape _ _).trans ((View.set_slice_whole cc0_scratch9 _).trans (unit_slab (n0 := 2) (n1 := 256) (n2 := 4096)))
theorem set_wDst (j : ℕ) {i} : (wDst ![j, 0, 0] i).view.set = slab (n0 := 2) (n1 := 512) (n2 := 2048) j :=
  (View.set_reshape _ _).trans ((View.set_slice_whole cc0_scratch5 _).trans (unit_slab (n0 := 2) (n1 := 512) (n2 := 2048)))

/-- Dropping a leading unit axis reads at `0` of it. -/
theorem drop_lead {n1 n2 : ℕ} (h : (⟨2, ![n1, n2]⟩ : Shape).numel = (⟨3, ![1, n1, n2]⟩ : Shape).numel) (y : (⟨2, ![n1, n2]⟩ : Shape).Idx) :
    ((Shape.reshapeEquiv h y) 1).val = (y 0).val ∧ ((Shape.reshapeEquiv h y) 2).val = (y 1).val := by
  have e : Shape.reshapeEquiv h y = (Fin.cons (⟨0, Nat.one_pos⟩ : Fin 1) y : (⟨3, ![1, n1, n2]⟩ : Shape).Idx) := Shape.reshapeEquiv_cons_one h y
  rw [e]
  exact ⟨rfl, rfl⟩

theorem x_copy (c : Dev nD) (t j : ℕ) {is id} (y : S256x4096.Idx) :
    (xSrc ![t, 0, 0] is).view.read (Elt F) (arg m c main_arg0) y = (xDst ![j, 0, 0] id).view.read (Elt F) (xsV m c t) y := by
  have hd := drop_lead (n1 := 256) (n2 := 4096) (Shape.Squeezes.numel_eq squeezes_S1x256x4096_S256x4096) y
  have ht : t < 4 := by have := is 0; simp at this; omega
  show (arg m c main_arg0 : Vec F S4x256x4096 .f32) ((Rect.unit (s := S4x256x4096) ![t, 0, 0] S1x256x4096.size is).emb (Shape.reshapeEquiv _ y))
    = xsV m c t ((Rect.unit (s := S2x256x4096) ![j, 0, 0] S1x256x4096.size id).emb (Shape.reshapeEquiv _ y))
  generalize Shape.reshapeEquiv _ y = z at hd ⊢
  have f0 : ((Rect.unit (s := S4x256x4096) ![t, 0, 0] S1x256x4096.size is).emb z 0).val = t + (z 0).val := unit_val3 (n0 := 4) (n1 := 256) (n2 := 4096) z 0
  have f1 : ((Rect.unit (s := S4x256x4096) ![t, 0, 0] S1x256x4096.size is).emb z 1).val = 0 + (z 1).val := unit_val3 (n0 := 4) (n1 := 256) (n2 := 4096) z 1
  have f2 : ((Rect.unit (s := S4x256x4096) ![t, 0, 0] S1x256x4096.size is).emb z 2).val = 0 + (z 2).val := unit_val3 (n0 := 4) (n1 := 256) (n2 := 4096) z 2
  have g1 : ((Rect.unit (s := S2x256x4096) ![j, 0, 0] S1x256x4096.size id).emb z 1).val = 0 + (z 1).val := unit_val3 (n0 := 2) (n1 := 256) (n2 := 4096) z 1
  have g2 : ((Rect.unit (s := S2x256x4096) ![j, 0, 0] S1x256x4096.size id).emb z 2).val = 0 + (z 2).val := unit_val3 (n0 := 2) (n1 := 256) (n2 := 4096) z 2
  have z0 : (z 0).val < 1 := lt3_0 (n0 := 1) (n1 := 256) (n2 := 4096) z
  have z1 : (z 1).val < 256 := lt3_1 (n0 := 1) (n1 := 256) (n2 := 4096) z
  have z2 : (z 2).val < 4096 := lt3_2 (n0 := 1) (n1 := 256) (n2 := 4096) z
  generalize (Rect.unit (s := S4x256x4096) ![t, 0, 0] S1x256x4096.size is).emb z = a at f0 f1 f2 ⊢
  generalize (Rect.unit (s := S2x256x4096) ![j, 0, 0] S1x256x4096.size id).emb z = b at g1 g2 ⊢
  unfold xsV
  refine congrArg (arg m c main_arg0 : Vec F S4x256x4096 .f32) (idx3_ext (n0 := 4) (n1 := 256) (n2 := 4096) ?_ ?_ ?_)
  · rw [at3_val0]; omega
  · rw [at3_val1]; omega
  · rw [at3_val2]; omega

theorem w_copy (c : Dev nD) (p h j : ℕ) {is : ∀ a, (![512 * p, 2048 * h] : Fin 2 → ℕ) a + S512x2048.size a ≤ S4096x4096.size a} {id} (y : S512x2048.Idx) :
    (wSrc ![512 * p, 2048 * h] is).view.read (Elt F) (arg m c main_arg7) y = (wDst ![j, 0, 0] id).view.read (Elt F) (wsV m c p h) y := by
  have hd := drop_lead (n1 := 512) (n2 := 2048) (Shape.Squeezes.numel_eq squeezes_S1x512x2048_S512x2048) y
  show (arg m c main_arg7 : Vec F S4096x4096 .f32) ((Rect.unit (s := S4096x4096) ![512 * p, 2048 * h] S512x2048.size is).emb y)
    = wsV m c p h ((Rect.unit (s := S2x512x2048) ![j, 0, 0] S1x512x2048.size id).emb (Shape.reshapeEquiv _ y))
  generalize Shape.reshapeEquiv _ y = z at hd ⊢
  have f0 : ((Rect.unit (s := S4096x4096) ![512 * p, 2048 * h] S512x2048.size is).emb y 0).val = 512 * p + (y 0).val := unit_val (n0 := 4096) (n1 := 4096) y 0
  have f1 : ((Rect.unit (s := S4096x4096) ![512 * p, 2048 * h] S512x2048.size is).emb y 1).val = 2048 * h + (y 1).val := unit_val (n0 := 4096) (n1 := 4096) y 1
  have g1 : ((Rect.unit (s := S2x512x2048) ![j, 0, 0] S1x512x2048.size id).emb z 1).val = 0 + (z 1).val := unit_val3 (n0 := 2) (n1 := 512) (n2 := 2048) z 1
  have g2 : ((Rect.unit (s := S2x512x2048) ![j, 0, 0] S1x512x2048.size id).emb z 2).val = 0 + (z 2).val := unit_val3 (n0 := 2) (n1 := 512) (n2 := 2048) z 2
  generalize (Rect.unit (s := S4096x4096) ![512 * p, 2048 * h] S512x2048.size is).emb y = a at f0 f1 ⊢
  generalize (Rect.unit (s := S2x512x2048) ![j, 0, 0] S1x512x2048.size id).emb z = b at g1 g2 ⊢
  have a0 := lt2_0 (n0 := 4096) (n1 := 4096) a
  have a1 := lt2_1 (n0 := 4096) (n1 := 4096) a
  unfold wsV
  refine congrArg (arg m c main_arg7 : Vec F S4096x4096 .f32) (idx2_ext (n0 := 4096) (n1 := 4096) ?_ ?_)
  · rw [at2_val0]; omega
  · rw [at2_val1]; omega

/-- What a load of a slab reads. -/
theorem x_slab (c : Dev nD) (t j : ℕ) {i} (y : S1x256x4096.Idx) :
    ((Memref.whole cc0_scratch9).access (Rect.unit (s := S2x256x4096) ![j, 0, 0] S1x256x4096.size i)).read (Elt F) (xsV m c t) y = xchunkV m c t y := by
  show xsV m c t ((Rect.unit (s := S2x256x4096) ![j, 0, 0] S1x256x4096.size i).emb y) = _
  have g1 : ((Rect.unit (s := S2x256x4096) ![j, 0, 0] S1x256x4096.size i).emb y 1).val = 0 + (y 1).val := unit_val3 (n0 := 2) (n1 := 256) (n2 := 4096) y 1
  have g2 : ((Rect.unit (s := S2x256x4096) ![j, 0, 0] S1x256x4096.size i).emb y 2).val = 0 + (y 2).val := unit_val3 (n0 := 2) (n1 := 256) (n2 := 4096) y 2
  generalize (Rect.unit (s := S2x256x4096) ![j, 0, 0] S1x256x4096.size i).emb y = b at g1 g2 ⊢
  unfold xsV xchunkV
  rw [g1, g2, Nat.zero_add, Nat.zero_add]
theorem w_slab (c : Dev nD) (p h j : ℕ) {i} (y : S1x512x2048.Idx) :
    ((Memref.whole cc0_scratch5).access (Rect.unit (s := S2x512x2048) ![j, 0, 0] S1x512x2048.size i)).read (Elt F) (wsV m c p h) y = woV m c p h y := by
  show wsV m c p h ((Rect.unit (s := S2x512x2048) ![j, 0, 0] S1x512x2048.size i).emb y) = _
  have g1 : ((Rect.unit (s := S2x512x2048) ![j, 0, 0] S1x512x2048.size i).emb y 1).val = 0 + (y 1).val := unit_val3 (n0 := 2) (n1 := 512) (n2 := 2048) y 1
  have g2 : ((Rect.unit (s := S2x512x2048) ![j, 0, 0] S1x512x2048.size i).emb y 2).val = 0 + (y 2).val := unit_val3 (n0 := 2) (n1 := 512) (n2 := 2048) y 2
  generalize (Rect.unit (s := S2x512x2048) ![j, 0, 0] S1x512x2048.size i).emb y = b at g1 g2 ⊢
  unfold wsV woV
  rw [g1, g2, Nat.zero_add, Nat.zero_add]

/-- The two query weights' columns for the heads of `c`. -/
theorem wq_copy (c : Dev nD) {o : Fin 2 → ℕ} (ho : o = ![0, 512 * c.val]) {i : ∀ a, o a + S4096x512.size a ≤ S4096x4096.size a} (y : S4096x512.Idx) :
    ((Memref.whole main_arg4).slice (Rect.unit (s := S4096x4096) o S4096x512.size i) (fun _ => rfl)).view.read (Elt F) (arg m c main_arg4) y
      = (Memref.whole cc0_scratch6).view.read (Elt F) (wqV m c) y := by
  subst ho
  show (arg m c main_arg4 : Vec F S4096x4096 .f32) ((Rect.unit (s := S4096x4096) ![0, 512 * c.val] S4096x512.size i).emb y) = wqV m c y
  have f0 : ((Rect.unit (s := S4096x4096) ![0, 512 * c.val] S4096x512.size i).emb y 0).val = 0 + (y 0).val := unit_val (n0 := 4096) (n1 := 4096) y 0
  have f1 : ((Rect.unit (s := S4096x4096) ![0, 512 * c.val] S4096x512.size i).emb y 1).val = 512 * c.val + (y 1).val := unit_val (n0 := 4096) (n1 := 4096) y 1
  generalize (Rect.unit (s := S4096x4096) ![0, 512 * c.val] S4096x512.size i).emb y = a at f0 f1 ⊢
  have a0 := lt2_0 (n0 := 4096) (n1 := 4096) a
  have a1 := lt2_1 (n0 := 4096) (n1 := 4096) a
  unfold wqV
  refine congrArg (arg m c main_arg4 : Vec F S4096x4096 .f32) (idx2_ext (n0 := 4096) (n1 := 4096) ?_ ?_)
  · rw [at2_val0]; omega
  · rw [at2_val1]; omega
theorem wqr_copy (c : Dev nD) {o : Fin 2 → ℕ} (ho : o = ![0, 256 * c.val]) {i : ∀ a, o a + S4096x256.size a ≤ S4096x2048.size a} (y : S4096x256.Idx) :
    ((Memref.whole main_arg5).slice (Rect.unit (s := S4096x2048) o S4096x256.size i) (fun _ => rfl)).view.read (Elt F) (arg m c main_arg5) y
      = (Memref.whole cc0_scratch7).view.read (Elt F) (wqrV m c) y := by
  subst ho
  show (arg m c main_arg5 : Vec F S4096x2048 .f32) ((Rect.unit (s := S4096x2048) ![0, 256 * c.val] S4096x256.size i).emb y) = wqrV m c y
  have f0 : ((Rect.unit (s := S4096x2048) ![0, 256 * c.val] S4096x256.size i).emb y 0).val = 0 + (y 0).val := unit_val (n0 := 4096) (n1 := 2048) y 0
  have f1 : ((Rect.unit (s := S4096x2048) ![0, 256 * c.val] S4096x256.size i).emb y 1).val = 256 * c.val + (y 1).val := unit_val (n0 := 4096) (n1 := 2048) y 1
  generalize (Rect.unit (s := S4096x2048) ![0, 256 * c.val] S4096x256.size i).emb y = a at f0 f1 ⊢
  have a0 := lt2_0 (n0 := 4096) (n1 := 2048) a
  have a1 := lt2_1 (n0 := 4096) (n1 := 2048) a
  unfold wqrV
  refine congrArg (arg m c main_arg5 : Vec F S4096x2048 .f32) (idx2_ext (n0 := 4096) (n1 := 2048) ?_ ?_)
  · rw [at2_val0]; omega
  · rw [at2_val1]; omega

/-! ## The rows of the narrowed input and of the attention output -/

theorem xb_row (c : Dev nD) (t : ℕ) {i : ∀ a, (![256 * t, 0] : Fin 2 → ℕ) a + S256x4096.size a ≤ S1024x4096.size a} (y : S256x4096.Idx) :
    k0_pay5 (xchunkV m c t) y = xbV m c ((Rect.unit (s := S1024x4096) ![256 * t, 0] S256x4096.size i).emb y) := by
  have f0 : ((Rect.unit (s := S1024x4096) ![256 * t, 0] S256x4096.size i).emb y 0).val = 256 * t + (y 0).val := unit_val (n0 := 1024) (n1 := 4096) y 0
  have f1 : ((Rect.unit (s := S1024x4096) ![256 * t, 0] S256x4096.size i).emb y 1).val = 0 + (y 1).val := unit_val (n0 := 1024) (n1 := 4096) y 1
  have y0 := lt2_0 (n0 := 256) (n1 := 4096) y
  have y1 := lt2_1 (n0 := 256) (n1 := 4096) y
  generalize (Rect.unit (s := S1024x4096) ![256 * t, 0] S256x4096.size i).emb y = a at f0 f1 ⊢
  unfold xbV
  rw [show (a 0).val / 256 = t by omega]
  refine congrArg (k0_pay5 (xchunkV m c t)) (idx2_ext (n0 := 256) (n1 := 4096) ?_ ?_)
  · rw [at2_val0]; omega
  · rw [at2_val1]; omega

end Cert.Mla
-- ==== Proof.PartsA.lean ====
/-
# The program's parts: entry and the first local copies
-/
module

public import proofs.«01_k».proof.Proof.Local

@[expose] public section

noncomputable section

namespace Cert.Mla

open Cert.KernelIdeal Cert.KernelIdeal.Gen

open Idealize.ShloMosaic
open Idealize.ShloMosaic.TcCoe
open Idealize.ShloMosaic.RefSig (tileCredit)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop Flight Flight_mono)

variable {F : FTy → Type} [FloatOps F]

local notation "𝕄" => MT nD τ sig Unit (Elt F) ℕ UU ℕ

variable (m : (ℓ : Loc nD τ sig) → Buf (Elt F) ℓ) (K : Dev nD × Cl → ℕ)

/-- What the signal to the peer `j` places on needs. -/
abbrev SG (c : Dev nD) (j : Fin 8) : sProp 𝕄 := iprop(dutyTok ER (gc (pe c j) .bar) 0 c ∗ barPay (F := F) (pe c j) c)

/-- A local semaphore at zero. -/
abbrev LZ (c : Dev nD) (n : Fin 103) : sProp 𝕄 := semVal ((c : Thread nD τ), SemLoc.dma (n : DmaSem sig)) 0
/-- A whole buffer at contents `f`, and at some contents. -/
abbrev Wb (c : Dev nD) (b : Ref sig .tc) (f : Buf (Elt F) ((c : Thread nD τ).loc b)) : sProp 𝕄 := pts c b Finset.univ fullShare f
abbrev Any (c : Dev nD) (b : Ref sig .tc) : sProp 𝕄 := iprop(∃ f, pts (F := F) c b Finset.univ fullShare f)

/-- The end of a part. -/
theorem wp_end {c : Dev nD} {α : Type} (a : α) {Q : α → sProp 𝕄} : Q a ⊢ WP c (Prog.ret a : Prog (TpuEff nD τ sig (Elt F) Λ₀ .tc) α) Q := by
  unfold WP; rw [wp_ret]; iintro H; imodintro; iexact H

/-- A number that is the peer's, as a device. -/
theorem pe_of {n : ℕ} {h : n < nD} {c : Dev nD} (j : Fin 8) (e : n = (c.val + j.val) % 8) : (⟨n, h⟩ : Dev nD) = pe c j := Fin.ext e

theorem part1 (c : Dev nD) {Q} :
    Env m K ⊢ iprop(ow c 0 -∗ SG c 1 -∗ SG c 2 -∗ SG c 3 -∗ SG c 4 -∗ SG c 5
      -∗ (ow c 5 -∗ ∀ w, Q ⟨c, v2w c, SemArray.scalar (sig.barrier 0 rfl), w, 8#32⟩)
      -∗ WP c (At (k0_part1 (F := F))) Q) := by
  simp only [k0_part1_eq_skeleton]
  unfold k0_part1_skel
  simp only [semSignalWord, semWaitWord, Prog.lift, Prog.bind_op, Prog.bind_ret, Prog.pure_eq_ret, wp_deviceId, wp_ret]
  iintro #HE HO ⟨T1, P1⟩ ⟨T2, P2⟩ ⟨T3, P3⟩ ⟨T4, P4⟩ ⟨T5, P5⟩ Hk
  iapply (bar_signal m K c _ (pe c 1) (pe_of 1 (k0_dev1_eq c)) (pe_ne c 0) 0 rfl) $$ HE HO T1 P1; iintro HO
  iapply (bar_signal m K c _ (pe c 2) (pe_of 2 (k0_dev2_eq c)) (pe_ne c 1) 1 rfl) $$ HE HO T2 P2; iintro HO
  iapply (bar_signal m K c _ (pe c 3) (pe_of 3 (k0_dev3_eq c)) (pe_ne c 2) 2 rfl) $$ HE HO T3 P3; iintro HO
  iapply (bar_signal m K c _ (pe c 4) (pe_of 4 (k0_dev4_eq c)) (pe_ne c 3) 3 rfl) $$ HE HO T4 P4; iintro HO
  iapply (bar_signal m K c _ (pe c 5) (pe_of 5 (k0_dev5_eq c)) (pe_ne c 4) 4 rfl) $$ HE HO T5 P5; iintro HO
  iapply wp_end
  iapply Hk $$ HO

/-- The staging copies of the three down- and up-projection blocks and of the two query weights. -/
abbrev CW0 (c : Dev nD) : sProp 𝕄 := CopyIn c (100 : Fin 103) (tileCredit S4096x128 .f32) main_arg1 fullShare (arg m c main_arg1) cc0_scratch10 Finset.univ (arg m c main_arg1)
abbrev CW1 (c : Dev nD) : sProp 𝕄 := CopyIn c (101 : Fin 103) (tileCredit S128x4096 .f32) main_arg2 fullShare (arg m c main_arg2) cc0_scratch11 Finset.univ (arg m c main_arg2)
abbrev CW2 (c : Dev nD) : sProp 𝕄 := CopyIn c (102 : Fin 103) (tileCredit S128x4096 .f32) main_arg3 fullShare (arg m c main_arg3) cc0_scratch12 Finset.univ (arg m c main_arg3)
abbrev CQ0 (c : Dev nD) : sProp 𝕄 := CopyIn c (96 : Fin 103) (tileCredit S4096x512 .f32) main_arg4 fullShare (arg m c main_arg4) cc0_scratch6 Finset.univ (wqV m c)
abbrev CQ1 (c : Dev nD) : sProp 𝕄 := CopyIn c (97 : Fin 103) (tileCredit S4096x256 .f32) main_arg5 fullShare (arg m c main_arg5) cc0_scratch7 Finset.univ (wqrV m c)

theorem part2 (c : Dev nD) (v2 w w' : BitVec 32) {Q} :
    Env m K ⊢ iprop(ow c 5 -∗ SG c 6 -∗ SG c 7 -∗ atPos ER (gc c .bar) 0 ∅ 0 -∗ cred (tallyAt (gc c .bar) () 7)
      -∗ LZ c 100 -∗ LZ c 101 -∗ LZ c 102 -∗ LZ c 96 -∗ LZ c 97
      -∗ Wb c main_arg1 (arg m c main_arg1) -∗ Wb c main_arg2 (arg m c main_arg2) -∗ Wb c main_arg3 (arg m c main_arg3)
      -∗ Wb c main_arg4 (arg m c main_arg4) -∗ Wb c main_arg5 (arg m c main_arg5)
      -∗ Any c cc0_scratch10 -∗ Any c cc0_scratch11 -∗ Any c cc0_scratch12 -∗ Any c cc0_scratch6 -∗ Any c cc0_scratch7
      -∗ ((ow c 7 ∗ Z c .bar ∗ bigSep (Finset.univ.erase c) (barPay (F := F) c) ∗ CW0 m c ∗ CW1 m c ∗ CW2 m c ∗ CQ0 m c ∗ CQ1 m c) -∗ Q ⟨⟩)
      -∗ WP c (At (k0_part2 (F := F)) c v2 (SemArray.scalar (sig.barrier 0 rfl)) w w') Q) := by
  simp only [k0_part2_eq_skeleton]
  unfold k0_part2_skel
  simp only [semSignalWord, semWaitWord, Prog.lift, Prog.bind_op, Prog.bind_ret, Prog.pure_eq_ret, wp_deviceId, wp_ret]
  iintro #HE HO ⟨T6, P6⟩ ⟨T7, P7⟩ Hat Hc L0 L1 L2 L3 L4 A1 A2 A3 A4 A5 ⟨%f0, B0⟩ ⟨%f1, B1⟩ ⟨%f2, B2⟩ ⟨%f3, B3⟩ ⟨%f4, B4⟩ Hk
  iapply (bar_signal m K c _ (pe c 6) (pe_of 6 (k0_dev6_eq c)) (pe_ne c 5) 5 rfl) $$ HE HO T6 P6; iintro HO
  iapply (bar_signal m K c _ (pe c 7) (pe_of 7 (k0_dev7_eq c)) (pe_ne c 6) 6 rfl) $$ HE HO T7 P7; iintro HO
  iapply (bar_wait m K c) $$ HE HO Hat Hc; iintro ⟨HO, HZ, HB⟩
  iapply (copyin_start c (100 : Fin 103) (tileCredit S4096x128 .f32) (Memref.whole main_arg1) (Memref.whole cc0_scratch10) (by decide +kernel) rfl (by decide)
    (Sd := Finset.univ) (View.set_whole _) (arg m c main_arg1) (fun _ => rfl)) $$ A1 B0 L0; iintro C0
  iapply (copyin_start c (101 : Fin 103) (tileCredit S128x4096 .f32) (Memref.whole main_arg2) (Memref.whole cc0_scratch11) (by decide +kernel) rfl (by decide)
    (Sd := Finset.univ) (View.set_whole _) (arg m c main_arg2) (fun _ => rfl)) $$ A2 B1 L1; iintro C1
  iapply (copyin_start c (102 : Fin 103) (tileCredit S128x4096 .f32) (Memref.whole main_arg3) (Memref.whole cc0_scratch12) (by decide +kernel) rfl (by decide)
    (Sd := Finset.univ) (View.set_whole _) (arg m c main_arg3) (fun _ => rfl)) $$ A3 B2 L2; iintro C2
  iapply (copyin_start c (96 : Fin 103) (tileCredit S4096x512 .f32) ((Memref.whole main_arg4).slice (Rect.unit (s := S4096x4096) (k0_off1 c) S4096x512.size (k0_off1_inb c)) (fun _ => rfl)) (Memref.whole cc0_scratch6) (by decide +kernel) rfl (by decide)
    (Sd := Finset.univ) (View.set_whole _) (wqV m c) (wq_copy m c (k0_off1_eq c))) $$ A4 B3 L3; iintro C3
  iapply (copyin_start c (97 : Fin 103) (tileCredit S4096x256 .f32) ((Memref.whole main_arg5).slice (Rect.unit (s := S4096x2048) (k0_off2 c) S4096x256.size (k0_off2_inb c)) (fun _ => rfl)) (Memref.whole cc0_scratch7) (by decide +kernel) rfl (by decide)
    (Sd := Finset.univ) (View.set_whole _) (wqrV m c) (wqr_copy m c (k0_off2_eq c))) $$ A5 B4 L4; iintro C4
  iapply wp_end
  iapply Hk
  iframe

/-- The copy of batch `t` of the input, and of the output weight's rows for device `p`, into slab `j`, each lent its own share. -/
abbrev CX (c : Dev nD) (t j : ℕ) (n : Fin 103) : sProp 𝕄 := CopyIn c (n : DmaSem sig) (tileCredit S256x4096 .f32) main_arg0 (shareTokN fullShare j) (arg m c main_arg0)
  cc0_scratch9 (slab (n0 := 2) (n1 := 256) (n2 := 4096) j) (xsV m c t)
abbrev CWo (c : Dev nD) (p h j : ℕ) (n : Fin 103) : sProp 𝕄 := CopyIn c (n : DmaSem sig) (tileCredit S512x2048 .f32) main_arg7 (shareTokN fullShare j) (arg m c main_arg7)
  cc0_scratch5 (slab (n0 := 2) (n1 := 512) (n2 := 2048) j) (wsV m c p h)
/-- A slab at some contents, and the shares of the two sources. -/
abbrev XS (c : Dev nD) (j : ℕ) : sProp 𝕄 := iprop(∃ f, pts (F := F) c cc0_scratch9 (slab (n0 := 2) (n1 := 256) (n2 := 4096) j) fullShare f)
abbrev WS (c : Dev nD) (j : ℕ) : sProp 𝕄 := iprop(∃ f, pts (F := F) c cc0_scratch5 (slab (n0 := 2) (n1 := 512) (n2 := 2048) j) fullShare f)
abbrev XT (c : Dev nD) (j : ℕ) : sProp 𝕄 := pts c main_arg0 Finset.univ (shareTokN fullShare j) (arg m c main_arg0)
abbrev WT (c : Dev nD) (j : ℕ) : sProp 𝕄 := pts c main_arg7 Finset.univ (shareTokN fullShare j) (arg m c main_arg7)

theorem start_x (c : Dev nD) (t j : ℕ) (n : Fin 103) {sem : DmaSem sig} (hs : sem = (n : DmaSem sig)) {o o' : Fin 3 → ℕ} (ho : o = ![t, 0, 0]) (ho' : o' = ![j, 0, 0])
    {i i' hsrc hdst hsem} {α : Type} {Q : α → sProp 𝕄} {k : PUnit → Prog (TpuEff nD τ sig (Elt F) Λ₀ .tc) α} :
    XT m c j ⊢ iprop(XS c j -∗ LZ c n -∗ (CX m c t j n -∗ WP c (k ⟨⟩) Q)
      -∗ WP c (.op (.enqueueDma (xSrc o i) (.here (xDst o' i')) (.dma sem) hsrc hdst hsem) k) Q) := by
  subst ho ho'
  iintro H ⟨%fd, Hd⟩ Hz Hk
  have h := copyin_start c (n : DmaSem sig) (tileCredit S256x4096 .f32) (xSrc ![t, 0, 0] i) (xDst ![j, 0, 0] i') (sem := sem) (hsrc := hsrc) (hdst := hdst) (hsem := hsem) hs
    (q := shareTokN fullShare j) (f := arg m c main_arg0) rfl (by decide) (set_xDst j) (xsV m c t) (x_copy m c t j) (k := k) (Q := Q) (fd := fd)
  iapply h $$ H Hd Hz Hk

theorem start_wo (c : Dev nD) (p h j : ℕ) (n : Fin 103) {sem : DmaSem sig} (hs : sem = (n : DmaSem sig)) {o : Fin 2 → ℕ} {o' : Fin 3 → ℕ} (ho : o = ![512 * p, 2048 * h]) (ho' : o' = ![j, 0, 0])
    {i i' hsrc hdst hsem} {α : Type} {Q : α → sProp 𝕄} {k : PUnit → Prog (TpuEff nD τ sig (Elt F) Λ₀ .tc) α} :
    WT m c j ⊢ iprop(WS c j -∗ LZ c n -∗ (CWo m c p h j n -∗ WP c (k ⟨⟩) Q)
      -∗ WP c (.op (.enqueueDma (wSrc o i) (.here (wDst o' i')) (.dma sem) hsrc hdst hsem) k) Q) := by
  subst ho ho'
  iintro H ⟨%fd, Hd⟩ Hz Hk
  have h := copyin_start c (n : DmaSem sig) (tileCredit S512x2048 .f32) (wSrc ![512 * p, 2048 * h] i) (wDst ![j, 0, 0] i') (sem := sem) (hsrc := hsrc) (hdst := hdst) (hsem := hsem) hs
    (q := shareTokN fullShare j) (f := arg m c main_arg7) rfl (by decide) (set_wDst j) (wsV m c p h) (w_copy m c p h j) (k := k) (Q := Q) (fd := fd)
  iapply h $$ H Hd Hz Hk

/-- Loads of a slab. -/
theorem slab_sub {n0 n1 n2 j : ℕ} {b : Ref sig .tc} {i : ∀ a, (![j, 0, 0] : Fin 3 → ℕ) a + (![1, n1, n2] : Fin 3 → ℕ) a ≤ (⟨3, ![n0, n1, n2]⟩ : Shape).size a} :
    (Rect.unit (s := ⟨3, ![n0, n1, n2]⟩) ![j, 0, 0] ![1, n1, n2] i).set ⊆ slab j := by rw [unit_slab]

theorem get_x (c : Dev nD) (t j : ℕ) {o : Fin 3 → ℕ} (ho : o = ![j, 0, 0]) {i hl} {α : Type} {Q : α → sProp 𝕄}
    {k : Vec F S1x256x4096 .f32 → Prog (TpuEff nD τ sig (Elt F) Λ₀ .tc) α} :
    pts c cc0_scratch9 (slab (n0 := 2) (n1 := 256) (n2 := 4096) j) fullShare (xsV m c t)
      ⊢ iprop((pts c cc0_scratch9 (slab (n0 := 2) (n1 := 256) (n2 := 4096) j) fullShare (xsV m c t) -∗ WP c (k (xchunkV m c t)) Q)
        -∗ WP c (.op (.load (Memref.whole cc0_scratch9) (Rect.unit (s := S2x256x4096) o S1x256x4096.size i).toLoadRect hl) k) Q) := by
  subst ho
  have h := get c (Memref.whole cc0_scratch9) (r := Rect.unit (s := S2x256x4096) ![j, 0, 0] S1x256x4096.size i) (hl := hl) (q := fullShare) (Finset.Subset.trans ((View.set_slice_whole cc0_scratch9 _).subset) (slab_sub (n0 := 2) (n1 := 256) (n2 := 4096) (b := cc0_scratch9)))
    (xchunkV m c t) (x_slab m c t j) (k := k) (Q := Q)
  exact h
theorem get_wo (c : Dev nD) (p h j : ℕ) {o : Fin 3 → ℕ} (ho : o = ![j, 0, 0]) {i hl} {α : Type} {Q : α → sProp 𝕄}
    {k : Vec F S1x512x2048 .f32 → Prog (TpuEff nD τ sig (Elt F) Λ₀ .tc) α} :
    pts c cc0_scratch5 (slab (n0 := 2) (n1 := 512) (n2 := 2048) j) fullShare (wsV m c p h)
      ⊢ iprop((pts c cc0_scratch5 (slab (n0 := 2) (n1 := 512) (n2 := 2048) j) fullShare (wsV m c p h) -∗ WP c (k (woV m c p h)) Q)
        -∗ WP c (.op (.load (Memref.whole cc0_scratch5) (Rect.unit (s := S2x512x2048) o S1x512x2048.size i).toLoadRect hl) k) Q) := by
  subst ho
  have h := get c (Memref.whole cc0_scratch5) (r := Rect.unit (s := S2x512x2048) ![j, 0, 0] S1x512x2048.size i) (hl := hl) (q := fullShare) (Finset.Subset.trans ((View.set_slice_whole cc0_scratch5 _).subset) (slab_sub (n0 := 2) (n1 := 512) (n2 := 2048) (b := cc0_scratch5)))
    (woV m c p h) (w_slab m c p h j) (k := k) (Q := Q)
  exact h

theorem zero2 : (![0, 0] : Fin 2 → ℕ) = fun _ => 0 := by funext a; fin_cases a <;> rfl

/-- A load of a whole two-axis buffer. -/
theorem get_whole (c : Dev nD) {cs : CoreSpace} {s : Shape} {e : EltTy} (M : Memref sig .tc cs s e) {r : Rect s} {hl : M.view.LoadsAt r.toLoadRect}
    {q : PosShare TreeShare} {f : Buf (Elt F) (M.view.loc (c : Thread nD τ))} (v : r.shape.Idx → Elt F e) (hv : M.view.readAt (Elt F) r.toLoadRect f = v)
    {α : Type} {Q : α → sProp 𝕄} {k : (r.shape.Idx → Elt F e) → Prog (TpuEff nD τ sig (Elt F) Λ₀ .tc) α} :
    pts c M.view.ref Finset.univ q f
      ⊢ iprop((pts c M.view.ref Finset.univ q f -∗ WP c (k v) Q) -∗ WP c (.op (.load M r.toLoadRect hl) k) Q) := by
  have h := get c M (r := r) (hl := hl) (q := q) (f := f) (Finset.subset_univ _) v (fun y => congrFun hv y) (k := k) (Q := Q)
  exact h

theorem part3 (c : Dev nD) (v2 : BitVec 32) {Q} :
    Env m K ⊢ iprop(ow c 7 -∗ WT m c 0 -∗ WT m c 1 -∗ XT m c 0 -∗ XT m c 1 -∗ WS c 0 -∗ WS c 1 -∗ XS c 0 -∗ XS c 1 -∗ LZ c 94 -∗ LZ c 95 -∗ LZ c 98 -∗ LZ c 99
      -∗ CW0 m c
      -∗ ((ow c 7 ∗ CWo m c ((c.val + 0) % 8) 0 0 94 ∗ CWo m c ((c.val + 1) % 8) 0 1 95 ∗ CX m c 0 0 98 ∗ CX m c 1 1 99 ∗ LZ c 100
        ∗ Wb c cc0_scratch10 (arg m c main_arg1) ∗ Wb c main_arg1 (arg m c main_arg1)) -∗ Q (k0_pay1 (arg m c main_arg1)))
      -∗ WP c (At (k0_part3 (F := F)) c v2) Q) := by
  simp only [k0_part3_eq_skeleton]
  unfold k0_part3_skel
  simp only [Prog.lift, Prog.bind_op, Prog.bind_ret, Prog.pure_eq_ret]
  iintro #HE HO W0 W1 X0 X1 S0 S1 T0 T1 L0 L1 L2 L3 C0 Hk
  iapply (start_wo m c ((c.val + 0) % 8) 0 0 94 (by decide +kernel) (k0_off3_eq c 0) rfl) $$ W0 S0 L0; iintro D0
  iapply (start_wo m c ((c.val + 1) % 8) 0 1 95 (by decide +kernel) (k0_off3_eq c 1) rfl) $$ W1 S1 L1; iintro D1
  iapply (start_x m c 0 0 98 (by decide +kernel) rfl rfl) $$ X0 T0 L2; iintro D2
  iapply (start_x m c 1 1 99 (by decide +kernel) rfl rfl) $$ X1 T1 L3; iintro D3
  iapply (copyin_wait m K c 7 (100 : Fin 103) (by decide +kernel) (by decide) (N := tileCredit S4096x128 .f32) rfl) $$ HE HO C0
  iintro ⟨HO, L4, B, A⟩
  iapply (get_whole c (Memref.whole cc0_scratch10) (arg m c main_arg1) (Memref.readAt_unit_zero (Elt F) cc0_scratch10 zero2 _ _)) $$ B; iintro B
  iapply wp_end
  iapply Hk
  iframe

end Cert.Mla
-- ==== Proof.PartsB.lean ====
/-
# The program's parts: the sends of weights and cache columns, and the narrowing of the input
-/
module

public import proofs.«01_k».proof.Proof.PartsA

@[expose] public section

noncomputable section

namespace Cert.Mla

open Cert.KernelIdeal Cert.KernelIdeal.Gen

open Idealize.ShloMosaic
open Idealize.ShloMosaic.TcCoe
open Idealize.ShloMosaic.RefSig (tileCredit)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop Flight Flight_mono)

variable {F : FTy → Type} [FloatOps F]

local notation "𝕄" => MT nD τ sig Unit (Elt F) ℕ UU ℕ

variable (m : (ℓ : Loc nD τ sig) → Buf (Elt F) ℓ) (K : Dev nD × Cl → ℕ)

/-! ## More loads and stores -/

theorem peek (c : Dev nD) {cs : CoreSpace} {s : Shape} {e : EltTy} (M : Memref sig .tc cs s e) {r : Rect s} {hl : M.view.LoadsAt r.toLoadRect}
    {D : Finset (Idx (M.view.loc (c : Thread nD τ)))} {q : PosShare TreeShare} (hD : (M.access r).set ⊆ D)
    {α : Type} {Q : α → sProp 𝕄} {k : (r.shape.Idx → Elt F e) → Prog (TpuEff nD τ sig (Elt F) Λ₀ .tc) α} :
    iprop(∃ f, pts c M.view.ref D q f)
      ⊢ iprop((∀ v, (∃ f, pts c M.view.ref D q f) -∗ WP c (k v) Q) -∗ WP c (.op (.load M r.toLoadRect hl) k) Q) := by
  iintro ⟨%f, H⟩ Hk
  iapply (wp_load_rect 𝒱₀ (c : Thread nD τ) none Set.univ (m := M) (r := r) hD) $$ H
  iintro H
  iapply Hk
  iexists f
  iexact H

theorem put1 (c : Dev nD) {cs : CoreSpace} {s : Shape} {e : EltTy} (M : Memref sig .tc cs s e) {r : Rect s} {w : r.shape.Idx → Elt F e}
    {hx : (M.access r).Stores Finset.univ} {hm : (Finset.univ : Finset r.shape.Idx) = Finset.univ ∨ ∀ a, r.stride a = 1}
    {D : Finset (Idx (M.view.loc (c : Thread nD τ)))} (hD : (M.access r).set = D) (G : Buf (Elt F) (M.view.loc (c : Thread nD τ)))
    (hG : ∀ y, w y = (M.access r).read (Elt F) G y)
    {α : Type} {Q : α → sProp 𝕄} {k : PUnit → Prog (TpuEff nD τ sig (Elt F) Λ₀ .tc) α} :
    iprop(∃ f, pts c M.view.ref D fullShare f)
      ⊢ iprop((pts c M.view.ref D fullShare G -∗ WP c (k ⟨⟩) Q) -∗ WP c (.op (.store M r w Finset.univ hx hm) k) Q) := by
  subst hD
  iintro ⟨%f, H⟩ Hk
  iapply (wp_store 𝒱₀ (c : Thread nD τ) none Set.univ (m := M) (r := r) (Mk := Finset.univ) (S := (M.access r).set) (Finset.Subset.refl _)) $$ H
  iintro H
  iapply Hk
  iapply (Entails.of_eq (pointsTo_congr (fun i hi => by
    unfold View.set at hi
    obtain ⟨y, -, rfl⟩ := Finset.mem_map.1 hi
    rw [View.write_emb_of_mem (v := M.access r) (Val := Elt F) _ _ (Finset.mem_univ y), hG y, View.read_apply]
    exact cast_cast _ _ _ |>.trans (cast_eq _ _)))) $$ H

/-- A whole buffer stored, its old contents loaded before and not used. -/
theorem put_whole (c : Dev nD) {cs : CoreSpace} {s : Shape} {e : EltTy} (M : Memref sig .tc cs s e) {r : Rect s} {w : r.shape.Idx → Elt F e}
    {hl : M.view.LoadsAt r.toLoadRect} {hx : (M.access r).Stores Finset.univ} {hm : (Finset.univ : Finset r.shape.Idx) = Finset.univ ∨ ∀ a, r.stride a = 1}
    {G : Buf (Elt F) (M.view.loc (c : Thread nD τ))} (hG : ∀ f, (M.access r).write (Elt F) f w Finset.univ = G)
    {α : Type} {Q : α → sProp 𝕄} {k : PUnit → Prog (TpuEff nD τ sig (Elt F) Λ₀ .tc) α} :
    iprop(∃ f, pts c M.view.ref Finset.univ fullShare f)
      ⊢ iprop((pts c M.view.ref Finset.univ fullShare G -∗ WP c (k ⟨⟩) Q)
        -∗ WP c (.op (.load M r.toLoadRect hl) (fun _ => .op (.store M r w Finset.univ hx hm) k)) Q) := by
  iintro ⟨%f, H⟩ Hk
  iapply (wp_load_rect 𝒱₀ (c : Thread nD τ) none Set.univ (m := M) (r := r) (Finset.subset_univ _)) $$ H
  iintro H
  iapply (wp_store 𝒱₀ (c : Thread nD τ) none Set.univ (m := M) (r := r) (Mk := Finset.univ) (Finset.subset_univ _)) $$ H
  iintro H
  iapply Hk
  iapply (Entails.of_eq (congrArg (fun g => pts c M.view.ref Finset.univ fullShare g) (hG f))) $$ H

/-! ## Blocks of a buffer by peer -/

theorem sep8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A buffer's points-to by a classification of its elements in eight. -/
theorem split8 (c : Dev nD) (b : Ref sig .tc) (q : PosShare TreeShare) (f : Buf (Elt F) ((c : Thread nD τ).loc b)) (g : Idx ((c : Thread nD τ).loc b) → Fin 8)
    (P : Fin 8 → Finset (Idx ((c : Thread nD τ).loc b))) (hP : ∀ j i, i ∈ P j ↔ g i = j) :
    pts c b Finset.univ q f = bigSep Finset.univ (fun j : Fin 8 => pts (F := F) c b (P j) q f) := by
  classical
  have h := pointsTo_biUnion (ℓ := (c : Thread nD τ).loc b) (Ix := Unit) (Name := ℕ) (U := UU) (Lvl := ℕ) (q := q) (f := f) Finset.univ P
    (fun t _ t' _ hne => Finset.disjoint_left.2 fun i h h' => hne (((hP t i).1 h).symm.trans ((hP t' i).1 h')))
  have e : (Finset.univ : Finset (Fin 8)).biUnion P = Finset.univ :=
    Finset.eq_univ_iff_forall.2 fun i => Finset.mem_biUnion.2 ⟨g i, Finset.mem_univ _, (hP (g i) i).2 rfl⟩
  rw [e] at h
  exact h

theorem pe_sub (c p : Dev nD) (j : Fin 8) : p = pe c j ↔ p - c = j := by revert c p j; decide +kernel

theorem mem_colB {n0 n1 w p : ℕ} (i : (⟨2, ![n0, n1]⟩ : Shape).Idx) : i ∈ colB (n0 := n0) (n1 := n1) w p ↔ (i 1).val / w = p := by
  unfold colB; rw [Finset.mem_filter]; exact and_iff_right (Finset.mem_univ _)
theorem mem_rowB {n0 n1 w p : ℕ} (i : (⟨2, ![n0, n1]⟩ : Shape).Idx) : i ∈ rowB (n0 := n0) (n1 := n1) w p ↔ (i 0).val / w = p := by
  unfold rowB; rw [Finset.mem_filter]; exact and_iff_right (Finset.mem_univ _)
theorem mem_boxB {n0 n1 w p w' q : ℕ} (i : (⟨2, ![n0, n1]⟩ : Shape).Idx) : i ∈ boxB (n0 := n0) (n1 := n1) w p w' q ↔ (i 0).val / w = p ∧ (i 1).val / w' = q := by
  unfold boxB; rw [Finset.mem_filter]; exact and_iff_right (Finset.mem_univ _)

/-- Blocks by peer: number `n / w` of eight is that of the peer `j` places on exactly for one `j`. -/
theorem blk_iff (c : Dev nD) (n w : ℕ) (h : n < 8 * w) (j : Fin 8) : n / w = (pe c j).val ↔ (Fin.ofNat 8 (n / w) : Fin 8) - c = j := by
  rw [← pe_sub]
  have hl : n / w < 8 := Nat.div_lt_of_lt_mul (by rw [Nat.mul_comm]; exact h)
  constructor
  · intro e; apply Fin.ext; show n / w % 8 = _; rw [Nat.mod_eq_of_lt hl]; exact e
  · intro e; have := congrArg Fin.val e; rw [← this]; show n / w = n / w % 8; rw [Nat.mod_eq_of_lt hl]

theorem split14 (c : Dev nD) (f : Buf (Elt F) ((c : Thread nD τ).loc cc0_scratch14)) :
    Wb c cc0_scratch14 f = bigSep Finset.univ (fun j : Fin 8 => pts (F := F) c cc0_scratch14 (colB (n0 := 128) (n1 := 4096) 512 (pe c j).val) fullShare f) :=
  split8 c cc0_scratch14 fullShare f (fun i => (Fin.ofNat 8 (((i : S128x4096.Idx) 1).val / 512) : Fin 8) - c) _
    (fun j i => (mem_colB (n0 := 128) (n1 := 4096) i).trans (blk_iff c _ 512 (lt2_1 (n0 := 128) (n1 := 4096) i) j))
theorem split15 (c : Dev nD) (f : Buf (Elt F) ((c : Thread nD τ).loc cc0_scratch15)) :
    Wb c cc0_scratch15 f = bigSep Finset.univ (fun j : Fin 8 => pts (F := F) c cc0_scratch15 (colB (n0 := 128) (n1 := 4096) 512 (pe c j).val) fullShare f) :=
  split8 c cc0_scratch15 fullShare f (fun i => (Fin.ofNat 8 (((i : S128x4096.Idx) 1).val / 512) : Fin 8) - c) _
    (fun j i => (mem_colB (n0 := 128) (n1 := 4096) i).trans (blk_iff c _ 512 (lt2_1 (n0 := 128) (n1 := 4096) i) j))

/-- Columns of the peer `j` places on, of the two narrowed up-projection blocks. -/
abbrev C14 (c : Dev nD) (j : Fin 8) : sProp 𝕄 := pts c cc0_scratch14 (colB (n0 := 128) (n1 := 4096) 512 (pe c j).val) fullShare (wukV m c)
abbrev C15 (c : Dev nD) (j : Fin 8) : sProp 𝕄 := pts c cc0_scratch15 (colB (n0 := 128) (n1 := 4096) 512 (pe c j).val) fullShare (wuvV m c)

/-- What a transfer of the first three families to the peer `j` places on needs beside its source, and leaves. -/
abbrev PK (c : Dev nD) (t : Fin 3) (j : Fin 8) : sProp 𝕄 := iprop(SK c (.w t (pe c j)) ∗ rFree (F := F) (pe c j) (.w t c))
abbrev PC (c : Dev nD) (t : Fin 3) (j : Fin 8) : sProp 𝕄 := SC c (.w t (pe c j))

theorem sw0 (c : Dev nD) (r : Fin 7) (j : Fin 8) (hj : j = r.succ) (no : ℕ) (hob : (obl c)[no]? = some (pe c j, .r (.w 0 c))) {n : ℕ} {hn : n < nD} (e : n = (c.val + j.val) % 8)
    {i7 i6 i4 i5 hsc hsrc hdst hsem} {α : Type} {Q : α → sProp 𝕄} {k : PUnit → Prog (TpuEff nD τ sig (Elt F) Λ₀ .tc) α} :
    Env m K ⊢ iprop(ow c no -∗ PK c 0 j -∗ C14 m c j -∗ ((ow c (no + 1) ∗ PC c 0 j) -∗ WP c (k ⟨⟩) Q)
      -∗ WP c (.op (.enqueueDma (sl14 (k0_off7 c (BitVec.ofNat 32 (1 + r.val))) i7) (.remote (Dev.tc (⟨n, hn⟩ : Dev nD) : Thread nD τ) (sl1 (k0_off6 c) i6)
          (.dma (sem38 cc0_scratch16 (k0_off4 c (BitVec.ofNat 32 (1 + r.val))) i4)) hsc)
        (.dma (sem38 cc0_scratch17 (k0_off5 c) i5)) hsrc hdst hsem) k) Q) := by
  subst hj
  iintro #HE HO ⟨H1, H2⟩ H3 Hk
  have h := send_w0 m K c (pe c r.succ) (pe_ne c r) no hob (n := ⟨n, hn⟩) (pe_of r.succ e) (off7_at c r) (k0_off6_eq c) (off4_at c r) (k0_off5_eq c)
    (i7 := i7) (i6 := i6) (i4 := i4) (i5 := i5) (hsc := hsc) (hsrc := hsrc) (hdst := hdst) (hsem := hsem) (k := k) (Q := Q)
  rw [show sPay m c (.w 0 (pe c r.succ)) = C14 m c r.succ from rfl] at h
  iapply h $$ HE HO H1 H3 H2 Hk

theorem sw1 (c : Dev nD) (r : Fin 7) (j : Fin 8) (hj : j = r.succ) (no : ℕ) (hob : (obl c)[no]? = some (pe c j, .r (.w 1 c))) {n : ℕ} {hn : n < nD} (e : n = (c.val + j.val) % 8)
    {i7 i6 i4 i5 hsc hsrc hdst hsem} {α : Type} {Q : α → sProp 𝕄} {k : PUnit → Prog (TpuEff nD τ sig (Elt F) Λ₀ .tc) α} :
    Env m K ⊢ iprop(ow c no -∗ PK c 1 j -∗ C15 m c j -∗ ((ow c (no + 1) ∗ PC c 1 j) -∗ WP c (k ⟨⟩) Q)
      -∗ WP c (.op (.enqueueDma (sl15 (k0_off7 c (BitVec.ofNat 32 (1 + r.val))) i7) (.remote (Dev.tc (⟨n, hn⟩ : Dev nD) : Thread nD τ) (sl2 (k0_off6 c) i6)
          (.dma (sem38 cc0_scratch16 (k0_off8 c (BitVec.ofNat 32 (1 + r.val))) i4)) hsc)
        (.dma (sem38 cc0_scratch17 (k0_off9 c) i5)) hsrc hdst hsem) k) Q) := by
  subst hj
  iintro #HE HO ⟨H1, H2⟩ H3 Hk
  have h := send_w1 m K c (pe c r.succ) (pe_ne c r) no hob (n := ⟨n, hn⟩) (pe_of r.succ e) (off7_at c r) (k0_off6_eq c) (off8_at c r) (k0_off9_eq c)
    (i7 := i7) (i6 := i6) (i4 := i4) (i5 := i5) (hsc := hsc) (hsrc := hsrc) (hdst := hdst) (hsem := hsem) (k := k) (Q := Q)
  rw [show sPay m c (.w 1 (pe c r.succ)) = C15 m c r.succ from rfl] at h
  iapply h $$ HE HO H1 H3 H2 Hk

/-- The own columns of the compressed cache, lent to the transfer to the peer `j` places on. -/
abbrev C0 (c : Dev nD) (j : Fin 8) : sProp 𝕄 := pts c cc0_scratch0 (colB (n0 := 1024) (n1 := 1024) 128 c.val) (shareTokN fullShare (pe c j).val) (callV m)

theorem sw2 (c : Dev nD) (r : Fin 7) (j : Fin 8) (hj : j = r.succ) (no : ℕ) (hob : (obl c)[no]? = some (pe c j, .r (.w 2 c))) {n : ℕ} {hn : n < nD} (e : n = (c.val + j.val) % 8)
    {i7 i6 i4 i5 hsc hsrc hdst hsem} {α : Type} {Q : α → sProp 𝕄} {k : PUnit → Prog (TpuEff nD τ sig (Elt F) Λ₀ .tc) α} :
    Env m K ⊢ iprop(ow c no -∗ PK c 2 j -∗ C0 m c j -∗ ((ow c (no + 1) ∗ PC c 2 j) -∗ WP c (k ⟨⟩) Q)
      -∗ WP c (.op (.enqueueDma (sl0 (k0_off13 c) i7) (.remote (Dev.tc (⟨n, hn⟩ : Dev nD) : Thread nD τ) (sl0 (k0_off13 c) i6)
          (.dma (sem38 cc0_scratch16 (k0_off11 c (BitVec.ofNat 32 (1 + r.val))) i4)) hsc)
        (.dma (sem38 cc0_scratch17 (k0_off12 c) i5)) hsrc hdst hsem) k) Q) := by
  subst hj
  iintro #HE HO ⟨H1, H2⟩ H3 Hk
  have h := send_w2 m K c (pe c r.succ) (pe_ne c r) no hob (n := ⟨n, hn⟩) (pe_of r.succ e) (k0_off13_eq c) (off11_at c r) (k0_off12_eq c)
    (i7 := i7) (i6 := i6) (i4 := i4) (i5 := i5) (hsc := hsc) (hsrc := hsrc) (hdst := hdst) (hsem := hsem) (k := k) (Q := Q)
  rw [show sPay m c (.w 2 (pe c r.succ)) = C0 m c r.succ from rfl] at h
  iapply h $$ HE HO H1 H3 H2 Hk

/-! ## The parts -/

theorem part4 (c : Dev nD) (v2 : BitVec 32) {Q} :
    Env m K ⊢ iprop(ow c 7 -∗ Any c cc0_scratch13 -∗ Any c cc0_scratch14 -∗ Any c cc0_scratch15 -∗ CW1 m c -∗ CW2 m c -∗ PK c 0 1
      -∗ (∀ w, (ow c 8 ∗ Wb c cc0_scratch13 (wdkvV m c) ∗ C14 m c 0 ∗ C14 m c 2 ∗ C14 m c 3 ∗ C14 m c 4 ∗ C14 m c 5 ∗ C14 m c 6 ∗ C14 m c 7
          ∗ Wb c cc0_scratch15 (wuvV m c) ∗ PC c 0 1 ∗ LZ c 101 ∗ LZ c 102 ∗ Wb c cc0_scratch11 (arg m c main_arg2) ∗ Wb c cc0_scratch12 (arg m c main_arg3)
          ∗ Wb c main_arg2 (arg m c main_arg2) ∗ Wb c main_arg3 (arg m c main_arg3)) -∗ Q w)
      -∗ WP c (At (k0_part4 (F := F)) c v2 (k0_pay1 (arg m c main_arg1))) Q) := by
  simp only [k0_part4_eq_skeleton]
  unfold k0_part4_skel
  simp only [Prog.lift, Prog.bind_op, Prog.bind_ret, Prog.pure_eq_ret]
  iintro #HE HO B13 B14 B15 W1 W2 P1 Hk
  iapply (put_whole c (Memref.whole cc0_scratch13) (fun f => Memref.write_access_unit_zero_univ (Elt F) cc0_scratch13 zero2 _ f _)) $$ B13; iintro B13
  ihave B13 := (Entails.of_eq (show Wb c cc0_scratch13 (k0_pay2 (k0_pay1 (arg m c main_arg1))) = Wb c cc0_scratch13 (wdkvV m c) from rfl)) $$ B13
  iapply (copyin_wait m K c 7 (101 : Fin 103) (by decide +kernel) (by decide) (N := tileCredit S128x4096 .f32) rfl) $$ HE HO W1
  iintro ⟨HO, L1, B11, A2⟩
  iapply (get_whole c (Memref.whole cc0_scratch11) (arg m c main_arg2) (Memref.readAt_unit_zero (Elt F) cc0_scratch11 zero2 _ _)) $$ B11; iintro B11
  iapply (put_whole c (Memref.whole cc0_scratch14) (fun f => Memref.write_access_unit_zero_univ (Elt F) cc0_scratch14 zero2 _ f _)) $$ B14; iintro B14
  ihave B14 := (Entails.of_eq (show Wb c cc0_scratch14 (k0_pay3 (arg m c main_arg2)) = Wb c cc0_scratch14 (wukV m c) from rfl)) $$ B14
  iapply (copyin_wait m K c 7 (102 : Fin 103) (by decide +kernel) (by decide) (N := tileCredit S128x4096 .f32) rfl) $$ HE HO W2
  iintro ⟨HO, L2, B12, A3⟩
  iapply (get_whole c (Memref.whole cc0_scratch12) (arg m c main_arg3) (Memref.readAt_unit_zero (Elt F) cc0_scratch12 zero2 _ _)) $$ B12; iintro B12
  iapply (put_whole c (Memref.whole cc0_scratch15) (fun f => Memref.write_access_unit_zero_univ (Elt F) cc0_scratch15 zero2 _ f _)) $$ B15; iintro B15
  ihave B15 := (Entails.of_eq (show Wb c cc0_scratch15 (k0_pay4 (arg m c main_arg3)) = Wb c cc0_scratch15 (wuvV m c) from rfl)) $$ B15
  ihave B14 := (Entails.of_eq ((split14 c (wukV m c)).trans (sep8 _))) $$ B14
  icases B14 with ⟨S0, S1, S2, S3, S4, S5, S6, S7⟩
  iapply (sw0 m K c 0 1 rfl 7 rfl (k0_dev8_eq c)) $$ HE HO P1 S1; iintro ⟨HO, P1⟩
  iapply wp_end
  iapply Hk
  iframe

theorem part5 (c : Dev nD) (v2 v96 : BitVec 32) {Q} :
    Env m K ⊢ iprop(ow c 8 -∗ PK c 1 1 -∗ PK c 0 2 -∗ PK c 1 2 -∗ C15 m c 1 -∗ C14 m c 2 -∗ C15 m c 2 -∗ (∀ w, (ow c 11 ∗ PC c 1 1 ∗ PC c 0 2 ∗ PC c 1 2) -∗ Q w) -∗ WP c (At (k0_part5 (F := F)) c v2 v96) Q) := by
  simp only [k0_part5_eq_skeleton]
  unfold k0_part5_skel
  simp only [Prog.lift, Prog.bind_op, Prog.bind_ret, Prog.pure_eq_ret]
  iintro #HE HO P11 P02 P12 S11 S02 S12 Hk
  iapply (sw1 m K c 0 1 rfl 8 rfl (k0_dev9_eq c)) $$ HE HO P11 S11; iintro ⟨HO, P11⟩
  iapply (sw0 m K c 1 2 rfl 9 rfl (k0_dev10_eq c)) $$ HE HO P02 S02; iintro ⟨HO, P02⟩
  iapply (sw1 m K c 1 2 rfl 10 rfl (k0_dev11_eq c)) $$ HE HO P12 S12; iintro ⟨HO, P12⟩
  iapply wp_end
  iapply Hk
  iframe

theorem part6 (c : Dev nD) (v2 v140 : BitVec 32) {Q} :
    Env m K ⊢ iprop(ow c 11 -∗ PK c 0 3 -∗ PK c 1 3 -∗ C14 m c 3 -∗ C15 m c 3 -∗ (∀ w, (ow c 13 ∗ PC c 0 3 ∗ PC c 1 3) -∗ Q w) -∗ WP c (At (k0_part6 (F := F)) c v2 v140) Q) := by
  simp only [k0_part6_eq_skeleton]
  unfold k0_part6_skel
  simp only [Prog.lift, Prog.bind_op, Prog.bind_ret, Prog.pure_eq_ret]
  iintro #HE HO P03 P13 S03 S13 Hk
  iapply (sw0 m K c 2 3 rfl 11 rfl (k0_dev12_eq c)) $$ HE HO P03 S03; iintro ⟨HO, P03⟩
  iapply (sw1 m K c 2 3 rfl 12 rfl (k0_dev13_eq c)) $$ HE HO P13 S13; iintro ⟨HO, P13⟩
  iapply wp_end
  iapply Hk
  iframe

theorem part7 (c : Dev nD) (v2 v162 : BitVec 32) {Q} :
    Env m K ⊢ iprop(ow c 13 -∗ PK c 0 4 -∗ PK c 1 4 -∗ PK c 0 5 -∗ C14 m c 4 -∗ C15 m c 4 -∗ C14 m c 5 -∗ ((ow c 16 ∗ PC c 0 4 ∗ PC c 1 4 ∗ PC c 0 5) -∗ Q ⟨⟩) -∗ WP c (At (k0_part7 (F := F)) c v2 v162) Q) := by
  simp only [k0_part7_eq_skeleton]
  unfold k0_part7_skel
  simp only [Prog.lift, Prog.bind_op, Prog.bind_ret, Prog.pure_eq_ret]
  iintro #HE HO P04 P14 P05 S04 S14 S05 Hk
  iapply (sw0 m K c 3 4 rfl 13 rfl (k0_dev14_eq c)) $$ HE HO P04 S04; iintro ⟨HO, P04⟩
  iapply (sw1 m K c 3 4 rfl 14 rfl (k0_dev15_eq c)) $$ HE HO P14 S14; iintro ⟨HO, P14⟩
  iapply (sw0 m K c 4 5 rfl 15 rfl (k0_dev16_eq c)) $$ HE HO P05 S05; iintro ⟨HO, P05⟩
  iapply wp_end
  iapply Hk
  iframe

theorem part8 (c : Dev nD) (v2 : BitVec 32) {Q} :
    Env m K ⊢ iprop(ow c 16 -∗ PK c 1 5 -∗ PK c 0 6 -∗ PK c 1 6 -∗ C15 m c 5 -∗ C14 m c 6 -∗ C15 m c 6 -∗ (∀ w, (ow c 19 ∗ PC c 1 5 ∗ PC c 0 6 ∗ PC c 1 6) -∗ Q w) -∗ WP c (At (k0_part8 (F := F)) c v2) Q) := by
  simp only [k0_part8_eq_skeleton]
  unfold k0_part8_skel
  simp only [Prog.lift, Prog.bind_op, Prog.bind_ret, Prog.pure_eq_ret]
  iintro #HE HO P15 P06 P16 S15 S06 S16 Hk
  iapply (sw1 m K c 4 5 rfl 16 rfl (k0_dev17_eq c)) $$ HE HO P15 S15; iintro ⟨HO, P15⟩
  iapply (sw0 m K c 5 6 rfl 17 rfl (k0_dev18_eq c)) $$ HE HO P06 S06; iintro ⟨HO, P06⟩
  iapply (sw1 m K c 5 6 rfl 18 rfl (k0_dev19_eq c)) $$ HE HO P16 S16; iintro ⟨HO, P16⟩
  iapply wp_end
  iapply Hk
  iframe

theorem part12 (c : Dev nD) (v2 v319 w : BitVec 32) {Q} :
    Env m K ⊢ iprop(ow c 21 -∗ PK c 2 1 -∗ PK c 2 2 -∗ C0 m c 1 -∗ C0 m c 2 -∗ ((ow c 23 ∗ PC c 2 1 ∗ PC c 2 2) -∗ Q ⟨⟩) -∗ WP c (At (k0_part12 (F := F)) c v2 v319 w) Q) := by
  simp only [k0_part12_eq_skeleton]
  unfold k0_part12_skel
  simp only [Prog.lift, Prog.bind_op, Prog.bind_ret, Prog.pure_eq_ret]
  iintro #HE HO P21 P22 S21 S22 Hk
  iapply (sw2 m K c 0 1 rfl 21 rfl (k0_dev22_eq c)) $$ HE HO P21 S21; iintro ⟨HO, P21⟩
  iapply (sw2 m K c 1 2 rfl 22 rfl (k0_dev23_eq c)) $$ HE HO P22 S22; iintro ⟨HO, P22⟩
  iapply wp_end
  iapply Hk
  iframe

theorem part13 (c : Dev nD) (v2 : BitVec 32) {Q} :
    Env m K ⊢ iprop(ow c 23 -∗ PK c 2 3 -∗ PK c 2 4 -∗ PK c 2 5 -∗ C0 m c 3 -∗ C0 m c 4 -∗ C0 m c 5 -∗ (∀ w, (ow c 26 ∗ PC c 2 3 ∗ PC c 2 4 ∗ PC c 2 5) -∗ Q w) -∗ WP c (At (k0_part13 (F := F)) c v2) Q) := by
  simp only [k0_part13_eq_skeleton]
  unfold k0_part13_skel
  simp only [Prog.lift, Prog.bind_op, Prog.bind_ret, Prog.pure_eq_ret]
  iintro #HE HO P23 P24 P25 S23 S24 S25 Hk
  iapply (sw2 m K c 2 3 rfl 23 rfl (k0_dev24_eq c)) $$ HE HO P23 S23; iintro ⟨HO, P23⟩
  iapply (sw2 m K c 3 4 rfl 24 rfl (k0_dev25_eq c)) $$ HE HO P24 S24; iintro ⟨HO, P24⟩
  iapply (sw2 m K c 4 5 rfl 25 rfl (k0_dev26_eq c)) $$ HE HO P25 S25; iintro ⟨HO, P25⟩
  iapply wp_end
  iapply Hk
  iframe

/-- The input's narrowed rows: the batches landed so far. -/
abbrev XF (c : Dev nD) (S : Finset (Idx ((c : Thread nD τ).loc cc0_scratch8))) : sProp 𝕄 := Fill c cc0_scratch8 Finset.univ S (xbV m c)

theorem put_x (c : Dev nD) (t : ℕ) {o : Fin 2 → ℕ} (ho : o = ![256 * t, 0]) {S : Finset (Idx ((c : Thread nD τ).loc cc0_scratch8))}
    {w : Vec F S256x4096 .bf16} (hw : w = k0_pay5 (xchunkV m c t)) {i hl hx hm} {α : Type} {Q : α → sProp 𝕄} {k : PUnit → Prog (TpuEff nD τ sig (Elt F) Λ₀ .tc) α} :
    XF m c S ⊢ iprop((XF m c (S ∪ rowB (n0 := 1024) (n1 := 4096) 256 t) -∗ WP c (k ⟨⟩) Q)
      -∗ WP c (.op (.load (Memref.whole cc0_scratch8) (Rect.unit (s := S1024x4096) o S256x4096.size i).toLoadRect hl)
        (fun _ => .op (.store (Memref.whole cc0_scratch8) (Rect.unit (s := S1024x4096) o S256x4096.size i) w Finset.univ hx hm) k)) Q) := by
  subst ho hw
  have h := put c (Memref.whole cc0_scratch8) (r := Rect.unit (s := S1024x4096) ![256 * t, 0] S256x4096.size i) (w := k0_pay5 (xchunkV m c t)) (hl := hl) (hx := hx) (hm := hm)
    (D := Finset.univ) (S := S) (V := xbV m c) (Finset.subset_univ _) (fun y => xb_row m c t y) (k := k) (Q := Q)
  have e : ((Memref.whole cc0_scratch8).access (Rect.unit (s := S1024x4096) ![256 * t, 0] S256x4096.size i)).set = rowB (n0 := 1024) (n1 := 4096) 256 t := by
    rw [← unit_row (n0 := 1024) (n1 := 4096) (w := 256) (p := t) (by decide) (inb := i)]; exact View.set_slice_whole _ _
  rw [e] at h
  exact h

theorem part9 (c : Dev nD) (v2 v228 : BitVec 32) {Q} :
    Env m K ⊢ iprop(ow c 19 -∗ PK c 0 7 -∗ PK c 1 7 -∗ C14 m c 7 -∗ C15 m c 7 -∗ CX m c 0 0 98 -∗ XF m c ∅
      -∗ ((ow c 21 ∗ PC c 0 7 ∗ PC c 1 7 ∗ LZ c 98 ∗ pts c cc0_scratch9 (slab (n0 := 2) (n1 := 256) (n2 := 4096) 0) fullShare (xsV m c 0) ∗ XT m c 0
          ∗ XF m c (∅ ∪ rowB (n0 := 1024) (n1 := 4096) 256 0)) -∗ Q ⟨⟩) -∗ WP c (At (k0_part9 (F := F)) c v2 v228) Q) := by
  simp only [k0_part9_eq_skeleton]
  unfold k0_part9_skel
  simp only [Prog.lift, Prog.bind_op, Prog.bind_ret, Prog.pure_eq_ret]
  iintro #HE HO P07 P17 S07 S17 HX HF Hk
  iapply (sw0 m K c 6 7 rfl 19 rfl (k0_dev20_eq c)) $$ HE HO P07 S07; iintro ⟨HO, P07⟩
  iapply (sw1 m K c 6 7 rfl 20 rfl (k0_dev21_eq c)) $$ HE HO P17 S17; iintro ⟨HO, P17⟩
  iapply (copyin_wait m K c 21 (98 : Fin 103) (by decide +kernel) (by decide) (N := tileCredit S256x4096 .f32) rfl) $$ HE HO HX
  iintro ⟨HO, L, HB, HA⟩
  iapply (get_x m c 0 0 rfl) $$ HB; iintro HB
  iapply (put_x m c 0 rfl rfl) $$ HF; iintro HF
  iapply wp_end
  iapply Hk
  iframe

theorem part10 (c : Dev nD) {Q} (S : Finset (Idx ((c : Thread nD τ).loc cc0_scratch8))) :
    Env m K ⊢ iprop(ow c 21 -∗ LZ c 98 -∗ pts c cc0_scratch9 (slab (n0 := 2) (n1 := 256) (n2 := 4096) 0) fullShare (xsV m c 0) -∗ XT m c 0 -∗ CX m c 1 1 99 -∗ XF m c S
      -∗ ((ow c 21 ∗ LZ c 98 ∗ pts c cc0_scratch9 (slab (n0 := 2) (n1 := 256) (n2 := 4096) 0) fullShare (xsV m c 2) ∗ XT m c 0 ∗ CX m c 3 1 99
          ∗ XF m c (S ∪ rowB (n0 := 1024) (n1 := 4096) 256 1)) -∗ Q ⟨⟩) -∗ WP c (At (k0_part10 (F := F))) Q) := by
  simp only [k0_part10_eq_skeleton]
  unfold k0_part10_skel
  simp only [Prog.lift, Prog.bind_op, Prog.bind_ret, Prog.pure_eq_ret]
  iintro #HE HO L HB HA HX HF Hk
  iapply (start_x m c 2 0 (98 : Fin 103) (by decide +kernel) rfl rfl) $$ HA [HB] L
  · iexists _; iexact HB
  iintro HY
  iapply (copyin_wait m K c 21 (99 : Fin 103) (by decide +kernel) (by decide) (N := tileCredit S256x4096 .f32) rfl) $$ HE HO HX
  iintro ⟨HO, L, HB, HA⟩
  iapply (get_x m c 1 1 rfl) $$ HB; iintro HB
  iapply (put_x m c 1 rfl rfl) $$ HF; iintro HF
  iapply (start_x m c 3 1 (99 : Fin 103) (by decide +kernel) rfl rfl) $$ HA [HB] L
  · iexists _; iexact HB
  iintro HX
  iapply (copyin_wait m K c 21 (98 : Fin 103) (by decide +kernel) (by decide) (N := tileCredit S256x4096 .f32) rfl) $$ HE HO HY
  iintro ⟨HO, L, HB, HA⟩
  iapply wp_end
  iapply Hk
  iframe

theorem rows_all (i : S1024x4096.Idx) : i ∈ (((((∅ : Finset S1024x4096.Idx) ∪ rowB (n0 := 1024) (n1 := 4096) 256 0) ∪ rowB (n0 := 1024) (n1 := 4096) 256 1) ∪ rowB (n0 := 1024) (n1 := 4096) 256 2) ∪ rowB (n0 := 1024) (n1 := 4096) 256 3) := by
  have h : (i 0).val < 1024 := (i 0).isLt
  simp only [Finset.mem_union, mem_rowB]
  omega

/-- A block stored, its old contents loaded before and not used. -/
theorem put_block (c : Dev nD) {cs : CoreSpace} {s : Shape} {e : EltTy} (M : Memref sig .tc cs s e) {r : Rect s} {w : r.shape.Idx → Elt F e}
    {hl : M.view.LoadsAt r.toLoadRect} {hx : (M.access r).Stores Finset.univ} {hm : (Finset.univ : Finset r.shape.Idx) = Finset.univ ∨ ∀ a, r.stride a = 1}
    {D : Finset (Idx (M.view.loc (c : Thread nD τ)))} (hD : (M.access r).set = D) (G : Buf (Elt F) (M.view.loc (c : Thread nD τ)))
    (hG : ∀ y, w y = (M.access r).read (Elt F) G y)
    {α : Type} {Q : α → sProp 𝕄} {k : PUnit → Prog (TpuEff nD τ sig (Elt F) Λ₀ .tc) α} :
    iprop(∃ f, pts c M.view.ref D fullShare f)
      ⊢ iprop((pts c M.view.ref D fullShare G -∗ WP c (k ⟨⟩) Q)
        -∗ WP c (.op (.load M r.toLoadRect hl) (fun _ => .op (.store M r w Finset.univ hx hm) k)) Q) := by
  iintro H Hk
  iapply (peek c M (r := r) hD.subset) $$ H
  iintro %v H
  iapply (put1 c M (r := r) hD G hG) $$ H Hk

theorem dev_blk (c : Dev nD) {n : ℕ} (h : n / 128 = c.val) : (Fin.ofNat nD (n / 128) : Dev nD) = c := by
  apply Fin.ext; show n / 128 % 8 = c.val; have : c.val < 8 := c.isLt; omega

theorem c_col (c : Dev nD) (i : ∀ a, (![0, 128 * c.val] : Fin 2 → ℕ) a + S1024x128.size a ≤ S1024x1024.size a) (y : S1024x128.Idx) :
    k0_pay9 (xbV m c) (wdkvV m c) y = callV m ((Rect.unit (s := S1024x1024) ![0, 128 * c.val] S1024x128.size i).emb y) := by
  have e0 : ((Rect.unit (s := S1024x1024) ![0, 128 * c.val] S1024x128.size i).emb y 0).val = 0 + (y 0).val := unit_val (n0 := 1024) (n1 := 1024) y 0
  have e1 : ((Rect.unit (s := S1024x1024) ![0, 128 * c.val] S1024x128.size i).emb y 1).val = 128 * c.val + (y 1).val := unit_val (n0 := 1024) (n1 := 1024) y 1
  have y0 := lt2_0 (n0 := 1024) (n1 := 128) y
  have y1 := lt2_1 (n0 := 1024) (n1 := 128) y
  generalize (Rect.unit (s := S1024x1024) ![0, 128 * c.val] S1024x128.size i).emb y = a at e0 e1 ⊢
  unfold callV
  rw [dev_blk c (n := (a 1).val) (by omega)]
  refine congrArg (k0_pay9 (xbV m c) (wdkvV m c)) (idx2_ext (n0 := 1024) (n1 := 128) ?_ ?_)
  · rw [at2_val0]; omega
  · rw [at2_val1]; omega

theorem put_c (c : Dev nD) {o : Fin 2 → ℕ} (ho : o = ![0, 128 * c.val]) {i hl hx hm} {α : Type} {Q : α → sProp 𝕄} {k : PUnit → Prog (TpuEff nD τ sig (Elt F) Λ₀ .tc) α} :
    iprop(∃ f, pts c cc0_scratch0 (colB (n0 := 1024) (n1 := 1024) 128 c.val) fullShare f)
      ⊢ iprop((pts c cc0_scratch0 (colB (n0 := 1024) (n1 := 1024) 128 c.val) fullShare (callV m) -∗ WP c (k ⟨⟩) Q)
      -∗ WP c (.op (.load (Memref.whole cc0_scratch0) (Rect.unit (s := S1024x1024) o S1024x128.size i).toLoadRect hl)
        (fun _ => .op (.store (Memref.whole cc0_scratch0) (Rect.unit (s := S1024x1024) o S1024x128.size i) (k0_pay9 (xbV m c) (wdkvV m c)) Finset.univ hx hm) k)) Q) := by
  subst ho
  have e : ((Memref.whole cc0_scratch0).access (Rect.unit (s := S1024x1024) ![0, 128 * c.val] S1024x128.size i)).set = colB (n0 := 1024) (n1 := 1024) 128 c.val := by
    rw [← unit_col (n0 := 1024) (n1 := 1024) (w := 128) (p := c.val) (by decide) (inb := i)]; exact View.set_slice_whole _ _
  have h := put_block c (Memref.whole cc0_scratch0) (r := Rect.unit (s := S1024x1024) ![0, 128 * c.val] S1024x128.size i) (w := k0_pay9 (xbV m c) (wdkvV m c)) (hl := hl) (hx := hx) (hm := hm)
    (D := colB (n0 := 1024) (n1 := 1024) 128 c.val) e (callV m) (fun y => c_col m c i y) (k := k) (Q := Q)
  exact h

theorem part11 (c : Dev nD) (v2 : BitVec 32) {Q} :
    Env m K ⊢ iprop(ow c 21 -∗ pts c cc0_scratch9 (slab (n0 := 2) (n1 := 256) (n2 := 4096) 0) fullShare (xsV m c 2) -∗ CX m c 3 1 99
      -∗ XF m c ((∅ ∪ rowB (n0 := 1024) (n1 := 4096) 256 0) ∪ rowB (n0 := 1024) (n1 := 4096) 256 1) -∗ Wb c cc0_scratch13 (wdkvV m c)
      -∗ (∃ f, pts c cc0_scratch0 (colB (n0 := 1024) (n1 := 1024) 128 c.val) fullShare f)
      -∗ (∀ w, (ow c 21 ∗ LZ c 99 ∗ XS c 0 ∗ XS c 1 ∗ XT m c 1 ∗ Wb c cc0_scratch8 (xbV m c) ∗ Wb c cc0_scratch13 (wdkvV m c)
          ∗ pts c cc0_scratch0 (colB (n0 := 1024) (n1 := 1024) 128 c.val) fullShare (callV m)) -∗ Q ⟨xbV m c, w, 128#32⟩)
      -∗ WP c (At (k0_part11 (F := F)) c v2) Q) := by
  simp only [k0_part11_eq_skeleton]
  unfold k0_part11_skel
  simp only [Prog.lift, Prog.bind_op, Prog.bind_ret, Prog.pure_eq_ret]
  iintro #HE HO HB HX HF B13 HC Hk
  iapply (get_x m c 2 0 rfl) $$ HB; iintro HB
  iapply (put_x m c 2 rfl rfl) $$ HF; iintro HF
  iapply (copyin_wait m K c 21 (99 : Fin 103) (by decide +kernel) (by decide) (N := tileCredit S256x4096 .f32) rfl) $$ HE HO HX
  iintro ⟨HO, L, HD, HA⟩
  iapply (get_x m c 3 1 rfl) $$ HD; iintro HD
  iapply (put_x m c 3 rfl rfl) $$ HF; iintro HF
  ihave HF := (Fill_done c cc0_scratch8 (xbV m c) (fun i _ => rows_all i)) $$ HF
  iapply (get_whole c (Memref.whole cc0_scratch8) (xbV m c) (Memref.readAt_unit_zero (Elt F) cc0_scratch8 zero2 _ _)) $$ HF; iintro HF
  iapply (get_whole c (Memref.whole cc0_scratch13) (wdkvV m c) (Memref.readAt_unit_zero (Elt F) cc0_scratch13 zero2 _ _)) $$ B13; iintro B13
  iapply (put_c m c (k0_off10_eq c)) $$ HC; iintro HC
  iapply wp_end
  iapply Hk
  iframe
  isplitl [HB]
  · iexists _; iexact HB
  · iexists _; iexact HD

/-- The own rows of the two gathered up-projections, taken from the own columns. -/
theorem w_land' (W : Dev nD → Vec F S128x4096 .bf16) (c : Dev nD) {o7 o6 : Fin 2 → ℕ} (h7 : o7 = ![0, 512 * c.val]) (h6 : o6 = ![128 * c.val, 0])
    {i7 : ∀ a, o7 a + S128x512.size a ≤ S128x4096.size a} {i6 : ∀ a, o6 a + S128x512.size a ≤ S1024x512.size a} (y : S128x512.Idx) :
    W c ((Rect.unit (s := S128x4096) o7 S128x512.size i7).emb y)
      = (fun i : S1024x512.Idx => W (Fin.ofNat nD ((i 0).val / 128)) (at2 128 4096 (i 0).val (512 * c.val + (i 1).val)))
          ((Rect.unit (s := S1024x512) o6 S128x512.size i6).emb y) := by
  subst h7 h6; exact w_land W c c y

theorem unit_row' {n0 n1 w p : ℕ} (hw : 0 < w) {o : Fin 2 → ℕ} (ho : o = ![w * p, 0]) {inb : ∀ a, o a + (![w, n1] : Fin 2 → ℕ) a ≤ (⟨2, ![n0, n1]⟩ : Shape).size a} :
    (Rect.unit (s := ⟨2, ![n0, n1]⟩) o ![w, n1] inb).set = rowB w p := by subst ho; exact unit_row hw
theorem unit_col' {n0 n1 w p : ℕ} (hw : 0 < w) {o : Fin 2 → ℕ} (ho : o = ![0, w * p]) {inb : ∀ a, o a + (![n0, w] : Fin 2 → ℕ) a ≤ (⟨2, ![n0, n1]⟩ : Shape).size a} :
    (Rect.unit (s := ⟨2, ![n0, n1]⟩) o ![n0, w] inb).set = colB w p := by subst ho; exact unit_col hw
theorem pe_zero (c : Dev nD) : pe c 0 = c := by revert c; decide +kernel

/-- The own columns of a narrowed up-projection block. -/
def ownV (W : Vec F S128x4096 .bf16) (c : Dev nD) : Vec F S128x512 .bf16 :=
  fun y => W ((Rect.unit (s := S128x4096) (k0_off14 c) S128x512.size (k0_off14_inb c)).emb y)

theorem cast_self {s : Shape} {α : Type} (v : s.Idx → α) (h : s.ShapeCasts s) (y : s.Idx) : shapeCast s v h y = v y := by
  simp only [shapeCast, Shape.reshapeEquiv_self]
theorem pay10_eq (v : Vec F S128x512 .bf16) (y : S128x512.Idx) : k0_pay10 v y = v y := cast_self v _ y
theorem pay11_eq (v : Vec F S128x512 .bf16) (y : S128x512.Idx) : k0_pay11 v y = v y := cast_self v _ y

theorem get_14 (c : Dev nD) {hl} {α : Type} {Q : α → sProp 𝕄} {k : Vec F S128x512 .bf16 → Prog (TpuEff nD τ sig (Elt F) Λ₀ .tc) α} :
    C14 m c 0 ⊢ iprop((C14 m c 0 -∗ WP c (k (ownV (wukV m c) c)) Q)
      -∗ WP c (.op (.load (Memref.whole cc0_scratch14) (Rect.unit (s := S128x4096) (k0_off14 c) S128x512.size (k0_off14_inb c)).toLoadRect hl) k) Q) := by
  have e : ((Memref.whole cc0_scratch14).access (Rect.unit (s := S128x4096) (k0_off14 c) S128x512.size (k0_off14_inb c))).set ⊆ colB (n0 := 128) (n1 := 4096) 512 (pe c 0).val := by
    rw [pe_zero, ← unit_col' (n0 := 128) (n1 := 4096) (w := 512) (p := c.val) (by decide) (k0_off14_eq c) (inb := k0_off14_inb c)]; exact (View.set_slice_whole _ _).subset
  have h := get c (Memref.whole cc0_scratch14) (r := Rect.unit (s := S128x4096) (k0_off14 c) S128x512.size (k0_off14_inb c)) (hl := hl) (q := fullShare) (f := wukV m c) e
    (ownV (wukV m c) c) (fun y => rfl) (k := k) (Q := Q)
  exact h
theorem get_15 (c : Dev nD) {hl} {α : Type} {Q : α → sProp 𝕄} {k : Vec F S128x512 .bf16 → Prog (TpuEff nD τ sig (Elt F) Λ₀ .tc) α} :
    C15 m c 0 ⊢ iprop((C15 m c 0 -∗ WP c (k (ownV (wuvV m c) c)) Q)
      -∗ WP c (.op (.load (Memref.whole cc0_scratch15) (Rect.unit (s := S128x4096) (k0_off14 c) S128x512.size (k0_off14_inb c)).toLoadRect hl) k) Q) := by
  have e : ((Memref.whole cc0_scratch15).access (Rect.unit (s := S128x4096) (k0_off14 c) S128x512.size (k0_off14_inb c))).set ⊆ colB (n0 := 128) (n1 := 4096) 512 (pe c 0).val := by
    rw [pe_zero, ← unit_col' (n0 := 128) (n1 := 4096) (w := 512) (p := c.val) (by decide) (k0_off14_eq c) (inb := k0_off14_inb c)]; exact (View.set_slice_whole _ _).subset
  have h := get c (Memref.whole cc0_scratch15) (r := Rect.unit (s := S128x4096) (k0_off14 c) S128x512.size (k0_off14_inb c)) (hl := hl) (q := fullShare) (f := wuvV m c) e
    (ownV (wuvV m c) c) (fun y => rfl) (k := k) (Q := Q)
  exact h

/-- Rows of a gathered up-projection that come from device `p`, contents not tracked. -/
abbrev Rw (c : Dev nD) (b : Ref sig .tc) (S : Finset (Idx ((c : Thread nD τ).loc b))) : sProp 𝕄 := iprop(∃ f, pts (F := F) c b S fullShare f)

theorem set_1 (c : Dev nD) {i : ∀ a, k0_off15 c a + S128x512.size a ≤ S1024x512.size a} :
    (Rect.unit (s := S1024x512) (k0_off15 c) S128x512.size i).set = rowB (n0 := 1024) (n1 := 512) 128 c.val := by
  exact unit_row' (n0 := 1024) (n1 := 512) (w := 128) (p := c.val) (by decide) (k0_off15_eq c)

theorem put_1 (c : Dev nD) {i hl hx hm} {α : Type} {Q : α → sProp 𝕄} {k : PUnit → Prog (TpuEff nD τ sig (Elt F) Λ₀ .tc) α} :
    Rw (F := F) c cc0_scratch1 (rowB (n0 := 1024) (n1 := 512) 128 c.val)
      ⊢ iprop((pts c cc0_scratch1 (rowB (n0 := 1024) (n1 := 512) 128 c.val) fullShare (wukcV m c) -∗ WP c (k ⟨⟩) Q)
      -∗ WP c (.op (.load (Memref.whole cc0_scratch1) (Rect.unit (s := S1024x512) (k0_off15 c) S128x512.size i).toLoadRect hl)
        (fun _ => .op (.store (Memref.whole cc0_scratch1) (Rect.unit (s := S1024x512) (k0_off15 c) S128x512.size i) (k0_pay10 (ownV (wukV m c) c)) Finset.univ hx hm) k)) Q) := by
  have h := put_block c (Memref.whole cc0_scratch1) (r := Rect.unit (s := S1024x512) (k0_off15 c) S128x512.size i) (w := k0_pay10 (ownV (wukV m c) c)) (hl := hl) (hx := hx) (hm := hm)
    (D := rowB (n0 := 1024) (n1 := 512) 128 c.val) ((View.set_slice_whole _ _).trans (set_1 c)) (wukcV m c)
    (fun y => (pay10_eq _ y).trans (w_land' (wukV m) c (k0_off14_eq c) (k0_off15_eq c) y)) (k := k) (Q := Q)
  exact h

theorem peek_2 (c : Dev nD) {i hl} {α : Type} {Q : α → sProp 𝕄} {k : Vec F S128x512 .bf16 → Prog (TpuEff nD τ sig (Elt F) Λ₀ .tc) α} :
    Rw (F := F) c cc0_scratch2 (rowB (n0 := 1024) (n1 := 512) 128 c.val)
      ⊢ iprop((∀ v, Rw (F := F) c cc0_scratch2 (rowB (n0 := 1024) (n1 := 512) 128 c.val) -∗ WP c (k v) Q)
      -∗ WP c (.op (.load (Memref.whole cc0_scratch2) (Rect.unit (s := S1024x512) (k0_off15 c) S128x512.size i).toLoadRect hl) k) Q) := by
  have h := peek c (Memref.whole cc0_scratch2) (r := Rect.unit (s := S1024x512) (k0_off15 c) S128x512.size i) (hl := hl)
    (D := rowB (n0 := 1024) (n1 := 512) 128 c.val) (q := fullShare) ((View.set_slice_whole _ _).trans (set_1 c)).subset (k := k) (Q := Q)
  exact h

theorem put_2 (c : Dev nD) {i hx hm} {α : Type} {Q : α → sProp 𝕄} {k : PUnit → Prog (TpuEff nD τ sig (Elt F) Λ₀ .tc) α} :
    Rw (F := F) c cc0_scratch2 (rowB (n0 := 1024) (n1 := 512) 128 c.val)
      ⊢ iprop((pts c cc0_scratch2 (rowB (n0 := 1024) (n1 := 512) 128 c.val) fullShare (wuvcV m c) -∗ WP c (k ⟨⟩) Q)
      -∗ WP c (.op (.store (Memref.whole cc0_scratch2) (Rect.unit (s := S1024x512) (k0_off15 c) S128x512.size i) (k0_pay11 (ownV (wuvV m c) c)) Finset.univ hx hm) k) Q) := by
  have h := put1 c (Memref.whole cc0_scratch2) (r := Rect.unit (s := S1024x512) (k0_off15 c) S128x512.size i) (w := k0_pay11 (ownV (wuvV m c) c)) (hx := hx) (hm := hm)
    (D := rowB (n0 := 1024) (n1 := 512) 128 c.val) ((View.set_slice_whole _ _).trans (set_1 c)) (wuvcV m c)
    (fun y => (pay11_eq _ y).trans (w_land' (wuvV m) c (k0_off14_eq c) (k0_off15_eq c) y)) (k := k) (Q := Q)
  exact h

theorem part14 (c : Dev nD) (v2 v379 : BitVec 32) {Q} :
    Env m K ⊢ iprop(ow c 26 -∗ PK c 2 6 -∗ PK c 2 7 -∗ C0 m c 6 -∗ C0 m c 7 -∗ C14 m c 0 -∗ C15 m c 0
      -∗ Rw c cc0_scratch1 (rowB (n0 := 1024) (n1 := 512) 128 c.val) -∗ Rw c cc0_scratch2 (rowB (n0 := 1024) (n1 := 512) 128 c.val)
      -∗ ((ow c 28 ∗ PC c 2 6 ∗ PC c 2 7 ∗ C14 m c 0 ∗ C15 m c 0 ∗ pts c cc0_scratch1 (rowB (n0 := 1024) (n1 := 512) 128 c.val) fullShare (wukcV m c)
          ∗ Rw c cc0_scratch2 (rowB (n0 := 1024) (n1 := 512) 128 c.val)) -∗ Q (ownV (wuvV m c) c))
      -∗ WP c (At (k0_part14 (F := F)) c v2 v379) Q) := by
  simp only [k0_part14_eq_skeleton]
  unfold k0_part14_skel
  simp only [Prog.lift, Prog.bind_op, Prog.bind_ret, Prog.pure_eq_ret]
  iintro #HE HO P26 P27 S26 S27 HA HB H1 H2 Hk
  iapply (sw2 m K c 5 6 rfl 26 rfl (k0_dev27_eq c)) $$ HE HO P26 S26; iintro ⟨HO, P26⟩
  iapply (sw2 m K c 6 7 rfl 27 rfl (k0_dev28_eq c)) $$ HE HO P27 S27; iintro ⟨HO, P27⟩
  iapply (get_14 m c) $$ HA; iintro HA
  iapply (put_1 m c) $$ H1; iintro H1
  iapply (get_15 m c) $$ HB; iintro HB
  iapply (peek_2 c) $$ H2; iintro %v H2
  iapply wp_end
  iapply Hk
  iframe

end Cert.Mla
-- ==== Proof.PartsC.lean ====
/-
# The program's parts: the receives of weights and cache columns
-/
module

public import proofs.«01_k».proof.Proof.PartsB

@[expose] public section

noncomputable section

namespace Cert.Mla

open Cert.KernelIdeal Cert.KernelIdeal.Gen

open Idealize.ShloMosaic
open Idealize.ShloMosaic.TcCoe
open Idealize.ShloMosaic.RefSig (tileCredit)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop Flight Flight_mono)

variable {F : FTy → Type} [FloatOps F]

local notation "𝕄" => MT nD τ sig Unit (Elt F) ℕ UU ℕ

variable (m : (ℓ : Loc nD τ sig) → Buf (Elt F) ℓ) (K : Dev nD × Cl → ℕ)

/-! ## A receive of the first three families -/

/-- What a receive from the peer `j` places on needs, and leaves. -/
abbrev RW (c : Dev nD) (t : Fin 3) (j : Fin 8) : sProp 𝕄 := RK c (.w t (pe c j))
abbrev ZW (c : Dev nD) (t : Fin 3) (j : Fin 8) : sProp 𝕄 := Z c (.r (.w t (pe c j)))
abbrev G1 (c : Dev nD) (j : Fin 8) : sProp 𝕄 := pts c cc0_scratch1 (rowB (n0 := 1024) (n1 := 512) 128 (pe c j).val) fullShare (wukcV m c)
abbrev G2 (c : Dev nD) (j : Fin 8) : sProp 𝕄 := pts c cc0_scratch2 (rowB (n0 := 1024) (n1 := 512) 128 (pe c j).val) fullShare (wuvcV m c)
abbrev G0 (c : Dev nD) (j : Fin 8) : sProp 𝕄 := pts c cc0_scratch0 (colB (n0 := 1024) (n1 := 1024) 128 (pe c j).val) fullShare (callV m)

theorem sem_at (t : Fin 3) (p : Dev nD) {o : Fin 2 → ℕ} (h : o = ![t.val, p.val]) {i} : sem38 cc0_scratch17 o i = rS (.w t p) := by subst h; exact sem_w_r t p

theorem rw0 (c : Dev nD) (r : Fin 7) (j : Fin 8) (hj : j = r.succ) {i sp sp' : _} {s' : Shape} {e' : EltTy} {srcw : Memref sig .tc sp' s' e'} {dstw : Memref sig .tc sp S128x512 .bf16} {h1 h2}
    {α : Type} {Q : α → sProp 𝕄} {k : PUnit → Prog (TpuEff nD τ sig (Elt F) Λ₀ .tc) α} :
    Env m K ⊢ iprop(ow c 28 -∗ RW c 0 j -∗ ((ow c 28 ∗ ZW c 0 j ∗ G1 m c j) -∗ WP c (k ⟨⟩) Q)
      -∗ WP c (.op (.waitDma2 (sem38 cc0_scratch17 (k0_off4 c (BitVec.ofNat 32 (1 + r.val))) i) srcw dstw h1 h2) k) Q) := by
  subst hj
  have h := recv_wait m K c (.w 0 (pe c r.succ)) (pe_ne c r) 28 (show ∀ v ∈ oblLv.drop 28, 2 < v by decide) (sem_at 0 (pe c r.succ) (off4_at c r) (i := i)) (srcw := srcw) (dstw := dstw) (h1 := h1) (h2 := h2) amt_1 (Q := Q) (k := k)
  exact h
theorem rw1 (c : Dev nD) (r : Fin 7) (j : Fin 8) (hj : j = r.succ) {i sp sp' : _} {s' : Shape} {e' : EltTy} {srcw : Memref sig .tc sp' s' e'} {dstw : Memref sig .tc sp S128x512 .bf16} {h1 h2}
    {α : Type} {Q : α → sProp 𝕄} {k : PUnit → Prog (TpuEff nD τ sig (Elt F) Λ₀ .tc) α} :
    Env m K ⊢ iprop(ow c 28 -∗ RW c 1 j -∗ ((ow c 28 ∗ ZW c 1 j ∗ G2 m c j) -∗ WP c (k ⟨⟩) Q)
      -∗ WP c (.op (.waitDma2 (sem38 cc0_scratch17 (k0_off8 c (BitVec.ofNat 32 (1 + r.val))) i) srcw dstw h1 h2) k) Q) := by
  subst hj
  have h := recv_wait m K c (.w 1 (pe c r.succ)) (pe_ne c r) 28 (show ∀ v ∈ oblLv.drop 28, 2 < v by decide) (sem_at 1 (pe c r.succ) (off8_at c r) (i := i)) (srcw := srcw) (dstw := dstw) (h1 := h1) (h2 := h2) amt_1 (Q := Q) (k := k)
  exact h
theorem rw2 (c : Dev nD) (r : Fin 7) (j : Fin 8) (hj : j = r.succ) {i sp sp' : _} {s' : Shape} {e' : EltTy} {srcw : Memref sig .tc sp' s' e'} {dstw : Memref sig .tc sp S1024x128 .bf16} {h1 h2}
    {α : Type} {Q : α → sProp 𝕄} {k : PUnit → Prog (TpuEff nD τ sig (Elt F) Λ₀ .tc) α} :
    Env m K ⊢ iprop(ow c 28 -∗ RW c 2 j -∗ ((ow c 28 ∗ ZW c 2 j ∗ G0 m c j) -∗ WP c (k ⟨⟩) Q)
      -∗ WP c (.op (.waitDma2 (sem38 cc0_scratch17 (k0_off11 c (BitVec.ofNat 32 (1 + r.val))) i) srcw dstw h1 h2) k) Q) := by
  subst hj
  have h := recv_wait m K c (.w 2 (pe c r.succ)) (pe_ne c r) 28 (show ∀ v ∈ oblLv.drop 28, 2 < v by decide) (sem_at 2 (pe c r.succ) (off11_at c r) (i := i)) (srcw := srcw) (dstw := dstw) (h1 := h1) (h2 := h2) amt_2 (Q := Q) (k := k)
  exact h

/-! ## The parts -/

theorem part15 (c : Dev nD) (v2 : BitVec 32) {Q} :
    Env m K ⊢ iprop(ow c 28 -∗ Rw c cc0_scratch2 (rowB (n0 := 1024) (n1 := 512) 128 c.val) -∗ Wb c cc0_stg0_0 (wkrV m c) -∗ CQ0 m c -∗ CQ1 m c -∗ RW c 0 1
      -∗ (∀ w, (ow c 28 ∗ pts c cc0_scratch2 (rowB (n0 := 1024) (n1 := 512) 128 c.val) fullShare (wuvcV m c) ∗ Wb c cc0_stg0_0 (wkrV m c)
          ∗ LZ c 96 ∗ LZ c 97 ∗ Wb c cc0_scratch6 (wqV m c) ∗ Wb c cc0_scratch7 (wqrV m c) ∗ Wb c main_arg4 (arg m c main_arg4) ∗ Wb c main_arg5 (arg m c main_arg5)
          ∗ ZW c 0 1 ∗ G1 m c 1) -∗ Q ⟨k0_pay12 (xbV m c) (wkrV m c), k0_pay13 (xbV m c) (wqV m c), k0_pay14 (xbV m c) (wqrV m c), w, 128#32⟩)
      -∗ WP c (At (k0_part15 (F := F)) c v2 (xbV m c) (ownV (wuvV m c) c)) Q) := by
  simp only [k0_part15_eq_skeleton]
  unfold k0_part15_skel
  simp only [Prog.lift, Prog.bind_op, Prog.bind_ret, Prog.pure_eq_ret]
  iintro #HE HO H2 HG C0 C1 R1 Hk
  iapply (put_2 m c) $$ H2; iintro H2
  iapply (get_whole c (Memref.whole cc0_stg0_0) (wkrV m c) (Memref.readAt_unit_zero (Elt F) cc0_stg0_0 zero2 _ _)) $$ HG; iintro HG
  iapply (copyin_wait m K c 28 (96 : Fin 103) (by decide +kernel) (by decide) (N := tileCredit S4096x512 .f32) rfl) $$ HE HO C0
  iintro ⟨HO, L0, B0, A0⟩
  iapply (get_whole c (Memref.whole cc0_scratch6) (wqV m c) (Memref.readAt_unit_zero (Elt F) cc0_scratch6 zero2 _ _)) $$ B0; iintro B0
  iapply (copyin_wait m K c 28 (97 : Fin 103) (by decide +kernel) (by decide) (N := tileCredit S4096x256 .f32) rfl) $$ HE HO C1
  iintro ⟨HO, L1, B1, A1⟩
  iapply (get_whole c (Memref.whole cc0_scratch7) (wqrV m c) (Memref.readAt_unit_zero (Elt F) cc0_scratch7 zero2 _ _)) $$ B1; iintro B1
  iapply (rw0 m K c 0 1 rfl) $$ HE HO R1; iintro ⟨HO, Z1, G1⟩
  iapply wp_end
  iapply Hk
  iframe

theorem part16 (c : Dev nD) (v2 v438 w : BitVec 32) {Q} :
    Env m K ⊢ iprop(ow c 28 -∗ RW c 1 1 -∗ RW c 2 1 -∗ RW c 0 2
      -∗ (∀ w w', (ow c 28 ∗ ZW c 1 1 ∗ G2 m c 1 ∗ ZW c 2 1 ∗ G0 m c 1 ∗ ZW c 0 2 ∗ G1 m c 2) -∗ Q ⟨w, w'⟩)
      -∗ WP c (At (k0_part16 (F := F)) c v2 v438 w) Q) := by
  simp only [k0_part16_eq_skeleton]
  unfold k0_part16_skel
  simp only [Prog.lift, Prog.bind_op, Prog.bind_ret, Prog.pure_eq_ret]
  iintro #HE HO R11 R21 R02 Hk
  iapply (rw1 m K c 0 1 rfl) $$ HE HO R11; iintro ⟨HO, Z11, G11⟩
  iapply (rw2 m K c 0 1 rfl) $$ HE HO R21; iintro ⟨HO, Z21, G21⟩
  iapply (rw0 m K c 1 2 rfl) $$ HE HO R02; iintro ⟨HO, Z02, G02⟩
  iapply wp_end
  iapply Hk
  iframe

theorem part17 (c : Dev nD) (v2 v464 v475 : BitVec 32) {Q} :
    Env m K ⊢ iprop(ow c 28 -∗ RW c 1 2 -∗ RW c 2 2 -∗ RW c 0 3
      -∗ (∀ w, (ow c 28 ∗ ZW c 1 2 ∗ G2 m c 2 ∗ ZW c 2 2 ∗ G0 m c 2 ∗ ZW c 0 3 ∗ G1 m c 3) -∗ Q w)
      -∗ WP c (At (k0_part17 (F := F)) c v2 v464 v475) Q) := by
  simp only [k0_part17_eq_skeleton]
  unfold k0_part17_skel
  simp only [Prog.lift, Prog.bind_op, Prog.bind_ret, Prog.pure_eq_ret]
  iintro #HE HO R12 R22 R03 Hk
  iapply (rw1 m K c 1 2 rfl) $$ HE HO R12; iintro ⟨HO, Z12, G12⟩
  iapply (rw2 m K c 1 2 rfl) $$ HE HO R22; iintro ⟨HO, Z22, G22⟩
  iapply (rw0 m K c 2 3 rfl) $$ HE HO R03; iintro ⟨HO, Z03, G03⟩
  iapply wp_end
  iapply Hk
  iframe

theorem part18 (c : Dev nD) (v2 v490 : BitVec 32) {Q} :
    Env m K ⊢ iprop(ow c 28 -∗ RW c 1 3 -∗ RW c 2 3 -∗ RW c 0 4 -∗ RW c 1 4
      -∗ (∀ w, (ow c 28 ∗ ZW c 1 3 ∗ G2 m c 3 ∗ ZW c 2 3 ∗ G0 m c 3 ∗ ZW c 0 4 ∗ G1 m c 4 ∗ ZW c 1 4 ∗ G2 m c 4) -∗ Q ⟨w, 128#32⟩)
      -∗ WP c (At (k0_part18 (F := F)) c v2 v490) Q) := by
  simp only [k0_part18_eq_skeleton]
  unfold k0_part18_skel
  simp only [Prog.lift, Prog.bind_op, Prog.bind_ret, Prog.pure_eq_ret]
  iintro #HE HO R13 R23 R04 R14 Hk
  iapply (rw1 m K c 2 3 rfl) $$ HE HO R13; iintro ⟨HO, Z13, G13⟩
  iapply (rw2 m K c 2 3 rfl) $$ HE HO R23; iintro ⟨HO, Z23, G23⟩
  iapply (rw0 m K c 3 4 rfl) $$ HE HO R04; iintro ⟨HO, Z04, G04⟩
  iapply (rw1 m K c 3 4 rfl) $$ HE HO R14; iintro ⟨HO, Z14, G14⟩
  iapply wp_end
  iapply Hk
  iframe

theorem part19 (c : Dev nD) (v2 v516 w' : BitVec 32) {Q} :
    Env m K ⊢ iprop(ow c 28 -∗ RW c 2 4 -∗ RW c 0 5 -∗ RW c 1 5
      -∗ (∀ w, (ow c 28 ∗ ZW c 2 4 ∗ G0 m c 4 ∗ ZW c 0 5 ∗ G1 m c 5 ∗ ZW c 1 5 ∗ G2 m c 5) -∗ Q w)
      -∗ WP c (At (k0_part19 (F := F)) c v2 v516 w') Q) := by
  simp only [k0_part19_eq_skeleton]
  unfold k0_part19_skel
  simp only [Prog.lift, Prog.bind_op, Prog.bind_ret, Prog.pure_eq_ret]
  iintro #HE HO R24 R05 R15 Hk
  iapply (rw2 m K c 3 4 rfl) $$ HE HO R24; iintro ⟨HO, Z24, G24⟩
  iapply (rw0 m K c 4 5 rfl) $$ HE HO R05; iintro ⟨HO, Z05, G05⟩
  iapply (rw1 m K c 4 5 rfl) $$ HE HO R15; iintro ⟨HO, Z15, G15⟩
  iapply wp_end
  iapply Hk
  iframe

theorem part20 (c : Dev nD) (v2 v542 : BitVec 32) {Q} :
    Env m K ⊢ iprop(ow c 28 -∗ RW c 2 5 -∗ RW c 0 6 -∗ RW c 1 6
      -∗ ((ow c 28 ∗ ZW c 2 5 ∗ G0 m c 5 ∗ ZW c 0 6 ∗ G1 m c 6 ∗ ZW c 1 6 ∗ G2 m c 6) -∗ Q ⟨⟩)
      -∗ WP c (At (k0_part20 (F := F)) c v2 v542) Q) := by
  simp only [k0_part20_eq_skeleton]
  unfold k0_part20_skel
  simp only [Prog.lift, Prog.bind_op, Prog.bind_ret, Prog.pure_eq_ret]
  iintro #HE HO R25 R06 R16 Hk
  iapply (rw2 m K c 4 5 rfl) $$ HE HO R25; iintro ⟨HO, Z25, G25⟩
  iapply (rw0 m K c 5 6 rfl) $$ HE HO R06; iintro ⟨HO, Z06, G06⟩
  iapply (rw1 m K c 5 6 rfl) $$ HE HO R16; iintro ⟨HO, Z16, G16⟩
  iapply wp_end
  iapply Hk
  iframe

theorem part21 (c : Dev nD) (v2 : BitVec 32) {Q} :
    Env m K ⊢ iprop(ow c 28 -∗ RW c 2 6 -∗ RW c 0 7 -∗ RW c 1 7
      -∗ ((ow c 28 ∗ ZW c 2 6 ∗ G0 m c 6 ∗ ZW c 0 7 ∗ G1 m c 7 ∗ ZW c 1 7 ∗ G2 m c 7) -∗ Q ⟨⟩)
      -∗ WP c (At (k0_part21 (F := F)) c v2) Q) := by
  simp only [k0_part21_eq_skeleton]
  unfold k0_part21_skel
  simp only [Prog.lift, Prog.bind_op, Prog.bind_ret, Prog.pure_eq_ret]
  iintro #HE HO R26 R07 R17 Hk
  iapply (rw2 m K c 5 6 rfl) $$ HE HO R26; iintro ⟨HO, Z26, G26⟩
  iapply (rw0 m K c 6 7 rfl) $$ HE HO R07; iintro ⟨HO, Z07, G07⟩
  iapply (rw1 m K c 6 7 rfl) $$ HE HO R17; iintro ⟨HO, Z17, G17⟩
  iapply wp_end
  iapply Hk
  iframe

end Cert.Mla
-- ==== Proof.PartsD.lean ====
/-
# The program's parts: the heads and the exchange of their rows
-/
module

public import proofs.«01_k».proof.Proof.PartsC

@[expose] public section

noncomputable section

namespace Cert.Mla

open Cert.KernelIdeal Cert.KernelIdeal.Gen

open Idealize.ShloMosaic
open Idealize.ShloMosaic.TcCoe
open Idealize.ShloMosaic.RefSig (tileCredit)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop Flight Flight_mono)

variable {F : FTy → Type} [FloatOps F]

local notation "𝕄" => MT nD τ sig Unit (Elt F) ℕ UU ℕ

variable (m : (ℓ : Loc nD τ sig) → Buf (Elt F) ℓ) (K : Dev nD × Cl → ℕ)

/-! ## The gathered blocks put together -/

theorem split0 (c : Dev nD) (q : PosShare TreeShare) (f : Buf (Elt F) ((c : Thread nD τ).loc cc0_scratch0)) :
    pts c cc0_scratch0 Finset.univ q f = bigSep Finset.univ (fun j : Fin 8 => pts (F := F) c cc0_scratch0 (colB (n0 := 1024) (n1 := 1024) 128 (pe c j).val) q f) :=
  split8 c cc0_scratch0 q f (fun i => (Fin.ofNat 8 (((i : S1024x1024.Idx) 1).val / 128) : Fin 8) - c) _
    (fun j i => (mem_colB (n0 := 1024) (n1 := 1024) i).trans (blk_iff c _ 128 (lt2_1 (n0 := 1024) (n1 := 1024) i) j))
theorem split1 (c : Dev nD) (f : Buf (Elt F) ((c : Thread nD τ).loc cc0_scratch1)) :
    Wb c cc0_scratch1 f = bigSep Finset.univ (fun j : Fin 8 => pts (F := F) c cc0_scratch1 (rowB (n0 := 1024) (n1 := 512) 128 (pe c j).val) fullShare f) :=
  split8 c cc0_scratch1 fullShare f (fun i => (Fin.ofNat 8 (((i : S1024x512.Idx) 0).val / 128) : Fin 8) - c) _
    (fun j i => (mem_rowB (n0 := 1024) (n1 := 512) i).trans (blk_iff c _ 128 (lt2_0 (n0 := 1024) (n1 := 512) i) j))
theorem split2 (c : Dev nD) (f : Buf (Elt F) ((c : Thread nD τ).loc cc0_scratch2)) :
    Wb c cc0_scratch2 f = bigSep Finset.univ (fun j : Fin 8 => pts (F := F) c cc0_scratch2 (rowB (n0 := 1024) (n1 := 512) 128 (pe c j).val) fullShare f) :=
  split8 c cc0_scratch2 fullShare f (fun i => (Fin.ofNat 8 (((i : S1024x512.Idx) 0).val / 128) : Fin 8) - c) _
    (fun j i => (mem_rowB (n0 := 1024) (n1 := 512) i).trans (blk_iff c _ 128 (lt2_0 (n0 := 1024) (n1 := 512) i) j))

theorem sep7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The seven foreign columns of the cache, and the own one at the share the transfers leave. -/
abbrev G0s (c : Dev nD) : sProp 𝕄 := bigSep Finset.univ (fun r : Fin 7 => G0 m c r.succ)
abbrev D0 (c : Dev nD) : sProp 𝕄 := pts c cc0_scratch0 (colB (n0 := 1024) (n1 := 1024) 128 (pe c 0).val) (shareDrop fullShare 8) (callV m)

theorem get_c (c : Dev nD) {i hl} {α : Type} {Q : α → sProp 𝕄} {k : Vec F S1024x1024 .bf16 → Prog (TpuEff nD τ sig (Elt F) Λ₀ .tc) α} :
    D0 m c ⊢ iprop(G0s m c -∗ ((D0 m c ∗ G0s m c) -∗ WP c (k (callV m)) Q)
      -∗ WP c (.op (.load (Memref.whole cc0_scratch0) (Rect.unit (s := S1024x1024) ![0, 0] S1024x1024.size i).toLoadRect hl) k) Q) := by
  have hs : G0s m c ⊣⊢ iprop(bigSep Finset.univ (fun r : Fin 7 => pts (F := F) c cc0_scratch0 (colB (n0 := 1024) (n1 := 1024) 128 (pe c r.succ).val) (shareDrop fullShare 8) (callV m))
      ∗ bigSep Finset.univ (fun r : Fin 7 => bigSep Finset.univ fun t : Fin 8 => pts (F := F) c cc0_scratch0 (colB (n0 := 1024) (n1 := 1024) 128 (pe c r.succ).val) (Transfers.shareTok fullShare 8 t) (callV m))) := by
    rw [← bigSep_sep']
    exact ⟨bigSep_mono fun r _ => Transfers.pointsTo_toks_split fullShare 8, bigSep_mono fun r _ => Transfers.pointsTo_toks_join fullShare 8⟩
  have hw : pts c cc0_scratch0 Finset.univ (shareDrop fullShare 8) (callV m) = iprop(D0 m c ∗ bigSep Finset.univ (fun r : Fin 7 => pts (F := F) c cc0_scratch0 (colB (n0 := 1024) (n1 := 1024) 128 (pe c r.succ).val) (shareDrop fullShare 8) (callV m))) := by
    rw [split0, sep8, sep7]; rfl
  iintro HD HG Hk
  ihave HG := hs.1 $$ HG
  icases HG with ⟨HG, HT⟩
  ihave HW := (Entails.of_eq hw.symm) $$ [HD HG]
  · iframe
  iapply (get_whole c (Memref.whole cc0_scratch0) (callV m) (Memref.readAt_unit_zero (Elt F) cc0_scratch0 zero2 _ _)) $$ HW; iintro HW
  ihave HW := (Entails.of_eq hw) $$ HW
  icases HW with ⟨HD, HG⟩
  iapply Hk
  isplitl [HD]; · iexact HD
  iapply hs.2
  iframe

/-! ## The heads -/

/-- One batch's rows of the attention output, with the heads stored so far. -/
abbrev OF (c : Dev nD) (b : Fin 4) (S : Finset (Idx ((c : Thread nD τ).loc cc0_scratch3))) : sProp 𝕄 :=
  Fill c cc0_scratch3 (rowB (n0 := 1024) (n1 := 512) 256 b.val) S (obufV m c)
abbrev tB (b h : Fin 4) : Finset S1024x512.Idx := boxB (n0 := 1024) (n1 := 512) 256 b.val 128 h.val
abbrev hB (c : Dev nD) (b h : Fin 4) : FVec F S256x128 .bf16 := headV (vV m c) (qV m c) (kV m c) b h

theorem o_tile (c : Dev nD) (b h : Fin 4) (i : ∀ a, (![256 * b.val, 128 * h.val] : Fin 2 → ℕ) a + S256x128.size a ≤ S1024x512.size a) (y : S256x128.Idx) :
    hB m c b h y = obufV m c ((Rect.unit (s := S1024x512) ![256 * b.val, 128 * h.val] S256x128.size i).emb y) := by
  have e0 : ((Rect.unit (s := S1024x512) ![256 * b.val, 128 * h.val] S256x128.size i).emb y 0).val = 256 * b.val + (y 0).val := unit_val (n0 := 1024) (n1 := 512) y 0
  have e1 : ((Rect.unit (s := S1024x512) ![256 * b.val, 128 * h.val] S256x128.size i).emb y 1).val = 128 * h.val + (y 1).val := unit_val (n0 := 1024) (n1 := 512) y 1
  have y0 := lt2_0 (n0 := 256) (n1 := 128) y
  have y1 := lt2_1 (n0 := 256) (n1 := 128) y
  generalize (Rect.unit (s := S1024x512) ![256 * b.val, 128 * h.val] S256x128.size i).emb y = a at e0 e1 ⊢
  unfold obufV
  have hb : (Fin.ofNat 4 ((a 0).val / 256) : Fin 4) = b := by apply Fin.ext; show (a 0).val / 256 % 4 = b.val; omega
  have hh : (Fin.ofNat 4 ((a 1).val / 128) : Fin 4) = h := by apply Fin.ext; show (a 1).val / 128 % 4 = h.val; omega
  rw [hb, hh]
  refine congrArg (hB m c b h) (idx2_ext (n0 := 256) (n1 := 128) ?_ ?_)
  · rw [at2_val0]; omega
  · rw [at2_val1]; omega

theorem put_t (c : Dev nD) (b h : Fin 4) {o : Fin 2 → ℕ} (ho : o = ![256 * b.val, 128 * h.val]) {S : Finset (Idx ((c : Thread nD τ).loc cc0_scratch3))}
    {w : FVec F S256x128 .bf16} (hw : w = hB m c b h) {i hl hx hm} {α : Type} {Q : α → sProp 𝕄} {k : PUnit → Prog (TpuEff nD τ sig (Elt F) Λ₀ .tc) α} :
    OF m c b S ⊢ iprop((OF m c b (S ∪ tB b h) -∗ WP c (k ⟨⟩) Q)
      -∗ WP c (.op (.load (Memref.whole cc0_scratch3) (Rect.unit (s := S1024x512) o S256x128.size i).toLoadRect hl)
        (fun _ => .op (.store (Memref.whole cc0_scratch3) (Rect.unit (s := S1024x512) o S256x128.size i) w Finset.univ hx hm) k)) Q) := by
  subst ho hw
  have e : ((Memref.whole cc0_scratch3).access (Rect.unit (s := S1024x512) ![256 * b.val, 128 * h.val] S256x128.size i)).set = tB b h := by
    unfold tB; rw [← unit_box (n0 := 1024) (n1 := 512) (w := 256) (p := b.val) (w' := 128) (q := h.val) (by decide) (by decide) (inb := i)]; exact View.set_slice_whole _ _
  have hD : tB b h ⊆ rowB (n0 := 1024) (n1 := 512) 256 b.val := fun x hx => (mem_rowB x).2 ((mem_boxB x).1 hx).1
  have h := put c (Memref.whole cc0_scratch3) (r := Rect.unit (s := S1024x512) ![256 * b.val, 128 * h.val] S256x128.size i) (w := hB m c b h) (hl := hl) (hx := hx) (hm := hm)
    (D := rowB (n0 := 1024) (n1 := 512) 256 b.val) (S := S) (V := obufV m c) (e.subset.trans hD) (fun y => o_tile m c b h i y) (k := k) (Q := Q)
  rw [e] at h
  exact h

theorem part22 (c : Dev nD) {Q} :
    Env m K ⊢ iprop(ow c 28 -∗ RW c 2 7 -∗ G0 m c 1 -∗ G0 m c 2 -∗ G0 m c 3 -∗ G0 m c 4 -∗ G0 m c 5 -∗ G0 m c 6 -∗ D0 m c -∗ Wb c cc0_scratch1 (wukcV m c) -∗ Wb c cc0_scratch2 (wuvcV m c) -∗ OF m c 0 ∅
      -∗ ((ow c 28 ∗ ZW c 2 7 ∗ G0s m c ∗ D0 m c ∗ Wb c cc0_scratch1 (wukcV m c) ∗ Wb c cc0_scratch2 (wuvcV m c) ∗ OF m c 0 (∅ ∪ tB 0 0))
          -∗ Q ⟨k0_pay15 (callV m) (wuvcV m c), k0_pay16 (qcV m c) (qrV m c), k0_pay17 (krV m c) (callV m) (wukcV m c), k0_pay19 (callV m) (wuvcV m c),
              k0_pay20 (krV m c) (qcV m c) (qrV m c) (callV m) (wukcV m c), Scalar.ofBits .f32 0x3D93CD3A#32⟩)
      -∗ WP c (At (k0_part22 (F := F)) c (krV m c) (qcV m c) (qrV m c)) Q) := by
  simp only [k0_part22_eq_skeleton]
  unfold k0_part22_skel
  simp only [Prog.lift, Prog.bind_op, Prog.bind_ret, Prog.pure_eq_ret, wp_bind]
  iintro #HE HO R27 H1 H2 H3 H4 H5 H6 HD W1 W2 HF Hk
  iapply (rw2 m K c 6 7 rfl) $$ HE HO R27; iintro ⟨HO, HZ, H7⟩
  ihave HG := (show iprop(G0 m c 1 ∗ G0 m c 2 ∗ G0 m c 3 ∗ G0 m c 4 ∗ G0 m c 5 ∗ G0 m c 6 ∗ G0 m c 7) ⊢ G0s m c from Entails.of_eq (sep7 (fun r : Fin 7 => G0 m c r.succ)).symm) $$ [H1 H2 H3 H4 H5 H6 H7]
  · iframe
  iapply (get_c m c) $$ HD HG; iintro ⟨HD, HG⟩
  iapply (get_whole c (Memref.whole cc0_scratch1) (wukcV m c) (Memref.readAt_unit_zero (Elt F) cc0_scratch1 zero2 _ _)) $$ W1; iintro W1
  iapply (get_whole c (Memref.whole cc0_scratch2) (wuvcV m c) (Memref.readAt_unit_zero (Elt F) cc0_scratch2 zero2 _ _)) $$ W2; iintro W2
  iapply (put_t m c 0 0 rfl (show k0_pay18 (krV m c) (qcV m c) (qrV m c) (callV m) (wukcV m c) (wuvcV m c) = hB m c 0 0 from rfl)) $$ HF; iintro HF
  iapply wp_end
  iapply Hk
  iframe

theorem part23 (c : Dev nD) {Q} :
    Env m K ⊢ iprop(OF m c 0 (∅ ∪ tB 0 0)
      -∗ (OF m c 0 (((∅ ∪ tB 0 0) ∪ tB 0 1) ∪ tB 0 2) -∗ Q (k0_pay23 (vV m c) (qV m c) (kV m c)))
      -∗ WP c (At (k0_part23 (F := F)) (vV m c) (qV m c) (kV m c) (k0_pay19 (callV m) (wuvcV m c)) (k0_pay20 (krV m c) (qcV m c) (qrV m c) (callV m) (wukcV m c)) (Scalar.ofBits .f32 0x3D93CD3A#32)) Q) := by
  simp only [k0_part23_eq_skeleton]
  unfold k0_part23_skel
  simp only [Prog.lift, Prog.bind_op, Prog.bind_ret, Prog.pure_eq_ret, wp_bind]
  iintro #HE HF Hk
  iapply (put_t m c 0 1 rfl rfl) $$ HF; iintro HF
  iapply (put_t m c 0 2 rfl rfl) $$ HF; iintro HF
  iapply wp_end
  iapply Hk
  iframe

/-! ## The exchange of rows -/

/-- What the transfer of rows to `p` needs beside them (nothing, when `p` is the device itself), and the rows. -/
abbrev AI (c p : Dev nD) : sProp 𝕄 := if p = c then iprop(emp) else iprop(SK c (.a p) ∗ rFree (F := F) p (.a c))
abbrev S3 (c p : Dev nD) : sProp 𝕄 := pts c cc0_scratch3 (rowB (n0 := 1024) (n1 := 512) 128 p.val) fullShare (obufV m c)
/-- All four heads of a batch stored: its rows for two devices. -/
theorem OF_done (c : Dev nD) (b : Fin 4) (p p' : Dev nD) (hp : p.val = 2 * b.val) (hp' : p'.val = 2 * b.val + 1) :
    OF m c b ((((∅ ∪ tB b 0) ∪ tB b 1) ∪ tB b 2) ∪ tB b 3)
      ⊢ iprop(S3 m c p ∗ S3 m c p') := by
  have hd : rowB (n0 := 1024) (n1 := 512) 256 b.val ⊆ ((((∅ : Finset S1024x512.Idx) ∪ tB b 0) ∪ tB b 1) ∪ tB b 2) ∪ tB b 3 := fun x hx => by
    have h1 : (x 1).val < 512 := (x 1).isLt
    rw [mem_rowB] at hx
    have v0 : (0 : Fin 4).val = 0 := rfl
    have v1 : (1 : Fin 4).val = 1 := rfl
    have v2 : (2 : Fin 4).val = 2 := rfl
    have v3 : (3 : Fin 4).val = 3 := rfl
    simp only [Finset.mem_union, tB, mem_boxB, v0, v1, v2, v3]
    omega
  have hu : rowB (n0 := 1024) (n1 := 512) 256 b.val = rowB (n0 := 1024) (n1 := 512) 128 p.val ∪ rowB (n0 := 1024) (n1 := 512) 128 p'.val := by
    ext x; rw [Finset.mem_union, mem_rowB, mem_rowB, mem_rowB]; omega
  have hj : Disjoint (rowB (n0 := 1024) (n1 := 512) 128 p.val) (rowB (n0 := 1024) (n1 := 512) 128 p'.val) :=
    Finset.disjoint_left.2 fun x h h' => by rw [mem_rowB] at h h'; omega
  iintro H
  ihave H := (Fill_done c cc0_scratch3 (obufV m c) hd) $$ H
  ihave H := (Entails.of_eq (congrArg (fun S => pts c cc0_scratch3 S fullShare (obufV m c)) hu)) $$ H
  iapply (pointsTo_union hj).1 $$ H

/-- The rows in flight, or still here. -/
abbrev AC (c p : Dev nD) : sProp 𝕄 := if p = c then S3 m c p else SC c (.a p)
/-- The own block of the exchanged rows, stored once the own turn among `n` is past. -/
abbrev OR (c : Dev nD) (n : ℕ) : sProp 𝕄 :=
  iprop(∃ f, pts c cc0_scratch4 (rowB (n0 := 1024) (n1 := 512) 128 c.val) fullShare f ∗ ⌜c.val < n → ∀ i ∈ rowB (n0 := 1024) (n1 := 512) 128 c.val, f i = orowsV m c i⌝)

theorem obl_a (c p : Dev nD) : (obl c)[28 + p.val]? = some (p, .r (.a c)) := by
  fin_cases p <;> rfl

theorem OB_skip (c : Dev nD) : OB c (28 + c.val + 1) = OB c (28 + c.val) := by
  have h := OB_step c (28 + c.val) (c, .r (.a c)) (obl_a c c)
  rw [h]; unfold obT; rw [if_pos rfl, add_zero]

theorem cond_send (c p : Dev nD) (no : ℕ) (hno : no = 28 + p.val) {C : Prop} [Decidable C] (hC : C ↔ p ≠ c) {nd : ℕ} {hn : C → nd < nD} (hnd : nd = p.val)
    {o3 o4 : Fin 2 → ℕ} {os or' : Fin 1 → ℕ} (h3 : o3 = ![128 * p.val, 0]) (h4 : o4 = ![128 * c.val, 0]) (hs : os = ![p.val]) (hr : or' = ![c.val])
    {i3} {i4 : C → _} {is} {ir : C → _} {hsc : ∀ h : C, _} {hsrc} {hdst : ∀ h : C, _} {hsem : ∀ h : C, _} {α : Type} {Q : α → sProp 𝕄} {k : Prog (TpuEff nD τ sig (Elt F) Λ₀ .tc) α} :
    Env m K ⊢ iprop(ow c no -∗ AI c p -∗ S3 m c p -∗ ((ow c (no + 1) ∗ AC m c p) -∗ WP c k Q)
      -∗ WP c (if h : C then .op (.enqueueDma (sl3 o3 i3) (.remote (Dev.tc (⟨nd, hn h⟩ : Dev nD) : Thread nD τ) (sl4 o4 (i4 h)) (.dma (sem8 cc0_scratch18 os is)) (hsc h))
        (.dma (sem8 cc0_scratch19 or' (ir h))) hsrc (hdst h) (hsem h)) (fun _ => k) else k) Q) := by
  subst hno
  by_cases hp : p = c
  · have hn' : ¬ C := fun h => (hC.1 h) hp
    rw [dif_neg hn']
    unfold AI AC
    rw [if_pos hp, if_pos hp]
    subst hp
    iintro #HE HO H1 H3 Hk
    ihave HO := (Entails.of_eq (show ow p (28 + p.val) = ow (F := F) p (28 + p.val + 1) by unfold ow; rw [OB_skip])) $$ HO
    iapply Hk
    iframe
  · have hc : C := hC.2 hp
    rw [dif_pos hc]
    unfold AI AC
    rw [if_neg hp, if_neg hp]
    have h := send_a m K c p hp (28 + p.val) (obl_a c p) (n := ⟨nd, hn hc⟩) (Fin.ext hnd) h3 h4 hs hr (i3 := i3) (i4 := i4 hc) (is := is) (ir := ir hc) (hsc := hsc hc) (hsrc := hsrc)
      (hdst := hdst hc) (hsem := hsem hc) (k := fun _ => k) (Q := Q)
    rw [show sPay m c (.a p) = S3 m c p from rfl] at h
    iintro #HE HO ⟨H1, H2⟩ H3 Hk
    iapply h $$ HE HO H1 H3 H2 Hk

theorem own_copy (c p : Dev nD) (no : ℕ) (hno : no = p.val) {C : Prop} [Decidable C] (hC : C ↔ p = c) {o : Fin 2 → ℕ} (ho : o = ![128 * p.val, 0]) {pay : Vec F S128x512 .bf16 → FVec F S128x512 .bf16}
    (hpay : ∀ v y, pay v y = v y) {i hl hl' hx hm} {α : Type} {Q : α → sProp 𝕄} {k : Prog (TpuEff nD τ sig (Elt F) Λ₀ .tc) α} :
    AC m c p ⊢ iprop(OR m c no -∗ ((AC m c p ∗ OR m c (no + 1)) -∗ WP c k Q)
      -∗ WP c (if h : C then .op (.load (Memref.whole cc0_scratch3) (Rect.unit (s := S1024x512) o S128x512.size i).toLoadRect hl)
          (fun v => .op (.load (Memref.whole cc0_scratch4) (Rect.unit (s := S1024x512) o S128x512.size i).toLoadRect hl')
            (fun _ => .op (.store (Memref.whole cc0_scratch4) (Rect.unit (s := S1024x512) o S128x512.size i) (pay v) Finset.univ hx hm) (fun _ => k))) else k) Q) := by
  subst hno
  by_cases hp : p = c
  · rw [dif_pos (hC.2 hp)]
    unfold AC
    rw [if_pos hp]
    subst hp ho
    have e3 : ((Memref.whole cc0_scratch3).access (Rect.unit (s := S1024x512) ![128 * p.val, 0] S128x512.size i)).set = rowB (n0 := 1024) (n1 := 512) 128 p.val := by
      rw [← unit_row (n0 := 1024) (n1 := 512) (w := 128) (p := p.val) (by decide) (inb := i)]; exact View.set_slice_whole _ _
    have e4 : ((Memref.whole cc0_scratch4).access (Rect.unit (s := S1024x512) ![128 * p.val, 0] S128x512.size i)).set = rowB (n0 := 1024) (n1 := 512) 128 p.val := by
      rw [← unit_row (n0 := 1024) (n1 := 512) (w := 128) (p := p.val) (by decide) (inb := i)]; exact View.set_slice_whole _ _
    have hg := fun k Q => get (α := α) p (Memref.whole cc0_scratch3) (r := Rect.unit (s := S1024x512) ![128 * p.val, 0] S128x512.size i) (hl := hl) (q := fullShare) (f := obufV m p) e3.subset
      (fun y => obufV m p ((Rect.unit (s := S1024x512) ![128 * p.val, 0] S128x512.size i).emb y)) (fun y => rfl) (k := k) (Q := Q)
    have hpb := put_block p (Memref.whole cc0_scratch4) (r := Rect.unit (s := S1024x512) ![128 * p.val, 0] S128x512.size i)
      (w := pay (fun y => obufV m p ((Rect.unit (s := S1024x512) ![128 * p.val, 0] S128x512.size i).emb y))) (hl := hl') (hx := hx) (hm := hm)
      e4 (orowsV m p) (fun y => (hpay _ y).trans (a_land m p p y)) (k := fun _ => k) (Q := Q)
    iintro H3 ⟨%f, H4, _⟩ Hk
    iapply (hg _ Q) $$ H3; iintro H3
    iapply hpb $$ [H4]
    · iexists f; iexact H4
    iintro H4
    iapply Hk
    isplitl [H3]; · iexact H3
    iexists orowsV m p
    isplitl [H4]; · iexact H4
    ipureintro
    intro _ i _
    rfl
  · rw [dif_neg (fun h => hp (hC.1 h))]
    iintro H3 ⟨%f, H4, %hf⟩ Hk
    iapply Hk
    isplitl [H3]; · iexact H3
    iexists f
    isplitl [H4]; · iexact H4
    ipureintro
    intro hlt
    exact hf (by have : p.val ≠ c.val := fun h => hp (Fin.ext h); omega)

theorem cond_own (c : Dev nD) (p : Dev nD) : Iff (Scalar.cmpi .ne (Scalar.extui (Scalar.cmpi .eq (v2w c) (BitVec.ofNat 32 p.val)) : BitVec 32) 0#32 = 1#1) (p = c) := by
  revert c p; decide +kernel

theorem cond1_at (c : Dev nD) : k0_cond1 c = 1#1 ↔ (0 : Dev nD) ≠ c := by revert c; decide +kernel
theorem cond3_at (c : Dev nD) : k0_cond3 c = 1#1 ↔ (1 : Dev nD) ≠ c := by revert c; decide +kernel
theorem cond5_at (c : Dev nD) : k0_cond5 c = 1#1 ↔ (2 : Dev nD) ≠ c := by revert c; decide +kernel
theorem cond7_at (c : Dev nD) : k0_cond7 c = 1#1 ↔ (3 : Dev nD) ≠ c := by revert c; decide +kernel
theorem cond9_at (c : Dev nD) : k0_cond9 c = 1#1 ↔ (4 : Dev nD) ≠ c := by revert c; decide +kernel
theorem cond11_at (c : Dev nD) : k0_cond11 c = 1#1 ↔ (5 : Dev nD) ≠ c := by revert c; decide +kernel
theorem cond13_at (c : Dev nD) : k0_cond13 c = 1#1 ↔ (6 : Dev nD) ≠ c := by revert c; decide +kernel
theorem cond15_at (c : Dev nD) : k0_cond15 c = 1#1 ↔ (7 : Dev nD) ≠ c := by revert c; decide +kernel
theorem off18_at (c : Dev nD) : k0_off18 c = ![c.val] := by revert c; decide +kernel
theorem off19_at (c : Dev nD) : k0_off19 c = ![128 * c.val, 0] := by revert c; decide +kernel
theorem off20_at (c : Dev nD) : k0_off20 c = ![c.val] := by revert c; decide +kernel
theorem off21_at (c : Dev nD) : k0_off21 c = ![128 * c.val, 0] := by revert c; decide +kernel
theorem off22_at (c : Dev nD) : k0_off22 c = ![c.val] := by revert c; decide +kernel
theorem off23_at (c : Dev nD) : k0_off23 c = ![128 * c.val, 0] := by revert c; decide +kernel
theorem off24_at (c : Dev nD) : k0_off24 c = ![c.val] := by revert c; decide +kernel
theorem off25_at (c : Dev nD) : k0_off25 c = ![128 * c.val, 0] := by revert c; decide +kernel
theorem off26_at (c : Dev nD) : k0_off26 c = ![c.val] := by revert c; decide +kernel
theorem off27_at (c : Dev nD) : k0_off27 c = ![128 * c.val, 0] := by revert c; decide +kernel
theorem off28_at (c : Dev nD) : k0_off28 c = ![c.val] := by revert c; decide +kernel
theorem off29_at (c : Dev nD) : k0_off29 c = ![128 * c.val, 0] := by revert c; decide +kernel
theorem off30_at (c : Dev nD) : k0_off30 c = ![c.val] := by revert c; decide +kernel
theorem off31_at (c : Dev nD) : k0_off31 c = ![128 * c.val, 0] := by revert c; decide +kernel
theorem off32_at (c : Dev nD) : k0_off32 c = ![c.val] := by revert c; decide +kernel
theorem off33_at (c : Dev nD) : k0_off33 c = ![128 * c.val, 0] := by revert c; decide +kernel

theorem part24 (c : Dev nD) {Q} :
    Env m K ⊢ iprop(ow c 28 -∗ OF m c 0 (((∅ ∪ tB 0 0) ∪ tB 0 1) ∪ tB 0 2) -∗ OF m c 1 ∅ -∗ AI c 0 -∗ AI c 1 -∗ OR m c 0
      -∗ ((ow c 30 ∗ OF m c 1 (∅ ∪ tB 1 0) ∗ AC m c 0 ∗ AC m c 1 ∗ OR m c 2) -∗ Q ⟨k0_pay28 (vV m c), k0_pay29 (qV m c) (kV m c), Scalar.ofBits .f32 0x3D93CD3A#32⟩)
      -∗ WP c (At (k0_part24 (F := F)) c (v2w c) (vV m c) (qV m c) (kV m c) (k0_pay23 (vV m c) (qV m c) (kV m c))) Q) := by
  simp only [k0_part24_eq_skeleton]
  unfold k0_part24_skel
  simp only [Prog.lift, Prog.bind_op, Prog.bind_ret, Prog.pure_eq_ret]
  iintro #HE HO HF HG I0 I1 HR Hk
  iapply (put_t m c 0 3 rfl (show k0_pay24 (k0_pay23 (vV m c) (qV m c) (kV m c)) = hB m c 0 3 from rfl)) $$ HF; iintro HF
  ihave HF := (OF_done m c 0 0 1 rfl rfl) $$ HF
  icases HF with ⟨H0, H1⟩
  iapply (cond_send m K c 0 28 rfl (cond1_at c) k0_dev29_eq rfl (off19_at c) rfl (off18_at c)) $$ HE HO I0 H0; iintro ⟨HO, C0⟩
  iapply (own_copy m c 0 0 rfl (cond_own c 0) rfl (fun v y => cast_self v _ y)) $$ C0 HR; iintro ⟨C0, HR⟩
  iapply (cond_send m K c 1 29 rfl (cond3_at c) k0_dev30_eq rfl (off21_at c) rfl (off20_at c)) $$ HE HO I1 H1; iintro ⟨HO, C1⟩
  iapply (own_copy m c 1 1 rfl (cond_own c 1) rfl (fun v y => cast_self v _ y)) $$ C1 HR; iintro ⟨C1, HR⟩
  iapply (put_t m c 1 0 rfl (show k0_pay27 (vV m c) (qV m c) (kV m c) = hB m c 1 0 from rfl)) $$ HG; iintro HG
  iapply wp_end
  iapply Hk
  iframe

theorem part25 (c : Dev nD) {Q} :
    Env m K ⊢ iprop(OF m c 1 (∅ ∪ tB 1 0)
      -∗ (OF m c 1 (((∅ ∪ tB 1 0) ∪ tB 1 1) ∪ tB 1 2) -∗ Q (k0_pay32 (vV m c) (qV m c) (kV m c)))
      -∗ WP c (At (k0_part25 (F := F)) (vV m c) (qV m c) (kV m c) (k0_pay28 (vV m c)) (k0_pay29 (qV m c) (kV m c)) (Scalar.ofBits .f32 0x3D93CD3A#32)) Q) := by
  simp only [k0_part25_eq_skeleton]
  unfold k0_part25_skel
  simp only [Prog.lift, Prog.bind_op, Prog.bind_ret, Prog.pure_eq_ret]
  iintro #HE HF Hk
  iapply (put_t m c 1 1 rfl (show k0_pay30 (k0_pay28 (vV m c)) (k0_pay29 (qV m c) (kV m c)) (Scalar.ofBits .f32 0x3D93CD3A#32) = hB m c 1 1 from rfl)) $$ HF; iintro HF
  iapply (put_t m c 1 2 rfl (show k0_pay31 (vV m c) (qV m c) (kV m c) = hB m c 1 2 from rfl)) $$ HF; iintro HF
  iapply wp_end
  iapply Hk
  iframe

theorem part26 (c : Dev nD) {Q} :
    Env m K ⊢ iprop(ow c 30 -∗ OF m c 1 (((∅ ∪ tB 1 0) ∪ tB 1 1) ∪ tB 1 2) -∗ OF m c 2 ∅ -∗ AI c 2 -∗ AI c 3 -∗ OR m c 2
      -∗ ((ow c 32 ∗ OF m c 2 (∅ ∪ tB 2 0) ∗ AC m c 2 ∗ AC m c 3 ∗ OR m c 4) -∗ Q ⟨k0_pay37 (vV m c), k0_pay38 (qV m c) (kV m c), Scalar.ofBits .f32 0x3D93CD3A#32⟩)
      -∗ WP c (At (k0_part26 (F := F)) c (v2w c) (vV m c) (qV m c) (kV m c) (k0_pay32 (vV m c) (qV m c) (kV m c))) Q) := by
  simp only [k0_part26_eq_skeleton]
  unfold k0_part26_skel
  simp only [Prog.lift, Prog.bind_op, Prog.bind_ret, Prog.pure_eq_ret]
  iintro #HE HO HF HG I0 I1 HR Hk
  iapply (put_t m c 1 3 rfl (show k0_pay33 (k0_pay32 (vV m c) (qV m c) (kV m c)) = hB m c 1 3 from rfl)) $$ HF; iintro HF
  ihave HF := (OF_done m c 1 2 3 rfl rfl) $$ HF
  icases HF with ⟨H0, H1⟩
  iapply (cond_send m K c 2 30 rfl (cond5_at c) k0_dev31_eq rfl (off23_at c) rfl (off22_at c)) $$ HE HO I0 H0; iintro ⟨HO, C0⟩
  iapply (own_copy m c 2 2 rfl (cond_own c 2) rfl (fun v y => cast_self v _ y)) $$ C0 HR; iintro ⟨C0, HR⟩
  iapply (cond_send m K c 3 31 rfl (cond7_at c) k0_dev32_eq rfl (off25_at c) rfl (off24_at c)) $$ HE HO I1 H1; iintro ⟨HO, C1⟩
  iapply (own_copy m c 3 3 rfl (cond_own c 3) rfl (fun v y => cast_self v _ y)) $$ C1 HR; iintro ⟨C1, HR⟩
  iapply (put_t m c 2 0 rfl (show k0_pay36 (vV m c) (qV m c) (kV m c) = hB m c 2 0 from rfl)) $$ HG; iintro HG
  iapply wp_end
  iapply Hk
  iframe

theorem part27 (c : Dev nD) {Q} :
    Env m K ⊢ iprop(OF m c 2 (∅ ∪ tB 2 0)
      -∗ (OF m c 2 (((∅ ∪ tB 2 0) ∪ tB 2 1) ∪ tB 2 2) -∗ Q (k0_pay41 (vV m c) (qV m c) (kV m c)))
      -∗ WP c (At (k0_part27 (F := F)) (vV m c) (qV m c) (kV m c) (k0_pay37 (vV m c)) (k0_pay38 (qV m c) (kV m c)) (Scalar.ofBits .f32 0x3D93CD3A#32)) Q) := by
  simp only [k0_part27_eq_skeleton]
  unfold k0_part27_skel
  simp only [Prog.lift, Prog.bind_op, Prog.bind_ret, Prog.pure_eq_ret]
  iintro #HE HF Hk
  iapply (put_t m c 2 1 rfl (show k0_pay39 (k0_pay37 (vV m c)) (k0_pay38 (qV m c) (kV m c)) (Scalar.ofBits .f32 0x3D93CD3A#32) = hB m c 2 1 from rfl)) $$ HF; iintro HF
  iapply (put_t m c 2 2 rfl (show k0_pay40 (vV m c) (qV m c) (kV m c) = hB m c 2 2 from rfl)) $$ HF; iintro HF
  iapply wp_end
  iapply Hk
  iframe

theorem part28 (c : Dev nD) {Q} :
    Env m K ⊢ iprop(ow c 32 -∗ OF m c 2 (((∅ ∪ tB 2 0) ∪ tB 2 1) ∪ tB 2 2) -∗ OF m c 3 ∅ -∗ AI c 4 -∗ AI c 5 -∗ OR m c 4
      -∗ ((ow c 34 ∗ OF m c 3 (∅ ∪ tB 3 0) ∗ AC m c 4 ∗ AC m c 5 ∗ OR m c 6) -∗ Q ⟨k0_pay46 (vV m c), k0_pay47 (qV m c) (kV m c), Scalar.ofBits .f32 0x3D93CD3A#32⟩)
      -∗ WP c (At (k0_part28 (F := F)) c (v2w c) (vV m c) (qV m c) (kV m c) (k0_pay41 (vV m c) (qV m c) (kV m c))) Q) := by
  simp only [k0_part28_eq_skeleton]
  unfold k0_part28_skel
  simp only [Prog.lift, Prog.bind_op, Prog.bind_ret, Prog.pure_eq_ret]
  iintro #HE HO HF HG I0 I1 HR Hk
  iapply (put_t m c 2 3 rfl (show k0_pay42 (k0_pay41 (vV m c) (qV m c) (kV m c)) = hB m c 2 3 from rfl)) $$ HF; iintro HF
  ihave HF := (OF_done m c 2 4 5 rfl rfl) $$ HF
  icases HF with ⟨H0, H1⟩
  iapply (cond_send m K c 4 32 rfl (cond9_at c) k0_dev33_eq rfl (off27_at c) rfl (off26_at c)) $$ HE HO I0 H0; iintro ⟨HO, C0⟩
  iapply (own_copy m c 4 4 rfl (cond_own c 4) rfl (fun v y => cast_self v _ y)) $$ C0 HR; iintro ⟨C0, HR⟩
  iapply (cond_send m K c 5 33 rfl (cond11_at c) k0_dev34_eq rfl (off29_at c) rfl (off28_at c)) $$ HE HO I1 H1; iintro ⟨HO, C1⟩
  iapply (own_copy m c 5 5 rfl (cond_own c 5) rfl (fun v y => cast_self v _ y)) $$ C1 HR; iintro ⟨C1, HR⟩
  iapply (put_t m c 3 0 rfl (show k0_pay45 (vV m c) (qV m c) (kV m c) = hB m c 3 0 from rfl)) $$ HG; iintro HG
  iapply wp_end
  iapply Hk
  iframe

theorem part29 (c : Dev nD) {Q} :
    Env m K ⊢ iprop(OF m c 3 (∅ ∪ tB 3 0)
      -∗ (OF m c 3 (((∅ ∪ tB 3 0) ∪ tB 3 1) ∪ tB 3 2) -∗ Q (k0_pay50 (vV m c) (qV m c) (kV m c)))
      -∗ WP c (At (k0_part29 (F := F)) (vV m c) (qV m c) (kV m c) (k0_pay46 (vV m c)) (k0_pay47 (qV m c) (kV m c)) (Scalar.ofBits .f32 0x3D93CD3A#32)) Q) := by
  simp only [k0_part29_eq_skeleton]
  unfold k0_part29_skel
  simp only [Prog.lift, Prog.bind_op, Prog.bind_ret, Prog.pure_eq_ret]
  iintro #HE HF Hk
  iapply (put_t m c 3 1 rfl (show k0_pay48 (k0_pay46 (vV m c)) (k0_pay47 (qV m c) (kV m c)) (Scalar.ofBits .f32 0x3D93CD3A#32) = hB m c 3 1 from rfl)) $$ HF; iintro HF
  iapply (put_t m c 3 2 rfl (show k0_pay49 (vV m c) (qV m c) (kV m c) = hB m c 3 2 from rfl)) $$ HF; iintro HF
  iapply wp_end
  iapply Hk
  iframe

theorem part30 (c : Dev nD) {Q} :
    Env m K ⊢ iprop(ow c 34 -∗ OF m c 3 (((∅ ∪ tB 3 0) ∪ tB 3 1) ∪ tB 3 2) -∗ AI c 6 -∗ AI c 7 -∗ OR m c 6
      -∗ (∀ w0 w1 w2 w3 w4 w5 w6 w7 w8 w9, (ow c 36 ∗ AC m c 6 ∗ AC m c 7 ∗ OR m c 8) -∗ Q ⟨w0, w1, w2, w3, w4, w5, w6, w7, w8, k0_pay54, w9⟩)
      -∗ WP c (At (k0_part30 (F := F)) c (v2w c) (k0_pay50 (vV m c) (qV m c) (kV m c))) Q) := by
  simp only [k0_part30_eq_skeleton]
  unfold k0_part30_skel
  simp only [Prog.lift, Prog.bind_op, Prog.bind_ret, Prog.pure_eq_ret]
  iintro #HE HO HF I0 I1 HR Hk
  iapply (put_t m c 3 3 rfl (show k0_pay51 (k0_pay50 (vV m c) (qV m c) (kV m c)) = hB m c 3 3 from rfl)) $$ HF; iintro HF
  ihave HF := (OF_done m c 3 6 7 rfl rfl) $$ HF
  icases HF with ⟨H0, H1⟩
  iapply (cond_send m K c 6 34 rfl (cond13_at c) k0_dev35_eq rfl (off31_at c) rfl (off30_at c)) $$ HE HO I0 H0; iintro ⟨HO, C0⟩
  iapply (own_copy m c 6 6 rfl (cond_own c 6) rfl (fun v y => cast_self v _ y)) $$ C0 HR; iintro ⟨C0, HR⟩
  iapply (cond_send m K c 7 35 rfl (cond15_at c) k0_dev36_eq rfl (off33_at c) rfl (off32_at c)) $$ HE HO I1 H1; iintro ⟨HO, C1⟩
  iapply (own_copy m c 7 7 rfl (cond_own c 7) rfl (fun v y => cast_self v _ y)) $$ C1 HR; iintro ⟨C1, HR⟩
  iapply wp_end
  iapply Hk
  iframe

end Cert.Mla
-- ==== Proof.PartsE.lean ====
/-
# The program's parts: the output projection
-/
module

public import proofs.«01_k».proof.Proof.PartsD

@[expose] public section

noncomputable section

namespace Cert.Mla

open Cert.KernelIdeal Cert.KernelIdeal.Gen

open Idealize.ShloMosaic
open Idealize.ShloMosaic.TcCoe
open Idealize.ShloMosaic.RefSig (tileCredit)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop Flight Flight_mono)

variable {F : FTy → Type} [FloatOps F]

local notation "𝕄" => MT nD τ sig Unit (Elt F) ℕ UU ℕ

variable (m : (ℓ : Loc nD τ sig) → Buf (Elt F) ℓ) (K : Dev nD × Cl → ℕ)

/-! ## The steps -/

/-- Rows of the exchanged buffer, from the peer `j` places on. -/
abbrev E4 (c : Dev nD) (j : Fin 8) : sProp 𝕄 := pts c cc0_scratch4 (rowB (n0 := 1024) (n1 := 512) 128 (pe c j).val) fullShare (orowsV m c)
/-- A staged slab of the output weight. -/
abbrev SL (c : Dev nD) (p h j : ℕ) : sProp 𝕄 := pts c cc0_scratch5 (slab (n0 := 2) (n1 := 512) (n2 := 2048) j) fullShare (wsV m c p h)

theorem start_w (c : Dev nD) (p0 h0 p h j : ℕ) (n : Fin 103) {sem : DmaSem sig} (hs : sem = (n : DmaSem sig)) {o : Fin 2 → ℕ} {o' : Fin 3 → ℕ} (ho : o = ![512 * p, 2048 * h]) (ho' : o' = ![j, 0, 0])
    {i i' hsrc hdst hsem} {α : Type} {Q : α → sProp 𝕄} {k : PUnit → Prog (TpuEff nD τ sig (Elt F) Λ₀ .tc) α} :
    WT m c j ⊢ iprop(SL m c p0 h0 j -∗ LZ c n -∗ (CWo m c p h j n -∗ WP c (k ⟨⟩) Q)
      -∗ WP c (.op (.enqueueDma (wSrc o i) (.here (wDst o' i')) (.dma sem) hsrc hdst hsem) k) Q) := by
  have h := start_wo m c p h j n hs ho ho' (i := i) (i' := i') (hsrc := hsrc) (hdst := hdst) (hsem := hsem) (k := k) (Q := Q)
  iintro HW HS HL Hk
  iapply h $$ HW [HS] HL Hk
  iexists wsV m c p0 h0
  iexact HS

theorem wait_w (c : Dev nD) (no p h j : ℕ) (n : Fin 103) (hn : n.val < 2 ∨ 94 ≤ n.val) {sem : DmaSem sig} (hs : sem = (n : DmaSem sig)) {sp sp' : Space} {s' : Shape} {e' : EltTy}
    {srcw : Memref sig .tc sp' s' e'} {dstw : Memref sig .tc sp S512x2048 .f32} {h1 : srcw.view.WordExact} {h2 : dstw.view.WordExact}
    {α : Type} {Q : α → sProp 𝕄} {k : PUnit → Prog (TpuEff nD τ sig (Elt F) Λ₀ .tc) α} :
    Env m K ⊢ iprop(ow c no -∗ CWo m c p h j n -∗ ((ow c no ∗ LZ c n ∗ SL m c p h j ∗ WT m c j) -∗ WP c (k ⟨⟩) Q)
      -∗ WP c (.op (.waitDma2 sem srcw dstw h1 h2) k) Q) :=
  copyin_wait m K c no (n : DmaSem sig) hs hn (rfl : dstw.view.dmaCredit = tileCredit S512x2048 .f32)

theorem recv_a (c : Dev nD) (r : Fin 7) (j : Fin 8) (hj : j = r.succ) {i sp sp' : _} {s' : Shape} {e' : EltTy} {srcw : Memref sig .tc sp' s' e'} {dstw : Memref sig .tc sp S128x512 .bf16} {h1 h2}
    {α : Type} {Q : α → sProp 𝕄} {k : PUnit → Prog (TpuEff nD τ sig (Elt F) Λ₀ .tc) α} :
    Env m K ⊢ iprop(ow c 36 -∗ RK c (.a (pe c j)) -∗ ((ow c 36 ∗ Z c (.r (.a (pe c j))) ∗ E4 m c j) -∗ WP c (k ⟨⟩) Q)
      -∗ WP c (.op (.waitDma2 (sem8 cc0_scratch19 (k0_off35 c (BitVec.ofNat 32 (1 + r.val))) i) srcw dstw h1 h2) k) Q) := by
  subst hj
  have hs : sem8 cc0_scratch19 (k0_off35 c (BitVec.ofNat 32 (1 + r.val))) i = rS (.a (pe c r.succ)) := by
    have e := off35_at c r
    generalize k0_off35 c (BitVec.ofNat 32 (1 + r.val)) = o at e i ⊢
    subst e
    exact sem_a_r _
  have h := recv_wait m K c (.a (pe c r.succ)) (pe_ne c r) 36 (show ∀ v ∈ oblLv.drop 36, 3 < v by decide) hs (srcw := srcw) (dstw := dstw) (h1 := h1) (h2 := h2) amt_1 (Q := Q) (k := k)
  exact h

theorem get_or (c : Dev nD) (j : Fin 8) (n : ℕ) (hn : n = (c.val + j.val) % 8) {o : Fin 2 → ℕ} (ho : o = ![128 * ((c.val + j.val) % 8), 0]) {i hl} {α : Type} {Q : α → sProp 𝕄}
    {k : Vec F S128x512 .bf16 → Prog (TpuEff nD τ sig (Elt F) Λ₀ .tc) α} :
    E4 m c j ⊢ iprop((E4 m c j -∗ WP c (k (orB m c n)) Q)
      -∗ WP c (.op (.load (Memref.whole cc0_scratch4) (Rect.unit (s := S1024x512) o S128x512.size i).toLoadRect hl) k) Q) := by
  subst hn ho
  have e : ((Memref.whole cc0_scratch4).access (Rect.unit (s := S1024x512) ![128 * ((c.val + j.val) % 8), 0] S128x512.size i)).set ⊆ rowB (n0 := 1024) (n1 := 512) 128 (pe c j).val := by
    rw [← unit_row (n0 := 1024) (n1 := 512) (w := 128) (p := (pe c j).val) (by decide) (inb := i)]; exact (View.set_slice_whole _ _).subset
  have h := get c (Memref.whole cc0_scratch4) (r := Rect.unit (s := S1024x512) ![128 * ((c.val + j.val) % 8), 0] S128x512.size i) (hl := hl) (q := fullShare) (f := orowsV m c) e
    (orB m c ((c.val + j.val) % 8)) (fun y => by
      have e0 : ((Rect.unit (s := S1024x512) ![128 * ((c.val + j.val) % 8), 0] S128x512.size i).emb y 0).val = 128 * ((c.val + j.val) % 8) + (y 0).val := unit_val (n0 := 1024) (n1 := 512) y 0
      have e1 : ((Rect.unit (s := S1024x512) ![128 * ((c.val + j.val) % 8), 0] S128x512.size i).emb y 1).val = 0 + (y 1).val := unit_val (n0 := 1024) (n1 := 512) y 1
      have y0 := lt2_0 (n0 := 128) (n1 := 512) y
      have y1 := lt2_1 (n0 := 128) (n1 := 512) y
      show orowsV m c ((Rect.unit (s := S1024x512) ![128 * ((c.val + j.val) % 8), 0] S128x512.size i).emb y) = orowsV m c (at2 1024 512 (128 * ((c.val + j.val) % 8) + (y 0).val) (y 1).val)
      refine congrArg (orowsV m c) (idx2_ext (n0 := 1024) (n1 := 512) ?_ ?_)
      · rw [at2_val0, e0]; omega
      · rw [at2_val1, e1]; omega) (k := k) (Q := Q)
  exact h

/-- The own chunk's half. -/
abbrev OB1 (c : Dev nD) (h : Fin 2) (q : PosShare TreeShare) : sProp 𝕄 := pts c cc0_stg1_0 (boxB (n0 := 1024) (n1 := 4096) 128 c.val 2048 h.val) q (outV m)
abbrev OF1 (c : Dev nD) (h : Fin 2) : sProp 𝕄 := iprop(∃ f, pts (F := F) c cc0_stg1_0 (boxB (n0 := 1024) (n1 := 4096) 128 c.val 2048 h.val) fullShare f)

theorem o_box (c : Dev nD) (h : Fin 2) (i : ∀ a, (![128 * c.val, 2048 * h.val] : Fin 2 → ℕ) a + S128x2048.size a ≤ S1024x4096.size a) (y : S128x2048.Idx) :
    chunkV m c h.val y = outV m ((Rect.unit (s := S1024x4096) ![128 * c.val, 2048 * h.val] S128x2048.size i).emb y) := by
  have e0 : ((Rect.unit (s := S1024x4096) ![128 * c.val, 2048 * h.val] S128x2048.size i).emb y 0).val = 128 * c.val + (y 0).val := unit_val (n0 := 1024) (n1 := 4096) y 0
  have e1 : ((Rect.unit (s := S1024x4096) ![128 * c.val, 2048 * h.val] S128x2048.size i).emb y 1).val = 2048 * h.val + (y 1).val := unit_val (n0 := 1024) (n1 := 4096) y 1
  have y0 := lt2_0 (n0 := 128) (n1 := 2048) y
  have y1 := lt2_1 (n0 := 128) (n1 := 2048) y
  generalize (Rect.unit (s := S1024x4096) ![128 * c.val, 2048 * h.val] S128x2048.size i).emb y = a at e0 e1 ⊢
  unfold outV
  rw [dev_blk c (n := (a 0).val) (by omega), show (a 1).val / 2048 = h.val by omega]
  refine congrArg (chunkV m c h.val) (idx2_ext (n0 := 128) (n1 := 2048) ?_ ?_)
  · rw [at2_val0]; omega
  · rw [at2_val1]; omega

theorem put_o (c : Dev nD) (h : Fin 2) {o : Fin 2 → ℕ} (ho : o = ![128 * c.val, 2048 * h.val]) {w : FVec F S128x2048 .bf16} (hw : w = chunkV m c h.val)
    {i hl hx hm} {α : Type} {Q : α → sProp 𝕄} {k : PUnit → Prog (TpuEff nD τ sig (Elt F) Λ₀ .tc) α} :
    OF1 (F := F) c h ⊢ iprop((OB1 m c h fullShare -∗ WP c (k ⟨⟩) Q)
      -∗ WP c (.op (.load (Memref.whole cc0_stg1_0) (Rect.unit (s := S1024x4096) o S128x2048.size i).toLoadRect hl)
        (fun _ => .op (.store (Memref.whole cc0_stg1_0) (Rect.unit (s := S1024x4096) o S128x2048.size i) w Finset.univ hx hm) k)) Q) := by
  subst ho hw
  have e : ((Memref.whole cc0_stg1_0).access (Rect.unit (s := S1024x4096) ![128 * c.val, 2048 * h.val] S128x2048.size i)).set = boxB (n0 := 1024) (n1 := 4096) 128 c.val 2048 h.val := by
    rw [← unit_box (n0 := 1024) (n1 := 4096) (w := 128) (p := c.val) (w' := 2048) (q := h.val) (by decide) (by decide) (inb := i)]; exact View.set_slice_whole _ _
  have h := put_block c (Memref.whole cc0_stg1_0) (r := Rect.unit (s := S1024x4096) ![128 * c.val, 2048 * h.val] S128x2048.size i) (w := chunkV m c h.val) (hl := hl) (hx := hx) (hm := hm)
    (D := boxB (n0 := 1024) (n1 := 4096) 128 c.val 2048 h.val) e (outV m) (fun y => o_box m c h i y) (k := k) (Q := Q)
  exact h

/-- The own half is lent in thirds to the three neighbours. -/
abbrev OD (c : Dev nD) (h : Fin 2) : sProp 𝕄 := OB1 m c h (shareDrop fullShare 3)
theorem sep3 (Φ : Fin 3 → sProp 𝕄) : bigSep Finset.univ Φ = iprop(Φ 0 ∗ Φ 1 ∗ Φ 2) :=
  bigSep_univ_eq_bigSepL [0, 1, 2] (by decide) (by decide) Φ

theorem tok_o1 (c : Dev nD) (h : Fin 2) (l : Fin 3) : OB1 m c h (Transfers.shareTok fullShare 3 l) ⊢ sPay m c (.o1 l h) :=
  Entails.of_eq (show OB1 m c h (Transfers.shareTok fullShare 3 l) = sPay m c (.o1 l h) from rfl)

theorem lend (c : Dev nD) (h : Fin 2) : OB1 m c h fullShare ⊢ iprop(OD m c h ∗ sPay m c (.o1 0 h) ∗ sPay m c (.o1 1 h) ∗ sPay m c (.o1 2 h)) := by
  iintro H
  ihave H := (Transfers.pointsTo_toks_split fullShare 3) $$ H
  icases H with ⟨HD, HT⟩
  ihave HT := (Entails.of_eq (sep3 _)) $$ HT
  icases HT with ⟨H0, H1, H2⟩
  isplitl [HD]; · iexact HD
  isplitl [H0]; · iapply (tok_o1 m c h 0) $$ H0
  isplitl [H1]; · iapply (tok_o1 m c h 1) $$ H1
  iapply (tok_o1 m c h 2) $$ H2

/-- What a send of the result needs. -/
abbrev PO (c : Dev nD) (x : Tr) : sProp 𝕄 := iprop(SK c x ∗ rFree (F := F) (dst c x) (opp c x))

theorem nbr_nbr (c : Dev nD) (l : Fin 3) : nbr (nbr c l) l = c := by revert c l; decide
theorem rcv2_nbr (c : Dev nD) (l : Fin 3) : rcv2 (nbr c l) l = rel c l := by revert c l; decide
theorem rcv3_nbr (c : Dev nD) (h : Fin 2) : rcv3 (nbr3 c h) = rel3 c h := by revert c h; decide

theorem s_o1 (c : Dev nD) (l : Fin 3) (h : Fin 2) (no : ℕ) (hob : (obl c)[no]? = some (nbr c l, .r (.o1 l h))) {nd : ℕ} {hn : nd < nD} (hd : nd = (nbr c l).val)
    {o : Fin 2 → ℕ} (ho : o = ![128 * c.val, 2048 * h.val]) {os : Fin 2 → ℕ} (hs : os = ![l.val, h.val])
    {i i' is is' hsc hsrc hdst hsem} {α : Type} {Q : α → sProp 𝕄} {k : PUnit → Prog (TpuEff nD τ sig (Elt F) Λ₀ .tc) α} :
    Env m K ⊢ iprop(ow c no -∗ PO c (.o1 l h) -∗ sPay m c (.o1 l h) -∗ ((ow c (no + 1) ∗ SC c (.o1 l h)) -∗ WP c (k ⟨⟩) Q)
      -∗ WP c (.op (.enqueueDma (slO o i) (.remote (Dev.tc (⟨nd, hn⟩ : Dev nD) : Thread nD τ) (slO o i') (.dma (sem32 cc0_scratch20 os is)) hsc)
        (.dma (sem32 cc0_scratch21 os is')) hsrc hdst hsem) k) Q) := by
  subst hs
  have hh := send_o m K c (.o1 l h) trivial no hob (n := ⟨nd, hn⟩) (Fin.ext hd) c.val h.val (shareTokN fullShare l.val) ho (sem_o1_s l h) (sem_o1_r l h) rfl rfl
    (by show iprop(∃ f, pts (nbr c l) cc0_stg1_0 (boxB (n0 := 1024) (n1 := 4096) 128 (nbr (nbr c l) l).val 2048 h.val) fullShare f) = _; rw [nbr_nbr]; rfl)
    (by show pts (nbr c l) cc0_stg1_0 (boxB (n0 := 1024) (n1 := 4096) 128 (nbr (nbr c l) l).val 2048 h.val) fullShare (outV m) = _; rw [nbr_nbr]; rfl)
    (i := i) (i' := i') (hsc := hsc) (hsrc := hsrc) (hdst := hdst) (hsem := hsem) (k := k) (Q := Q)
  iintro #HE HO ⟨H1, H2⟩ H3 Hk
  iapply hh $$ HE HO H1 H3 H2 Hk

theorem dev37_at (c : Dev nD) : k0_dev37 c = (nbr c 0).val := by revert c; decide +kernel
theorem dev38_at (c : Dev nD) : k0_dev38 c = (nbr c 1).val := by revert c; decide +kernel
theorem dev39_at (c : Dev nD) : k0_dev39 c = (nbr c 2).val := by revert c; decide +kernel
theorem dev40_at (c : Dev nD) : k0_dev40 c = (nbr c 0).val := by revert c; decide +kernel
theorem dev41_at (c : Dev nD) : k0_dev41 c = (nbr c 1).val := by revert c; decide +kernel
theorem dev42_at (c : Dev nD) : k0_dev42 c = (nbr c 2).val := by revert c; decide +kernel

/-! ## The parts -/
/-! ### The first half of the columns -/

theorem part31 (c : Dev nD) (v2 : BitVec 32) (acc : FVec F S128x2048 .f32) (w1 : BitVec 32) {Q} :
    Env m K ⊢ iprop(ow c 36 -∗ CWo m c ((c.val + 0) % 8) 0 0 94 -∗ E4 m c 0
      -∗ (∀ w99, (ow c 36 ∗ E4 m c 0 ∗ CWo m c ((c.val + 2) % 8) 0 0 94) -∗ Q ⟨k0_pay55 acc (orB m c ((c.val + 0) % 8)) (woV m c ((c.val + 0) % 8) 0), w99⟩)
      -∗ WP c (At (k0_part31 (F := F)) c v2 acc w1) Q) := by
  simp only [k0_part31_eq_skeleton]
  unfold k0_part31_skel
  simp only [Prog.lift, Prog.bind_op, Prog.bind_ret, Prog.pure_eq_ret]
  iintro #HE HO C0 E Hk
  iapply (wait_w m K c 36 ((c.val + 0) % 8) 0 0 94 (by decide) (by decide +kernel)) $$ HE HO C0; iintro ⟨HO, L0, S0, T0⟩
  iapply (get_or m c 0 ((c.val + 0) % 8) rfl (k0_off34_eq c 0)) $$ E; iintro E
  iapply (get_wo m c ((c.val + 0) % 8) 0 0 rfl) $$ S0; iintro S0
  iapply (start_w m c ((c.val + 0) % 8) 0 ((c.val + 2) % 8) 0 0 94 (by decide +kernel) (k0_off3_eq c 2) rfl) $$ T0 S0 L0; iintro C0
  iapply wp_end
  iapply Hk
  iframe

theorem part32 (c : Dev nD) (v2 : BitVec 32) (acc : FVec F S128x2048 .f32) (w1 : BitVec 32) {Q} :
    Env m K ⊢ iprop(ow c 36 -∗ CWo m c ((c.val + 1) % 8) 0 1 95 -∗ RK c (.a (pe c 1))
      -∗ (∀ w99 w98, (ow c 36 ∗ Z c (.r (.a (pe c 1))) ∗ E4 m c 1 ∗ CWo m c ((c.val + 3) % 8) 0 1 95) -∗ Q ⟨k0_pay56 acc (orB m c ((c.val + 1) % 8)) (woV m c ((c.val + 1) % 8) 0), w99, w98, 0#32⟩)
      -∗ WP c (At (k0_part32 (F := F)) c v2 acc w1) Q) := by
  simp only [k0_part32_eq_skeleton]
  unfold k0_part32_skel
  simp only [Prog.lift, Prog.bind_op, Prog.bind_ret, Prog.pure_eq_ret]
  iintro #HE HO C1 R Hk
  iapply (recv_a m K c 0 1 rfl) $$ HE HO R; iintro ⟨HO, Z, E⟩
  iapply (wait_w m K c 36 ((c.val + 1) % 8) 0 1 95 (by decide) (by decide +kernel)) $$ HE HO C1; iintro ⟨HO, L1, S1, T1⟩
  iapply (get_or m c 1 ((c.val + 1) % 8) rfl (k0_off34_eq c 1)) $$ E; iintro E
  iapply (get_wo m c ((c.val + 1) % 8) 0 1 rfl) $$ S1; iintro S1
  iapply (start_w m c ((c.val + 1) % 8) 0 ((c.val + 3) % 8) 0 1 95 (by decide +kernel) (k0_off3_eq c 3) rfl) $$ T1 S1 L1; iintro C1
  iapply wp_end
  iapply Hk
  iframe

theorem part33 (c : Dev nD) (v2 : BitVec 32) (acc : FVec F S128x2048 .f32) (w1 w2 w3 : BitVec 32) {Q} :
    Env m K ⊢ iprop(ow c 36 -∗ CWo m c ((c.val + 2) % 8) 0 0 94 -∗ RK c (.a (pe c 2))
      -∗ (∀ w99, (ow c 36 ∗ Z c (.r (.a (pe c 2))) ∗ E4 m c 2 ∗ CWo m c ((c.val + 4) % 8) 0 0 94) -∗ Q ⟨k0_pay57 acc (orB m c ((c.val + 2) % 8)) (woV m c ((c.val + 2) % 8) 0), w99⟩)
      -∗ WP c (At (k0_part33 (F := F)) c v2 acc w1 w2 w3) Q) := by
  simp only [k0_part33_eq_skeleton]
  unfold k0_part33_skel
  simp only [Prog.lift, Prog.bind_op, Prog.bind_ret, Prog.pure_eq_ret]
  iintro #HE HO C0 R Hk
  iapply (recv_a m K c 1 2 rfl) $$ HE HO R; iintro ⟨HO, Z, E⟩
  iapply (wait_w m K c 36 ((c.val + 2) % 8) 0 0 94 (by decide) (by decide +kernel)) $$ HE HO C0; iintro ⟨HO, L0, S0, T0⟩
  iapply (get_or m c 2 ((c.val + 2) % 8) rfl (k0_off34_eq c 2)) $$ E; iintro E
  iapply (get_wo m c ((c.val + 2) % 8) 0 0 rfl) $$ S0; iintro S0
  iapply (start_w m c ((c.val + 2) % 8) 0 ((c.val + 4) % 8) 0 0 94 (by decide +kernel) (k0_off3_eq c 4) rfl) $$ T0 S0 L0; iintro C0
  iapply wp_end
  iapply Hk
  iframe

theorem part34 (c : Dev nD) (v2 : BitVec 32) (acc : FVec F S128x2048 .f32) (w1 : BitVec 32) {Q} :
    Env m K ⊢ iprop(ow c 36 -∗ CWo m c ((c.val + 3) % 8) 0 1 95 -∗ RK c (.a (pe c 3))
      -∗ ((ow c 36 ∗ Z c (.r (.a (pe c 3))) ∗ E4 m c 3 ∗ LZ c 95 ∗ SL m c ((c.val + 3) % 8) 0 1 ∗ WT m c 1) -∗ Q (k0_pay58 acc (orB m c ((c.val + 3) % 8)) (woV m c ((c.val + 3) % 8) 0)))
      -∗ WP c (At (k0_part34 (F := F)) c v2 acc w1) Q) := by
  simp only [k0_part34_eq_skeleton]
  unfold k0_part34_skel
  simp only [Prog.lift, Prog.bind_op, Prog.bind_ret, Prog.pure_eq_ret]
  iintro #HE HO C1 R Hk
  iapply (recv_a m K c 2 3 rfl) $$ HE HO R; iintro ⟨HO, Z, E⟩
  iapply (wait_w m K c 36 ((c.val + 3) % 8) 0 1 95 (by decide) (by decide +kernel)) $$ HE HO C1; iintro ⟨HO, L1, S1, T1⟩
  iapply (get_or m c 3 ((c.val + 3) % 8) rfl (k0_off34_eq c 3)) $$ E; iintro E
  iapply (get_wo m c ((c.val + 3) % 8) 0 1 rfl) $$ S1; iintro S1
  iapply wp_end
  iapply Hk
  iframe

theorem part35 (c : Dev nD) (v2 : BitVec 32) (acc : FVec F S128x2048 .f32) {Q} :
    Env m K ⊢ iprop(ow c 36 -∗ LZ c 95 -∗ SL m c ((c.val + 3) % 8) 0 1 -∗ WT m c 1 -∗ CWo m c ((c.val + 4) % 8) 0 0 94 -∗ RK c (.a (pe c 4))
      -∗ ((ow c 36 ∗ CWo m c ((c.val + 5) % 8) 0 1 95 ∗ Z c (.r (.a (pe c 4))) ∗ E4 m c 4 ∗ LZ c 94 ∗ SL m c ((c.val + 4) % 8) 0 0 ∗ WT m c 0) -∗ Q (k0_pay59 acc (orB m c ((c.val + 4) % 8)) (woV m c ((c.val + 4) % 8) 0)))
      -∗ WP c (At (k0_part35 (F := F)) c v2 acc) Q) := by
  simp only [k0_part35_eq_skeleton]
  unfold k0_part35_skel
  simp only [Prog.lift, Prog.bind_op, Prog.bind_ret, Prog.pure_eq_ret]
  iintro #HE HO L1 S1 T1 C0 R Hk
  iapply (start_w m c ((c.val + 3) % 8) 0 ((c.val + 5) % 8) 0 1 95 (by decide +kernel) (k0_off3_eq c 5) rfl) $$ T1 S1 L1; iintro C1
  iapply (recv_a m K c 3 4 rfl) $$ HE HO R; iintro ⟨HO, Z, E⟩
  iapply (wait_w m K c 36 ((c.val + 4) % 8) 0 0 94 (by decide) (by decide +kernel)) $$ HE HO C0; iintro ⟨HO, L0, S0, T0⟩
  iapply (get_or m c 4 ((c.val + 4) % 8) rfl (k0_off34_eq c 4)) $$ E; iintro E
  iapply (get_wo m c ((c.val + 4) % 8) 0 0 rfl) $$ S0; iintro S0
  iapply wp_end
  iapply Hk
  iframe

theorem part36 (c : Dev nD) (v2 : BitVec 32) (acc : FVec F S128x2048 .f32) {Q} :
    Env m K ⊢ iprop(ow c 36 -∗ LZ c 94 -∗ SL m c ((c.val + 4) % 8) 0 0 -∗ WT m c 0 -∗ CWo m c ((c.val + 5) % 8) 0 1 95 -∗ RK c (.a (pe c 5))
      -∗ ((ow c 36 ∗ CWo m c ((c.val + 6) % 8) 0 0 94 ∗ Z c (.r (.a (pe c 5))) ∗ E4 m c 5 ∗ LZ c 95 ∗ SL m c ((c.val + 5) % 8) 0 1 ∗ WT m c 1) -∗ Q (k0_pay60 acc (orB m c ((c.val + 5) % 8)) (woV m c ((c.val + 5) % 8) 0)))
      -∗ WP c (At (k0_part36 (F := F)) c v2 acc) Q) := by
  simp only [k0_part36_eq_skeleton]
  unfold k0_part36_skel
  simp only [Prog.lift, Prog.bind_op, Prog.bind_ret, Prog.pure_eq_ret]
  iintro #HE HO L0 S0 T0 C1 R Hk
  iapply (start_w m c ((c.val + 4) % 8) 0 ((c.val + 6) % 8) 0 0 94 (by decide +kernel) (k0_off3_eq c 6) rfl) $$ T0 S0 L0; iintro C0
  iapply (recv_a m K c 4 5 rfl) $$ HE HO R; iintro ⟨HO, Z, E⟩
  iapply (wait_w m K c 36 ((c.val + 5) % 8) 0 1 95 (by decide) (by decide +kernel)) $$ HE HO C1; iintro ⟨HO, L1, S1, T1⟩
  iapply (get_or m c 5 ((c.val + 5) % 8) rfl (k0_off34_eq c 5)) $$ E; iintro E
  iapply (get_wo m c ((c.val + 5) % 8) 0 1 rfl) $$ S1; iintro S1
  iapply wp_end
  iapply Hk
  iframe

theorem part37 (c : Dev nD) (v2 : BitVec 32) {Q} :
    Env m K ⊢ iprop(ow c 36 -∗ LZ c 95 -∗ SL m c ((c.val + 5) % 8) 0 1 -∗ WT m c 1 -∗ CWo m c ((c.val + 6) % 8) 0 0 94 -∗ RK c (.a (pe c 6))
      -∗ ((ow c 36 ∗ CWo m c ((c.val + 7) % 8) 0 1 95 ∗ Z c (.r (.a (pe c 6))) ∗ E4 m c 6 ∗ LZ c 94 ∗ SL m c ((c.val + 6) % 8) 0 0 ∗ WT m c 0) -∗ Q (orB m c ((c.val + 6) % 8)))
      -∗ WP c (At (k0_part37 (F := F)) c v2) Q) := by
  simp only [k0_part37_eq_skeleton]
  unfold k0_part37_skel
  simp only [Prog.lift, Prog.bind_op, Prog.bind_ret, Prog.pure_eq_ret]
  iintro #HE HO L1 S1 T1 C0 R Hk
  iapply (start_w m c ((c.val + 5) % 8) 0 ((c.val + 7) % 8) 0 1 95 (by decide +kernel) (k0_off3_eq c 7) rfl) $$ T1 S1 L1; iintro C1
  iapply (recv_a m K c 5 6 rfl) $$ HE HO R; iintro ⟨HO, Z, E⟩
  iapply (wait_w m K c 36 ((c.val + 6) % 8) 0 0 94 (by decide) (by decide +kernel)) $$ HE HO C0; iintro ⟨HO, L0, S0, T0⟩
  iapply (get_or m c 6 ((c.val + 6) % 8) rfl (k0_off34_eq c 6)) $$ E; iintro E
  iapply wp_end
  iapply Hk
  iframe

theorem part38 (c : Dev nD) (v2 : BitVec 32) (acc : FVec F S128x2048 .f32) (o6 : Vec F S128x512 .bf16) {Q} :
    Env m K ⊢ iprop(ow c 36 -∗ LZ c 94 -∗ SL m c ((c.val + 6) % 8) 0 0 -∗ WT m c 0 -∗ CWo m c ((c.val + 7) % 8) 0 1 95 -∗ RK c (.a (pe c 7))
      -∗ (∀ w99, (ow c 36 ∗ CWo m c ((c.val + 0) % 8) 1 0 94 ∗ Z c (.r (.a (pe c 7))) ∗ E4 m c 7 ∗ LZ c 95 ∗ SL m c ((c.val + 7) % 8) 0 1 ∗ WT m c 1) -∗ Q ⟨k0_pay61 acc o6 (woV m c ((c.val + 6) % 8) 0), w99⟩)
      -∗ WP c (At (k0_part38 (F := F)) c v2 acc o6) Q) := by
  simp only [k0_part38_eq_skeleton]
  unfold k0_part38_skel
  simp only [Prog.lift, Prog.bind_op, Prog.bind_ret, Prog.pure_eq_ret]
  iintro #HE HO L0 S0 T0 C1 R Hk
  iapply (get_wo m c ((c.val + 6) % 8) 0 0 rfl) $$ S0; iintro S0
  iapply (start_w m c ((c.val + 6) % 8) 0 ((c.val + 0) % 8) 1 0 94 (by decide +kernel) (k0_off36_eq c 0) rfl) $$ T0 S0 L0; iintro C0
  iapply (recv_a m K c 6 7 rfl) $$ HE HO R; iintro ⟨HO, Z, E⟩
  iapply (wait_w m K c 36 ((c.val + 7) % 8) 0 1 95 (by decide) (by decide +kernel)) $$ HE HO C1; iintro ⟨HO, L1, S1, T1⟩
  iapply wp_end
  iapply Hk
  iframe

theorem part39 (c : Dev nD) (v2 : BitVec 32) (acc : FVec F S128x2048 .f32) (w1 w2 : BitVec 32) (hacc : k0_pay62 acc (orB m c ((c.val + 7) % 8)) (woV m c ((c.val + 7) % 8) 0) = chunkV m c 0) {Q} :
    Env m K ⊢ iprop(ow c 36 -∗ LZ c 95 -∗ SL m c ((c.val + 7) % 8) 0 1 -∗ WT m c 1 -∗ E4 m c 7 -∗ OF1 c 0 -∗ PO c (.o1 0 0)
      -∗ ((ow c 37 ∗ CWo m c ((c.val + 1) % 8) 1 1 95 ∗ E4 m c 7 ∗ OD m c 0 ∗ SC c (.o1 0 0) ∗ sPay m c (.o1 1 0) ∗ sPay m c (.o1 2 0)) -∗ Q PUnit.unit)
      -∗ WP c (At (k0_part39 (F := F)) c v2 w1 acc w2) Q) := by
  simp only [k0_part39_eq_skeleton]
  unfold k0_part39_skel
  simp only [Prog.lift, Prog.bind_op, Prog.bind_ret, Prog.pure_eq_ret]
  iintro #HE HO L1 S1 T1 E HF P0 Hk
  iapply (get_or m c 7 ((c.val + 7) % 8) rfl (k0_off34_eq c 7)) $$ E; iintro E
  iapply (get_wo m c ((c.val + 7) % 8) 0 1 rfl) $$ S1; iintro S1
  iapply (start_w m c ((c.val + 7) % 8) 0 ((c.val + 1) % 8) 1 1 95 (by decide +kernel) (k0_off36_eq c 1) rfl) $$ T1 S1 L1; iintro C1
  iapply (put_o m c 0 (k0_off37_eq c) hacc) $$ HF; iintro HF
  ihave HF := (lend m c 0) $$ HF
  icases HF with ⟨HD, H0, H1, H2⟩
  iapply (s_o1 m K c 0 0 36 rfl (dev37_at c) (k0_off38_eq c) rfl) $$ HE HO P0 H0; iintro ⟨HO, X0⟩
  iapply wp_end
  iapply Hk
  iframe

/-! ### The second half of the columns -/

theorem part40 (c : Dev nD) (v2 w1 w2 : BitVec 32) {Q} :
    Env m K ⊢ iprop(ow c 37 -∗ PO c (.o1 1 0) -∗ PO c (.o1 2 0) -∗ sPay m c (.o1 1 0) -∗ sPay m c (.o1 2 0) -∗ CWo m c ((c.val + 0) % 8) 1 0 94
      -∗ (∀ w99, (ow c 39 ∗ SC c (.o1 1 0) ∗ SC c (.o1 2 0) ∗ LZ c 94 ∗ SL m c ((c.val + 0) % 8) 1 0 ∗ WT m c 0) -∗ Q ⟨k0_pay63, w99⟩)
      -∗ WP c (At (k0_part40 (F := F)) c v2 w1 w2) Q) := by
  simp only [k0_part40_eq_skeleton]
  unfold k0_part40_skel
  simp only [Prog.lift, Prog.bind_op, Prog.bind_ret, Prog.pure_eq_ret]
  iintro #HE HO P1 P2 H1 H2 C0 Hk
  iapply (s_o1 m K c 1 0 37 rfl (dev38_at c) (k0_off38_eq c) rfl) $$ HE HO P1 H1; iintro ⟨HO, X1⟩
  iapply (s_o1 m K c 2 0 38 rfl (dev39_at c) (k0_off38_eq c) rfl) $$ HE HO P2 H2; iintro ⟨HO, X2⟩
  iapply (wait_w m K c 39 ((c.val + 0) % 8) 1 0 94 (by decide) (by decide +kernel)) $$ HE HO C0; iintro ⟨HO, L0, S0, T0⟩
  iapply wp_end
  iapply Hk
  iframe

theorem part41 (c : Dev nD) (v2 : BitVec 32) (acc : FVec F S128x2048 .f32) (w1 : BitVec 32) {Q} :
    Env m K ⊢ iprop(ow c 39 -∗ LZ c 94 -∗ SL m c ((c.val + 0) % 8) 1 0 -∗ WT m c 0 -∗ E4 m c 0 -∗ E4 m c 1 -∗ CWo m c ((c.val + 1) % 8) 1 1 95
      -∗ ((ow c 39 ∗ CWo m c ((c.val + 2) % 8) 1 0 94 ∗ E4 m c 0 ∗ E4 m c 1 ∗ LZ c 95 ∗ SL m c ((c.val + 1) % 8) 1 1 ∗ WT m c 1) -∗ Q ⟨k0_pay64 acc (orB m c ((c.val + 0) % 8)) (woV m c ((c.val + 0) % 8) 1), (orB m c ((c.val + 1) % 8)), k0_pay65 (woV m c ((c.val + 1) % 8) 1)⟩)
      -∗ WP c (At (k0_part41 (F := F)) c v2 acc w1) Q) := by
  simp only [k0_part41_eq_skeleton]
  unfold k0_part41_skel
  simp only [Prog.lift, Prog.bind_op, Prog.bind_ret, Prog.pure_eq_ret]
  iintro #HE HO L0 S0 T0 E E1 C1 Hk
  iapply (get_or m c 0 ((c.val + 0) % 8) rfl (k0_off34_eq c 0)) $$ E; iintro E
  iapply (get_wo m c ((c.val + 0) % 8) 1 0 rfl) $$ S0; iintro S0
  iapply (start_w m c ((c.val + 0) % 8) 1 ((c.val + 2) % 8) 1 0 94 (by decide +kernel) (k0_off36_eq c 2) rfl) $$ T0 S0 L0; iintro C0
  iapply (wait_w m K c 39 ((c.val + 1) % 8) 1 1 95 (by decide) (by decide +kernel)) $$ HE HO C1; iintro ⟨HO, L1, S1, T1⟩
  iapply (get_or m c 1 ((c.val + 1) % 8) rfl (k0_off34_eq c 1)) $$ E1; iintro E1
  iapply (get_wo m c ((c.val + 1) % 8) 1 1 rfl) $$ S1; iintro S1
  iapply wp_end
  iapply Hk
  iframe

theorem part42 (c : Dev nD) (v2 : BitVec 32) (acc : FVec F S128x2048 .f32) (o1 : Vec F S128x512 .bf16) (w1 : FVec F S512x2048 .f32) {Q} :
    Env m K ⊢ iprop(ow c 39 -∗ LZ c 95 -∗ SL m c ((c.val + 1) % 8) 1 1 -∗ WT m c 1 -∗ E4 m c 2 -∗ CWo m c ((c.val + 2) % 8) 1 0 94
      -∗ (∀ w99, (ow c 39 ∗ CWo m c ((c.val + 3) % 8) 1 1 95 ∗ E4 m c 2 ∗ LZ c 94 ∗ SL m c ((c.val + 2) % 8) 1 0 ∗ WT m c 0) -∗ Q ⟨k0_pay66 acc o1 w1 (orB m c ((c.val + 2) % 8)) (woV m c ((c.val + 2) % 8) 1), w99⟩)
      -∗ WP c (At (k0_part42 (F := F)) c v2 acc o1 w1) Q) := by
  simp only [k0_part42_eq_skeleton]
  unfold k0_part42_skel
  simp only [Prog.lift, Prog.bind_op, Prog.bind_ret, Prog.pure_eq_ret]
  iintro #HE HO L1 S1 T1 E C0 Hk
  iapply (start_w m c ((c.val + 1) % 8) 1 ((c.val + 3) % 8) 1 1 95 (by decide +kernel) (k0_off36_eq c 3) rfl) $$ T1 S1 L1; iintro C1
  iapply (wait_w m K c 39 ((c.val + 2) % 8) 1 0 94 (by decide) (by decide +kernel)) $$ HE HO C0; iintro ⟨HO, L0, S0, T0⟩
  iapply (get_or m c 2 ((c.val + 2) % 8) rfl (k0_off34_eq c 2)) $$ E; iintro E
  iapply (get_wo m c ((c.val + 2) % 8) 1 0 rfl) $$ S0; iintro S0
  iapply wp_end
  iapply Hk
  iframe

theorem part43 (c : Dev nD) (v2 : BitVec 32) (acc : FVec F S128x2048 .f32) (w1 : BitVec 32) {Q} :
    Env m K ⊢ iprop(ow c 39 -∗ LZ c 94 -∗ SL m c ((c.val + 2) % 8) 1 0 -∗ WT m c 0 -∗ E4 m c 3 -∗ CWo m c ((c.val + 3) % 8) 1 1 95
      -∗ ((ow c 39 ∗ CWo m c ((c.val + 4) % 8) 1 0 94 ∗ E4 m c 3 ∗ LZ c 95 ∗ SL m c ((c.val + 3) % 8) 1 1 ∗ WT m c 1) -∗ Q (k0_pay67 acc (orB m c ((c.val + 3) % 8)) (woV m c ((c.val + 3) % 8) 1)))
      -∗ WP c (At (k0_part43 (F := F)) c v2 acc w1) Q) := by
  simp only [k0_part43_eq_skeleton]
  unfold k0_part43_skel
  simp only [Prog.lift, Prog.bind_op, Prog.bind_ret, Prog.pure_eq_ret]
  iintro #HE HO L0 S0 T0 E C1 Hk
  iapply (start_w m c ((c.val + 2) % 8) 1 ((c.val + 4) % 8) 1 0 94 (by decide +kernel) (k0_off36_eq c 4) rfl) $$ T0 S0 L0; iintro C0
  iapply (wait_w m K c 39 ((c.val + 3) % 8) 1 1 95 (by decide) (by decide +kernel)) $$ HE HO C1; iintro ⟨HO, L1, S1, T1⟩
  iapply (get_or m c 3 ((c.val + 3) % 8) rfl (k0_off34_eq c 3)) $$ E; iintro E
  iapply (get_wo m c ((c.val + 3) % 8) 1 1 rfl) $$ S1; iintro S1
  iapply wp_end
  iapply Hk
  iframe

theorem part44 (c : Dev nD) (v2 : BitVec 32) (acc : FVec F S128x2048 .f32) {Q} :
    Env m K ⊢ iprop(ow c 39 -∗ LZ c 95 -∗ SL m c ((c.val + 3) % 8) 1 1 -∗ WT m c 1 -∗ E4 m c 4 -∗ CWo m c ((c.val + 4) % 8) 1 0 94
      -∗ (∀ w99, (ow c 39 ∗ CWo m c ((c.val + 5) % 8) 1 1 95 ∗ CWo m c ((c.val + 6) % 8) 1 0 94 ∗ E4 m c 4) -∗ Q ⟨k0_pay68 acc (orB m c ((c.val + 4) % 8)) (woV m c ((c.val + 4) % 8) 1), w99, 8#32⟩)
      -∗ WP c (At (k0_part44 (F := F)) c v2 acc) Q) := by
  simp only [k0_part44_eq_skeleton]
  unfold k0_part44_skel
  simp only [Prog.lift, Prog.bind_op, Prog.bind_ret, Prog.pure_eq_ret]
  iintro #HE HO L1 S1 T1 E C0 Hk
  iapply (start_w m c ((c.val + 3) % 8) 1 ((c.val + 5) % 8) 1 1 95 (by decide +kernel) (k0_off36_eq c 5) rfl) $$ T1 S1 L1; iintro C1
  iapply (wait_w m K c 39 ((c.val + 4) % 8) 1 0 94 (by decide) (by decide +kernel)) $$ HE HO C0; iintro ⟨HO, L0, S0, T0⟩
  iapply (get_or m c 4 ((c.val + 4) % 8) rfl (k0_off34_eq c 4)) $$ E; iintro E
  iapply (get_wo m c ((c.val + 4) % 8) 1 0 rfl) $$ S0; iintro S0
  iapply (start_w m c ((c.val + 4) % 8) 1 ((c.val + 6) % 8) 1 0 94 (by decide +kernel) (k0_off36_eq c 6) rfl) $$ T0 S0 L0; iintro C0
  iapply wp_end
  iapply Hk
  iframe

theorem part45 (c : Dev nD) (v2 : BitVec 32) (acc : FVec F S128x2048 .f32) (w1 w2 : BitVec 32) {Q} :
    Env m K ⊢ iprop(ow c 39 -∗ E4 m c 5 -∗ CWo m c ((c.val + 5) % 8) 1 1 95
      -∗ (∀ w99, (ow c 39 ∗ CWo m c ((c.val + 7) % 8) 1 1 95 ∗ E4 m c 5) -∗ Q ⟨k0_pay69 acc (orB m c ((c.val + 5) % 8)) (woV m c ((c.val + 5) % 8) 1), w99⟩)
      -∗ WP c (At (k0_part45 (F := F)) c v2 acc w1 w2) Q) := by
  simp only [k0_part45_eq_skeleton]
  unfold k0_part45_skel
  simp only [Prog.lift, Prog.bind_op, Prog.bind_ret, Prog.pure_eq_ret]
  iintro #HE HO E C1 Hk
  iapply (wait_w m K c 39 ((c.val + 5) % 8) 1 1 95 (by decide) (by decide +kernel)) $$ HE HO C1; iintro ⟨HO, L1, S1, T1⟩
  iapply (get_or m c 5 ((c.val + 5) % 8) rfl (k0_off34_eq c 5)) $$ E; iintro E
  iapply (get_wo m c ((c.val + 5) % 8) 1 1 rfl) $$ S1; iintro S1
  iapply (start_w m c ((c.val + 5) % 8) 1 ((c.val + 7) % 8) 1 1 95 (by decide +kernel) (k0_off36_eq c 7) rfl) $$ T1 S1 L1; iintro C1
  iapply wp_end
  iapply Hk
  iframe

theorem part46 (c : Dev nD) (v2 : BitVec 32) (acc : FVec F S128x2048 .f32) (w1 : BitVec 32) {Q} :
    Env m K ⊢ iprop(ow c 39 -∗ E4 m c 6 -∗ E4 m c 7 -∗ CWo m c ((c.val + 6) % 8) 1 0 94 -∗ CWo m c ((c.val + 7) % 8) 1 1 95
      -∗ ((ow c 39 ∗ E4 m c 6 ∗ E4 m c 7 ∗ LZ c 94 ∗ SL m c ((c.val + 6) % 8) 1 0 ∗ WT m c 0 ∗ LZ c 95 ∗ SL m c ((c.val + 7) % 8) 1 1 ∗ WT m c 1) -∗ Q (k0_pay70 acc (orB m c ((c.val + 6) % 8)) (woV m c ((c.val + 6) % 8) 1) (orB m c ((c.val + 7) % 8)) (woV m c ((c.val + 7) % 8) 1)))
      -∗ WP c (At (k0_part46 (F := F)) c v2 acc w1) Q) := by
  simp only [k0_part46_eq_skeleton]
  unfold k0_part46_skel
  simp only [Prog.lift, Prog.bind_op, Prog.bind_ret, Prog.pure_eq_ret]
  iintro #HE HO E E1 C0 C1 Hk
  iapply (wait_w m K c 39 ((c.val + 6) % 8) 1 0 94 (by decide) (by decide +kernel)) $$ HE HO C0; iintro ⟨HO, L0, S0, T0⟩
  iapply (get_or m c 6 ((c.val + 6) % 8) rfl (k0_off34_eq c 6)) $$ E; iintro E
  iapply (get_wo m c ((c.val + 6) % 8) 1 0 rfl) $$ S0; iintro S0
  iapply (wait_w m K c 39 ((c.val + 7) % 8) 1 1 95 (by decide) (by decide +kernel)) $$ HE HO C1; iintro ⟨HO, L1, S1, T1⟩
  iapply (get_or m c 7 ((c.val + 7) % 8) rfl (k0_off34_eq c 7)) $$ E1; iintro E1
  iapply (get_wo m c ((c.val + 7) % 8) 1 1 rfl) $$ S1; iintro S1
  iapply wp_end
  iapply Hk
  iframe

theorem part47 (c : Dev nD) (v2 w1 w2 w3 : BitVec 32) (v : FVec F S128x2048 .bf16) (hv : v = chunkV m c 1) {Q} :
    Env m K ⊢ iprop(ow c 39 -∗ OF1 c 1 -∗ PO c (.o1 0 1) -∗ PO c (.o1 1 1)
      -∗ ((ow c 41 ∗ OD m c 1 ∗ SC c (.o1 0 1) ∗ SC c (.o1 1 1) ∗ sPay m c (.o1 2 1)) -∗ Q PUnit.unit)
      -∗ WP c (At (k0_part47 (F := F)) c v2 w1 w2 w3 v) Q) := by
  simp only [k0_part47_eq_skeleton]
  unfold k0_part47_skel
  simp only [Prog.lift, Prog.bind_op, Prog.bind_ret, Prog.pure_eq_ret]
  iintro #HE HO HF P0 P1 Hk
  iapply (put_o m c 1 (k0_off39_eq c) hv) $$ HF; iintro HF
  ihave HF := (lend m c 1) $$ HF
  icases HF with ⟨HD, H0, H1, H2⟩
  iapply (s_o1 m K c 0 1 39 rfl (dev40_at c) (k0_off40_eq c) rfl) $$ HE HO P0 H0; iintro ⟨HO, X0⟩
  iapply (s_o1 m K c 1 1 40 rfl (dev41_at c) (k0_off40_eq c) rfl) $$ HE HO P1 H1; iintro ⟨HO, X1⟩
  iapply wp_end
  iapply Hk
  iframe

end Cert.Mla
-- ==== Proof.PartsF.lean ====
/-
# The program's parts: the exchange of the result and the waits for the sends
-/
module

public import proofs.«01_k».proof.Proof.PartsE

@[expose] public section

noncomputable section

namespace Cert.Mla

open Cert.KernelIdeal Cert.KernelIdeal.Gen

open Idealize.ShloMosaic
open Idealize.ShloMosaic.TcCoe
open Idealize.ShloMosaic.RefSig (tileCredit)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop Flight Flight_mono)

variable {F : FTy → Type} [FloatOps F]

local notation "𝕄" => MT nD τ sig Unit (Elt F) ℕ UU ℕ

variable (m : (ℓ : Loc nD τ sig) → Buf (Elt F) ℓ) (K : Dev nD × Cl → ℕ)

/-! ## The steps -/

theorem s_o2 (c : Dev nD) (l : Fin 3) (h : Fin 2) (no : ℕ) (hob : (obl c)[no]? = some (nbr c l, .r (.o2 l h))) {nd : ℕ} {hn : nd < nD} (hd : nd = (nbr c l).val)
    {o : Fin 2 → ℕ} (ho : o = ![128 * (rel c l).val, 2048 * h.val]) {os : Fin 2 → ℕ} (hs : os = ![l.val, h.val])
    {i i' is is' hsc hsrc hdst hsem} {α : Type} {Q : α → sProp 𝕄} {k : PUnit → Prog (TpuEff nD τ sig (Elt F) Λ₀ .tc) α} :
    Env m K ⊢ iprop(ow c no -∗ PO c (.o2 l h) -∗ sPay m c (.o2 l h) -∗ ((ow c (no + 1) ∗ SC c (.o2 l h)) -∗ WP c (k ⟨⟩) Q)
      -∗ WP c (.op (.enqueueDma (slO o i) (.remote (Dev.tc (⟨nd, hn⟩ : Dev nD) : Thread nD τ) (slO o i') (.dma (sem32 cc0_scratch22 os is)) hsc)
        (.dma (sem32 cc0_scratch23 os is')) hsrc hdst hsem) k) Q) := by
  subst hs
  have hh := send_o m K c (.o2 l h) trivial no hob (n := ⟨nd, hn⟩) (Fin.ext hd) (rel c l).val h.val fullShare ho (sem_o2_s l h) (sem_o2_r l h) rfl rfl
    (by show iprop(∃ f, pts (nbr c l) cc0_stg1_0 (boxB (n0 := 1024) (n1 := 4096) 128 (rcv2 (nbr c l) l).val 2048 h.val) fullShare f) = _; rw [rcv2_nbr]; rfl)
    (by show pts (nbr c l) cc0_stg1_0 (boxB (n0 := 1024) (n1 := 4096) 128 (rcv2 (nbr c l) l).val 2048 h.val) fullShare (outV m) = _; rw [rcv2_nbr]; rfl)
    (i := i) (i' := i') (hsc := hsc) (hsrc := hsrc) (hdst := hdst) (hsem := hsem) (k := k) (Q := Q)
  iintro #HE HO ⟨H1, H2⟩ H3 Hk
  iapply hh $$ HE HO H1 H3 H2 Hk

theorem s_o3 (c : Dev nD) (h : Fin 2) (no : ℕ) (hob : (obl c)[no]? = some (nbr3 c h, .r (.o3 h))) {nd : ℕ} {hn : nd < nD} (hd : nd = (nbr3 c h).val)
    {o : Fin 2 → ℕ} (ho : o = ![128 * (rel3 c h).val, 2048 * h.val]) {os : Fin 1 → ℕ} (hs : os = ![h.val])
    {i i' is is' hsc hsrc hdst hsem} {α : Type} {Q : α → sProp 𝕄} {k : PUnit → Prog (TpuEff nD τ sig (Elt F) Λ₀ .tc) α} :
    Env m K ⊢ iprop(ow c no -∗ PO c (.o3 h) -∗ sPay m c (.o3 h) -∗ ((ow c (no + 1) ∗ SC c (.o3 h)) -∗ WP c (k ⟨⟩) Q)
      -∗ WP c (.op (.enqueueDma (slO o i) (.remote (Dev.tc (⟨nd, hn⟩ : Dev nD) : Thread nD τ) (slO o i') (.dma (sem2 cc0_scratch24 os is)) hsc)
        (.dma (sem2 cc0_scratch25 os is')) hsrc hdst hsem) k) Q) := by
  subst hs
  have hh := send_o m K c (.o3 h) trivial no hob (n := ⟨nd, hn⟩) (Fin.ext hd) (rel3 c h).val h.val fullShare ho (sem_o3_s h) (sem_o3_r h) rfl rfl
    (by show iprop(∃ f, pts (nbr3 c h) cc0_stg1_0 (boxB (n0 := 1024) (n1 := 4096) 128 (rcv3 (nbr3 c h)).val 2048 h.val) fullShare f) = _; rw [rcv3_nbr]; rfl)
    (by show pts (nbr3 c h) cc0_stg1_0 (boxB (n0 := 1024) (n1 := 4096) 128 (rcv3 (nbr3 c h)).val 2048 h.val) fullShare (outV m) = _; rw [rcv3_nbr]; rfl)
    (i := i) (i' := i') (hsc := hsc) (hsrc := hsrc) (hdst := hdst) (hsem := hsem) (k := k) (Q := Q)
  iintro #HE HO ⟨H1, H2⟩ H3 Hk
  iapply hh $$ HE HO H1 H3 H2 Hk

/-- A receive of a chunk of the result. -/
theorem r_o (c : Dev nD) (x : Tr) (hl : live c x) (n : ℕ) (hn : ∀ v ∈ oblLv.drop n, clLv (.r x) < v) (hN : trAmt x = 16384) {sem : DmaSem sig} (hs : sem = rS x) {X : sProp 𝕄} (hX : rPay m c x = X)
    {sp sp' : Space} {s' : Shape} {e' : EltTy} {srcw : Memref sig .tc sp' s' e'} {dstw : Memref sig .tc sp S128x2048 .bf16} {h1 : srcw.view.WordExact} {h2 : dstw.view.WordExact}
    {α : Type} {Q : α → sProp 𝕄} {k : PUnit → Prog (TpuEff nD τ sig (Elt F) Λ₀ .tc) α} :
    Env m K ⊢ iprop(ow c n -∗ RK c x -∗ ((ow c n ∗ Z c (.r x) ∗ X) -∗ WP c (k ⟨⟩) Q) -∗ WP c (.op (.waitDma2 sem srcw dstw h1 h2) k) Q) := by
  subst hX
  exact recv_wait m K c x hl n hn hs (amt_3.trans hN.symm)

/-- The wait for a send of a chunk of the result. -/
theorem t_o (c : Dev nD) (x : Tr) (hl : live c x) (hN : trAmt x = 16384) {sem : DmaSem sig} (hs : sem = sS x)
    {sp sp' : Space} {s' : Shape} {e' : EltTy} {srcw : Memref sig .tc sp' s' e'} {dstw : Memref sig .tc sp S128x2048 .bf16} {h1 : srcw.view.WordExact} {h2 : dstw.view.WordExact}
    {α : Type} {Q : α → sProp 𝕄} {k : PUnit → Prog (TpuEff nD τ sig (Elt F) Λ₀ .tc) α} :
    Env m K ⊢ iprop(ow c 50 -∗ SC c x -∗ ((ow c 50 ∗ Z c (.s x) ∗ sPay m c x) -∗ WP c (k ⟨⟩) Q) -∗ WP c (.op (.waitDma2 sem srcw dstw h1 h2) k) Q) :=
  send_wait m K c x hl 50 (show ∀ v ∈ oblLv.drop 50, 0 < v by decide) hs (amt_3.trans hN.symm)

/-- The semaphore of a send of a chunk, returned. -/
abbrev ZS (c : Dev nD) (t : Fin 3) (j : Fin 8) : sProp 𝕄 := Z c (.s (.w t (pe c j)))

theorem sem_at_s (t : Fin 3) (p : Dev nD) {o : Fin 2 → ℕ} (h : o = ![t.val, p.val]) {i} : sem38 cc0_scratch16 o i = sS (.w t p) := by subst h; exact sem_w_s t p

theorem t_w (c : Dev nD) (t : Fin 3) (r : Fin 7) (j : Fin 8) (hj : j = r.succ) {o : Fin 2 → ℕ} (ho : o = ![t.val, (pe c r.succ).val]) {i : _} {sp sp' : Space} {s s' : Shape} {e e' : EltTy}
    {srcw : Memref sig .tc sp' s' e'} {dstw : Memref sig .tc sp s e} {h1 : srcw.view.WordExact} {h2 : dstw.view.WordExact} (hN : dstw.view.dmaCredit = trAmt (.w t (pe c r.succ)))
    {α : Type} {Q : α → sProp 𝕄} {k : PUnit → Prog (TpuEff nD τ sig (Elt F) Λ₀ .tc) α} :
    Env m K ⊢ iprop(ow c 50 -∗ PC c t j -∗ ((ow c 50 ∗ ZS c t j ∗ sPay m c (.w t (pe c j))) -∗ WP c (k ⟨⟩) Q)
      -∗ WP c (.op (.waitDma2 (sem38 cc0_scratch16 o i) srcw dstw h1 h2) k) Q) := by
  subst hj
  exact send_wait m K c (.w t (pe c r.succ)) (pe_ne c r) 50 (show ∀ v ∈ oblLv.drop 50, 0 < v by decide) (sem_at_s t _ ho) hN

theorem t_w0 (c : Dev nD) (r : Fin 7) (j : Fin 8) (hj : j = r.succ) {i} {sp sp' : Space} {s' : Shape} {e' : EltTy}
    {srcw : Memref sig .tc sp' s' e'} {dstw : Memref sig .tc sp S128x512 .bf16} {h1 : srcw.view.WordExact} {h2 : dstw.view.WordExact}
    {α : Type} {Q : α → sProp 𝕄} {k : PUnit → Prog (TpuEff nD τ sig (Elt F) Λ₀ .tc) α} :
    Env m K ⊢ iprop(ow c 50 -∗ PC c 0 j -∗ ((ow c 50 ∗ ZS c 0 j ∗ C14 m c j) -∗ WP c (k ⟨⟩) Q)
      -∗ WP c (.op (.waitDma2 (sem38 cc0_scratch16 (k0_off4 c (BitVec.ofNat 32 (1 + r.val))) i) srcw dstw h1 h2) k) Q) := by
  have h := t_w m K c 0 r j hj (off4_at c r) (i := i) (srcw := srcw) (dstw := dstw) (h1 := h1) (h2 := h2) amt_1 (Q := Q) (k := k)
  exact h
theorem t_w1 (c : Dev nD) (r : Fin 7) (j : Fin 8) (hj : j = r.succ) {i} {sp sp' : Space} {s' : Shape} {e' : EltTy}
    {srcw : Memref sig .tc sp' s' e'} {dstw : Memref sig .tc sp S128x512 .bf16} {h1 : srcw.view.WordExact} {h2 : dstw.view.WordExact}
    {α : Type} {Q : α → sProp 𝕄} {k : PUnit → Prog (TpuEff nD τ sig (Elt F) Λ₀ .tc) α} :
    Env m K ⊢ iprop(ow c 50 -∗ PC c 1 j -∗ ((ow c 50 ∗ ZS c 1 j ∗ C15 m c j) -∗ WP c (k ⟨⟩) Q)
      -∗ WP c (.op (.waitDma2 (sem38 cc0_scratch16 (k0_off8 c (BitVec.ofNat 32 (1 + r.val))) i) srcw dstw h1 h2) k) Q) := by
  have h := t_w m K c 1 r j hj (off8_at c r) (i := i) (srcw := srcw) (dstw := dstw) (h1 := h1) (h2 := h2) amt_1 (Q := Q) (k := k)
  exact h
theorem t_w2 (c : Dev nD) (r : Fin 7) (j : Fin 8) (hj : j = r.succ) {i} {sp sp' : Space} {s' : Shape} {e' : EltTy}
    {srcw : Memref sig .tc sp' s' e'} {dstw : Memref sig .tc sp S1024x128 .bf16} {h1 : srcw.view.WordExact} {h2 : dstw.view.WordExact}
    {α : Type} {Q : α → sProp 𝕄} {k : PUnit → Prog (TpuEff nD τ sig (Elt F) Λ₀ .tc) α} :
    Env m K ⊢ iprop(ow c 50 -∗ PC c 2 j -∗ ((ow c 50 ∗ ZS c 2 j ∗ C0 m c j) -∗ WP c (k ⟨⟩) Q)
      -∗ WP c (.op (.waitDma2 (sem38 cc0_scratch16 (k0_off11 c (BitVec.ofNat 32 (1 + r.val))) i) srcw dstw h1 h2) k) Q) := by
  have h := t_w m K c 2 r j hj (off11_at c r) (i := i) (srcw := srcw) (dstw := dstw) (h1 := h1) (h2 := h2) amt_2 (Q := Q) (k := k)
  exact h

/-- After the wait for the send of device `p`'s rows, if there was one. -/
abbrev AZ (c p : Dev nD) : sProp 𝕄 := if p = c then iprop(emp) else Z c (.s (.a p))

theorem cond_wait (c p : Dev nD) {C : Prop} [Decidable C] (hC : C ↔ p ≠ c) {o : Fin 1 → ℕ} (ho : o = ![p.val]) {is} {sp sp' : Space} {s' : Shape} {e' : EltTy}
    {srcw : C → Memref sig .tc sp' s' e'} {dstw : Memref sig .tc sp S128x512 .bf16} {h1 : ∀ h : C, (srcw h).view.WordExact} {h2 : dstw.view.WordExact}
    {α : Type} {Q : α → sProp 𝕄} {k : Prog (TpuEff nD τ sig (Elt F) Λ₀ .tc) α} :
    Env m K ⊢ iprop(ow c 50 -∗ AC m c p -∗ ((ow c 50 ∗ AZ c p ∗ S3 m c p) -∗ WP c k Q)
      -∗ WP c (if h : C then .op (.waitDma2 (sem8 cc0_scratch18 o is) (srcw h) dstw (h1 h) h2) (fun _ => k) else k) Q) := by
  subst ho
  unfold AC AZ
  by_cases hp : p = c
  · rw [dif_neg (fun h => (hC.1 h) hp), if_pos hp, if_pos hp]
    iintro #HE HO H1 Hk
    iapply Hk
    iframe
  · have hc : C := hC.2 hp
    rw [dif_pos hc, if_neg hp, if_neg hp]
    have h := send_wait m K c (.a p) hp 50 (show ∀ v ∈ oblLv.drop 50, 0 < v by decide) (sem_a_s p) (srcw := srcw hc) (dstw := dstw) (h1 := h1 hc) (h2 := h2) amt_1 (k := fun _ => k) (Q := Q)
    rw [show sPay m c (.a p) = S3 m c p from rfl] at h
    exact h

/-! ## Offsets and devices -/

theorem dev43_at (c : Dev nD) : k0_dev43 c = (nbr c 0).val := by revert c; decide +kernel
theorem dev44_at (c : Dev nD) : k0_dev44 c = (nbr c 1).val := by revert c; decide +kernel
theorem dev45_at (c : Dev nD) : k0_dev45 c = (nbr c 2).val := by revert c; decide +kernel
theorem dev46_at (c : Dev nD) : k0_dev46 c = (nbr c 0).val := by revert c; decide +kernel
theorem dev47_at (c : Dev nD) : k0_dev47 c = (nbr c 1).val := by revert c; decide +kernel
theorem dev48_at (c : Dev nD) : k0_dev48 c = (nbr c 2).val := by revert c; decide +kernel
theorem dev49_at (c : Dev nD) : k0_dev49 c = (nbr3 c 0).val := by revert c; decide +kernel
theorem dev50_at (c : Dev nD) : k0_dev50 c = (nbr3 c 1).val := by revert c; decide +kernel
theorem off41_3 (c : Dev nD) : k0_off41 c 3#32 = ![128 * (rel c 0).val, 2048 * (0 : Fin 2).val] := by revert c; decide +kernel
theorem off41_4 (c : Dev nD) : k0_off41 c 4#32 = ![128 * (rel c 1).val, 2048 * (0 : Fin 2).val] := by revert c; decide +kernel
theorem off41_1 (c : Dev nD) : k0_off41 c 1#32 = ![128 * (rel c 2).val, 2048 * (0 : Fin 2).val] := by revert c; decide +kernel
theorem off41_7 (c : Dev nD) : k0_off41 c 7#32 = ![128 * (rel3 c 0).val, 2048 * (0 : Fin 2).val] := by revert c; decide +kernel
theorem off42_3 (c : Dev nD) : k0_off42 c 3#32 = ![128 * (rel c 0).val, 2048 * (1 : Fin 2).val] := by revert c; decide +kernel
theorem off42_4 (c : Dev nD) : k0_off42 c 4#32 = ![128 * (rel c 1).val, 2048 * (1 : Fin 2).val] := by revert c; decide +kernel
theorem off42_1 (c : Dev nD) : k0_off42 c 1#32 = ![128 * (rel c 2).val, 2048 * (1 : Fin 2).val] := by revert c; decide +kernel
theorem off42_5 (c : Dev nD) : k0_off42 c 5#32 = ![128 * (rel3 c 1).val, 2048 * (1 : Fin 2).val] := by revert c; decide +kernel
theorem cond17_at (c : Dev nD) : k0_cond17 c = 1#1 ↔ (0 : Dev nD) ≠ c := by revert c; decide +kernel
theorem cond18_at (c : Dev nD) : k0_cond18 c = 1#1 ↔ (1 : Dev nD) ≠ c := by revert c; decide +kernel
theorem cond19_at (c : Dev nD) : k0_cond19 c = 1#1 ↔ (2 : Dev nD) ≠ c := by revert c; decide +kernel
theorem cond20_at (c : Dev nD) : k0_cond20 c = 1#1 ↔ (3 : Dev nD) ≠ c := by revert c; decide +kernel
theorem cond21_at (c : Dev nD) : k0_cond21 c = 1#1 ↔ (4 : Dev nD) ≠ c := by revert c; decide +kernel
theorem cond22_at (c : Dev nD) : k0_cond22 c = 1#1 ↔ (5 : Dev nD) ≠ c := by revert c; decide +kernel
theorem cond23_at (c : Dev nD) : k0_cond23 c = 1#1 ↔ (6 : Dev nD) ≠ c := by revert c; decide +kernel
theorem cond24_at (c : Dev nD) : k0_cond24 c = 1#1 ↔ (7 : Dev nD) ≠ c := by revert c; decide +kernel

/-! ## The parts -/

theorem part48 (c : Dev nD) (u0 u1 u2 u3 u4 : BitVec 32) {Q} :
    Env m K ⊢ iprop(ow c 41 -∗ sPay m c (.o1 2 1) -∗ PO c (.o1 2 1) -∗ RK c (.o1 1 0) -∗ PO c (.o2 0 0) -∗ RK c (.o1 2 0)
      -∗ ((ow c 43 ∗ SC c (.o1 2 1) ∗ Z c (.r (.o1 1 0)) ∗ SC c (.o2 0 0) ∗ Z c (.r (.o1 2 0)) ∗ sPay m c (.o2 1 0)) -∗ Q PUnit.unit)
      -∗ WP c (At (k0_part48 (F := F)) c u0 u1 u2 u3 u4) Q) := by
  simp only [k0_part48_eq_skeleton]
  unfold k0_part48_skel
  simp only [Prog.lift, Prog.bind_op, Prog.bind_ret, Prog.pure_eq_ret]
  iintro #HE HO D1 P1 R2 P3 R4 Hk
  iapply (s_o1 m K c 2 1 41 rfl (dev42_at c) (k0_off40_eq c) rfl) $$ HE HO P1 D1; iintro ⟨HO, X1⟩
  iapply (r_o m K c (.o1 1 0) trivial 42 (show ∀ v ∈ oblLv.drop 42, 4 < v by decide) rfl (sem_o1_r 1 0) (show rPay m c (.o1 1 0) = sPay m c (.o2 0 0) from rfl)) $$ HE HO R2; iintro ⟨HO, Z2, V2⟩
  iapply (s_o2 m K c 0 0 42 rfl (dev43_at c) (off41_3 c) rfl) $$ HE HO P3 V2; iintro ⟨HO, X3⟩
  iapply (r_o m K c (.o1 2 0) trivial 43 (show ∀ v ∈ oblLv.drop 43, 4 < v by decide) rfl (sem_o1_r 2 0) (show rPay m c (.o1 2 0) = sPay m c (.o2 1 0) from rfl)) $$ HE HO R4; iintro ⟨HO, Z4, V4⟩
  iapply wp_end
  iapply Hk
  iframe

theorem part49 (c : Dev nD) (u0 u1 u2 u3 : BitVec 32) {Q} :
    Env m K ⊢ iprop(ow c 43 -∗ sPay m c (.o2 1 0) -∗ PO c (.o2 1 0) -∗ RK c (.o1 0 0) -∗ PO c (.o2 2 0)
      -∗ (∀ w99, (ow c 45 ∗ SC c (.o2 1 0) ∗ Z c (.r (.o1 0 0)) ∗ SC c (.o2 2 0)) -∗ Q ⟨w99, 0#32⟩)
      -∗ WP c (At (k0_part49 (F := F)) c u0 u1 u2 u3) Q) := by
  simp only [k0_part49_eq_skeleton]
  unfold k0_part49_skel
  simp only [Prog.lift, Prog.bind_op, Prog.bind_ret, Prog.pure_eq_ret]
  iintro #HE HO D1 P1 R2 P3 Hk
  iapply (s_o2 m K c 1 0 43 rfl (dev44_at c) (off41_4 c) rfl) $$ HE HO P1 D1; iintro ⟨HO, X1⟩
  iapply (r_o m K c (.o1 0 0) trivial 44 (show ∀ v ∈ oblLv.drop 44, 4 < v by decide) rfl (sem_o1_r 0 0) (show rPay m c (.o1 0 0) = sPay m c (.o2 2 0) from rfl)) $$ HE HO R2; iintro ⟨HO, Z2, V2⟩
  iapply (s_o2 m K c 2 0 44 rfl (dev45_at c) (off41_1 c) rfl) $$ HE HO P3 V2; iintro ⟨HO, X3⟩
  iapply wp_end
  iapply Hk
  iframe

theorem part50 (c : Dev nD) (u0 u1 u2 u3 u4 u5 u6 : BitVec 32) {Q} :
    Env m K ⊢ iprop(ow c 45 -∗ RK c (.o1 1 1) -∗ PO c (.o2 0 1) -∗ RK c (.o1 2 1)
      -∗ ((ow c 46 ∗ Z c (.r (.o1 1 1)) ∗ SC c (.o2 0 1) ∗ Z c (.r (.o1 2 1)) ∗ sPay m c (.o2 1 1)) -∗ Q PUnit.unit)
      -∗ WP c (At (k0_part50 (F := F)) c u0 u1 u2 u3 u4 u5 u6) Q) := by
  simp only [k0_part50_eq_skeleton]
  unfold k0_part50_skel
  simp only [Prog.lift, Prog.bind_op, Prog.bind_ret, Prog.pure_eq_ret]
  iintro #HE HO R1 P2 R3 Hk
  iapply (r_o m K c (.o1 1 1) trivial 45 (show ∀ v ∈ oblLv.drop 45, 4 < v by decide) rfl (sem_o1_r 1 1) (show rPay m c (.o1 1 1) = sPay m c (.o2 0 1) from rfl)) $$ HE HO R1; iintro ⟨HO, Z1, V1⟩
  iapply (s_o2 m K c 0 1 45 rfl (dev46_at c) (off42_3 c) rfl) $$ HE HO P2 V1; iintro ⟨HO, X2⟩
  iapply (r_o m K c (.o1 2 1) trivial 46 (show ∀ v ∈ oblLv.drop 46, 4 < v by decide) rfl (sem_o1_r 2 1) (show rPay m c (.o1 2 1) = sPay m c (.o2 1 1) from rfl)) $$ HE HO R3; iintro ⟨HO, Z3, V3⟩
  iapply wp_end
  iapply Hk
  iframe

theorem part51 (c : Dev nD) (u0 u1 u2 u3 u4 : BitVec 32) {Q} :
    Env m K ⊢ iprop(ow c 46 -∗ sPay m c (.o2 1 1) -∗ PO c (.o2 1 1) -∗ RK c (.o1 0 1) -∗ PO c (.o2 2 1) -∗ RK c (.o2 0 0)
      -∗ ((ow c 48 ∗ SC c (.o2 1 1) ∗ Z c (.r (.o1 0 1)) ∗ SC c (.o2 2 1) ∗ Z c (.r (.o2 0 0)) ∗ rPay m c (.o2 0 0)) -∗ Q PUnit.unit)
      -∗ WP c (At (k0_part51 (F := F)) c u0 u1 u2 u3 u4) Q) := by
  simp only [k0_part51_eq_skeleton]
  unfold k0_part51_skel
  simp only [Prog.lift, Prog.bind_op, Prog.bind_ret, Prog.pure_eq_ret]
  iintro #HE HO D1 P1 R2 P3 R4 Hk
  iapply (s_o2 m K c 1 1 46 rfl (dev47_at c) (off42_4 c) rfl) $$ HE HO P1 D1; iintro ⟨HO, X1⟩
  iapply (r_o m K c (.o1 0 1) trivial 47 (show ∀ v ∈ oblLv.drop 47, 4 < v by decide) rfl (sem_o1_r 0 1) (show rPay m c (.o1 0 1) = sPay m c (.o2 2 1) from rfl)) $$ HE HO R2; iintro ⟨HO, Z2, V2⟩
  iapply (s_o2 m K c 2 1 47 rfl (dev48_at c) (off42_1 c) rfl) $$ HE HO P3 V2; iintro ⟨HO, X3⟩
  iapply (r_o m K c (.o2 0 0) trivial 48 (show ∀ v ∈ oblLv.drop 48, 5 < v by decide) rfl (sem_o2_r 0 0) (show rPay m c (.o2 0 0) = rPay m c (.o2 0 0) from rfl)) $$ HE HO R4; iintro ⟨HO, Z4, V4⟩
  iapply wp_end
  iapply Hk
  iframe

theorem part52 (c : Dev nD) (u0 u1 u2 u3 u4 u5 : BitVec 32) {Q} :
    Env m K ⊢ iprop(ow c 48 -∗ RK c (.o2 1 0) -∗ RK c (.o2 2 0) -∗ PO c (.o3 0)
      -∗ ((ow c 49 ∗ Z c (.r (.o2 1 0)) ∗ Z c (.r (.o2 2 0)) ∗ rPay m c (.o2 2 0) ∗ SC c (.o3 0)) -∗ Q PUnit.unit)
      -∗ WP c (At (k0_part52 (F := F)) c u0 u1 u2 u3 u4 u5) Q) := by
  simp only [k0_part52_eq_skeleton]
  unfold k0_part52_skel
  simp only [Prog.lift, Prog.bind_op, Prog.bind_ret, Prog.pure_eq_ret]
  iintro #HE HO R1 R2 P3 Hk
  iapply (r_o m K c (.o2 1 0) trivial 48 (show ∀ v ∈ oblLv.drop 48, 5 < v by decide) rfl (sem_o2_r 1 0) (show rPay m c (.o2 1 0) = sPay m c (.o3 0) from rfl)) $$ HE HO R1; iintro ⟨HO, Z1, V1⟩
  iapply (r_o m K c (.o2 2 0) trivial 48 (show ∀ v ∈ oblLv.drop 48, 5 < v by decide) rfl (sem_o2_r 2 0) (show rPay m c (.o2 2 0) = rPay m c (.o2 2 0) from rfl)) $$ HE HO R2; iintro ⟨HO, Z2, V2⟩
  iapply (s_o3 m K c 0 48 rfl (dev49_at c) (off41_7 c) rfl) $$ HE HO P3 V1; iintro ⟨HO, X3⟩
  iapply wp_end
  iapply Hk
  iframe

theorem part53 (c : Dev nD) (u0 u1 u2 u3 u4 : BitVec 32) {Q} :
    Env m K ⊢ iprop(ow c 49 -∗ RK c (.o2 0 1) -∗ RK c (.o2 1 1) -∗ RK c (.o2 2 1) -∗ PO c (.o3 1)
      -∗ ((ow c 50 ∗ Z c (.r (.o2 0 1)) ∗ rPay m c (.o2 0 1) ∗ Z c (.r (.o2 1 1)) ∗ rPay m c (.o2 1 1) ∗ Z c (.r (.o2 2 1)) ∗ SC c (.o3 1)) -∗ Q 6#32)
      -∗ WP c (At (k0_part53 (F := F)) c u0 u1 u2 u3 u4) Q) := by
  simp only [k0_part53_eq_skeleton]
  unfold k0_part53_skel
  simp only [Prog.lift, Prog.bind_op, Prog.bind_ret, Prog.pure_eq_ret]
  iintro #HE HO R1 R2 R3 P4 Hk
  iapply (r_o m K c (.o2 0 1) trivial 49 (show ∀ v ∈ oblLv.drop 49, 5 < v by decide) rfl (sem_o2_r 0 1) (show rPay m c (.o2 0 1) = rPay m c (.o2 0 1) from rfl)) $$ HE HO R1; iintro ⟨HO, Z1, V1⟩
  iapply (r_o m K c (.o2 1 1) trivial 49 (show ∀ v ∈ oblLv.drop 49, 5 < v by decide) rfl (sem_o2_r 1 1) (show rPay m c (.o2 1 1) = rPay m c (.o2 1 1) from rfl)) $$ HE HO R2; iintro ⟨HO, Z2, V2⟩
  iapply (r_o m K c (.o2 2 1) trivial 49 (show ∀ v ∈ oblLv.drop 49, 5 < v by decide) rfl (sem_o2_r 2 1) (show rPay m c (.o2 2 1) = sPay m c (.o3 1) from rfl)) $$ HE HO R3; iintro ⟨HO, Z3, V3⟩
  iapply (s_o3 m K c 1 49 rfl (dev50_at c) (off42_5 c) rfl) $$ HE HO P4 V3; iintro ⟨HO, X4⟩
  iapply wp_end
  iapply Hk
  iframe

theorem part54 (c : Dev nD) (u0 u1 u2 u3 : BitVec 32) {Q} :
    Env m K ⊢ iprop(ow c 50 -∗ RK c (.o3 0) -∗ RK c (.o3 1) -∗ PC c 0 1 -∗ PC c 1 1
      -∗ ((ow c 50 ∗ Z c (.r (.o3 0)) ∗ rPay m c (.o3 0) ∗ Z c (.r (.o3 1)) ∗ rPay m c (.o3 1) ∗ ZS c 0 1 ∗ C14 m c 1 ∗ ZS c 1 1 ∗ C15 m c 1) -∗ Q PUnit.unit)
      -∗ WP c (At (k0_part54 (F := F)) c u0 u1 u2 u3) Q) := by
  simp only [k0_part54_eq_skeleton]
  unfold k0_part54_skel
  simp only [Prog.lift, Prog.bind_op, Prog.bind_ret, Prog.pure_eq_ret]
  iintro #HE HO R1 R2 X3 X4 Hk
  iapply (r_o m K c (.o3 0) trivial 50 (show ∀ v ∈ oblLv.drop 50, 6 < v by decide) rfl (sem_o3_r 0) (show rPay m c (.o3 0) = rPay m c (.o3 0) from rfl)) $$ HE HO R1; iintro ⟨HO, Z1, V1⟩
  iapply (r_o m K c (.o3 1) trivial 50 (show ∀ v ∈ oblLv.drop 50, 6 < v by decide) rfl (sem_o3_r 1) (show rPay m c (.o3 1) = rPay m c (.o3 1) from rfl)) $$ HE HO R2; iintro ⟨HO, Z2, V2⟩
  iapply (t_w0 m K c 0 1 rfl) $$ HE HO X3; iintro ⟨HO, Z3, V3⟩
  iapply (t_w1 m K c 0 1 rfl) $$ HE HO X4; iintro ⟨HO, Z4, V4⟩
  iapply wp_end
  iapply Hk
  iframe

theorem part55 (c : Dev nD)  {Q} :
    Env m K ⊢ iprop(ow c 50 -∗ PC c 0 2 -∗ PC c 1 2 -∗ PC c 0 3 -∗ PC c 1 3 -∗ PC c 0 4 -∗ PC c 1 4
      -∗ ((ow c 50 ∗ ZS c 0 2 ∗ C14 m c 2 ∗ ZS c 1 2 ∗ C15 m c 2 ∗ ZS c 0 3 ∗ C14 m c 3 ∗ ZS c 1 3 ∗ C15 m c 3 ∗ ZS c 0 4 ∗ C14 m c 4 ∗ ZS c 1 4 ∗ C15 m c 4) -∗ Q PUnit.unit)
      -∗ WP c (At (k0_part55 (F := F)) c) Q) := by
  simp only [k0_part55_eq_skeleton]
  unfold k0_part55_skel
  simp only [Prog.lift, Prog.bind_op, Prog.bind_ret, Prog.pure_eq_ret]
  iintro #HE HO X1 X2 X3 X4 X5 X6 Hk
  iapply (t_w0 m K c 1 2 rfl) $$ HE HO X1; iintro ⟨HO, Z1, V1⟩
  iapply (t_w1 m K c 1 2 rfl) $$ HE HO X2; iintro ⟨HO, Z2, V2⟩
  iapply (t_w0 m K c 2 3 rfl) $$ HE HO X3; iintro ⟨HO, Z3, V3⟩
  iapply (t_w1 m K c 2 3 rfl) $$ HE HO X4; iintro ⟨HO, Z4, V4⟩
  iapply (t_w0 m K c 3 4 rfl) $$ HE HO X5; iintro ⟨HO, Z5, V5⟩
  iapply (t_w1 m K c 3 4 rfl) $$ HE HO X6; iintro ⟨HO, Z6, V6⟩
  iapply wp_end
  iapply Hk
  iframe

theorem part56 (c : Dev nD)  {Q} :
    Env m K ⊢ iprop(ow c 50 -∗ PC c 0 5 -∗ PC c 1 5 -∗ PC c 0 6 -∗ PC c 1 6 -∗ PC c 0 7 -∗ PC c 1 7
      -∗ ((ow c 50 ∗ ZS c 0 5 ∗ C14 m c 5 ∗ ZS c 1 5 ∗ C15 m c 5 ∗ ZS c 0 6 ∗ C14 m c 6 ∗ ZS c 1 6 ∗ C15 m c 6 ∗ ZS c 0 7 ∗ C14 m c 7 ∗ ZS c 1 7 ∗ C15 m c 7) -∗ Q PUnit.unit)
      -∗ WP c (At (k0_part56 (F := F)) c) Q) := by
  simp only [k0_part56_eq_skeleton]
  unfold k0_part56_skel
  simp only [Prog.lift, Prog.bind_op, Prog.bind_ret, Prog.pure_eq_ret]
  iintro #HE HO X1 X2 X3 X4 X5 X6 Hk
  iapply (t_w0 m K c 4 5 rfl) $$ HE HO X1; iintro ⟨HO, Z1, V1⟩
  iapply (t_w1 m K c 4 5 rfl) $$ HE HO X2; iintro ⟨HO, Z2, V2⟩
  iapply (t_w0 m K c 5 6 rfl) $$ HE HO X3; iintro ⟨HO, Z3, V3⟩
  iapply (t_w1 m K c 5 6 rfl) $$ HE HO X4; iintro ⟨HO, Z4, V4⟩
  iapply (t_w0 m K c 6 7 rfl) $$ HE HO X5; iintro ⟨HO, Z5, V5⟩
  iapply (t_w1 m K c 6 7 rfl) $$ HE HO X6; iintro ⟨HO, Z6, V6⟩
  iapply wp_end
  iapply Hk
  iframe

theorem part57 (c : Dev nD)  {Q} :
    Env m K ⊢ iprop(ow c 50 -∗ PC c 2 1 -∗ PC c 2 2 -∗ PC c 2 3 -∗ PC c 2 4 -∗ PC c 2 5 -∗ PC c 2 6
      -∗ ((ow c 50 ∗ ZS c 2 1 ∗ C0 m c 1 ∗ ZS c 2 2 ∗ C0 m c 2 ∗ ZS c 2 3 ∗ C0 m c 3 ∗ ZS c 2 4 ∗ C0 m c 4 ∗ ZS c 2 5 ∗ C0 m c 5 ∗ ZS c 2 6 ∗ C0 m c 6) -∗ Q PUnit.unit)
      -∗ WP c (At (k0_part57 (F := F)) c) Q) := by
  simp only [k0_part57_eq_skeleton]
  unfold k0_part57_skel
  simp only [Prog.lift, Prog.bind_op, Prog.bind_ret, Prog.pure_eq_ret]
  iintro #HE HO X1 X2 X3 X4 X5 X6 Hk
  iapply (t_w2 m K c 0 1 rfl) $$ HE HO X1; iintro ⟨HO, Z1, V1⟩
  iapply (t_w2 m K c 1 2 rfl) $$ HE HO X2; iintro ⟨HO, Z2, V2⟩
  iapply (t_w2 m K c 2 3 rfl) $$ HE HO X3; iintro ⟨HO, Z3, V3⟩
  iapply (t_w2 m K c 3 4 rfl) $$ HE HO X4; iintro ⟨HO, Z4, V4⟩
  iapply (t_w2 m K c 4 5 rfl) $$ HE HO X5; iintro ⟨HO, Z5, V5⟩
  iapply (t_w2 m K c 5 6 rfl) $$ HE HO X6; iintro ⟨HO, Z6, V6⟩
  iapply wp_end
  iapply Hk
  iframe

theorem part58 (c : Dev nD)  {Q} :
    Env m K ⊢ iprop(ow c 50 -∗ PC c 2 7 -∗ SC c (.o1 0 0) -∗ SC c (.o1 1 0) -∗ SC c (.o1 2 0) -∗ SC c (.o1 0 1)
      -∗ ((ow c 50 ∗ ZS c 2 7 ∗ C0 m c 7 ∗ Z c (.s (.o1 0 0)) ∗ sPay m c (.o1 0 0) ∗ Z c (.s (.o1 1 0)) ∗ sPay m c (.o1 1 0) ∗ Z c (.s (.o1 2 0)) ∗ sPay m c (.o1 2 0) ∗ Z c (.s (.o1 0 1)) ∗ sPay m c (.o1 0 1)) -∗ Q PUnit.unit)
      -∗ WP c (At (k0_part58 (F := F)) c) Q) := by
  simp only [k0_part58_eq_skeleton]
  unfold k0_part58_skel
  simp only [Prog.lift, Prog.bind_op, Prog.bind_ret, Prog.pure_eq_ret]
  iintro #HE HO X1 X2 X3 X4 X5 Hk
  iapply (t_w2 m K c 6 7 rfl) $$ HE HO X1; iintro ⟨HO, Z1, V1⟩
  iapply (t_o m K c (.o1 0 0) trivial rfl (sem_o1_s 0 0)) $$ HE HO X2; iintro ⟨HO, Z2, V2⟩
  iapply (t_o m K c (.o1 1 0) trivial rfl (sem_o1_s 1 0)) $$ HE HO X3; iintro ⟨HO, Z3, V3⟩
  iapply (t_o m K c (.o1 2 0) trivial rfl (sem_o1_s 2 0)) $$ HE HO X4; iintro ⟨HO, Z4, V4⟩
  iapply (t_o m K c (.o1 0 1) trivial rfl (sem_o1_s 0 1)) $$ HE HO X5; iintro ⟨HO, Z5, V5⟩
  iapply wp_end
  iapply Hk
  iframe

theorem part59 (c : Dev nD)  {Q} :
    Env m K ⊢ iprop(ow c 50 -∗ SC c (.o1 1 1) -∗ SC c (.o1 2 1) -∗ SC c (.o2 0 0) -∗ SC c (.o2 1 0) -∗ SC c (.o2 2 0)
      -∗ ((ow c 50 ∗ Z c (.s (.o1 1 1)) ∗ sPay m c (.o1 1 1) ∗ Z c (.s (.o1 2 1)) ∗ sPay m c (.o1 2 1) ∗ Z c (.s (.o2 0 0)) ∗ sPay m c (.o2 0 0) ∗ Z c (.s (.o2 1 0)) ∗ sPay m c (.o2 1 0) ∗ Z c (.s (.o2 2 0)) ∗ sPay m c (.o2 2 0)) -∗ Q PUnit.unit)
      -∗ WP c (At (k0_part59 (F := F)) c) Q) := by
  simp only [k0_part59_eq_skeleton]
  unfold k0_part59_skel
  simp only [Prog.lift, Prog.bind_op, Prog.bind_ret, Prog.pure_eq_ret]
  iintro #HE HO X1 X2 X3 X4 X5 Hk
  iapply (t_o m K c (.o1 1 1) trivial rfl (sem_o1_s 1 1)) $$ HE HO X1; iintro ⟨HO, Z1, V1⟩
  iapply (t_o m K c (.o1 2 1) trivial rfl (sem_o1_s 2 1)) $$ HE HO X2; iintro ⟨HO, Z2, V2⟩
  iapply (t_o m K c (.o2 0 0) trivial rfl (sem_o2_s 0 0)) $$ HE HO X3; iintro ⟨HO, Z3, V3⟩
  iapply (t_o m K c (.o2 1 0) trivial rfl (sem_o2_s 1 0)) $$ HE HO X4; iintro ⟨HO, Z4, V4⟩
  iapply (t_o m K c (.o2 2 0) trivial rfl (sem_o2_s 2 0)) $$ HE HO X5; iintro ⟨HO, Z5, V5⟩
  iapply wp_end
  iapply Hk
  iframe

theorem part60 (c : Dev nD) (u0 : BitVec 32) {Q} :
    Env m K ⊢ iprop(ow c 50 -∗ SC c (.o2 0 1) -∗ SC c (.o2 1 1) -∗ SC c (.o2 2 1) -∗ SC c (.o3 0) -∗ SC c (.o3 1) -∗ AC m c 0 -∗ AC m c 1
      -∗ ((ow c 50 ∗ Z c (.s (.o2 0 1)) ∗ sPay m c (.o2 0 1) ∗ Z c (.s (.o2 1 1)) ∗ sPay m c (.o2 1 1) ∗ Z c (.s (.o2 2 1)) ∗ sPay m c (.o2 2 1) ∗ Z c (.s (.o3 0)) ∗ sPay m c (.o3 0) ∗ Z c (.s (.o3 1)) ∗ sPay m c (.o3 1) ∗ AZ c 0 ∗ S3 m c 0 ∗ AZ c 1 ∗ S3 m c 1) -∗ Q 2#32)
      -∗ WP c (At (k0_part60 (F := F)) c u0) Q) := by
  simp only [k0_part60_eq_skeleton]
  unfold k0_part60_skel
  simp only [Prog.lift, Prog.bind_op, Prog.bind_ret, Prog.pure_eq_ret]
  iintro #HE HO X1 X2 X3 X4 X5 X6 X7 Hk
  iapply (t_o m K c (.o2 0 1) trivial rfl (sem_o2_s 0 1)) $$ HE HO X1; iintro ⟨HO, Z1, V1⟩
  iapply (t_o m K c (.o2 1 1) trivial rfl (sem_o2_s 1 1)) $$ HE HO X2; iintro ⟨HO, Z2, V2⟩
  iapply (t_o m K c (.o2 2 1) trivial rfl (sem_o2_s 2 1)) $$ HE HO X3; iintro ⟨HO, Z3, V3⟩
  iapply (t_o m K c (.o3 0) trivial rfl (sem_o3_s 0)) $$ HE HO X4; iintro ⟨HO, Z4, V4⟩
  iapply (t_o m K c (.o3 1) trivial rfl (sem_o3_s 1)) $$ HE HO X5; iintro ⟨HO, Z5, V5⟩
  iapply (cond_wait m K c 0 (cond17_at c) rfl) $$ HE HO X6; iintro ⟨HO, Z6, V6⟩
  iapply (cond_wait m K c 1 (cond18_at c) rfl) $$ HE HO X7; iintro ⟨HO, Z7, V7⟩
  iapply wp_end
  iapply Hk
  iframe

end Cert.Mla
-- ==== Proof.Bundle.lean ====
/-
# Families over transfers, and memory by peer

A family over a device's transfers spelt out: what concerns the peers by the number of places on (`J7`), or by the
peer (`J8`), what concerns the result's exchange by neighbour and half (`L6`). With it: what the barrier's wait gives,
as one place per transfer; what the barrier's signals hand over; and a device's memory as its own part and the places
that the peers copy into.
-/
module

public import proofs.«01_k».proof.Proof.PartsF

@[expose] public section

noncomputable section

namespace Cert.Mla

open Cert.KernelIdeal Cert.KernelIdeal.Gen

open Idealize.ShloMosaic
open Idealize.ShloMosaic.TcCoe
open Idealize.ShloMosaic.RefSig (tileCredit)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop Flight Flight_mono)

variable {F : FTy → Type} [FloatOps F]

local notation "𝕄" => MT nD τ sig Unit (Elt F) ℕ UU ℕ

variable (m : (ℓ : Loc nD τ sig) → Buf (Elt F) ℓ) (K : Dev nD × Cl → ℕ)

abbrev J7 (Φ : Fin 8 → sProp 𝕄) : sProp 𝕄 := iprop(Φ 1 ∗ Φ 2 ∗ Φ 3 ∗ Φ 4 ∗ Φ 5 ∗ Φ 6 ∗ Φ 7)
abbrev J8 (Φ : Fin 8 → sProp 𝕄) : sProp 𝕄 := iprop(Φ 0 ∗ Φ 1 ∗ Φ 2 ∗ Φ 3 ∗ Φ 4 ∗ Φ 5 ∗ Φ 6 ∗ Φ 7)
abbrev L6 (Φ : Fin 3 → Fin 2 → sProp 𝕄) : sProp 𝕄 := iprop(Φ 0 0 ∗ Φ 1 0 ∗ Φ 2 0 ∗ Φ 0 1 ∗ Φ 1 1 ∗ Φ 2 1)

theorem emp_l (P : sProp 𝕄) : iprop(emp ∗ P) = P := equiv_iff.mp emp_sep

/-! ## Families over transfers -/

theorem tr_sep (Φ : Tr → sProp 𝕄) : bigSep Finset.univ Φ
    = iprop(((bigSep Finset.univ fun t => bigSep Finset.univ fun p => Φ (.w t p)) ∗ bigSep Finset.univ fun p => Φ (.a p))
      ∗ ((bigSep Finset.univ fun l => bigSep Finset.univ fun h => Φ (.o1 l h)) ∗ (bigSep Finset.univ fun l => bigSep Finset.univ fun h => Φ (.o2 l h)))
      ∗ bigSep Finset.univ fun h => Φ (.o3 h)) := by
  rw [bigSep_univ_equiv trE, bigSep_univ_sum, bigSep_univ_sum, bigSep_univ_sum, bigSep_univ_sum, bigSep_univ_prod, bigSep_univ_prod, bigSep_univ_prod]
  rfl

/-- The peers, by the number of places on. -/
def peE (c : Dev nD) : Fin 8 ≃ Dev nD where
  toFun := pe c
  invFun p := p - c
  left_inv j := by revert c j; decide +kernel
  right_inv p := by revert c p; decide +kernel

theorem pe_ne1 (c : Dev nD) : pe c 1 ≠ c ∧ pe c 2 ≠ c ∧ pe c 3 ≠ c ∧ pe c 4 ≠ c ∧ pe c 5 ≠ c ∧ pe c 6 ≠ c ∧ pe c 7 ≠ c := by revert c; decide +kernel

theorem peer_sep (c : Dev nD) (Φ : Dev nD → sProp 𝕄) : (bigSep Finset.univ fun p => if p ≠ c then Φ p else iprop(emp)) = J7 (fun j => Φ (pe c j)) := by
  obtain ⟨h1, h2, h3, h4, h5, h6, h7⟩ := pe_ne1 c
  rw [bigSep_univ_equiv (peE c), sep8]
  show iprop((if pe c 0 ≠ c then Φ (pe c 0) else iprop(emp)) ∗ (if pe c 1 ≠ c then Φ (pe c 1) else iprop(emp)) ∗ (if pe c 2 ≠ c then Φ (pe c 2) else iprop(emp))
    ∗ (if pe c 3 ≠ c then Φ (pe c 3) else iprop(emp)) ∗ (if pe c 4 ≠ c then Φ (pe c 4) else iprop(emp)) ∗ (if pe c 5 ≠ c then Φ (pe c 5) else iprop(emp))
    ∗ (if pe c 6 ≠ c then Φ (pe c 6) else iprop(emp)) ∗ (if pe c 7 ≠ c then Φ (pe c 7) else iprop(emp))) = _
  rw [if_neg (not_not.2 (pe_zero c)), if_pos h1, if_pos h2, if_pos h3, if_pos h4, if_pos h5, if_pos h6, if_pos h7]
  exact emp_l _

theorem peer_sep8 (c : Dev nD) (Φ : Dev nD → sProp 𝕄) : (bigSep Finset.univ fun p => if p ≠ c then Φ p else iprop(emp)) = J8 (fun p => if p = c then iprop(emp) else Φ p) := by
  exact (bigSep_congr fun p _ => ite_not _ _ _).trans (sep8 _)

theorem six_sep (Φ : Fin 3 → Fin 2 → sProp 𝕄) : (bigSep Finset.univ fun l => bigSep Finset.univ fun h => Φ l h) = L6 Φ := by
  rw [bigSep_univ_comm, bigSep_fin_two, sep3, sep3]
  have h1 : iprop((Φ 0 0 ∗ Φ 1 0 ∗ Φ 2 0) ∗ Φ 0 1 ∗ Φ 1 1 ∗ Φ 2 1) ⊢ iprop(Φ 0 0 ∗ Φ 1 0 ∗ Φ 2 0 ∗ Φ 0 1 ∗ Φ 1 1 ∗ Φ 2 1) := by
    iintro ⟨⟨H0, H1, H2⟩, H3, H4, H5⟩; iframe
  have h2 : iprop(Φ 0 0 ∗ Φ 1 0 ∗ Φ 2 0 ∗ Φ 0 1 ∗ Φ 1 1 ∗ Φ 2 1) ⊢ iprop((Φ 0 0 ∗ Φ 1 0 ∗ Φ 2 0) ∗ Φ 0 1 ∗ Φ 1 1 ∗ Φ 2 1) := by
    iintro ⟨H0, H1, H2, H3, H4, H5⟩; iframe
  exact equiv_iff.mp ⟨h1, h2⟩

/-- The transfers that take place, spelt out. -/
theorem live_sep (c : Dev nD) (Ψ : Tr → sProp 𝕄) : (bigSep Finset.univ fun x => if live c x then Ψ x else iprop(emp))
    = iprop(((J7 (fun j => Ψ (.w 0 (pe c j))) ∗ J7 (fun j => Ψ (.w 1 (pe c j))) ∗ J7 (fun j => Ψ (.w 2 (pe c j)))) ∗ J7 (fun j => Ψ (.a (pe c j))))
      ∗ (L6 (fun l h => Ψ (.o1 l h)) ∗ L6 (fun l h => Ψ (.o2 l h))) ∗ (Ψ (.o3 0) ∗ Ψ (.o3 1))) := by
  have hw (t : Fin 3) : (bigSep Finset.univ fun p => if live c (.w t p) then Ψ (.w t p) else iprop(emp)) = J7 (fun j => Ψ (.w t (pe c j))) := peer_sep c fun p => Ψ (.w t p)
  have ha : (bigSep Finset.univ fun p => if live c (.a p) then Ψ (.a p) else iprop(emp)) = J7 (fun j => Ψ (.a (pe c j))) := peer_sep c fun p => Ψ (.a p)
  rw [tr_sep, sep3, hw, hw, hw, ha]
  have e1 (l : Fin 3) (h : Fin 2) : (if live c (.o1 l h) then Ψ (.o1 l h) else iprop(emp)) = Ψ (.o1 l h) := if_pos trivial
  have e2 (l : Fin 3) (h : Fin 2) : (if live c (.o2 l h) then Ψ (.o2 l h) else iprop(emp)) = Ψ (.o2 l h) := if_pos trivial
  have e3 (h : Fin 2) : (if live c (.o3 h) then Ψ (.o3 h) else iprop(emp)) = Ψ (.o3 h) := if_pos trivial
  simp only [e1, e2, e3]
  rw [six_sep, six_sep, bigSep_fin_two]
  rfl

/-! ## The barrier -/

/-- What the barrier's wait gives, per transfer of `c`. -/
theorem open_bar (c : Dev nD) : bigSep (Finset.univ.erase c) (barPay (F := F) c)
    ⊢ bigSep Finset.univ fun x => if live c x then rFree (F := F) (dst c x) (opp c x) else iprop(emp) := by
  have h1 : bigSep (Finset.univ.erase c) (barPay (F := F) c) = bigSep Finset.univ (barPay (F := F) c) := by
    have he : barPay (F := F) c c = iprop(emp) := by
      exact (bigSep_congr fun y _ => if_neg fun h => dst_ne c y h.2 h.1).trans (bigSep_emp_const _)
    rw [bigSep_univ_split c, he]
    exact (emp_l _).symm
  rw [h1]
  have h2 : bigSep Finset.univ (barPay (F := F) c)
      = bigSep Finset.univ fun c' => bigSep Finset.univ fun x => if c' = c ∧ live c' x then rFree (F := F) (dst c' x) (opp c' x) else iprop(emp) := by
    unfold barPay
    rw [← bigSep_univ_prod (fun p : Dev nD × Tr => if dst p.1 p.2 = c ∧ live p.1 p.2 then rFree (F := F) p.1 p.2 else iprop(emp)),
      ← bigSep_univ_prod (fun p : Dev nD × Tr => if p.1 = c ∧ live p.1 p.2 then rFree (F := F) (dst p.1 p.2) (opp p.1 p.2) else iprop(emp)),
      bigSep_univ_equiv oppE]
    refine bigSep_congr fun p _ => ?_
    show (if dst (dst p.1 p.2) (opp p.1 p.2) = c ∧ live (dst p.1 p.2) (opp p.1 p.2) then rFree (F := F) (dst p.1 p.2) (opp p.1 p.2) else iprop(emp)) = _
    rw [dst_opp]
    exact if_congr (and_congr_right fun _ => live_opp p.1 p.2) rfl rfl
  rw [h2]
  refine (bigSep_elim (Finset.mem_univ c)).trans (Entails.of_eq (bigSep_congr fun x _ => ?_))
  exact if_congr (and_iff_right rfl) rfl rfl

/-- The places of `d`, dealt out to the devices that copy into them. -/
theorem close_bar (d : Dev nD) : (bigSep Finset.univ fun y => if live d y then rFree (F := F) d y else iprop(emp)) ⊢ J7 (fun j => barPay (F := F) (pe d j) d) := by
  have h : (bigSep Finset.univ fun y => if live d y then rFree (F := F) d y else iprop(emp)) = bigSep Finset.univ fun c => barPay (F := F) c d := by
    unfold barPay
    rw [bigSep_univ_comm]
    refine bigSep_congr fun y _ => ?_
    rw [bigSep_univ_split (dst d y)]
    have h0 : (bigSep (Finset.univ.erase (dst d y)) fun c => if dst d y = c ∧ live d y then rFree (F := F) d y else iprop(emp)) = iprop(emp) := by
      exact (bigSep_congr fun c hc => if_neg fun h => (Finset.mem_erase.1 hc).1 h.1.symm).trans (bigSep_emp_const _)
    rw [h0]
    refine Eq.trans ?_ (equiv_iff.mp sep_emp).symm
    exact if_congr (and_iff_right rfl).symm rfl rfl
  rw [h, ← peer_sep d fun c => barPay (F := F) c d]
  have hd (P : sProp 𝕄) : P ⊢ iprop(emp) := Laws.affine
  refine bigSep_mono fun c _ => ?_
  by_cases hc : c ≠ d
  · rw [if_pos hc]; exact Idealize.SL.BI.Entails.refl _
  · rw [if_neg hc]; exact hd _

end Cert.Mla
-- ==== Proof.Split.lean ====
/-
# A device's buffers by their parts

A buffer's points-to as those of the blocks that the transfers copy into or from: what is the device's own and what
the peers may write at the start, and the whole buffers again at the end.
-/
module

public import proofs.«01_k».proof.Proof.Bundle

@[expose] public section

noncomputable section

namespace Cert.Mla

open Cert.KernelIdeal Cert.KernelIdeal.Gen

open Idealize.ShloMosaic
open Idealize.ShloMosaic.TcCoe
open Idealize.ShloMosaic.RefSig (tileCredit)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop Flight Flight_mono)

variable {F : FTy → Type} [FloatOps F]

local notation "𝕄" => MT nD τ sig Unit (Elt F) ℕ UU ℕ

variable (m : (ℓ : Loc nD τ sig) → Buf (Elt F) ℓ) (K : Dev nD × Cl → ℕ)

/-- A buffer's points-to by a classification of its elements. -/
theorem split_fam {ι : Type} [Fintype ι] [DecidableEq ι] (c : Dev nD) (b : Ref sig .tc) (q : PosShare TreeShare) (f : Buf (Elt F) ((c : Thread nD τ).loc b)) (g : Idx ((c : Thread nD τ).loc b) → ι)
    (P : ι → Finset (Idx ((c : Thread nD τ).loc b))) (hP : ∀ j i, i ∈ P j ↔ g i = j) :
    pts c b Finset.univ q f = bigSep Finset.univ (fun j : ι => pts (F := F) c b (P j) q f) := by
  classical
  have h := pointsTo_biUnion (ℓ := (c : Thread nD τ).loc b) (Ix := Unit) (Name := ℕ) (U := UU) (Lvl := ℕ) (q := q) (f := f) Finset.univ P
    (fun t _ t' _ hne => Finset.disjoint_left.2 fun i h h' => hne (((hP t i).1 h).symm.trans ((hP t' i).1 h')))
  have e : (Finset.univ : Finset ι).biUnion P = Finset.univ :=
    Finset.eq_univ_iff_forall.2 fun i => Finset.mem_biUnion.2 ⟨g i, Finset.mem_univ _, (hP (g i) i).2 rfl⟩
  rw [e] at h
  exact h

theorem ofNat_eq {n k : ℕ} [NeZero n] (h : k < n) (j : Fin n) : k = j.val ↔ Fin.ofNat n k = j := by
  constructor
  · intro e; apply Fin.ext; show k % n = _; rw [Nat.mod_eq_of_lt h]; exact e
  · intro e; rw [← e]; show k = k % n; rw [Nat.mod_eq_of_lt h]

theorem split4 (c : Dev nD) (f : Buf (Elt F) ((c : Thread nD τ).loc cc0_scratch4)) :
    Wb c cc0_scratch4 f = bigSep Finset.univ (fun j : Fin 8 => pts (F := F) c cc0_scratch4 (rowB (n0 := 1024) (n1 := 512) 128 (pe c j).val) fullShare f) :=
  split8 c cc0_scratch4 fullShare f (fun i => (Fin.ofNat 8 (((i : S1024x512.Idx) 0).val / 128) : Fin 8) - c) _
    (fun j i => (mem_rowB (n0 := 1024) (n1 := 512) i).trans (blk_iff c _ 128 (lt2_0 (n0 := 1024) (n1 := 512) i) j))

/-- The output rows by device, and by batch. -/
theorem split3 (c : Dev nD) (f : Buf (Elt F) ((c : Thread nD τ).loc cc0_scratch3)) :
    Wb c cc0_scratch3 f = bigSep Finset.univ (fun p : Fin 8 => pts (F := F) c cc0_scratch3 (rowB (n0 := 1024) (n1 := 512) 128 p.val) fullShare f) :=
  split_fam c cc0_scratch3 fullShare f (fun i => (Fin.ofNat 8 (((i : S1024x512.Idx) 0).val / 128) : Fin 8)) _
    (fun j i => (mem_rowB (n0 := 1024) (n1 := 512) i).trans (ofNat_eq (Nat.div_lt_of_lt_mul (lt2_0 (n0 := 1024) (n1 := 512) i)) j))
theorem split3b (c : Dev nD) (f : Buf (Elt F) ((c : Thread nD τ).loc cc0_scratch3)) :
    Wb c cc0_scratch3 f = bigSep Finset.univ (fun b : Fin 4 => pts (F := F) c cc0_scratch3 (rowB (n0 := 1024) (n1 := 512) 256 b.val) fullShare f) :=
  split_fam c cc0_scratch3 fullShare f (fun i => (Fin.ofNat 4 (((i : S1024x512.Idx) 0).val / 256) : Fin 4)) _
    (fun j i => (mem_rowB (n0 := 1024) (n1 := 512) i).trans (ofNat_eq (Nat.div_lt_of_lt_mul (lt2_0 (n0 := 1024) (n1 := 512) i)) j))

theorem mem_slab {n0 n1 n2 j : ℕ} (i : (⟨3, ![n0, n1, n2]⟩ : Shape).Idx) : i ∈ slab (n0 := n0) (n1 := n1) (n2 := n2) j ↔ (i 0).val = j := by
  unfold slab; rw [Finset.mem_filter]; exact and_iff_right (Finset.mem_univ _)

/-- The two slabs of a double buffer. -/
theorem split5 (c : Dev nD) (f : Buf (Elt F) ((c : Thread nD τ).loc cc0_scratch5)) :
    Wb c cc0_scratch5 f = bigSep Finset.univ (fun j : Fin 2 => pts (F := F) c cc0_scratch5 (slab (n0 := 2) (n1 := 512) (n2 := 2048) j.val) fullShare f) :=
  split_fam c cc0_scratch5 fullShare f (fun i => (Fin.ofNat 2 ((i : S2x512x2048.Idx) 0).val : Fin 2)) _
    (fun j i => (mem_slab (n0 := 2) (n1 := 512) (n2 := 2048) i).trans (ofNat_eq (lt3_0 (n0 := 2) (n1 := 512) (n2 := 2048) i) j))
theorem split9 (c : Dev nD) (f : Buf (Elt F) ((c : Thread nD τ).loc cc0_scratch9)) :
    Wb c cc0_scratch9 f = bigSep Finset.univ (fun j : Fin 2 => pts (F := F) c cc0_scratch9 (slab (n0 := 2) (n1 := 256) (n2 := 4096) j.val) fullShare f) :=
  split_fam c cc0_scratch9 fullShare f (fun i => (Fin.ofNat 2 ((i : S2x256x4096.Idx) 0).val : Fin 2)) _
    (fun j i => (mem_slab (n0 := 2) (n1 := 256) (n2 := 4096) i).trans (ofNat_eq (lt3_0 (n0 := 2) (n1 := 256) (n2 := 4096) i) j))

theorem xor_zero (c : Fin 8) : c ^^^ (0 : Fin 8) = c := by revert c; decide
theorem sep2 (Φ : Fin 2 → sProp 𝕄) : bigSep Finset.univ Φ = iprop(Φ 0 ∗ Φ 1) := bigSep_fin_two Φ
theorem xor_iff (c k x : Fin 8) : k = c ^^^ x ↔ k ^^^ c = x := by revert c k x; decide +kernel

/-- The result by half and by chunk, the chunks numbered around the device's own. -/
theorem splitO (c : Dev nD) (q : PosShare TreeShare) (f : Buf (Elt F) ((c : Thread nD τ).loc cc0_stg1_0)) :
    pts c cc0_stg1_0 Finset.univ q f
      = bigSep Finset.univ (fun h : Fin 2 => bigSep Finset.univ fun x : Fin 8 => pts (F := F) c cc0_stg1_0 (boxB (n0 := 1024) (n1 := 4096) 128 (c ^^^ x : Fin 8).val 2048 h.val) q f) := by
  rw [← bigSep_univ_prod fun hx : Fin 2 × Fin 8 => pts (F := F) c cc0_stg1_0 (boxB (n0 := 1024) (n1 := 4096) 128 (c ^^^ hx.2 : Fin 8).val 2048 hx.1.val) q f]
  refine split_fam c cc0_stg1_0 q f (fun i => ((Fin.ofNat 2 (((i : S1024x4096.Idx) 1).val / 2048) : Fin 2), (Fin.ofNat 8 (((i : S1024x4096.Idx) 0).val / 128) : Fin 8) ^^^ c)) _ (fun j i => ?_)
  rw [mem_boxB (n0 := 1024) (n1 := 4096)]
  have h0 := ofNat_eq (show ((i : S1024x4096.Idx) 0).val / 128 < 8 by have := lt2_0 (n0 := 1024) (n1 := 4096) i; omega) (c ^^^ j.2)
  have h1 := ofNat_eq (show ((i : S1024x4096.Idx) 1).val / 2048 < 2 by have := lt2_1 (n0 := 1024) (n1 := 4096) i; omega) j.1
  rw [h0, h1, xor_iff, Prod.ext_iff, and_comm]

theorem sep4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## At the start -/

/-- A buffer that peers copy blocks into: the own block, and the peers'. -/
theorem own_rest (c : Dev nD) (b : Ref sig .tc) (P : Dev nD → Finset (Idx ((c : Thread nD τ).loc b))) (R : Dev nD → sProp 𝕄)
    (hR : ∀ p, R p = iprop(∃ f, pts (F := F) c b (P p) fullShare f))
    (hs : ∀ f, Wb (F := F) c b f = bigSep Finset.univ (fun j : Fin 8 => pts c b (P (pe c j)) fullShare f)) :
    Any c b ⊢ iprop(Rw c b (P c) ∗ R (pe c 1) ∗ R (pe c 2) ∗ R (pe c 3) ∗ R (pe c 4) ∗ R (pe c 5) ∗ R (pe c 6) ∗ R (pe c 7)) := by
  have h1 (p : Dev nD) (f) : pts (F := F) c b (P p) fullShare f ⊢ R p := by
    rw [hR]; iintro H; iexists f; iexact H
  have h0 (f) : pts (F := F) c b (P (pe c 0)) fullShare f ⊢ Rw c b (P c) := by
    rw [pe_zero]; iintro H; iexists f; iexact H
  iintro ⟨%f, H⟩
  ihave H := (Entails.of_eq (hs f)) $$ H
  ihave H := (Entails.of_eq (sep8 _)) $$ H
  icases H with ⟨H0, H1, H2, H3, H4, H5, H6, H7⟩
  isplitl [H0]; · iapply (h0 f) $$ H0
  isplitl [H1]; · iapply (h1 _ f) $$ H1
  isplitl [H2]; · iapply (h1 _ f) $$ H2
  isplitl [H3]; · iapply (h1 _ f) $$ H3
  isplitl [H4]; · iapply (h1 _ f) $$ H4
  isplitl [H5]; · iapply (h1 _ f) $$ H5
  isplitl [H6]; · iapply (h1 _ f) $$ H6
  iapply (h1 _ f) $$ H7

theorem start0 (c : Dev nD) : Any (F := F) c cc0_scratch0 ⊢ iprop(Rw c cc0_scratch0 (colB (n0 := 1024) (n1 := 1024) 128 c.val) ∗ J7 (fun j => rFree c (.w 2 (pe c j)))) :=
  own_rest c cc0_scratch0 (fun p => colB (n0 := 1024) (n1 := 1024) 128 p.val) (fun p => rFree c (.w 2 p)) (fun _ => rfl) (split0 c fullShare)
theorem start1 (c : Dev nD) : Any (F := F) c cc0_scratch1 ⊢ iprop(Rw c cc0_scratch1 (rowB (n0 := 1024) (n1 := 512) 128 c.val) ∗ J7 (fun j => rFree c (.w 0 (pe c j)))) :=
  own_rest c cc0_scratch1 (fun p => rowB (n0 := 1024) (n1 := 512) 128 p.val) (fun p => rFree c (.w 0 p)) (fun _ => rfl) (split1 c)
theorem start2 (c : Dev nD) : Any (F := F) c cc0_scratch2 ⊢ iprop(Rw c cc0_scratch2 (rowB (n0 := 1024) (n1 := 512) 128 c.val) ∗ J7 (fun j => rFree c (.w 1 (pe c j)))) :=
  own_rest c cc0_scratch2 (fun p => rowB (n0 := 1024) (n1 := 512) 128 p.val) (fun p => rFree c (.w 1 p)) (fun _ => rfl) (split2 c)
theorem start4 (c : Dev nD) : Any (F := F) c cc0_scratch4 ⊢ iprop(Rw c cc0_scratch4 (rowB (n0 := 1024) (n1 := 512) 128 c.val) ∗ J7 (fun j => rFree c (.a (pe c j)))) :=
  own_rest c cc0_scratch4 (fun p => rowB (n0 := 1024) (n1 := 512) 128 p.val) (fun p => rFree c (.a p)) (fun _ => rfl) (split4 c)

/-- A part of the result, at some contents. -/
abbrev OX (c : Dev nD) (x : Fin 8) (h : Fin 2) : sProp 𝕄 := iprop(∃ f, pts (F := F) c cc0_stg1_0 (boxB (n0 := 1024) (n1 := 4096) 128 (c ^^^ x : Fin 8).val 2048 h.val) fullShare f)

theorem startO (c : Dev nD) : Any (F := F) c cc0_stg1_0 ⊢ iprop((OF1 c 0 ∗ OF1 c 1) ∗ (L6 (fun l h => rFree c (.o1 l h)) ∗ L6 (fun l h => rFree c (.o2 l h))) ∗ rFree c (.o3 0) ∗ rFree c (.o3 1)) := by
  have hx (x : Fin 8) (h : Fin 2) (f) : pts (F := F) c cc0_stg1_0 (boxB (n0 := 1024) (n1 := 4096) 128 (c ^^^ x : Fin 8).val 2048 h.val) fullShare f ⊢ OX c x h := by
    iintro H; iexists f; iexact H
  have h0 (h : Fin 2) : OX (F := F) c 0 h = OF1 c h := by
    unfold OX; rw [xor_zero]
  iintro ⟨%f, H⟩
  ihave H := (Entails.of_eq (splitO c fullShare f)) $$ H
  ihave H := (Entails.of_eq (sep2 _)) $$ H
  icases H with ⟨HA, HB⟩
  ihave HA := (Entails.of_eq (sep8 _)) $$ HA
  ihave HB := (Entails.of_eq (sep8 _)) $$ HB
  icases HA with ⟨A0, A1, A2, A3, A4, A5, A6, A7⟩
  icases HB with ⟨B0, B1, B2, B3, B4, B5, B6, B7⟩
  ihave A0 := ((hx 0 0 f).trans (Entails.of_eq (h0 0))) $$ A0
  ihave B0 := ((hx 0 1 f).trans (Entails.of_eq (h0 1))) $$ B0
  ihave A1 := ((hx 1 0 f).trans (Entails.of_eq (show OX c 1 0 = rFree c (.o1 0 0) from rfl))) $$ A1
  ihave B1 := ((hx 1 1 f).trans (Entails.of_eq (show OX c 1 1 = rFree c (.o1 0 1) from rfl))) $$ B1
  ihave A3 := ((hx 3 0 f).trans (Entails.of_eq (show OX c 3 0 = rFree c (.o1 1 0) from rfl))) $$ A3
  ihave B3 := ((hx 3 1 f).trans (Entails.of_eq (show OX c 3 1 = rFree c (.o1 1 1) from rfl))) $$ B3
  ihave A4 := ((hx 4 0 f).trans (Entails.of_eq (show OX c 4 0 = rFree c (.o1 2 0) from rfl))) $$ A4
  ihave B4 := ((hx 4 1 f).trans (Entails.of_eq (show OX c 4 1 = rFree c (.o1 2 1) from rfl))) $$ B4
  ihave A2 := ((hx 2 0 f).trans (Entails.of_eq (show OX c 2 0 = rFree c (.o2 0 0) from rfl))) $$ A2
  ihave B2 := ((hx 2 1 f).trans (Entails.of_eq (show OX c 2 1 = rFree c (.o2 0 1) from rfl))) $$ B2
  ihave A7 := ((hx 7 0 f).trans (Entails.of_eq (show OX c 7 0 = rFree c (.o2 1 0) from rfl))) $$ A7
  ihave B7 := ((hx 7 1 f).trans (Entails.of_eq (show OX c 7 1 = rFree c (.o2 1 1) from rfl))) $$ B7
  ihave A5 := ((hx 5 0 f).trans (Entails.of_eq (show OX c 5 0 = rFree c (.o2 2 0) from rfl))) $$ A5
  ihave B5 := ((hx 5 1 f).trans (Entails.of_eq (show OX c 5 1 = rFree c (.o2 2 1) from rfl))) $$ B5
  ihave A6 := ((hx 6 0 f).trans (Entails.of_eq (show OX c 6 0 = rFree c (.o3 0) from rfl))) $$ A6
  ihave B6 := ((hx 6 1 f).trans (Entails.of_eq (show OX c 6 1 = rFree c (.o3 1) from rfl))) $$ B6
  isplitl [A0 B0]; · isplitl [A0]; · iexact A0
                     iexact B0
  isplitl [A1 A2 A3 A4 A5 A7 B1 B2 B3 B4 B5 B7]
  · isplitl [A1 A3 A4 B1 B3 B4]
    · isplitl [A1]; · iexact A1
      isplitl [A3]; · iexact A3
      isplitl [A4]; · iexact A4
      isplitl [B1]; · iexact B1
      isplitl [B3]; · iexact B3
      iexact B4
    · isplitl [A2]; · iexact A2
      isplitl [A7]; · iexact A7
      isplitl [A5]; · iexact A5
      isplitl [B2]; · iexact B2
      isplitl [B7]; · iexact B7
      iexact B5
  isplitl [A6]; · iexact A6
  iexact B6

/-- The output rows by batch, not yet written; the double buffers' slabs. -/
theorem start3 (c : Dev nD) : Any c cc0_scratch3 ⊢ iprop(OF m c 0 ∅ ∗ OF m c 1 ∅ ∗ OF m c 2 ∅ ∗ OF m c 3 ∅) := by
  have h (b : Fin 4) (f) : pts (F := F) c cc0_scratch3 (rowB (n0 := 1024) (n1 := 512) 256 b.val) fullShare f ⊢ OF m c b ∅ := by
    iintro H; iapply (Fill_start c cc0_scratch3 _ (obufV m c)); iexists f; iexact H
  iintro ⟨%f, H⟩
  ihave H := (Entails.of_eq (split3b c f)) $$ H
  ihave H := (Entails.of_eq (sep4 _)) $$ H
  icases H with ⟨H0, H1, H2, H3⟩
  isplitl [H0]; · iapply (h 0 f) $$ H0
  isplitl [H1]; · iapply (h 1 f) $$ H1
  isplitl [H2]; · iapply (h 2 f) $$ H2
  iapply (h 3 f) $$ H3
theorem start5 (c : Dev nD) : Any (F := F) c cc0_scratch5 ⊢ iprop(WS c 0 ∗ WS c 1) := by
  iintro ⟨%f, H⟩
  ihave H := (Entails.of_eq (split5 c f)) $$ H
  ihave H := (Entails.of_eq (sep2 _)) $$ H
  icases H with ⟨H0, H1⟩
  isplitl [H0]
  · iexists f; iexact H0
  · iexists f; iexact H1
theorem start9 (c : Dev nD) : Any (F := F) c cc0_scratch9 ⊢ iprop(XS c 0 ∗ XS c 1) := by
  iintro ⟨%f, H⟩
  ihave H := (Entails.of_eq (split9 c f)) $$ H
  ihave H := (Entails.of_eq (sep2 _)) $$ H
  icases H with ⟨H0, H1⟩
  isplitl [H0]
  · iexists f; iexact H0
  · iexists f; iexact H1
theorem startR (c : Dev nD) : Rw c cc0_scratch4 (rowB (n0 := 1024) (n1 := 512) 128 c.val) ⊢ OR m c 0 := by
  iintro ⟨%f, H⟩
  iexists f
  isplitl [H]; · iexact H
  ipureintro; exact fun h => absurd h (Nat.not_lt_zero _)
theorem endR (c : Dev nD) : OR m c 8 ⊢ E4 m c 0 := by
  iintro ⟨%f, H, %hf⟩
  have e : E4 m c 0 = pts c cc0_scratch4 (rowB (n0 := 1024) (n1 := 512) 128 c.val) fullShare (orowsV m c) := by unfold E4; rw [pe_zero]
  iapply (Entails.of_eq e.symm)
  iapply (Entails.of_eq (pointsTo_congr (fun i hi => hf c.isLt i hi))) $$ H

/-! ## The own column of the cache, lent to seven transfers -/

theorem col_lend (c : Dev nD) : pts c cc0_scratch0 (colB (n0 := 1024) (n1 := 1024) 128 c.val) fullShare (callV m) ⊢ iprop(D0 m c ∗ J8 (C0 m c)) := by
  have e := pe_zero c
  show _ ⊢ iprop(pts c cc0_scratch0 (colB (n0 := 1024) (n1 := 1024) 128 (pe c 0).val) (shareDrop fullShare 8) (callV m) ∗ J8 (C0 m c))
  rw [e]
  refine (Transfers.pointsTo_toks_split fullShare 8).trans (sep_mono_right (Entails.of_eq ?_))
  rw [bigSep_univ_equiv (peE c), sep8]
  rfl
theorem col_join (c : Dev nD) : iprop(D0 m c ∗ J8 (C0 m c)) ⊢ pts c cc0_scratch0 (colB (n0 := 1024) (n1 := 1024) 128 (pe c 0).val) fullShare (callV m) := by
  have e := pe_zero c
  show iprop(pts c cc0_scratch0 (colB (n0 := 1024) (n1 := 1024) 128 (pe c 0).val) (shareDrop fullShare 8) (callV m) ∗ J8 (C0 m c)) ⊢ _
  rw [e]
  refine (sep_mono_right (Entails.of_eq ?_)).trans (Transfers.pointsTo_toks_join fullShare 8)
  rw [bigSep_univ_equiv (peE c), sep8]
  rfl

/-! ## Whole buffers at the end -/

theorem end0 (c : Dev nD) : iprop(D0 m c ∗ J8 (C0 m c)) ⊢ iprop(G0s m c -∗ Wb c cc0_scratch0 (callV m)) := by
  iintro H HG
  ihave H := (col_join m c) $$ H
  ihave HG := (Entails.of_eq (sep7 _)) $$ HG
  icases HG with ⟨H1, H2, H3, H4, H5, H6, H7⟩
  iapply (Entails.of_eq (split0 c fullShare (callV m)).symm)
  iapply (Entails.of_eq (sep8 _).symm)
  isplitl [H]; · iexact H
  isplitl [H1]; · iexact H1
  isplitl [H2]; · iexact H2
  isplitl [H3]; · iexact H3
  isplitl [H4]; · iexact H4
  isplitl [H5]; · iexact H5
  isplitl [H6]; · iexact H6
  iexact H7

/-- The own block and seven that arrived. -/
theorem end1 (c : Dev nD) : pts c cc0_scratch1 (rowB (n0 := 1024) (n1 := 512) 128 c.val) fullShare (wukcV m c) ⊢ iprop(J7 (G1 m c) -∗ Wb c cc0_scratch1 (wukcV m c)) := by
  have e := pe_zero c
  have h : pts c cc0_scratch1 (rowB (n0 := 1024) (n1 := 512) 128 c.val) fullShare (wukcV m c) = G1 m c 0 := by
    unfold G1; rw [e]
  rw [h]
  iintro H HG
  iapply (Entails.of_eq (split1 c (wukcV m c)).symm)
  iapply (Entails.of_eq (sep8 _).symm)
  isplitl [H]; · iexact H
  iexact HG
theorem end2 (c : Dev nD) : pts c cc0_scratch2 (rowB (n0 := 1024) (n1 := 512) 128 c.val) fullShare (wuvcV m c) ⊢ iprop(J7 (G2 m c) -∗ Wb c cc0_scratch2 (wuvcV m c)) := by
  have e := pe_zero c
  have h : pts c cc0_scratch2 (rowB (n0 := 1024) (n1 := 512) 128 c.val) fullShare (wuvcV m c) = G2 m c 0 := by
    unfold G2; rw [e]
  rw [h]
  iintro H HG
  iapply (Entails.of_eq (split2 c (wuvcV m c)).symm)
  iapply (Entails.of_eq (sep8 _).symm)
  isplitl [H]; · iexact H
  iexact HG

theorem any_of (c : Dev nD) (b : Ref sig .tc) (f : Buf (Elt F) ((c : Thread nD τ).loc b)) : Wb c b f ⊢ Any c b := by
  iintro H; iexists f; iexact H

theorem end3 (c : Dev nD) : J8 (fun p => S3 m c p) ⊢ Any c cc0_scratch3 :=
  ((Entails.of_eq (sep8 _).symm).trans (Entails.of_eq (split3 c (obufV m c)).symm)).trans (any_of c cc0_scratch3 (obufV m c))
theorem end4 (c : Dev nD) : J8 (E4 m c) ⊢ Any c cc0_scratch4 :=
  ((Entails.of_eq (sep8 _).symm).trans (Entails.of_eq (split4 c (orowsV m c)).symm)).trans (any_of c cc0_scratch4 (orowsV m c))
theorem end14 (c : Dev nD) : J8 (C14 m c) ⊢ Any c cc0_scratch14 :=
  ((Entails.of_eq (sep8 _).symm).trans (Entails.of_eq (split14 c (wukV m c)).symm)).trans (any_of c cc0_scratch14 (wukV m c))
theorem end15 (c : Dev nD) : J8 (C15 m c) ⊢ Any c cc0_scratch15 :=
  ((Entails.of_eq (sep8 _).symm).trans (Entails.of_eq (split15 c (wuvV m c)).symm)).trans (any_of c cc0_scratch15 (wuvV m c))

theorem slab_disj {n0 n1 n2 : ℕ} : Disjoint (slab (n0 := n0) (n1 := n1) (n2 := n2) 0) (slab 1) :=
  Finset.disjoint_left.2 fun i h h' => absurd (((mem_slab i).1 h).symm.trans ((mem_slab i).1 h')) (by decide)
theorem slab_univ {n1 n2 : ℕ} : slab (n0 := 2) (n1 := n1) (n2 := n2) 0 ∪ slab 1 = Finset.univ := by
  refine Finset.eq_univ_iff_forall.2 fun i => ?_
  rw [Finset.mem_union, mem_slab, mem_slab]
  have := lt3_0 (n0 := 2) (n1 := n1) (n2 := n2) i
  omega
theorem end5 (c : Dev nD) (p h p' h' : ℕ) : iprop(SL m c p h 0 ∗ SL m c p' h' 1) ⊢ Any c cc0_scratch5 := by
  refine (pointsTo_join slab_disj).trans ?_
  rw [slab_univ]
  iintro H; iexists _; iexact H
theorem end9 (c : Dev nD) : iprop(XS (F := F) c 0 ∗ XS c 1) ⊢ Any c cc0_scratch9 := by
  have h (f g : Buf (Elt F) ((c : Thread nD τ).loc cc0_scratch9)) : iprop(pts (F := F) c cc0_scratch9 (slab (n0 := 2) (n1 := 256) (n2 := 4096) 0) fullShare f
      ∗ pts c cc0_scratch9 (slab (n0 := 2) (n1 := 256) (n2 := 4096) 1) fullShare g) ⊢ Any c cc0_scratch9 := by
    refine (pointsTo_join slab_disj).trans ?_
    rw [slab_univ]
    iintro H; iexists _; iexact H
  iintro ⟨⟨%f, H0⟩, ⟨%g, H1⟩⟩
  iapply (h f g)
  isplitl [H0]; · iexact H0
  iexact H1

/-- A part of the result, computed. -/
abbrev OY (c : Dev nD) (x : Fin 8) (h : Fin 2) : sProp 𝕄 := pts c cc0_stg1_0 (boxB (n0 := 1024) (n1 := 4096) 128 (c ^^^ x : Fin 8).val 2048 h.val) fullShare (outV m)

theorem unlend (c : Dev nD) (h : Fin 2) : iprop(OD m c h ∗ sPay m c (.o1 0 h) ∗ sPay m c (.o1 1 h) ∗ sPay m c (.o1 2 h)) ⊢ OY m c 0 h := by
  have e : OB1 m c h fullShare = OY m c 0 h := by unfold OB1 OY; rw [xor_zero]
  exact ((sep_mono_right (Entails.of_eq (sep3 fun l : Fin 3 => OB1 m c h (Transfers.shareTok fullShare 3 l)).symm)).trans (Transfers.pointsTo_toks_join fullShare 3)).trans
    (Entails.of_eq e)

/-- The result whole: the own chunk, what was relayed and came back, and what arrived and was not relayed. -/
theorem endO (c : Dev nD) : iprop(OD m c 0 ∗ OD m c 1) ⊢ iprop(L6 (fun l h => sPay m c (.o1 l h)) -∗ L6 (fun l h => sPay m c (.o2 l h)) -∗ sPay m c (.o3 0) -∗ sPay m c (.o3 1)
    -∗ rPay m c (.o2 0 0) -∗ rPay m c (.o2 2 0) -∗ rPay m c (.o2 0 1) -∗ rPay m c (.o2 1 1) -∗ rPay m c (.o3 0) -∗ rPay m c (.o3 1) -∗ Wb c cc0_stg1_0 (outV m)) := by
  iintro ⟨D0, D1⟩ ⟨a00, a10, a20, a01, a11, a21⟩ ⟨b00, b10, b20, b01, b11, b21⟩ c0 c1 d00 d20 d01 d11 f0 f1
  iapply (Entails.of_eq (splitO c fullShare (outV m)).symm)
  iapply (Entails.of_eq (sep2 _).symm)
  isplitl [D0 a00 a10 a20 b00 b10 b20 c0 d00 d20 f0]
  · iapply (Entails.of_eq (sep8 _).symm)
    isplitl [D0 a00 a10 a20]
    · iapply (unlend m c 0)
      isplitl [D0]; · iexact D0
      isplitl [a00]; · iexact a00
      isplitl [a10]; · iexact a10
      iexact a20
    isplitl [b20]; · iapply (Entails.of_eq (show sPay m c (.o2 2 0) = OY m c 1 0 from rfl)) $$ b20
    isplitl [d00]; · iapply (Entails.of_eq (show rPay m c (.o2 0 0) = OY m c 2 0 from rfl)) $$ d00
    isplitl [b00]; · iapply (Entails.of_eq (show sPay m c (.o2 0 0) = OY m c 3 0 from rfl)) $$ b00
    isplitl [b10]; · iapply (Entails.of_eq (show sPay m c (.o2 1 0) = OY m c 4 0 from rfl)) $$ b10
    isplitl [d20]; · iapply (Entails.of_eq (show rPay m c (.o2 2 0) = OY m c 5 0 from rfl)) $$ d20
    isplitl [f0]; · iapply (Entails.of_eq (show rPay m c (.o3 0) = OY m c 6 0 from rfl)) $$ f0
    iapply (Entails.of_eq (show sPay m c (.o3 0) = OY m c 7 0 from rfl)) $$ c0
  · iapply (Entails.of_eq (sep8 _).symm)
    isplitl [D1 a01 a11 a21]
    · iapply (unlend m c 1)
      isplitl [D1]; · iexact D1
      isplitl [a01]; · iexact a01
      isplitl [a11]; · iexact a11
      iexact a21
    isplitl [b21]; · iapply (Entails.of_eq (show sPay m c (.o2 2 1) = OY m c 1 1 from rfl)) $$ b21
    isplitl [d01]; · iapply (Entails.of_eq (show rPay m c (.o2 0 1) = OY m c 2 1 from rfl)) $$ d01
    isplitl [b01]; · iapply (Entails.of_eq (show sPay m c (.o2 0 1) = OY m c 3 1 from rfl)) $$ b01
    isplitl [b11]; · iapply (Entails.of_eq (show sPay m c (.o2 1 1) = OY m c 4 1 from rfl)) $$ b11
    isplitl [c1]; · iapply (Entails.of_eq (show sPay m c (.o3 1) = OY m c 5 1 from rfl)) $$ c1
    isplitl [f1]; · iapply (Entails.of_eq (show rPay m c (.o3 1) = OY m c 6 1 from rfl)) $$ f1
    iapply (Entails.of_eq (show rPay m c (.o2 1 1) = OY m c 7 1 from rfl)) $$ d11

/-! ## Packing -/

theorem pk7 (Φ : Fin 8 → sProp 𝕄) : Φ 1 ⊢ iprop(Φ 2 -∗ Φ 3 -∗ Φ 4 -∗ Φ 5 -∗ Φ 6 -∗ Φ 7 -∗ (Φ 1 ∗ Φ 2 ∗ Φ 3 ∗ Φ 4 ∗ Φ 5 ∗ Φ 6 ∗ Φ 7)) := by
  iintro H1 H2 H3 H4 H5 H6 H7; iframe
theorem pk8 (Φ : Fin 8 → sProp 𝕄) : Φ 0 ⊢ iprop(Φ 1 -∗ Φ 2 -∗ Φ 3 -∗ Φ 4 -∗ Φ 5 -∗ Φ 6 -∗ Φ 7 -∗ (Φ 0 ∗ Φ 1 ∗ Φ 2 ∗ Φ 3 ∗ Φ 4 ∗ Φ 5 ∗ Φ 6 ∗ Φ 7)) := by
  iintro H0 H1 H2 H3 H4 H5 H6 H7; iframe
theorem pk6 (Φ : Fin 3 → Fin 2 → sProp 𝕄) : Φ 0 0 ⊢ iprop(Φ 1 0 -∗ Φ 2 0 -∗ Φ 0 1 -∗ Φ 1 1 -∗ Φ 2 1 -∗ (Φ 0 0 ∗ Φ 1 0 ∗ Φ 2 0 ∗ Φ 0 1 ∗ Φ 1 1 ∗ Φ 2 1)) := by
  iintro H0 H1 H2 H3 H4 H5; iframe
theorem pk2 (A B : sProp 𝕄) : A ⊢ iprop(B -∗ (A ∗ B)) := by
  iintro H0 H1; iframe

end Cert.Mla
-- ==== Proof.Chain.lean ====
/-
# The program of one device

The parts in the program's order, from what a device has at the launch (`In`) to what it has at the end (`Out`).
-/
module

public import proofs.«01_k».proof.Proof.Split

@[expose] public section

noncomputable section

namespace Cert.Mla

open Cert.KernelIdeal Cert.KernelIdeal.Gen

open Idealize.ShloMosaic
open Idealize.ShloMosaic.TcCoe
open Idealize.ShloMosaic.RefSig (tileCredit)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop Flight Flight_mono)

variable {F : FTy → Type} [FloatOps F]

local notation "𝕄" => MT nD τ sig Unit (Elt F) ℕ UU ℕ

variable (m : (ℓ : Loc nD τ sig) → Buf (Elt F) ℓ) (K : Dev nD × Cl → ℕ)

/-! ## What a device starts with and ends with -/

/-- The local copies' semaphores at zero. -/
abbrev LZs (c : Dev nD) : sProp 𝕄 := iprop(LZ c 94 ∗ LZ c 95 ∗ LZ c 96 ∗ LZ c 97 ∗ LZ c 98 ∗ LZ c 99 ∗ LZ c 100 ∗ LZ c 101 ∗ LZ c 102)
/-- The argument arrays: five whole, two shares each of the two that are copied in pieces. -/
abbrev Args (c : Dev nD) : sProp 𝕄 := iprop(Wb c main_arg1 (arg m c main_arg1) ∗ Wb c main_arg2 (arg m c main_arg2) ∗ Wb c main_arg3 (arg m c main_arg3)
  ∗ Wb c main_arg4 (arg m c main_arg4) ∗ Wb c main_arg5 (arg m c main_arg5) ∗ XT m c 0 ∗ XT m c 1 ∗ WT m c 0 ∗ WT m c 1)
/-- The families over the transfers that take place. -/
abbrev Live (c : Dev nD) (Ψ : Tr → sProp 𝕄) : sProp 𝕄 := bigSep Finset.univ fun x => if live c x then Ψ x else iprop(emp)
/-- The scratch buffers at the start: the own parts of those that peers write, and the others. -/
abbrev Own (c : Dev nD) : sProp 𝕄 := iprop(Rw (F := F) c cc0_scratch0 (colB (n0 := 1024) (n1 := 1024) 128 c.val) ∗ Rw c cc0_scratch1 (rowB (n0 := 1024) (n1 := 512) 128 c.val)
  ∗ Rw c cc0_scratch2 (rowB (n0 := 1024) (n1 := 512) 128 c.val) ∗ Any c cc0_scratch3 ∗ Rw c cc0_scratch4 (rowB (n0 := 1024) (n1 := 512) 128 c.val)
  ∗ Any c cc0_scratch5 ∗ Any c cc0_scratch6 ∗ Any c cc0_scratch7 ∗ Any c cc0_scratch8 ∗ Any c cc0_scratch9 ∗ Any c cc0_scratch10 ∗ Any c cc0_scratch11
  ∗ Any c cc0_scratch12 ∗ Any c cc0_scratch13 ∗ Any c cc0_scratch14 ∗ Any c cc0_scratch15)
abbrev Whole (c : Dev nD) : sProp 𝕄 := iprop(Any (F := F) c cc0_scratch0 ∗ Any c cc0_scratch1 ∗ Any c cc0_scratch2 ∗ Any c cc0_scratch3 ∗ Any c cc0_scratch4
  ∗ Any c cc0_scratch5 ∗ Any c cc0_scratch6 ∗ Any c cc0_scratch7 ∗ Any c cc0_scratch8 ∗ Any c cc0_scratch9 ∗ Any c cc0_scratch10 ∗ Any c cc0_scratch11
  ∗ Any c cc0_scratch12 ∗ Any c cc0_scratch13 ∗ Any c cc0_scratch14 ∗ Any c cc0_scratch15)

def In (c : Dev nD) : sProp 𝕄 := iprop(ow c 0 ∗ J7 (SG (F := F) c) ∗ atPos ER (gc c .bar) 0 ∅ 0 ∗ cred (tallyAt (gc c .bar) () 7) ∗ Live c (SK c) ∗ Live c (RK c)
  ∗ LZs c ∗ Args m c ∗ Own c ∗ Wb c cc0_stg0_0 (wkrV m c) ∗ OF1 c 0 ∗ OF1 c 1)
def Out (c : Dev nD) : sProp 𝕄 := iprop(ow c 50 ∗ Z c .bar ∗ Live c (fun x => Z c (.s x)) ∗ Live c (fun x => Z c (.r x))
  ∗ LZs c ∗ Args m c ∗ Whole c ∗ Wb c cc0_stg0_0 (wkrV m c) ∗ Wb c cc0_stg1_0 (outV m))

/-- What the barrier's wait gives, joined with the transfers not started. -/
theorem open_all (c : Dev nD) : Live c (SK c) ⊢ iprop(bigSep (Finset.univ.erase c) (barPay (F := F) c)
    -∗ ((((PK c 0 1 ∗ PK c 0 2 ∗ PK c 0 3 ∗ PK c 0 4 ∗ PK c 0 5 ∗ PK c 0 6 ∗ PK c 0 7) ∗ (PK c 1 1 ∗ PK c 1 2 ∗ PK c 1 3 ∗ PK c 1 4 ∗ PK c 1 5 ∗ PK c 1 6 ∗ PK c 1 7)
          ∗ (PK c 2 1 ∗ PK c 2 2 ∗ PK c 2 3 ∗ PK c 2 4 ∗ PK c 2 5 ∗ PK c 2 6 ∗ PK c 2 7))
        ∗ (AI c 0 ∗ AI c 1 ∗ AI c 2 ∗ AI c 3 ∗ AI c 4 ∗ AI c 5 ∗ AI c 6 ∗ AI c 7))
      ∗ ((PO c (.o1 0 0) ∗ PO c (.o1 1 0) ∗ PO c (.o1 2 0) ∗ PO c (.o1 0 1) ∗ PO c (.o1 1 1) ∗ PO c (.o1 2 1))
        ∗ (PO c (.o2 0 0) ∗ PO c (.o2 1 0) ∗ PO c (.o2 2 0) ∗ PO c (.o2 0 1) ∗ PO c (.o2 1 1) ∗ PO c (.o2 2 1)))
      ∗ (PO c (.o3 0) ∗ PO c (.o3 1)))) := by
  have h : iprop(Live c (SK c) ∗ bigSep (Finset.univ.erase c) (barPay (F := F) c)) ⊢ Live c (PO (F := F) c) := by
    refine (sep_mono_right (open_bar c)).trans ?_
    rw [← bigSep_sep']
    refine bigSep_mono fun x _ => ?_
    by_cases hl : live c x
    · rw [if_pos hl, if_pos hl, if_pos hl]; exact Idealize.SL.BI.Entails.refl _
    · rw [if_neg hl, if_neg hl, if_neg hl]; exact Entails.of_eq (emp_l _)
  have ha : J7 (fun j => PO (F := F) c (.a (pe c j))) = J8 (fun p => AI c p) := (peer_sep c fun p => PO c (.a p)).symm.trans (peer_sep8 c fun p => PO c (.a p))
  iintro HS HB
  ihave H := h $$ [HS HB]
  · isplitl [HS]; · iexact HS
    iexact HB
  ihave H := (Entails.of_eq (live_sep c (PO (F := F) c))) $$ H
  icases H with ⟨⟨HW, HA⟩, HO, HT⟩
  isplitl [HW HA]
  · isplitl [HW]; · iexact HW
    ihave HA := (Entails.of_eq ha) $$ HA
    iexact HA
  isplitl [HO]; · iexact HO
  iexact HT

theorem open_r (c : Dev nD) (Ψ : Tr → sProp 𝕄) : Live c Ψ ⊢ iprop((((Ψ (.w 0 (pe c 1)) ∗ Ψ (.w 0 (pe c 2)) ∗ Ψ (.w 0 (pe c 3)) ∗ Ψ (.w 0 (pe c 4)) ∗ Ψ (.w 0 (pe c 5)) ∗ Ψ (.w 0 (pe c 6)) ∗ Ψ (.w 0 (pe c 7)))
        ∗ (Ψ (.w 1 (pe c 1)) ∗ Ψ (.w 1 (pe c 2)) ∗ Ψ (.w 1 (pe c 3)) ∗ Ψ (.w 1 (pe c 4)) ∗ Ψ (.w 1 (pe c 5)) ∗ Ψ (.w 1 (pe c 6)) ∗ Ψ (.w 1 (pe c 7)))
        ∗ (Ψ (.w 2 (pe c 1)) ∗ Ψ (.w 2 (pe c 2)) ∗ Ψ (.w 2 (pe c 3)) ∗ Ψ (.w 2 (pe c 4)) ∗ Ψ (.w 2 (pe c 5)) ∗ Ψ (.w 2 (pe c 6)) ∗ Ψ (.w 2 (pe c 7))))
      ∗ (Ψ (.a (pe c 1)) ∗ Ψ (.a (pe c 2)) ∗ Ψ (.a (pe c 3)) ∗ Ψ (.a (pe c 4)) ∗ Ψ (.a (pe c 5)) ∗ Ψ (.a (pe c 6)) ∗ Ψ (.a (pe c 7))))
    ∗ ((Ψ (.o1 0 0) ∗ Ψ (.o1 1 0) ∗ Ψ (.o1 2 0) ∗ Ψ (.o1 0 1) ∗ Ψ (.o1 1 1) ∗ Ψ (.o1 2 1)) ∗ (Ψ (.o2 0 0) ∗ Ψ (.o2 1 0) ∗ Ψ (.o2 2 0) ∗ Ψ (.o2 0 1) ∗ Ψ (.o2 1 1) ∗ Ψ (.o2 2 1)))
    ∗ (Ψ (.o3 0) ∗ Ψ (.o3 1))) := Entails.of_eq (live_sep c Ψ)

/-- The reverse of `open_r`. -/
theorem close_r (c : Dev nD) (Ψ : Tr → sProp 𝕄) : J7 (fun j => Ψ (.w 0 (pe c j))) ⊢ iprop(J7 (fun j => Ψ (.w 1 (pe c j))) -∗ J7 (fun j => Ψ (.w 2 (pe c j)))
    -∗ J7 (fun j => Ψ (.a (pe c j))) -∗ L6 (fun l h => Ψ (.o1 l h)) -∗ L6 (fun l h => Ψ (.o2 l h)) -∗ Ψ (.o3 0) -∗ Ψ (.o3 1) -∗ Live c Ψ) := by
  iintro H0 H1 H2 HA HP HQ T0 T1
  iapply (Entails.of_eq (live_sep c Ψ).symm)
  isplitl [H0 H1 H2 HA]
  · isplitl [H0 H1 H2]
    · isplitl [H0]; · iexact H0
      isplitl [H1]; · iexact H1
      iexact H2
    iexact HA
  isplitl [HP HQ]
  · isplitl [HP]; · iexact HP
    iexact HQ
  isplitl [T0]; · iexact T0
  iexact T1

theorem close_a (c : Dev nD) : J8 (fun p => AZ c p) ⊢ J7 (fun j => Z (F := F) c (.s (.a (pe c j)))) :=
  Entails.of_eq ((peer_sep8 c fun p => Z (F := F) c (.s (.a p))).symm.trans (peer_sep c fun p => Z c (.s (.a p))))

/-- One device's program, whole. -/
theorem body (c : Dev nD) {Q} : Env m K ⊢ iprop(In m c -∗ (Out m c -∗ Q ⟨⟩) -∗ WP c (At (cc0__body (F := F))) Q) := by
  simp only [cc0__body_eq_skeleton]
  unfold cc0__body_skel
  simp only [k0_part61_eq_skeleton]
  unfold k0_part61_skel
  unfold WP
  simp only [wp_bind, wp_pure]
  iintro #HE HI Hk
  unfold In
  icases HI with ⟨HO, HS, Hat, Hc, HK, HR, ⟨L94, L95, L96, L97, L98, L99, L100, L101, L102⟩, ⟨A1, A2, A3, A4, A5, X0, X1, W0, W1⟩, ⟨B0, B1, B2, B3, B4, B5, B6, B7, B8, B9, B10, B11, B12, B13, B14, B15⟩, Hwkr, F0, F1⟩
  icases HS with ⟨S1, S2, S3, S4, S5, S6, S7⟩
  iapply (part1 m K c) $$ HE HO S1 S2 S3 S4 S5; iintro HO %w
  iapply (part2 m K c _ _ _) $$ HE HO S6 S7 Hat Hc L100 L101 L102 L96 L97 A1 A2 A3 A4 A5 B10 B11 B12 B6 B7; iintro ⟨HO, HZ, HB, V0, V1, V2, Q0, Q1⟩
  ihave HP := (open_all c) $$ HK HB
  icases HP with ⟨⟨⟨P0, P1, P2⟩, PA⟩, ⟨PO1, PO2⟩, P30, P31⟩
  ihave HR := (open_r c (RK c)) $$ HR
  icases HR with ⟨⟨⟨R0, R1, R2⟩, RA⟩, ⟨RO1, RO2⟩, r30, r31⟩
  ihave B5 := (start5 c) $$ B5
  icases B5 with ⟨Ws0, Ws1⟩
  ihave B9 := (start9 c) $$ B9
  icases B9 with ⟨Xs0, Xs1⟩
  iapply (part3 m K c _) $$ HE HO W0 W1 X0 X1 Ws0 Ws1 Xs0 Xs1 L94 L95 L98 L99 V0; iintro ⟨HO, Va, Vb, Xa, Xb, L100, B10, A1⟩
  icases P0 with ⟨K01, K02, K03, K04, K05, K06, K07⟩
  iapply (part4 m K c _) $$ HE HO B13 B14 B15 V1 V2 K01; iintro %u4 ⟨HO, B13, M0, M2, M3, M4, M5, M6, M7, B15, E01, L101, L102, B11, B12, A2, A3⟩
  ihave B15 := (Entails.of_eq (split15 c (wuvV m c))) $$ B15
  ihave B15 := (Entails.of_eq (sep8 _)) $$ B15
  icases B15 with ⟨N0, N1, N2, N3, N4, N5, N6, N7⟩
  icases P1 with ⟨K11, K12, K13, K14, K15, K16, K17⟩
  iapply (part5 m K c _ _) $$ HE HO K11 K02 K12 N1 M2 N2; iintro %u5 ⟨HO, E11, E02, E12⟩
  iapply (part6 m K c _ _) $$ HE HO K03 K13 M3 N3; iintro %u6 ⟨HO, E03, E13⟩
  iapply (part7 m K c _ _) $$ HE HO K04 K14 K05 M4 N4 M5; iintro ⟨HO, E04, E14, E05⟩
  iapply (part8 m K c _) $$ HE HO K15 K06 K16 N5 M6 N6; iintro %u8 ⟨HO, E15, E06, E16⟩
  ihave XF := (Fill_start c cc0_scratch8 Finset.univ (xbV m c)) $$ B8
  iapply (part9 m K c _ _) $$ HE HO K07 K17 M7 N7 Xa XF; iintro ⟨HO, E07, E17, L98, Xs0, X0, XF⟩
  ihave E0 := (pk7 (PC c 0)) $$ E01 E02 E03 E04 E05 E06 E07
  ihave E1 := (pk7 (PC c 1)) $$ E11 E12 E13 E14 E15 E16 E17
  iapply (part10 m K c _) $$ HE HO L98 Xs0 X0 Xb XF; iintro ⟨HO, L98, Xs0, X0, Xb, XF⟩
  iapply (part11 m K c _) $$ HE HO Xs0 Xb XF B13 B0; iintro %u11 ⟨HO, L99, Xs0, Xs1, X1, B8, B13, H0⟩
  ihave H0 := (col_lend m c) $$ H0
  icases H0 with ⟨D, T0, T1, T2, T3, T4, T5, T6, T7⟩
  icases P2 with ⟨K21, K22, K23, K24, K25, K26, K27⟩
  iapply (part12 m K c _ _ _) $$ HE HO K21 K22 T1 T2; iintro ⟨HO, E21, E22⟩
  iapply (part13 m K c _) $$ HE HO K23 K24 K25 T3 T4 T5; iintro %u13 ⟨HO, E23, E24, E25⟩
  iapply (part14 m K c _ _) $$ HE HO K26 K27 T6 T7 M0 N0 B1 B2; iintro ⟨HO, E26, E27, M0, N0, H1, B2⟩
  ihave E2 := (pk7 (PC c 2)) $$ E21 E22 E23 E24 E25 E26 E27
  icases R0 with ⟨R01, R02, R03, R04, R05, R06, R07⟩
  iapply (part15 m K c _) $$ HE HO B2 Hwkr Q0 Q1 R01; iintro %u15 ⟨HO, H2, Hwkr, L96, L97, B6, B7, A4, A5, z01, g1⟩
  icases R1 with ⟨R11, R12, R13, R14, R15, R16, R17⟩
  icases R2 with ⟨R21, R22, R23, R24, R25, R26, R27⟩
  iapply (part16 m K c _ _ _) $$ HE HO R11 R21 R02; iintro %u16 %v16 ⟨HO, z11, h1, z21, f1, z02, g2⟩
  iapply (part17 m K c _ _ _) $$ HE HO R12 R22 R03; iintro %u17 ⟨HO, z12, h2, z22, f2, z03, g3⟩
  iapply (part18 m K c _ _) $$ HE HO R13 R23 R04 R14; iintro %u18 ⟨HO, z13, h3, z23, f3, z04, g4, z14, h4⟩
  iapply (part19 m K c _ _ _) $$ HE HO R24 R05 R15; iintro %u19 ⟨HO, z24, f4, z05, g5, z15, h5⟩
  iapply (part20 m K c _ _) $$ HE HO R25 R06 R16; iintro ⟨HO, z25, f5, z06, g6, z16, h6⟩
  iapply (part21 m K c _) $$ HE HO R26 R07 R17; iintro ⟨HO, z26, f6, z07, g7, z17, h7⟩
  ihave GG := (pk7 (G1 m c)) $$ g1 g2 g3 g4 g5 g6 g7
  ihave B1 := (end1 m c) $$ H1 GG
  ihave GG := (pk7 (G2 m c)) $$ h1 h2 h3 h4 h5 h6 h7
  ihave B2 := (end2 m c) $$ H2 GG
  ihave B3 := (start3 m c) $$ B3
  icases B3 with ⟨Y0, Y1, Y2, Y3⟩
  iapply (part22 m K c) $$ HE HO R27 f1 f2 f3 f4 f5 f6 D B1 B2 Y0; iintro ⟨HO, z27, HG, D, B1, B2, Y0⟩
  ihave z0 := (pk7 (ZW c 0)) $$ z01 z02 z03 z04 z05 z06 z07
  ihave z1 := (pk7 (ZW c 1)) $$ z11 z12 z13 z14 z15 z16 z17
  ihave z2 := (pk7 (ZW c 2)) $$ z21 z22 z23 z24 z25 z26 z27
  ihave RR := (startR m c) $$ B4
  icases PA with ⟨I0, I1, I2, I3, I4, I5, I6, I7⟩
  iapply (part23 m K c) $$ HE Y0; iintro Y0
  iapply (part24 m K c) $$ HE HO Y0 Y1 I0 I1 RR; iintro ⟨HO, Y1, a0, a1, RR⟩
  iapply (part25 m K c) $$ HE Y1; iintro Y1
  iapply (part26 m K c) $$ HE HO Y1 Y2 I2 I3 RR; iintro ⟨HO, Y2, a2, a3, RR⟩
  iapply (part27 m K c) $$ HE Y2; iintro Y2
  iapply (part28 m K c) $$ HE HO Y2 Y3 I4 I5 RR; iintro ⟨HO, Y3, a4, a5, RR⟩
  iapply (part29 m K c) $$ HE Y3; iintro Y3
  iapply (part30 m K c) $$ HE HO Y3 I6 I7 RR; iintro %j0 %j1 %j2 %j3 %j4 %j5 %j6 %j7 %j8 %j9 ⟨HO, a6, a7, RR⟩
  ihave e0 := (endR m c) $$ RR
  icases RA with ⟨ra1, ra2, ra3, ra4, ra5, ra6, ra7⟩
  iapply (part31 m K c _ _ _) $$ HE HO Va e0; iintro %u31 ⟨HO, e0, Va⟩
  iapply (part32 m K c _ _ _) $$ HE HO Vb ra1; iintro %u32 %v32 ⟨HO, y1, e1, Vb⟩
  iapply (part33 m K c _ _ _ _ _) $$ HE HO Va ra2; iintro %u33 ⟨HO, y2, e2, Va⟩
  iapply (part34 m K c _ _ _) $$ HE HO Vb ra3; iintro ⟨HO, y3, e3, L95, SB, W1⟩
  iapply (part35 m K c _ _) $$ HE HO L95 SB W1 Va ra4; iintro ⟨HO, Vb, y4, e4, L94, SA, W0⟩
  iapply (part36 m K c _ _) $$ HE HO L94 SA W0 Vb ra5; iintro ⟨HO, Va, y5, e5, L95, SB, W1⟩
  iapply (part37 m K c _) $$ HE HO L95 SB W1 Va ra6; iintro ⟨HO, Vb, y6, e6, L94, SA, W0⟩
  iapply (part38 m K c _ _ _) $$ HE HO L94 SA W0 Vb ra7; iintro %u38 ⟨HO, Va, y7, e7, L95, SB, W1⟩
  ihave ya := (pk7 fun j => Z c (.r (.a (pe c j)))) $$ y1 y2 y3 y4 y5 y6 y7
  icases PO1 with ⟨o00, o10, o20, o01, o11, o21⟩
  iapply (part39 m K c _ _ _ _ rfl) $$ HE HO L95 SB W1 e7 F0 o00; iintro ⟨HO, Vb, e7, D0, c100, s10, s20⟩
  iapply (part40 m K c _ _ _) $$ HE HO o10 o20 s10 s20 Va; iintro %u40 ⟨HO, c110, c120, L94, SA, W0⟩
  iapply (part41 m K c _ _ _) $$ HE HO L94 SA W0 e0 e1 Vb; iintro ⟨HO, Va, e0, e1, L95, SB, W1⟩
  iapply (part42 m K c _ _ _ _) $$ HE HO L95 SB W1 e2 Va; iintro %u42 ⟨HO, Vb, e2, L94, SA, W0⟩
  iapply (part43 m K c _ _ _) $$ HE HO L94 SA W0 e3 Vb; iintro ⟨HO, Va, e3, L95, SB, W1⟩
  iapply (part44 m K c _ _) $$ HE HO L95 SB W1 e4 Va; iintro %u44 ⟨HO, Vb, Va, e4⟩
  iapply (part45 m K c _ _ _ _) $$ HE HO e5 Vb; iintro %u45 ⟨HO, Vb, e5⟩
  iapply (part46 m K c _ _ _) $$ HE HO e6 e7 Va Vb; iintro ⟨HO, e6, e7, L94, SA, W0, L95, SB, W1⟩
  ihave e := (pk8 (E4 m c)) $$ e0 e1 e2 e3 e4 e5 e6 e7
  ihave B4 := (end4 m c) $$ e
  ihave B5 := (pk2 _ _) $$ SA SB
  ihave B5 := (end5 m c _ _ _ _) $$ B5
  iapply (part47 m K c _ _ _ _ _ rfl) $$ HE HO F1 o01 o11; iintro ⟨HO, D1, c101, c111, s21⟩
  icases RO1 with ⟨p00, p10, p20, p01, p11, p21⟩
  icases PO2 with ⟨q00, q10, q20, q01, q11, q21⟩
  iapply (part48 m K c _ _ _ _ _) $$ HE HO s21 o21 p10 q00 p20; iintro ⟨HO, c121, y110, c200, y120, s⟩
  iapply (part49 m K c _ _ _ _) $$ HE HO s q10 p00 q20; iintro %u49 ⟨HO, c210, y100, c220⟩
  iapply (part50 m K c _ _ _ _ _ _ _) $$ HE HO p11 q01 p21; iintro ⟨HO, y111, c201, y121, s⟩
  icases RO2 with ⟨r00, r10, r20, r01, r11, r21⟩
  iapply (part51 m K c _ _ _ _ _) $$ HE HO s q11 p01 q21 r00; iintro ⟨HO, c211, y101, c221, y200, t0⟩
  iapply (part52 m K c _ _ _ _ _ _) $$ HE HO r10 r20 P30; iintro ⟨HO, y210, y220, t1, c30⟩
  iapply (part53 m K c _ _ _ _ _) $$ HE HO r01 r11 r21 P31; iintro ⟨HO, y201, t2, y211, t3, y221, c31⟩
  ihave y1 := (pk6 fun l h => Z c (.r (.o1 l h))) $$ y100 y110 y120 y101 y111 y121
  ihave y2 := (pk6 fun l h => Z c (.r (.o2 l h))) $$ y200 y210 y220 y201 y211 y221
  icases E0 with ⟨E01, E02, E03, E04, E05, E06, E07⟩
  icases E1 with ⟨E11, E12, E13, E14, E15, E16, E17⟩
  iapply (part54 m K c _ _ _ _) $$ HE HO r30 r31 E01 E11; iintro ⟨HO, y30, t4, y31, t5, x01, M1, x11, N1⟩
  iapply (part55 m K c) $$ HE HO E02 E12 E03 E13 E04 E14; iintro ⟨HO, x02, M2, x12, N2, x03, M3, x13, N3, x04, M4, x14, N4⟩
  iapply (part56 m K c) $$ HE HO E05 E15 E06 E16 E07 E17; iintro ⟨HO, x05, M5, x15, N5, x06, M6, x16, N6, x07, M7, x17, N7⟩
  ihave x0 := (pk7 (ZS c 0)) $$ x01 x02 x03 x04 x05 x06 x07
  ihave x1 := (pk7 (ZS c 1)) $$ x11 x12 x13 x14 x15 x16 x17
  ihave B14 := (pk8 (C14 m c)) $$ M0 M1 M2 M3 M4 M5 M6 M7
  ihave B14 := (end14 m c) $$ B14
  ihave B15 := (pk8 (C15 m c)) $$ N0 N1 N2 N3 N4 N5 N6 N7
  ihave B15 := (end15 m c) $$ B15
  icases E2 with ⟨E21, E22, E23, E24, E25, E26, E27⟩
  iapply (part57 m K c) $$ HE HO E21 E22 E23 E24 E25 E26; iintro ⟨HO, x21, T1, x22, T2, x23, T3, x24, T4, x25, T5, x26, T6⟩
  iapply (part58 m K c) $$ HE HO E27 c100 c110 c120 c101; iintro ⟨HO, x27, T7, w100, s100, w110, s110, w120, s120, w101, s101⟩
  ihave x2 := (pk7 (ZS c 2)) $$ x21 x22 x23 x24 x25 x26 x27
  ihave T := (pk8 (C0 m c)) $$ T0 T1 T2 T3 T4 T5 T6 T7
  ihave B0 := (pk2 _ _) $$ D T
  ihave B0 := (end0 m c) $$ B0 HG
  iapply (part59 m K c) $$ HE HO c111 c121 c200 c210 c220; iintro ⟨HO, w111, s111, w121, s121, w200, s200, w210, s210, w220, s220⟩
  iapply (part60 m K c _) $$ HE HO c201 c211 c221 c30 c31 a0 a1; iintro ⟨HO, w201, s201, w211, s211, w221, s221, w30, s30, w31, s31, x0a, b0, x1a, b1⟩
  ihave w1 := (pk6 fun l h => Z c (.s (.o1 l h))) $$ w100 w110 w120 w101 w111 w121
  ihave w2 := (pk6 fun l h => Z c (.s (.o2 l h))) $$ w200 w210 w220 w201 w211 w221
  ihave s1 := (pk6 fun l h => sPay m c (.o1 l h)) $$ s100 s110 s120 s101 s111 s121
  ihave s2 := (pk6 fun l h => sPay m c (.o2 l h)) $$ s200 s210 s220 s201 s211 s221
  ihave OO := (pk2 _ _) $$ D0 D1
  ihave OO := (endO m c) $$ OO s1 s2 s30 s31 t0 t1 t2 t3 t4 t5
  simp only [Prog.lift, Prog.bind_op, Prog.bind_ret, Prog.pure_eq_ret, wp_bind, wp_pure]
  imodintro
  iapply (cond_wait m K c 2 (cond19_at c) rfl) $$ HE HO a2; iintro ⟨HO, x2a, b2⟩
  iapply (cond_wait m K c 3 (cond20_at c) rfl) $$ HE HO a3; iintro ⟨HO, x3a, b3⟩
  iapply (cond_wait m K c 4 (cond21_at c) rfl) $$ HE HO a4; iintro ⟨HO, x4a, b4⟩
  iapply (cond_wait m K c 5 (cond22_at c) rfl) $$ HE HO a5; iintro ⟨HO, x5a, b5⟩
  iapply (cond_wait m K c 6 (cond23_at c) rfl) $$ HE HO a6; iintro ⟨HO, x6a, b6⟩
  iapply (cond_wait m K c 7 (cond24_at c) rfl) $$ HE HO a7; iintro ⟨HO, x7a, b7⟩
  iapply wp_end
  iapply Hk
  unfold Out
  ihave xa := (pk8 (fun p => AZ c p)) $$ x0a x1a x2a x3a x4a x5a x6a x7a
  ihave xa := (close_a c) $$ xa
  ihave HS := (close_r c (fun x => Z c (.s x))) $$ x0 x1 x2 xa w1 w2 w30 w31
  ihave HR := (close_r c (fun x => Z c (.r x))) $$ z0 z1 z2 ya y1 y2 y30 y31
  ihave B3 := (pk8 (fun p => S3 m c p)) $$ b0 b1 b2 b3 b4 b5 b6 b7
  ihave B3 := (end3 m c) $$ B3
  ihave B9 := (pk2 _ _) $$ Xs0 Xs1
  ihave B9 := (end9 c) $$ B9
  ihave B0 := (any_of c cc0_scratch0 _) $$ B0
  ihave B1 := (any_of c cc0_scratch1 _) $$ B1
  ihave B2 := (any_of c cc0_scratch2 _) $$ B2
  ihave B6 := (any_of c cc0_scratch6 _) $$ B6
  ihave B7 := (any_of c cc0_scratch7 _) $$ B7
  ihave B8 := (any_of c cc0_scratch8 _) $$ B8
  ihave B10 := (any_of c cc0_scratch10 _) $$ B10
  ihave B11 := (any_of c cc0_scratch11 _) $$ B11
  ihave B12 := (any_of c cc0_scratch12 _) $$ B12
  ihave B13 := (any_of c cc0_scratch13 _) $$ B13
  isplitl [HO]; · iexact HO
  isplitl [HZ]; · iexact HZ
  isplitl [HS]; · iexact HS
  isplitl [HR]; · iexact HR
  isplitl [L94 L95 L96 L97 L98 L99 L100 L101 L102]
  · isplitl [L94]; · iexact L94
    isplitl [L95]; · iexact L95
    isplitl [L96]; · iexact L96
    isplitl [L97]; · iexact L97
    isplitl [L98]; · iexact L98
    isplitl [L99]; · iexact L99
    isplitl [L100]; · iexact L100
    isplitl [L101]; · iexact L101
    iexact L102
  isplitl [A1 A2 A3 A4 A5 X0 X1 W0 W1]
  · isplitl [A1]; · iexact A1
    isplitl [A2]; · iexact A2
    isplitl [A3]; · iexact A3
    isplitl [A4]; · iexact A4
    isplitl [A5]; · iexact A5
    isplitl [X0]; · iexact X0
    isplitl [X1]; · iexact X1
    isplitl [W0]; · iexact W0
    iexact W1
  isplitl [B0 B1 B2 B3 B4 B5 B6 B7 B8 B9 B10 B11 B12 B13 B14 B15]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    iexact B15
  isplitl [Hwkr]; · iexact Hwkr
  iexact OO

end Cert.Mla
-- ==== Proof.Fund.lean ====
/-
# The launch's ghost state: the cells funded, their invariants opened for every device at once
-/
module

public import proofs.«01_k».proof.Proof.Chain
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Mla

open Cert.KernelIdeal Cert.KernelIdeal.Gen

open Idealize.ShloMosaic
open Idealize.ShloMosaic.TcCoe
open Idealize.ShloMosaic.RefSig (tileCredit)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop Flight Flight_mono)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cl → ℕ)

/-! ## Cells and tokens -/

def cells : Finset (GSem nD τ sig) := Finset.univ.map ⟨fun ck : Dev nD × Cl => gc ck.1 ck.2, gc_inj⟩

/-- The duties a device pays: a signal per peer, and each transfer's two ends. -/
abbrev Pay : Type := Dev nD ⊕ Tr ⊕ Tr

def tokOf (ci : Dev nD × Pay) : GSem nD τ sig × ℕ × Dev nD := match ci.2 with
  | .inl p => (gc p .bar, 0, ci.1)
  | .inr (.inl x) => (gc ci.1 (.s x), 0, 0)
  | .inr (.inr x) => (gc (dst ci.1 x) (.r (opp ci.1 x)), 0, 0)

theorem tokOf_inj : Function.Injective tokOf := by
  rintro ⟨c, i⟩ ⟨c', i'⟩ h
  have hg := congrArg Prod.fst h
  have hd := congrArg (fun x : GSem nD τ sig × ℕ × Dev nD => x.2.2) h
  rcases i with p | x | x <;> rcases i' with p' | x' | x' <;> have he := gc_inj (a₁ := (_, _)) (a₂ := (_, _)) hg
  · cases he; cases hd; rfl
  · cases he
  · cases he
  · cases he
  · cases he; rfl
  · cases he
  · cases he
  · cases he
  · injection he with h1 h2
    injection h2 with h2
    have := oppE.injective (a₁ := (c, x)) (a₂ := (c', x')) (Prod.ext h1 h2)
    cases this; rfl

def tokens : Finset (GSem nD τ sig × ℕ × Dev nD) := Finset.univ.map ⟨tokOf, tokOf_inj⟩

/-- The tokens of the duties device `c` pays. -/
def toks (c : Dev nD) : sProp 𝕄 :=
  iprop((bigSep Finset.univ fun p : Dev nD => dutyTok ER (gc p .bar) 0 c)
    ∗ (bigSep Finset.univ fun x : Tr => dutyTok ER (gc c (.s x)) 0 0)
    ∗ bigSep Finset.univ fun x : Tr => dutyTok ER (gc (dst c x) (.r (opp c x))) 0 0)

/-- What the launch element deals device `c`. -/
def G (c : Dev nD) : sProp 𝕄 :=
  iprop((bigSep Finset.univ fun k : Cl => roundState ER (Rd m) (gc c k) 0)
    ∗ (bigSep Finset.univ fun k : Cl => iprop(atPos ER (gc c k) 0 ∅ 0 ∗ reached ER (gc c k) 0)) ∗ toks c)

theorem fund_cells : BI.own (ER (initOf cells tokens)) ⊢ (|==> bigSep Finset.univ (G m) : sProp 𝕄) := by
  have hX (Φ : GSem nD τ sig → sProp 𝕄) : bigSep cells Φ = bigSep Finset.univ fun c : Dev nD => bigSep Finset.univ fun k : Cl => Φ (gc c k) := by
    unfold cells; rw [bigSep_map, bigSep_univ_prod]; rfl
  have hT : bigSep tokens (fun x => (dutyTok ER x.1 x.2.1 x.2.2 : sProp 𝕄)) = bigSep Finset.univ fun c : Dev nD => toks c := by
    unfold tokens; rw [bigSep_map, bigSep_univ_prod]
    exact bigSep_congr fun c _ => by unfold toks; rw [bigSep_univ_sum, bigSep_univ_sum]; rfl
  iintro HX
  imod (Rounds.fund ER (Rd m) cells tokens) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The semaphores of the kernel's own -/

abbrev OwnSem : Type := Tr ⊕ Tr ⊕ Fin 9

def osem : OwnSem → SemLoc sig
  | .inl x => enc (.s x)
  | .inr (.inl x) => enc (.r x)
  | .inr (.inr k) => .dma ((⟨94 + k.val, by omega⟩ : Fin 103) : DmaSem sig)

theorem sNo_ge (x : Tr) : 2 ≤ sNo x := by cases x <;> simp only [sNo] <;> omega
theorem rNo_ge (x : Tr) : 2 ≤ rNo x := by cases x <;> simp only [rNo] <;> omega

theorem scoped_ge : ∀ d : Fin 103, 2 ≤ d.val → (SemLoc.dma (d : DmaSem sig) : SemLoc sig).isScoped .tc = true := by decide
theorem win_sem_lt : ∀ (w : Fin cfg0.W) (s : Fin (cfg0.spec w).nbuf), ((cfg0.spec w).sem s : Fin 103).val < 2 := by decide

theorem osem_dma (k : OwnSem) : ∃ d : Fin 103, osem k = .dma (d : DmaSem sig) ∧ 2 ≤ d.val := by
  rcases k with x | x | k
  · exact ⟨_, rfl, sNo_ge x⟩
  · exact ⟨_, rfl, rNo_ge x⟩
  · exact ⟨_, rfl, Nat.le_add_right_of_le (by omega)⟩

theorem ownSemFacts : Pipeline.OwnSemFacts cfg0.spec osem where
  isScoped k := by
    obtain ⟨d, hd, h2⟩ := osem_dma k
    rw [hd]; exact scoped_ge d h2
  inj a b h := by
    have hloc (k : Cl) (l : Fin 9) : enc k ≠ osem (.inr (.inr l)) := enc_ne_local (94 + l.val) (by omega) (Or.inr (by omega)) k
    rcases a with x | x | k <;> rcases b with y | y | l
    · have := enc_inj (a₁ := .s x) (a₂ := .s y) h; cases this; rfl
    · have := enc_inj (a₁ := .s x) (a₂ := .r y) h; cases this
    · exact absurd h (hloc (.s x) l)
    · have := enc_inj (a₁ := .r x) (a₂ := .s y) h; cases this
    · have := enc_inj (a₁ := .r x) (a₂ := .r y) h; cases this; rfl
    · exact absurd h (hloc (.r x) l)
    · exact absurd h.symm (hloc (.s y) k)
    · exact absurd h.symm (hloc (.r y) k)
    · have h' : 94 + k.val = 94 + l.val := congrArg (fun z : SemLoc sig => match z with | .dma d => d.val | _ => 0) h
      have : k = l := Fin.ext (by omega)
      rw [this]
  disj k w s h := by
    obtain ⟨d, hd, h2⟩ := osem_dma k
    rw [hd] at h
    have hlt := win_sem_lt w s
    have hv : d.val = ((cfg0.spec w).sem s : Fin 103).val := congrArg (fun z : SemLoc sig => match z with | .dma d => d.val | _ => 0) h
    omega

theorem local9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem ownSems0_eq (c : Dev nD) : (Pipeline.ownSems0 (Ix := Unit) (Name := ℕ) (U := UU) (Lvl := ℕ) (Val := Elt F) (τ := τ) osem c : sProp 𝕄)
    = iprop((bigSep Finset.univ fun x : Tr => Z c (.s x)) ∗ (bigSep Finset.univ fun x : Tr => Z c (.r x)) ∗ LZs c) := by
  unfold Pipeline.ownSems0
  rw [bigSep_univ_sum, bigSep_univ_sum, local9]; rfl

theorem unscopedSems0_eq (c : Dev nD) : (unscopedSems0 c : sProp 𝕄) = Z c .bar := by
  unfold unscopedSems0; rw [bigSep_eq_bigSepL_of_eq [SemLoc.reg barS] (by decide) (by decide)]; rfl

theorem cl_sep (Φ : Cl → sProp 𝕄) : bigSep Finset.univ Φ
    = iprop(Φ .bar ∗ (bigSep Finset.univ fun x : Tr => Φ (.s x)) ∗ bigSep Finset.univ fun x : Tr => Φ (.r x)) := by
  rw [bigSep_univ_equiv clE, bigSep_univ_sum, bigSep_univ_sum]
  rw [show (Finset.univ : Finset Unit) = {()} from rfl, bigSep_singleton]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Cl => Z c k) ∗ LZs c) : sProp 𝕄) := by
  rw [ownSems0_eq, unscopedSems0_eq, cl_sep]
  iintro ⟨⟨HS, HR, HL⟩, HB⟩
  isplitr [HL]
  · isplitl [HB]; · iexact HB
    isplitl [HS] <;> iassumption
  iexact HL

/-! ## Every cell's invariant -/

/-- A device's invariants, positions, tokens and local semaphores. -/
abbrev Alloc (c : Dev nD) : sProp 𝕄 :=
  iprop((bigSep Finset.univ fun k : Cl => iprop(∃ κ : ℕ, cellInv ER (Rd m) κ (gc c k)))
    ∗ (bigSep Finset.univ fun k : Cl => iprop(atPos ER (gc c k) 0 ∅ 0 ∗ reached ER (gc c k) 0)) ∗ iprop(toks c ∗ LZs c))

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> Alloc m c := by
  unfold G
  iintro ⟨Hos, Hus, Hst, Hat, Htok⟩
  ihave Hv := (sems0_eq (F := F) c) $$ [Hos Hus]
  · isplitl [Hos] <;> iassumption
  icases Hv with ⟨Hv, HL⟩
  imod (show iprop((bigSep Finset.univ fun k : Cl => Z c k) ∗ bigSep Finset.univ fun k : Cl => roundState ER (Rd m) (gc c k) 0)
      ⊢ (|={Set.univ}=> bigSep Finset.univ fun k : Cl => iprop(∃ κ : ℕ, cellInv ER (Rd m) κ (gc c k)) : sProp 𝕄) from by
        rw [← bigSep_sep']
        exact (bigSep_mono fun k _ => (Rounds.body_intro ER (Rd m) (gc c k)).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact HL

/-- What the opening of all invariants gives a device, at some names: the records, its positions, its tokens, its local semaphores. -/
def G' (c : Dev nD) : sProp 𝕄 := iprop(∃ K, Recs m K ∗ (bigSep Finset.univ fun k : Cl => atPos ER (gc c k) 0 ∅ 0) ∗ toks c ∗ LZs c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup : (bigSep Finset.univ fun c : Dev nD => Alloc m c) ⊢ bigSep Finset.univ (G' m) := by
  rw [bigSep_sep', bigSep_sep', ← bigSep_univ_prod (fun ck : Dev nD × Cl => iprop(∃ κ : ℕ, cellInv ER (Rd m) κ (gc ck.1 ck.2))),
    bigSep_congr (s := Finset.univ) (fun (c : Dev nD) _ => bigSep_sep' Finset.univ (fun k : Cl => (atPos ER (gc c k) 0 ∅ 0 : sProp 𝕄)) (fun k => reached ER (gc c k) 0)),
    bigSep_sep', ← bigSep_univ_prod (fun ck : Dev nD × Cl => (reached ER (gc ck.1 ck.2) 0 : sProp 𝕄))]
  iintro ⟨HI, ⟨Hat, #HR⟩, Htok⟩
  ihave HK := (BI.bigSep_exists_pi Finset.univ (fun (ck : Dev nD × Cl) (κ : ℕ) => (cellInv ER (Rd m) κ (gc ck.1 ck.2) : sProp 𝕄))) $$ HI
  icases HK with ⟨%K, #HI⟩
  iapply (with_persistent (R := Recs m K) (Φ := fun c => iprop((bigSep Finset.univ fun k : Cl => atPos ER (gc c k) 0 ∅ 0) ∗ toks c ∗ LZs c)) fun c _ => by
    iintro ⟨H, H'⟩; unfold G'; iexists K; isplitl [H] <;> iassumption)
  isplitr
  · unfold Recs; rw [bigSep_sep']
    isplitl; · iexact HI
    iexact HR
  · iapply (Entails.of_eq (bigSep_sep' Finset.univ (fun c : Dev nD => bigSep Finset.univ fun k : Cl => (atPos ER (gc c k) 0 ∅ 0 : sProp 𝕄)) (fun c => iprop(toks c ∗ LZs c))).symm)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.Mla
-- ==== Proof.Credits.lean ====
/-
# The launch credit: what all devices owe a device's cells, counted
-/
module

public import proofs.«01_k».proof.Proof.Fund

@[expose] public section

noncomputable section

namespace Cert.Mla

open Cert.KernelIdeal Cert.KernelIdeal.Gen

open Idealize.ShloMosaic
open Idealize.ShloMosaic.TcCoe
open Idealize.ShloMosaic.RefSig (tileCredit)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop Flight Flight_mono)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cl → ℕ)

/-- How many of device `d`'s dues are to cell `k` of `c`. -/
def due (d c : Dev nD) (k : Cl) : ℕ := (obl d).countP fun x => decide (x.1 ≠ d) && (decide (x.1 = c) && decide (cNo x.2 = cNo k))

theorem obT_at (d c : Dev nD) (k : Cl) (x : Dev nD × Cl) :
    obT d x (gc c k) () = if decide (x.1 ≠ d) && (decide (x.1 = c) && decide (cNo x.2 = cNo k)) then clAmt k else 0 := by
  obtain ⟨p, l⟩ := x
  unfold obT
  by_cases hd : p = d
  · rw [if_pos hd, if_neg (by simp [hd])]; rfl
  rw [if_neg hd, tallyAt_apply]
  by_cases hk : p = c ∧ cNo l = cNo k
  · have hl := cNo_inj hk.2
    obtain ⟨rfl, -⟩ := hk
    subst hl
    rw [if_pos ⟨rfl, rfl⟩, if_pos (by simp [hd])]
  · rw [if_neg (fun ⟨h, _⟩ => hk (by have := gc_inj (a₁ := (c, k)) (a₂ := (p, l)) h; cases this; exact ⟨rfl, rfl⟩)), if_neg (by simpa [hd] using hk)]

theorem owed_at (d c : Dev nD) (k : Cl) : OB d 0 (gc c k) () = clAmt k * due d c k := by
  unfold OB due
  rw [List.drop_zero]
  induction obl d with
  | nil => rfl
  | cons x l ih =>
    rw [List.map_cons, List.sum_cons, Pi.add_apply, Finsupp.add_apply, ih, obT_at, List.countP_cons]
    split
    · rw [Nat.mul_add, Nat.mul_one, Nat.add_comm]
    · rw [Nat.add_zero, Nat.zero_add]

theorem due_bar : ∀ c : Dev nD, ∑ d, due d c .bar = 7 := by decide +kernel
theorem due_r : ∀ (c : Dev nD) (x : Tr), live c x → ∑ d, due d c (.r x) = 1 := by decide +kernel

/-- What all devices owe a cell at launch. -/
abbrev owedAt (g : GSem nD τ sig) : CellTallies nD τ sig Unit := tallyOn g (launchCredit (Pipeline.owing fun d => OB d 0) 0 g)

theorem launch_at (c : Dev nD) (k : Cl) (n : ℕ) (h : ∑ d, due d c k = n) :
    owedAt (gc c k) = (tallyAt (gc c k) () (clAmt k * n) : CellTallies nD τ sig Unit) := by
  unfold owedAt tallyAt; refine congrArg _ (Finsupp.ext fun u => ?_); cases u
  rw [Pipeline.launchCredit_owing, Finsupp.single_eq_same, Finset.sum_congr rfl fun d _ => owed_at d c k, ← Finset.mul_sum, h]

theorem creds (c : Dev nD) : (Pipeline.launchCred (fun d => OB d 0) c : sProp 𝕄)
    ⊢ iprop(cred (tallyAt (gc c .bar) () 7) ∗ Live c fun x => cred (tallyAt (gc c (.r x)) () (trAmt x))) := by
  unfold Pipeline.launchCred
  refine (bigSep_subset (t := Finset.univ.map ⟨enc, enc_inj⟩) (Finset.subset_univ _)).trans ?_
  rw [bigSep_map, cl_sep]
  show iprop(cred (owedAt (gc c .bar)) ∗ (bigSep Finset.univ fun x : Tr => cred (owedAt (gc c (.s x)))) ∗ (bigSep Finset.univ fun x : Tr => cred (owedAt (gc c (.r x))))) ⊢ _
  iintro ⟨H1, -, H2⟩
  isplitl [H1]
  · ihave H1 := (Entails.of_eq (congrArg cred (launch_at c .bar 7 (due_bar c)))) $$ H1
    iexact H1
  · iapply (show (bigSep Finset.univ fun x : Tr => cred (owedAt (gc c (.r x))) : sProp 𝕄)
        ⊢ Live c fun x => cred (tallyAt (gc c (.r x)) () (trAmt x)) from bigSep_mono fun x _ => by
      by_cases h : live c x
      · rw [if_pos h]
        exact Entails.of_eq (congrArg cred ((launch_at c (.r x) 1 (due_r c x h)).trans (congrArg (tallyAt (gc c (.r x)) ()) (Nat.mul_one (trAmt x)))))
      · rw [if_neg h]; exact Laws.affine (P := cred (owedAt (gc c (.r x)))))
    iexact H2

end Cert.Mla
-- ==== Proof.Enter.lean ====
/-
# A device at the launch: what it is given made into what its program starts from, and back at the end
-/
module

public import proofs.«01_k».proof.Proof.Credits

@[expose] public section

noncomputable section

namespace Cert.Mla

open Cert.KernelIdeal Cert.KernelIdeal.Gen

open Idealize.ShloMosaic
open Idealize.ShloMosaic.TcCoe
open Idealize.ShloMosaic.RefSig (tileCredit)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop Flight Flight_mono)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cl → ℕ)

/-! ## Families over the transfers, those that take place and the others -/

theorem emp_right (P : sProp 𝕄) : iprop(P ∗ emp) = P := equiv_iff.mp sep_emp

/-- A family over the transfers that do not take place. -/
abbrev Dead (c : Dev nD) (Ψ : Tr → sProp 𝕄) : sProp 𝕄 := bigSep Finset.univ fun x => if live c x then iprop(emp) else Ψ x

theorem live_split (c : Dev nD) (Ψ : Tr → sProp 𝕄) : bigSep Finset.univ Ψ = iprop(Live c Ψ ∗ Dead c Ψ) := by
  rw [← bigSep_sep']
  exact bigSep_congr fun x _ => by
    by_cases h : live c x
    · rw [if_pos h, if_pos h]; exact (emp_right _).symm
    · rw [if_neg h, if_neg h]; exact (emp_l _).symm

theorem live_and (c : Dev nD) (Ψ Φ : Tr → sProp 𝕄) : iprop(Live c Ψ ∗ Live c Φ) = Live c fun x => iprop(Ψ x ∗ Φ x) := by
  rw [← bigSep_sep']
  exact bigSep_congr fun x _ => by
    by_cases h : live c x
    · rw [if_pos h, if_pos h, if_pos h]
    · rw [if_neg h, if_neg h, if_neg h]; exact emp_l _

/-- A cell without duties is closed from its position. -/
theorem dead_close (c : Dev nD) (k : Tr → Cl) (hk : ∀ x, ¬ live c x → clDuty c (k x) = ∅) :
    iprop(Recs m K ∗ Dead c fun x => atPos ER (gc c (k x)) 0 ∅ 0) ⊢ |={Set.univ}=> Dead c fun x => Z (F := F) c (k x) := by
  refine (with_persistent (Ψ := fun x => iprop(|={Set.univ}=> if live c x then iprop(emp) else Z c (k x))) fun x _ => ?_).trans (bigSep_fupd _ _)
  by_cases h : live c x
  · rw [if_pos h, if_pos h]
    iintro ⟨-, H⟩; imodintro; iexact H
  · rw [if_neg h, if_neg h]
    iintro ⟨#HR, Hat⟩
    ihave #H := (Recs_at m K c (k x)) $$ HR
    icases H with ⟨#HI, -⟩
    iapply (Rounds.cell_close ER (Rd m) (κ := K (c, k x)) (Set.mem_univ _) (fun h => h) (R := 0) (fun r _ => by
      rcases Nat.eq_zero_or_pos r with rfl | hr
      · rw [Rd_duties, hk x h]
      · exact Rd_duties_later m c (k x) r hr))
    isplitr; · iexact HI
    iexact Hat

/-! ## Entering and leaving -/

/-- The argument arrays that no window stages. -/
abbrev Args7 (c : Dev nD) : sProp 𝕄 := iprop(Wb c main_arg0 (arg m c main_arg0) ∗ Wb c main_arg1 (arg m c main_arg1) ∗ Wb c main_arg2 (arg m c main_arg2)
  ∗ Wb c main_arg3 (arg m c main_arg3) ∗ Wb c main_arg4 (arg m c main_arg4) ∗ Wb c main_arg5 (arg m c main_arg5) ∗ Wb c main_arg7 (arg m c main_arg7))
/-- The shares of the two arrays copied in pieces that the program does not use. -/
abbrev XD (c : Dev nD) : sProp 𝕄 := pts c main_arg0 Finset.univ (shareDrop fullShare 2) (arg m c main_arg0)
abbrev WD (c : Dev nD) : sProp 𝕄 := pts c main_arg7 Finset.univ (shareDrop fullShare 2) (arg m c main_arg7)

theorem deal_x (c : Dev nD) : Wb c main_arg0 (arg m c main_arg0) ⊢ iprop(XD m c ∗ XT m c 0 ∗ XT m c 1) :=
  (Transfers.pointsTo_toks_split fullShare 2).trans (sep_mono_right (Entails.of_eq (sep2 _)))
theorem deal_w (c : Dev nD) : Wb c main_arg7 (arg m c main_arg7) ⊢ iprop(WD m c ∗ WT m c 0 ∗ WT m c 1) :=
  (Transfers.pointsTo_toks_split fullShare 2).trans (sep_mono_right (Entails.of_eq (sep2 _)))
theorem undeal_x (c : Dev nD) : iprop(XD m c ∗ XT m c 0 ∗ XT m c 1) ⊢ Wb c main_arg0 (arg m c main_arg0) :=
  (sep_mono_right (Entails.of_eq (sep2 fun i : Fin 2 => XT m c i.val).symm)).trans (Transfers.pointsTo_toks_join fullShare 2)
theorem undeal_w (c : Dev nD) : iprop(WD m c ∗ WT m c 0 ∗ WT m c 1) ⊢ Wb c main_arg7 (arg m c main_arg7) :=
  (sep_mono_right (Entails.of_eq (sep2 fun i : Fin 2 => WT m c i.val).symm)).trans (Transfers.pointsTo_toks_join fullShare 2)

theorem zip7 (Φ Ψ : Fin 8 → sProp 𝕄) : J7 Φ ⊢ iprop(J7 Ψ -∗ J7 (fun j => iprop(Φ j ∗ Ψ j))) := by
  iintro ⟨A1, A2, A3, A4, A5, A6, A7⟩ ⟨B1, B2, B3, B4, B5, B6, B7⟩
  isplitl [A1 B1]; · isplitl [A1] <;> iassumption
  isplitl [A2 B2]; · isplitl [A2] <;> iassumption
  isplitl [A3 B3]; · isplitl [A3] <;> iassumption
  isplitl [A4 B4]; · isplitl [A4] <;> iassumption
  isplitl [A5 B5]; · isplitl [A5] <;> iassumption
  isplitl [A6 B6]; · isplitl [A6] <;> iassumption
  isplitl [A7] <;> iassumption

/-- The places the peers copy into given away, the device's own parts kept. -/
theorem give (c : Dev nD) : Whole (F := F) c ⊢ iprop(Any c cc0_stg1_0 -∗ iprop(Own c ∗ (OF1 c 0 ∗ OF1 c 1) ∗ J7 (fun j => barPay (pe c j) c))) := by
  iintro ⟨H0, H1, H2, H3, H4, H5, H6, H7, H8, H9, H10, H11, H12, H13, H14, H15⟩ HO
  ihave H0 := (start0 c) $$ H0
  ihave H1 := (start1 c) $$ H1
  ihave H2 := (start2 c) $$ H2
  ihave H4 := (start4 c) $$ H4
  ihave HO := (startO c) $$ HO
  icases H0 with ⟨H0, W2⟩
  icases H1 with ⟨H1, W0⟩
  icases H2 with ⟨H2, W1⟩
  icases H4 with ⟨H4, WA⟩
  icases HO with ⟨HO, ⟨O1, O2⟩, O30, O31⟩
  isplitl [H0 H1 H2 H3 H4 H5 H6 H7 H8 H9 H10 H11 H12 H13 H14 H15]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14] <;> iassumption
  isplitl [HO]; · iexact HO
  iapply (close_bar c)
  iapply (close_r c (rFree c)) $$ W0 W1 W2 WA O1 O2 O30 O31

/-- The signals' tokens, but the one to the device itself. -/
theorem toks_bar (c : Dev nD) : (bigSep Finset.univ fun p : Dev nD => dutyTok ER (gc p .bar) 0 c) ⊢ J7 (fun j => (dutyTok ER (gc (pe c j) .bar) 0 c : sProp 𝕄)) := by
  refine (show _ ⊢ (bigSep Finset.univ fun p : Dev nD => if p ≠ c then dutyTok ER (gc p .bar) 0 c else iprop(emp) : sProp 𝕄) from bigSep_mono fun p _ => ?_).trans
    (Entails.of_eq (peer_sep c fun p => dutyTok ER (gc p .bar) 0 c))
  by_cases h : p ≠ c
  · rw [if_pos h]; exact Idealize.SL.BI.Entails.refl _
  · rw [if_neg h]; exact Laws.affine (P := dutyTok ER (gc p .bar) 0 c)

/-- What a device is launched with. -/
def Boot (c : Dev nD) : sProp 𝕄 := iprop(G' m c ∗ (cred (tallyAt (gc c .bar) () 7) ∗ Live c fun x => cred (tallyAt (gc c (.r x)) () (trAmt x)))
  ∗ levAts L lv ∗ Args7 m c)
/-- What it keeps aside while its program runs. -/
def Rest (c : Dev nD) : sProp 𝕄 := iprop((Dead c fun x => Z c (.s x)) ∗ (Dead c fun x => Z c (.r x)) ∗ XD m c ∗ WD m c)
/-- What it ends with. -/
def Done (c : Dev nD) : sProp 𝕄 := iprop(Z c .bar ∗ Pipeline.ownSems0 osem c ∗ Args7 m c ∗ Whole c)

theorem enter (c : Dev nD) : iprop(Boot m c ∗ Whole c)
    ⊢ iprop(ow c 0 -∗ Wb c cc0_stg0_0 (wkrV m c) -∗ Any c cc0_stg1_0 -∗ |={Set.univ}=> ∃ K, Env m K ∗ In m c ∗ Rest m c) := by
  unfold Boot G' toks
  rw [cl_sep, live_split c (fun x => atPos ER (gc c (.s x)) 0 ∅ 0), live_split c (fun x => atPos ER (gc c (.r x)) 0 ∅ 0),
    live_split c (fun x => dutyTok ER (gc c (.s x)) 0 0), live_split c (fun x => dutyTok ER (gc (dst c x) (.r (opp c x))) 0 0)]
  iintro ⟨⟨⟨%K, #HR, ⟨HaB, ⟨HaS, HaSd⟩, ⟨HaR, HaRd⟩⟩, ⟨HtB, ⟨HtS, -⟩, ⟨HtR, -⟩⟩, HL⟩, ⟨HcB, HcR⟩, #Hlev, ⟨A0, A1, A2, A3, A4, A5, A7⟩⟩, HW⟩ HO Hwkr HS
  imod (dead_close m K c .s fun x h => if_neg h) $$ [HaSd] with HZs
  · isplitr; · iexact HR
    iexact HaSd
  imod (dead_close m K c .r fun x h => if_neg h) $$ [HaRd] with HZr
  · isplitr; · iexact HR
    iexact HaRd
  imodintro
  ihave HG := (give c) $$ HW HS
  icases HG with ⟨HOwn, ⟨HO0, HO1⟩, HP⟩
  ihave HtB := (toks_bar c) $$ HtB
  ihave HSG := (zip7 (fun j => dutyTok ER (gc (pe c j) .bar) 0 c) (fun j => barPay (pe c j) c)) $$ HtB HP
  ihave HX := (deal_x m c) $$ A0
  icases HX with ⟨HXD, HX0, HX1⟩
  ihave HWo := (deal_w m c) $$ A7
  icases HWo with ⟨HWD, HW0, HW1⟩
  ihave HT := (Entails.of_eq (live_and c (fun x => dutyTok ER (gc c (.s x)) 0 0) (fun x => dutyTok ER (gc (dst c x) (.r (opp c x))) 0 0))) $$ [HtS HtR]
  · isplitl [HtS] <;> iassumption
  ihave HSK := (Entails.of_eq (live_and c (fun x => atPos ER (gc c (.s x)) 0 ∅ 0) _)) $$ [HaS HT]
  · isplitl [HaS]; · iexact HaS
    iexact HT
  ihave HRK := (Entails.of_eq (live_and c (fun x => atPos ER (gc c (.r x)) 0 ∅ 0) (fun x => cred (tallyAt (gc c (.r x)) () (trAmt x))))) $$ [HaR HcR]
  · isplitl [HaR] <;> iassumption
  iexists K
  isplitr
  · unfold Env; isplitl; · iexact HR
    iexact Hlev
  isplitr [HZs HZr HXD HWD]
  · unfold In
    isplitl [HO]; · iexact HO
    isplitl [HSG]; · iexact HSG
    isplitl [HaB]; · iexact HaB
    isplitl [HcB]; · iexact HcB
    isplitl [HSK]; · iexact HSK
    isplitl [HRK]; · iexact HRK
    isplitl [HL]; · iexact HL
    isplitl [A1 A2 A3 A4 A5 HX0 HX1 HW0 HW1]
    · isplitl [A1]; · iexact A1
      isplitl [A2]; · iexact A2
      isplitl [A3]; · iexact A3
      isplitl [A4]; · iexact A4
      isplitl [A5]; · iexact A5
      isplitl [HX0]; · iexact HX0
      isplitl [HX1]; · iexact HX1
      isplitl [HW0] <;> iassumption
    isplitl [HOwn]; · iexact HOwn
    isplitl [Hwkr]; · iexact Hwkr
    isplitl [HO0] <;> iassumption
  · unfold Rest
    isplitl [HZs]; · iexact HZs
    isplitl [HZr]; · iexact HZr
    isplitl [HXD] <;> iassumption

theorem leave (c : Dev nD) : Out m c ⊢ iprop(Rest m c -∗ iprop(ow c 50 ∗ Done m c ∗ Wb c cc0_stg0_0 (wkrV m c) ∗ Wb c cc0_stg1_0 (outV m))) := by
  unfold Out Rest Done
  rw [ownSems0_eq, live_split c (fun x => Z c (.s x)), live_split c (fun x => Z c (.r x))]
  iintro ⟨HO, HB, HS, HR, HL, ⟨A1, A2, A3, A4, A5, HX0, HX1, HW0, HW1⟩, HW, Hwkr, Hout⟩ ⟨HSd, HRd, HXD, HWD⟩
  isplitl [HO]; · iexact HO
  isplitr [Hwkr Hout]
  · isplitl [HB]; · iexact HB
    isplitl [HS HSd HR HRd HL]
    · isplitl [HS HSd]; · isplitl [HS] <;> iassumption
      isplitl [HR HRd]; · isplitl [HR] <;> iassumption
      iexact HL
    isplitr [HW]
    · isplitl [HXD HX0 HX1]
      · iapply (undeal_x m c)
        isplitl [HXD]; · iexact HXD
        isplitl [HX0] <;> iassumption
      isplitl [A1]; · iexact A1
      isplitl [A2]; · iexact A2
      isplitl [A3]; · iexact A3
      isplitl [A4]; · iexact A4
      isplitl [A5]; · iexact A5
      iapply (undeal_w m c)
      isplitl [HWD]; · iexact HWD
      isplitl [HW0] <;> iassumption
    iexact HW
  isplitl [Hwkr] <;> iassumption

end Cert.Mla
-- ==== Proof.Launch.lean ====
/-
# The launch: every device's program run to its end, for any float values
-/
module

public import proofs.«01_k».proof.Proof.Enter
public import Idealize.ShloMosaic.Lib.Pipeline.CollectiveSegs
public import Idealize.ShloMosaic.Lib.Pipeline.Value

@[expose] public section

noncomputable section

namespace Cert.Mla

open Cert.KernelIdeal Cert.KernelIdeal.Gen

open Idealize.ShloMosaic
open Idealize.ShloMosaic.TcCoe
open Idealize.ShloMosaic.RefSig (tileCredit)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop Flight Flight_mono)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The pipeline's data -/

def dats (_ : Fin 1) (c : Dev nD) : Dat τ (Elt F) Unit ℕ UU ℕ cfg0 c where
  A w := m ((cfg0.win w).arr.view.loc (c : Thread nD τ))
  after w _ := match w with
    | ⟨0, _⟩ => wkrV m c
    | ⟨1, _⟩ => outV m
  Φ t := match t with
    | ⟨0, _⟩ => iprop(Boot m c ∗ Whole c)
    | ⟨_ + 1, _⟩ => Done m c
  q _ := fullShare
  owed t := match t with
    | ⟨0, _⟩ => OB c 0
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(iprop(Boot m c ∗ Whole c) ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))
def bodyPost (c : Dev nD) : sProp 𝕄 :=
  iprop(Done m c ∗ (dats m 0 c).owesAt () t0_0.succ ∗ stg c cc0_stg0_0 (wkrV m c) ∗ stg c cc0_stg1_0 (outV m))

theorem sound_body (c : Dev nD) : bodyPre m c ⊢ WP c (At (cc0__body (F := F))) fun _ => bodyPost m c := by
  unfold bodyPre
  iintro ⟨HB, HO, ⟨%d0, %g0, %hg0, Hx⟩, ⟨%d1, %g1, %hg1, Hout⟩⟩
  have hx : g0 = wkrV m c := by rw [hg0]; unfold Dat.before; rw [if_pos (fetch0_0 t0_0)]; rfl
  subst hx
  unfold Dat.owesAt Pipeline.owesWithin
  icases HO with ⟨%W, %hW, HO⟩
  ihave H := (enter m c) $$ HB [HO] Hx [Hout]
  · iexists W; iexact HO
  · iexists g1; iexact Hout
  imod H with ⟨%K, #HE, HI, HR⟩
  iapply (body m K c) $$ HE HI
  iintro HOut
  ihave H := (leave m c) $$ HOut HR
  icases H with ⟨⟨%W', HO⟩, HD, Hx, Hout⟩
  unfold bodyPost Dat.owesAt Pipeline.owesWithin
  isplitl [HD]; · iexact HD
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

theorem body_obligation (c : Dev nD) : BodyObligation (dats m 0 c) (defs₀ (F := F)) 𝒱₀ () Set.univ := fun t => by
  rw [fin_N0 t]
  rw [show ∀ Φ : Fin cfg0.W → sProp 𝕄, bigSep Finset.univ Φ = iprop(Φ (0 : Fin 2) ∗ Φ (1 : Fin 2)) from bigSep_W0,
    show ∀ Φ : Fin cfg0.W → sProp 𝕄, bigSep Finset.univ Φ = iprop(Φ (0 : Fin 2) ∗ Φ (1 : Fin 2)) from bigSep_W0]
  simp only [owns_whole_eq]
  exact sound_body m c

theorem share_eq (c : Dev nD) (w : Fin cfg0.W) : (dats m 0 c).share w = fullShare := by unfold Dat.share; split <;> rfl

/-! ## The launch's side conditions -/

def u₀ : UU := (initOf (Pipeline.cells cfgs cellOf_inj) (Pipeline.launchToks cfgs cellOf_inj), (initOf cells tokens, 1))

theorem ownU_parts (a : UR sig nD τ) (b : UB) : (ownU ((a, (b, 1)) : UU) : sProp 𝕄) ⊢ iprop(BI.own (EP a) ∗ BI.own (ER b)) :=
  BI.own_op_elim (uEmb.toEmb.op_of_mem (Prod.mk_mem_op (URA.mem_op_one a) (URA.mem_one_op (b, (1 : Counters)))))

theorem fund_all : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_parts _ _) $$ Hu
  icases H with ⟨HP, HX⟩
  imod (fund_cells m) $$ HX with HG
  imodintro
  isplitl [HP] <;> iassumption

theorem start_intro (ρ : Dev nD → PrngReg) (c : Dev nD) :
    iprop(Pipeline.unscopedRestP Pipeline.Prefetch.none cfg0.spec c (fun b => m ((c : Thread nD τ).loc b)) ∗ levAts L lv
        ∗ Pipeline.launchCred (fun d => OB d 0) c ∗ prngReg c (ρ c) ∗ G' m c)
      ⊢ |={Set.univ}=> iprop(Boot m c ∗ emp) := by
  rw [Pipeline.unscopedRestP_eq_of_list (win := cfg0.spec) (c := c) Pipeline.Prefetch.none _ [main_arg0, main_arg1, main_arg2, main_arg3, main_arg4, main_arg5, main_arg7] (by decide) (by decide)]
  show iprop(Args7 m c ∗ levAts L lv ∗ Pipeline.launchCred (fun d => OB d 0) c ∗ prngReg c (ρ c) ∗ G' m c) ⊢ _
  iintro ⟨HA, Hlev, Hcr, -, HG⟩
  ihave Hc := (creds (F := F) c) $$ Hcr
  imodintro
  isplitl
  · unfold Boot
    isplitl [HG]; · iexact HG
    isplitl [Hc]; · iexact Hc
    isplitl [Hlev]; · iexact Hlev
    iexact HA
  · iempintro

theorem phi_intro (c : Dev nD) :
    iprop(Boot m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(Boot m c ∗ Whole c) from rfl, scopedRest0_eq]
  iintro ⟨Hs, -, Hr⟩
  isplitl [Hs]; · iexact Hs
  iexact Hr

theorem phi_exit (c : Dev nD) :
    (dats m 0 c).Φ (Fin.last cfg0.N) ⊢ iprop(iprop(Z c .bar ∗ Args7 m c) ∗ Pipeline.ownSems0 osem c ∗ Pipeline.scopedRest cfg0.spec c) := by
  rw [show (dats m 0 c).Φ (Fin.last cfg0.N) = Done m c from rfl, scopedRest0_eq]
  unfold Done
  iintro ⟨HB, HS, HA, HW⟩
  isplitl [HB HA]
  · isplitl [HB] <;> iassumption
  isplitl [HS] <;> iassumption

theorem waits (c : Dev nD) : (levAts L lv : sProp 𝕄) ⊢ Pipeline.cellsWaits cfgs (dats m) () 0 c :=
  Pipeline.cellsWaits_intro cfgs (dats m) () 0 c fun w s t => by
    have hlt := win_sem_lt w s
    have h := mayWait_local (F := F) c (.dma ((cfg0.spec w).sem s)) (enc_ne_local ((cfg0.spec w).sem s : Fin 103).val (by omega) (Or.inl hlt))
    rcases t with ⟨_ | _, ht⟩
    · exact h 0
    · exact h 50

/-- The arrays that no window stages, by number. -/
abbrev argRef : Fin 7 → Ref sig .tc := ![main_arg0, main_arg1, main_arg2, main_arg3, main_arg4, main_arg5, main_arg7]

theorem read_args (c : Dev nD) (s' : Phys nD τ sig (Elt F)) :
    iprop(Args7 m c ∗ SI s') ⊢ (iprop(⌜∀ i, s'.mem.mem ((c : Thread nD τ).loc (argRef i)) = arg m c (argRef i)⌝ ∗ SI s') : sProp 𝕄) := by
  have h := pointsTo_read_all (Ix := Unit) (Name := ℕ) (U := UU) (Lvl := ℕ) (Finset.univ : Finset (Fin 7)) (fun i => (c : Thread nD τ).loc (argRef i)) (fun i => arg m c (argRef i)) s'
  rw [bigSep_univ_eq_bigSepL [0, 1, 2, 3, 4, 5, 6] (by decide) (by decide)] at h
  refine (show iprop(Args7 m c ∗ SI s') ⊢ _ from h).trans ?_
  iintro ⟨%h, H⟩
  isplitr
  · ipureintro; exact fun i => h i (Finset.mem_univ i)
  · iexact H

theorem read_end (c : Dev nD) (s' : Phys nD τ sig (Elt F)) :
    iprop(iprop(Z c .bar ∗ Args7 m c) ∗ emp ∗ SI s') ⊢ (|={Set.univ}=> iprop(⌜(∀ sm : SemLoc sig, sm.isScoped .tc = false → s'.mem.sem ((c.tc : Thread nD τ), sm) = 0)
      ∧ ∀ i, s'.mem.mem ((c : Thread nD τ).loc (argRef i)) = arg m c (argRef i)⌝ ∗ SI s') : sProp 𝕄) := by
  iintro ⟨⟨HB, HA⟩, -, HSI⟩
  ihave H := (read_args m c s') $$ [HA HSI]
  · isplitl [HA] <;> iassumption
  icases H with ⟨%hA, HSI⟩
  imod (Pipeline.unscopedSems0_read (X := Z c .bar) (c := c) (by rw [unscopedSems0_eq]; exact fupd_intro) s') $$ [HB HSI] with ⟨%hS, HSI⟩
  · isplitl [HB] <;> iassumption
  imodintro
  isplitr
  · ipureintro; exact ⟨hS, hA⟩
  · iexact HSI

/-! ## The arrays at the end -/

/-- The decoupled key weight's window is the whole array, -/
theorem wkr_whole (c : Dev nD) : wkrV m c = arg m c main_arg6 := by
  have hz : (fun a => win0_0.index t0_0 a * main_arg6.ty.shape.size a) = fun _ => 0 := funext fun a => by fin_cases a <;> decide
  exact Memref.read_access_unit_zero (Elt F) main_arg6 hz (fun a => by fin_cases a <;> decide) _

/-- and the result's too. -/
theorem final_out (c : Dev nD) : (dats m 0 c).arrAt (1 : Fin 2) cfg0.N = outV m := by
  have ho : (win0_1.blk t0_0).view.read (Elt F) ((dats m 0 c).arrAt (1 : Fin 2) cfg0.N) = outV m := by
    rw [show cfg0.N = (t0_0 : Fin cfg0.N).val + 1 from rfl, (dats m 0 c).arrAt_succ (1 : Fin 2) t0_0]
    rw [flush0_1 t0_0, if_pos rfl]
    exact View.read_write_univ _ _
  have hz : (fun a => win0_1.index t0_0 a * main_v1.ty.shape.size a) = fun _ => 0 := funext fun a => by fin_cases a <;> decide
  rw [Memref.read_access_unit_zero (Elt F) main_v1 hz (fun a => by fin_cases a <;> decide)] at ho
  exact ho

/-! ## The run -/

/-- At the mesh of eight devices, for any float values, from any memory with zero counters: every weakly fair execution
    terminates, the result array of every device holds `outV`, the arguments hold what they held, every counter is zero. -/
theorem run_main (ρ : Dev nD → PrngReg) : θ_run defs (onTc (τ := τ) (main (F := F))) ⟨m, fun _ => 0, ρ⟩ (fun r =>
    (∀ c : Dev nD, r.2.mem ((c : Thread nD τ).loc main_v1) = outV m
      ∧ (∀ i, r.2.mem ((c : Thread nD τ).loc (argRef i)) = arg m c (argRef i))
      ∧ r.2.mem ((c : Thread nD τ).loc main_arg6) = arg m c main_arg6) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := fun d => OB d 0) (howed₀ := fun _ => rfl) (howedN := fun _ => rfl)
    (L := L) (lv := lv) (hL := L_of_ne) (hwaits := waits m)
    (G := G m) (G' := G' m) (u₀ := u₀) (hu₀ := fund_all m)
    (hglob := glob m)
    (hA := fun _ _ => rfl) (hpf := fun _ k => k.elim0)
    (X := Boot m) (Y := fun c => iprop(Z c .bar ∗ Args7 m c)) (Z := fun _ => iprop(emp))
    (hX := start_intro m ρ) (hin := phi_intro m) (hout := phi_exit m)
    (QY := fun c s => (∀ sm : SemLoc sig, sm.isScoped .tc = false → s.sem ((c.tc : Thread nD τ), sm) = 0)
      ∧ ∀ i, s.mem ((c : Thread nD τ).loc (argRef i)) = arg m c (argRef i))
    (hY := read_end m)
    (hQ := fun _ h hs => ⟨fun c => ⟨((h c).1 1).trans (final_out m c), (h c).2.2.2, ((h c).1 0).trans ((dats m 0 c).arrAt_in (0 : Fin 2) rfl _)⟩,
      sem_eq_zero hs fun c => (h c).2.2.1⟩)

end Cert.Mla
-- ==== Proof.Frames.lean ====
/- The frames of the three programs. The kernel's run (`run_main`) is proved once, for any float values; the program as
   printed and its idealization are the same text, so the same theorem read at the bit patterns and at the extended reals
   gives both. The reference has no kernel and no semaphore: its run is the generated one. -/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.Mla

open Idealize.ShloMosaic Idealize.SL.Sem

/-- The idealized kernel's frame: its run, read at the eight arguments and the counters. -/
theorem frame_kernelIdeal : Cert.quiescent_KernelIdeal (hKernelIdeal := Cert.KernelIdeal.Gen.facts) := fun m g _ =>
  (θ_run Cert.KernelIdeal.defs _ _).mono
    (fun _ h => ⟨fun c => ⟨(h.1 c).2.1 0, (h.1 c).2.1 1, (h.1 c).2.1 2, (h.1 c).2.1 3, (h.1 c).2.1 4, (h.1 c).2.1 5,
      (h.1 c).2.2, (h.1 c).2.1 6⟩, h.2⟩)
    (run_main (F := Ideal) m g)

attribute [local instance] Cert.KernelIdeal.Gen.facts Cert.Kernel.Gen.facts

/-- The kernel's body is the idealized kernel's. -/
theorem body_same : Cert.Kernel.cc0__body (F := Bits) = Cert.KernelIdeal.cc0__body (F := Bits) := rfl

/-- The two programs' body tables are one. -/
theorem bodies_same : Cert.Kernel.defs₀ (F := Bits) = Cert.KernelIdeal.defs₀ := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

/-- So are their tables of bodies, regions and pipelines. -/
theorem tables_same : Cert.Kernel.defs (F := Bits) = Cert.KernelIdeal.defs :=
  congrArg (fun d => Pipeline.defs (Cert.KernelIdeal.pcfgs (F := Bits)) d) bodies_same

/-- The kernel's frame: the same run at the bit patterns. -/
theorem frame_kernel : Cert.quiescent_Kernel (hKernel := Cert.Kernel.Gen.facts) := fun m g _ => by
  rw [tables_same]
  exact (θ_run Cert.KernelIdeal.defs (onTc (τ := Cert.KernelIdeal.τ) (Cert.KernelIdeal.main (F := Bits))) ⟨m, fun _ => 0, g⟩).mono
    (fun _ h => ⟨fun c => ⟨(h.1 c).2.1 0, (h.1 c).2.1 1, (h.1 c).2.1 2, (h.1 c).2.1 3, (h.1 c).2.1 4, (h.1 c).2.1 5,
      (h.1 c).2.2, (h.1 c).2.1 6⟩, h.2⟩)
    (run_main (F := Bits) m g)

/-- The reference's frame: its generated run; it declares no semaphore, so no counter is left. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems rfl r.2⟩)
    (Cert.ReferenceIdeal.Value.run m g)

end Cert.Mla

end

end
-- ==== Proof.Payloads.lean ====
/-
# The kernel's vector computations, read at an index

Over the extended reals each matrix product is a sum of products, each cast is the identity, and a head's output is a
quotient of two sums of exponentials. Nothing here says what the operands are.
-/
module

public import proofs.«01_k».proof.Proof.Values
public import Idealize.ShloMosaic.Lib.Pointwise

@[expose] public section

noncomputable section

namespace Cert.Mla

open Cert.KernelIdeal Cert.KernelIdeal.Gen
open Idealize.ShloMosaic
open Idealize.ShloMosaic.TcCoe

theorem ix2_eq {n0 n1 : ℕ} {i i' : Fin n0} {j j' : Fin n1} (h : i.val = i'.val) (h' : j.val = j'.val) : ix2 i j = ix2 i' j' := by
  rw [Fin.ext h, Fin.ext h']
theorem ix3_eq {n0 n1 n2 : ℕ} {i i' : Fin n0} {j j' : Fin n1} {k k' : Fin n2} (h : i.val = i'.val) (h' : j.val = j'.val)
    (h'' : k.val = k'.val) : ix3 i j k = ix3 i' j' k' := by
  rw [Fin.ext h, Fin.ext h', Fin.ext h'']
theorem ix4_eq {n0 n1 n2 n3 : ℕ} {i i' : Fin n0} {j j' : Fin n1} {k k' : Fin n2} {l l' : Fin n3} (h : i.val = i'.val) (h' : j.val = j'.val)
    (h'' : k.val = k'.val) (h3 : l.val = l'.val) : ix4 i j k l = ix4 i' j' k' l' := by
  rw [Fin.ext h, Fin.ext h', Fin.ext h'', Fin.ext h3]

theorem at2_eq (n0 n1 : ℕ) [NeZero n0] [NeZero n1] (a b : ℕ) :
    at2 n0 n1 a b = ix2 ⟨a % n0, Nat.mod_lt _ (NeZero.pos n0)⟩ ⟨b % n1, Nat.mod_lt _ (NeZero.pos n1)⟩ := idx2_ext rfl rfl
theorem at3_eq (n0 n1 n2 : ℕ) [NeZero n0] [NeZero n1] [NeZero n2] (a b e : ℕ) :
    at3 n0 n1 n2 a b e = ix3 ⟨a % n0, Nat.mod_lt _ (NeZero.pos n0)⟩ ⟨b % n1, Nat.mod_lt _ (NeZero.pos n1)⟩ ⟨e % n2, Nat.mod_lt _ (NeZero.pos n2)⟩ :=
  idx3_ext rfl rfl rfl

theorem pay2_at (a : Vec Ideal S4096x128 .f32) (d : Fin 4096) (k : Fin 128) : k0_pay2 (k0_pay1 a) (ix2 d k) = a (ix2 d k) := by
  pointwise [k0_pay2, k0_pay1]
theorem pay3_at (a : Vec Ideal S128x4096 .f32) (d : Fin 128) (k : Fin 4096) : k0_pay3 a (ix2 d k) = a (ix2 d k) := by
  pointwise [k0_pay3]
theorem pay4_at (a : Vec Ideal S128x4096 .f32) (d : Fin 128) (k : Fin 4096) : k0_pay4 a (ix2 d k) = a (ix2 d k) := by
  pointwise [k0_pay4]
theorem pay5_at (a : Vec Ideal S1x256x4096 .f32) (s : Fin 256) (k : Fin 4096) : k0_pay5 a (ix2 s k) = a (ix3 0 s k) := by
  pointwise [k0_pay5]

theorem pay9_at (a : Vec Ideal S1024x4096 .bf16) (b : Vec Ideal S4096x128 .bf16) (r : Fin 1024) (k : Fin 128) :
    k0_pay9 a b (ix2 r k) = ∑ d : Fin 4096, a (ix2 r d) * b (ix2 d k) := by
  pointwise [k0_pay9]
theorem pay12_at (a : Vec Ideal S1024x4096 .bf16) (b : Vec Ideal S4096x64 .f32) (r : Fin 1024) (k : Fin 64) :
    k0_pay12 a b (ix2 r k) = ∑ d : Fin 4096, a (ix2 r d) * b (ix2 d k) := by
  pointwise [k0_pay12]
theorem pay13_at (a : Vec Ideal S1024x4096 .bf16) (b : Vec Ideal S4096x512 .f32) (r : Fin 1024) (k : Fin 512) :
    k0_pay13 a b (ix2 r k) = ∑ d : Fin 4096, a (ix2 r d) * b (ix2 d k) := by
  pointwise [k0_pay13]
theorem pay14_at (a : Vec Ideal S1024x4096 .bf16) (b : Vec Ideal S4096x256 .f32) (r : Fin 1024) (k : Fin 256) :
    k0_pay14 a b (ix2 r k) = ∑ d : Fin 4096, a (ix2 r d) * b (ix2 d k) := by
  pointwise [k0_pay14]
theorem pay15_at (a : Vec Ideal S1024x1024 .bf16) (b : Vec Ideal S1024x512 .bf16) (r : Fin 1024) (k : Fin 512) :
    k0_pay15 a b (ix2 r k) = ∑ d : Fin 1024, a (ix2 r d) * b (ix2 d k) := by
  pointwise [k0_pay15]

theorem pay54_at (r : Fin 128) (n : Fin 2048) : (k0_pay54 : FVec Ideal S128x2048 .f32) (ix2 r n) = 0 := by
  pointwise [k0_pay54]
theorem pay55_at (z : FVec Ideal S128x2048 .f32) (a : Vec Ideal S128x512 .bf16) (b : Vec Ideal S1x512x2048 .f32) (r : Fin 128) (n : Fin 2048) :
    k0_pay55 z a b (ix2 r n) = z (ix2 r n) + ∑ k : Fin 512, a (ix2 r k) * b (ix3 0 k n) := by
  pointwise [k0_pay55]
theorem pay62_at (z : FVec Ideal S128x2048 .f32) (a : Vec Ideal S128x512 .bf16) (b : Vec Ideal S1x512x2048 .f32) (r : Fin 128) (n : Fin 2048) :
    k0_pay62 z a b (ix2 r n) = z (ix2 r n) + ∑ k : Fin 512, a (ix2 r k) * b (ix3 0 k n) := by
  pointwise [k0_pay62]

/-- A score of the kernel: one row of queries against one row of keys, scaled. -/
def scoreK (q k : FVec Ideal S1024x768 .bf16) (b h : Fin 4) (s t : Fin 256) : EReal :=
  (∑ e : Fin 192, q (ix2 ⟨256 * b.val + s.val, by omega⟩ ⟨192 * h.val + e.val, by omega⟩)
    * k (ix2 ⟨256 * b.val + t.val, by omega⟩ ⟨192 * h.val + e.val, by omega⟩)) * Ideal.ofBits .f32 0x3D93CD3A#32

theorem headV_at (v : FVec Ideal S1024x512 .bf16) (q k : FVec Ideal S1024x768 .bf16) (b h : Fin 4) (s : Fin 256) (d : Fin 128) :
    headV v q k b h (ix2 s d)
      = Ideal.div (∑ t : Fin 256, Ideal.exp (scoreK q k b h s t) * v (ix2 ⟨256 * b.val + t.val, by omega⟩ ⟨128 * h.val + d.val, by omega⟩))
          (∑ t : Fin 256, Ideal.exp (scoreK q k b h s t)) := by
  pointwise [headV, k0_pay21, scoreK]

/-! ## Queries and keys: per head, 128 columns and 64 columns side by side -/

theorem pay16_left (a : FVec Ideal S1024x512 .bf16) (b : FVec Ideal S1024x256 .bf16) (r : Fin 1024) (h : Fin 4) (e : Fin 128) :
    k0_pay16 a b (ix2 r ⟨192 * h.val + e.val, by omega⟩) = a (ix2 r ⟨128 * h.val + e.val, by omega⟩) := by
  have he := e.isLt
  fin_cases h <;> pointwise [k0_pay16] <;> split_ifs <;>
    first | (exfalso; omega) | exact congrArg _ (ix2_eq rfl (by dsimp only; omega))

theorem pay16_right (a : FVec Ideal S1024x512 .bf16) (b : FVec Ideal S1024x256 .bf16) (r : Fin 1024) (h : Fin 4) (e : Fin 64) :
    k0_pay16 a b (ix2 r ⟨192 * h.val + (128 + e.val), by omega⟩) = b (ix2 r ⟨64 * h.val + e.val, by omega⟩) := by
  have he := e.isLt
  fin_cases h <;> pointwise [k0_pay16] <;> split_ifs <;>
    first | (exfalso; omega) | exact congrArg _ (ix2_eq rfl (by dsimp only; omega))

theorem pay17_left (a : FVec Ideal S1024x64 .bf16) (b : Vec Ideal S1024x1024 .bf16) (w : Vec Ideal S1024x512 .bf16) (r : Fin 1024)
    (h : Fin 4) (e : Fin 128) :
    k0_pay17 a b w (ix2 r ⟨192 * h.val + e.val, by omega⟩) = ∑ d : Fin 1024, b (ix2 r d) * w (ix2 d ⟨128 * h.val + e.val, by omega⟩) := by
  have he := e.isLt
  fin_cases h <;> pointwise [k0_pay17] <;> split_ifs <;>
    first | (exfalso; omega) | exact Finset.sum_congr rfl fun d _ => congrArg _ (congrArg _ (ix2_eq rfl (by dsimp only; omega)))

theorem pay17_right (a : FVec Ideal S1024x64 .bf16) (b : Vec Ideal S1024x1024 .bf16) (w : Vec Ideal S1024x512 .bf16) (r : Fin 1024)
    (h : Fin 4) (e : Fin 64) :
    k0_pay17 a b w (ix2 r ⟨192 * h.val + (128 + e.val), by omega⟩) = a (ix2 r e) := by
  have he := e.isLt
  fin_cases h <;> pointwise [k0_pay17] <;> split_ifs <;>
    first | (exfalso; omega) | exact congrArg _ (ix2_eq rfl (by dsimp only; omega))

end Cert.Mla
-- ==== Proof.Softmax.lean ====
/-
# Softmax with and without the row maximum

The reference subtracts a row's maximum from its scores before it exponentiates them and divides each weight by the
weights' sum; the kernel exponentiates the scores themselves and divides the weighted sum once. For scores that are
numbers both give one value, whatever the values they weigh.
-/
module

public import Idealize.ShloMosaic.Lib.Pointwise

@[expose] public section

noncomputable section

namespace Cert.Mla

open Idealize.ShloMosaic

/-- `x` is a number, neither of the infinities. -/
def Num (x : EReal) : Prop := ∃ r : ℝ, x = (r : EReal)

theorem Num.add {x y : EReal} : Num x → Num y → Num (x + y)
  | ⟨a, ha⟩, ⟨b, hb⟩ => ⟨a + b, by rw [ha, hb, EReal.coe_add]⟩
theorem Num.mul {x y : EReal} : Num x → Num y → Num (x * y)
  | ⟨a, ha⟩, ⟨b, hb⟩ => ⟨a * b, by rw [ha, hb, EReal.coe_mul]⟩
theorem Num.zero : Num 0 := ⟨0, rfl⟩
theorem Num.sum {ι : Type*} (s : Finset ι) {f : ι → EReal} (h : ∀ i, Num (f i)) : Num (∑ i ∈ s, f i) := by
  classical
  induction s using Finset.induction_on with
  | empty => rw [Finset.sum_empty]; exact Num.zero
  | insert a t ha ih => rw [Finset.sum_insert ha]; exact (h a).add ih

/-- A number is what has an absolute value below infinity. -/
theorem num_of_abs {x : EReal} (h : max x (-x) < ⊤) : Num x := by
  have h1 : x ≠ ⊤ := fun e => by rw [e] at h; simp at h
  have h2 : x ≠ ⊥ := fun e => by rw [e] at h; simp at h
  exact ⟨x.toReal, (EReal.coe_toReal h1 h2).symm⟩

/-- The maximum of a row of numbers is a number. -/
theorem num_fold_max {n : ℕ} [NeZero n] (S : Fin n → ℝ) : Num (Finset.univ.fold max ⊥ fun t => (S t : EReal)) := by
  have hb : (S 0 : EReal) ≤ Finset.univ.fold max ⊥ fun t => (S t : EReal) :=
    Finset.le_fold_max _ |>.mpr (.inr ⟨0, Finset.mem_univ _, le_refl _⟩)
  have ht : (Finset.univ.fold max ⊥ fun t => (S t : EReal)) < ⊤ :=
    Finset.fold_max_lt _ |>.mpr ⟨bot_lt_top, fun t _ => EReal.coe_lt_top _⟩
  exact ⟨_, (EReal.coe_toReal ht.ne (lt_of_lt_of_le (EReal.bot_lt_coe _) hb).ne').symm⟩

theorem coe_sum {ι : Type*} (s : Finset ι) (f : ι → ℝ) : ∑ i ∈ s, (f i : EReal) = ((∑ i ∈ s, f i : ℝ) : EReal) := by
  classical
  induction s using Finset.induction_on with
  | empty => rw [Finset.sum_empty, Finset.sum_empty]; rfl
  | insert a t ha ih => rw [Finset.sum_insert ha, Finset.sum_insert ha, ih, EReal.coe_add]

/-- A positive number goes through a sum of any values, infinities among them. -/
theorem sum_mul_num {ι : Type*} (s : Finset ι) (f : ι → EReal) {c : ℝ} (hc : 0 ≤ c) :
    (∑ i ∈ s, f i) * (c : EReal) = ∑ i ∈ s, f i * (c : EReal) := by
  classical
  induction s using Finset.induction_on with
  | empty => rw [Finset.sum_empty, Finset.sum_empty, zero_mul]
  | insert a t ha ih =>
    rw [Finset.sum_insert ha, Finset.sum_insert ha, ← ih]
    exact EReal.right_distrib_of_nonneg_of_ne_top (EReal.coe_nonneg.mpr hc) (EReal.coe_ne_top _) _ _

theorem div_num {x : EReal} {r : ℝ} (hr : r ≠ 0) : Ideal.div x (r : EReal) = x * ((r⁻¹ : ℝ) : EReal) := by
  unfold Ideal.div
  rw [if_neg (by exact_mod_cast hr), EReal.coe_inv]

/-- The two forms of softmax, for a row of scores that are numbers and any values. -/
theorem softmax_eq {n : ℕ} [NeZero n] (S V : Fin n → EReal) (hS : ∀ t, Num (S t)) :
    (∑ t, V t * Ideal.div (Ideal.exp (S t - Finset.univ.fold max ⊥ S)) (∑ u, Ideal.exp (S u - Finset.univ.fold max ⊥ S)))
      = Ideal.div (∑ t, Ideal.exp (S t) * V t) (∑ t, Ideal.exp (S t)) := by
  choose σ hσ using hS
  obtain rfl : S = fun t => (σ t : EReal) := funext hσ
  obtain ⟨M, hM⟩ := num_fold_max σ
  rw [hM]
  have he : ∀ t, Ideal.exp ((σ t : EReal) - (M : EReal)) = ((Real.exp (σ t) * (Real.exp M)⁻¹ : ℝ) : EReal) := fun t => by
    rw [← EReal.coe_sub]
    show ((Real.exp (σ t - M) : ℝ) : EReal) = _
    rw [Real.exp_sub, div_eq_mul_inv]
  have he' : ∀ t, Ideal.exp (σ t : EReal) = ((Real.exp (σ t) : ℝ) : EReal) := fun t => rfl
  have hpos : 0 < ∑ t, Real.exp (σ t) := Finset.sum_pos (fun t _ => Real.exp_pos _) ⟨0, Finset.mem_univ _⟩
  have hMpos : 0 < Real.exp M := Real.exp_pos M
  simp only [he, he', coe_sum]
  rw [← Finset.sum_mul, div_num hpos.ne', sum_mul_num _ _ (inv_nonneg.mpr hpos.le)]
  refine Finset.sum_congr rfl fun t _ => ?_
  rw [div_num (mul_pos hpos (inv_pos.mpr hMpos)).ne', mul_comm ((Real.exp (σ t) : ℝ) : EReal) (V t), mul_assoc, ← EReal.coe_mul,
    ← EReal.coe_mul]
  congr 2
  rw [mul_inv, inv_inv]
  field_simp

end Cert.Mla
-- ==== Proof.Reference.lean ====
/-
# The reference's stages, read at an index

The reference's result is one long term of its arguments. Here it is cut into stages (the compressed cache, keys, values,
queries, scores, the rows' maxima, weights, the heads' output, the result), and each stage is read at an index as a sum
of products of the stage before.
-/
module

public import proofs.«01_k».proof.Proof.Gen.ReferenceIdeal.Run
public import Idealize.ShloMosaic.Lib.Pointwise

@[expose] public section

noncomputable section

namespace Cert.Mla

open Cert.ReferenceIdeal Cert.ReferenceIdeal.Gen
open Idealize.ShloMosaic
open Idealize.ShloMosaic.TcCoe

/-- The eight whole arrays. -/
structure Arrays where
  x : FVec Ideal S4x256x4096 .f32
  wdkv : FVec Ideal S4096x1024 .f32
  wuk : FVec Ideal S1024x4096 .f32
  wuv : FVec Ideal S1024x4096 .f32
  wq : FVec Ideal S4096x4096 .f32
  wqr : FVec Ideal S4096x2048 .f32
  wkr : FVec Ideal S4096x64 .f32
  wo : FVec Ideal S4096x4096 .f32

/-- The arrays in the reference's memory. -/
def Arrays.ofMem (m : (ℓ : Loc nD τ sig) → Buf (Elt Ideal) ℓ) (c : Dev nD) : Arrays where
  x := m ((c.tc : Thread nD τ).loc main_arg0)
  wdkv := m ((c.tc : Thread nD τ).loc main_arg1)
  wuk := m ((c.tc : Thread nD τ).loc main_arg2)
  wuv := m ((c.tc : Thread nD τ).loc main_arg3)
  wq := m ((c.tc : Thread nD τ).loc main_arg4)
  wqr := m ((c.tc : Thread nD τ).loc main_arg5)
  wkr := m ((c.tc : Thread nD τ).loc main_arg6)
  wo := m ((c.tc : Thread nD τ).loc main_arg7)

variable (A : Arrays)

/-! ## The stages -/

def refC : FVec Ideal S4x256x1024 .f32 := Host.dotGeneral dot_S4x256x4096_S4096x1024_S4x256x1024_2_0_01_1_n_n none A.x A.wdkv
def refK : FVec Ideal S4x256x32x128 .f32 :=
  shapeCast _ (Host.dotGeneral dot_S4x256x1024_S1024x4096_S4x256x4096_2_0_01_1_n_n none (refC A) A.wuk) shapeCasts_S4x256x4096_S4x256x32x128
def refV : FVec Ideal S4x256x32x128 .f32 :=
  shapeCast _ (Host.dotGeneral dot_S4x256x1024_S1024x4096_S4x256x4096_2_0_01_1_n_n none (refC A) A.wuv) shapeCasts_S4x256x4096_S4x256x32x128
def refQ : FVec Ideal S4x256x32x128 .f32 :=
  shapeCast _ (Host.dotGeneral dot_S4x256x4096_S4096x4096_S4x256x4096_2_0_01_1_n_n none A.x A.wq) shapeCasts_S4x256x4096_S4x256x32x128
def refQr : FVec Ideal S4x256x32x64 .f32 :=
  shapeCast _ (Host.dotGeneral dot_S4x256x4096_S4096x2048_S4x256x2048_2_0_01_1_n_n none A.x A.wqr) shapeCasts_S4x256x2048_S4x256x32x64
def refKr : FVec Ideal S4x256x32x64 .f32 :=
  broadcastInDim S4x256x32x64 ![0, 1, 2, 3] bcast_S4x256x1x64_S4x256x32x64_0_1_2_3
    (shapeCast _ (Host.dotGeneral dot_S4x256x4096_S4096x64_S4x256x64_2_0_01_1_n_n none A.x A.wkr) shapeCasts_S4x256x64_S4x256x1x64)
def refS : FVec Ideal S4x32x256x256 .f32 :=
  mulf (addf (Host.dotGeneral dot_S4x256x32x128_S4x256x32x128_S4x32x256x256_3_3_1_1_02_02 none (refQ A) (refK A))
      (Host.dotGeneral dot_S4x256x32x64_S4x256x32x64_S4x32x256x256_3_3_1_1_02_02 none (refQr A) (refKr A)))
    (broadcastInDim S4x32x256x256 ![] bcast_S_S4x32x256x256 (constant S_ .f32 0x3D93CD3A#32))
def refM (s : FVec Ideal S4x32x256x256 .f32) : FVec Ideal S4x32x256 .f32 :=
  Host.reduce FloatOps.maximumf s (constant S_ .f32 0xFF800000#32) reducesTo_S4x32x256x256_S4x32x256_d3 h_S_
def refB (v : FVec Ideal S4x32x256 .f32) : FVec Ideal S4x32x256x256 .f32 :=
  broadcastInDim S4x32x256x256 ![0, 1, 2, 3] bcast_S4x32x256x1_S4x32x256x256_0_1_2_3
    (broadcastInDim S4x32x256x1 ![0, 1, 2] bcast_S4x32x256_S4x32x256x1_0_1_2 v)
def refE (s : FVec Ideal S4x32x256x256 .f32) : FVec Ideal S4x32x256x256 .f32 := Host.exp (subf s (refB (refM s)))
def refP (s : FVec Ideal S4x32x256x256 .f32) : FVec Ideal S4x32x256x256 .f32 :=
  Host.divf (refE s) (refB (Host.reduceAdd (refE s) (constant S_ .f32 0x00000000#32) reducesTo_S4x32x256x256_S4x32x256_d3 h_S_))
def refO : FVec Ideal S4x256x4096 .f32 :=
  shapeCast _ (transpose S4x256x32x128 [0, 3, 1, 2]
    (Host.dotGeneral dot_S4x256x32x128_S4x32x256x256_S4x32x128x256_1_3_3_2_02_01 none (refV A) (refP (refS A)))
    transposes_S4x32x128x256_S4x256x32x128_0_3_1_2) shapeCasts_S4x256x32x128_S4x256x4096
def refOut : FVec Ideal S1024x4096 .bf16 :=
  truncf .bf16 (shapeCast _ (Host.dotGeneral dot_S4x256x4096_S4096x4096_S4x256x4096_2_0_01_1_n_n none (refO A) A.wo)
    shapeCasts_S4x256x4096_S1024x4096) bitsLt_bf16_f32

/-- The generated run's result is the last stage. -/
theorem res_eq (m : (ℓ : Loc nD τ sig) → Buf (Elt Ideal) ℓ) (c : Dev nD) :
    Cert.ReferenceIdeal.Value.res_main_v31 m c = refOut (Arrays.ofMem m c) := rfl

/-! ## Each stage at an index -/

theorem refC_at (b : Fin 4) (s : Fin 256) (k : Fin 1024) :
    refC A (ix3 b s k) = ∑ d : Fin 4096, A.x (ix3 b s d) * A.wdkv (ix2 d k) := by
  pointwise [refC]

theorem refK_at (b : Fin 4) (s : Fin 256) (h : Fin 32) (d : Fin 128) :
    refK A (ix4 b s h d) = ∑ k : Fin 1024, refC A (ix3 b s k) * A.wuk (ix2 k ⟨h.val * 128 + d.val, by omega⟩) := by
  pointwise [refK]

theorem refV_at (b : Fin 4) (s : Fin 256) (h : Fin 32) (d : Fin 128) :
    refV A (ix4 b s h d) = ∑ k : Fin 1024, refC A (ix3 b s k) * A.wuv (ix2 k ⟨h.val * 128 + d.val, by omega⟩) := by
  pointwise [refV]

theorem refQ_at (b : Fin 4) (s : Fin 256) (h : Fin 32) (d : Fin 128) :
    refQ A (ix4 b s h d) = ∑ k : Fin 4096, A.x (ix3 b s k) * A.wq (ix2 k ⟨h.val * 128 + d.val, by omega⟩) := by
  pointwise [refQ]

theorem refQr_at (b : Fin 4) (s : Fin 256) (h : Fin 32) (d : Fin 64) :
    refQr A (ix4 b s h d) = ∑ k : Fin 4096, A.x (ix3 b s k) * A.wqr (ix2 k ⟨h.val * 64 + d.val, by omega⟩) := by
  pointwise [refQr]

theorem refKr_at (b : Fin 4) (s : Fin 256) (h : Fin 32) (d : Fin 64) :
    refKr A (ix4 b s h d) = ∑ k : Fin 4096, A.x (ix3 b s k) * A.wkr (ix2 k d) := by
  pointwise [refKr]

theorem refS_at (b : Fin 4) (h : Fin 32) (s t : Fin 256) :
    refS A (ix4 b h s t) = (∑ d : Fin 128, refQ A (ix4 b s h d) * refK A (ix4 b t h d)
      + ∑ d : Fin 64, refQr A (ix4 b s h d) * refKr A (ix4 b t h d)) * Ideal.ofBits .f32 0x3D93CD3A#32 := by
  pointwise [refS]

theorem refM_at (S : FVec Ideal S4x32x256x256 .f32) (b : Fin 4) (h : Fin 32) (s : Fin 256) :
    refM S (ix3 b h s) = Finset.univ.fold max (Ideal.ofBits .f32 0xFF800000#32) fun t : Fin 256 => S (ix4 b h s t) := by
  pointwise [refM]

theorem refE_at (S : FVec Ideal S4x32x256x256 .f32) (b : Fin 4) (h : Fin 32) (s t : Fin 256) :
    refE S (ix4 b h s t) = Ideal.exp (S (ix4 b h s t) - refM S (ix3 b h s)) := by
  pointwise [refE, refB]

theorem refP_at (S : FVec Ideal S4x32x256x256 .f32) (b : Fin 4) (h : Fin 32) (s t : Fin 256) :
    refP S (ix4 b h s t) = Ideal.div (refE S (ix4 b h s t)) (∑ u : Fin 256, refE S (ix4 b h s u)) := by
  pointwise [refP, refB]

theorem refO_at (b : Fin 4) (s : Fin 256) (n : Fin 4096) :
    refO A (ix3 b s n) = ∑ t : Fin 256, refV A (ix4 b t ⟨n.val / 128, by omega⟩ ⟨n.val % 128, by omega⟩)
      * refP (refS A) (ix4 b ⟨n.val / 128, by omega⟩ s t) := by
  pointwise [refO]

theorem refOut_at (r : Fin 1024) (n : Fin 4096) :
    refOut A (ix2 r n) = ∑ k : Fin 4096, refO A (ix3 ⟨r.val / 256, by omega⟩ ⟨r.val % 256, by omega⟩ k) * A.wo (ix2 k n) := by
  pointwise [refOut]

end Cert.Mla
-- ==== Proof.Attention.lean ====
/-
# What the devices compute, as the reference's stages

Each device holds the whole input and its blocks of the weights (`Holds`). Read at an index, the compressed cache, keys,
values and queries of a device are the reference's at the device's own heads; its heads' output is then the reference's by
the two forms of softmax.
-/
module

public import proofs.«01_k».proof.Proof.Payloads
public import proofs.«01_k».proof.Proof.Softmax
public import proofs.«01_k».proof.Proof.Reference

@[expose] public section

noncomputable section

namespace Cert.Mla

open Cert.KernelIdeal Cert.KernelIdeal.Gen
open Idealize.ShloMosaic
open Idealize.ShloMosaic.TcCoe

variable (m : (ℓ : Loc nD τ sig) → Buf (Elt Ideal) ℓ) (A : Arrays)

/-- Every device holds its part of the whole arrays. -/
structure Holds : Prop where
  x : ∀ c, arg m c main_arg0 = A.x
  wdkv : ∀ (c : Dev nD) (d : Fin 4096) (k : Fin 128),
    (arg m c main_arg1 : Vec Ideal S4096x128 .f32) (ix2 d k) = A.wdkv (ix2 d ⟨128 * c.val + k.val, by have := c.isLt; change c.val < 8 at this; omega⟩)
  wuk : ∀ (c : Dev nD) (k : Fin 128) (n : Fin 4096),
    (arg m c main_arg2 : Vec Ideal S128x4096 .f32) (ix2 k n) = A.wuk (ix2 ⟨128 * c.val + k.val, by have := c.isLt; change c.val < 8 at this; omega⟩ n)
  wuv : ∀ (c : Dev nD) (k : Fin 128) (n : Fin 4096),
    (arg m c main_arg3 : Vec Ideal S128x4096 .f32) (ix2 k n) = A.wuv (ix2 ⟨128 * c.val + k.val, by have := c.isLt; change c.val < 8 at this; omega⟩ n)
  wq : ∀ c, arg m c main_arg4 = A.wq
  wqr : ∀ c, arg m c main_arg5 = A.wqr
  wkr : ∀ c, wkrV m c = A.wkr
  wo : ∀ c, arg m c main_arg7 = A.wo

variable {m A}

theorem dev_lt (c : Dev nD) : c.val < 8 := c.isLt

theorem xb_at (H : Holds m A) (c : Dev nD) (r : Fin 1024) (d : Fin 4096) :
    xbV m c (ix2 r d) = A.x (ix3 ⟨r.val / 256, by omega⟩ ⟨r.val % 256, by omega⟩ d) := by
  show k0_pay5 (xchunkV m c (r.val / 256)) (at2 256 4096 r.val d.val) = _
  rw [at2_eq, pay5_at]
  show (arg m c main_arg0 : Vec Ideal S4x256x4096 .f32) (at3 4 256 4096 (r.val / 256) (r.val % 256) (d.val % 4096)) = _
  rw [at3_eq, H.x c]
  exact congrArg A.x (ix3_eq (by dsimp only; omega) (by dsimp only; omega) (by dsimp only; omega))

theorem ofNat_val (n : ℕ) : (Fin.ofNat nD n).val = n % 8 := rfl

theorem call_at (H : Holds m A) (r k : Fin 1024) :
    callV m (ix2 r k) = refC A (ix3 ⟨r.val / 256, by omega⟩ ⟨r.val % 256, by omega⟩ k) := by
  show k0_pay9 (xbV m (Fin.ofNat nD (k.val / 128))) (wdkvV m (Fin.ofNat nD (k.val / 128))) (at2 1024 128 r.val k.val) = _
  rw [at2_eq, pay9_at, refC_at]
  refine Finset.sum_congr rfl fun d _ => ?_
  rw [xb_at H]
  unfold wdkvV
  rw [pay2_at, H.wdkv]
  exact congrArg₂ _ (congrArg A.x (ix3_eq (by dsimp only; omega) (by dsimp only; omega) rfl))
    (congrArg A.wdkv (ix2_eq rfl (by dsimp only; rw [ofNat_val]; omega)))

theorem wukc_at (H : Holds m A) (c : Dev nD) (k : Fin 1024) (j : Fin 512) :
    wukcV m c (ix2 k j) = A.wuk (ix2 k ⟨512 * c.val + j.val, by have := dev_lt c; omega⟩) := by
  show wukV m (Fin.ofNat nD (k.val / 128)) (at2 128 4096 k.val (512 * c.val + j.val)) = _
  unfold wukV
  rw [at2_eq, pay3_at, H.wuk]
  have := dev_lt c
  exact congrArg A.wuk (ix2_eq (by dsimp only; rw [ofNat_val]; omega) (by dsimp only; omega))

theorem wuvc_at (H : Holds m A) (c : Dev nD) (k : Fin 1024) (j : Fin 512) :
    wuvcV m c (ix2 k j) = A.wuv (ix2 k ⟨512 * c.val + j.val, by have := dev_lt c; omega⟩) := by
  show wuvV m (Fin.ofNat nD (k.val / 128)) (at2 128 4096 k.val (512 * c.val + j.val)) = _
  unfold wuvV
  rw [at2_eq, pay4_at, H.wuv]
  have := dev_lt c
  exact congrArg A.wuv (ix2_eq (by dsimp only; rw [ofNat_val]; omega) (by dsimp only; omega))

/-! ## Queries, keys and values at the device's own heads -/

theorem v_at (H : Holds m A) (c : Dev nD) (b h : Fin 4) (t : Fin 256) (d : Fin 128) :
    vV m c (ix2 ⟨256 * b.val + t.val, by omega⟩ ⟨128 * h.val + d.val, by omega⟩)
      = refV A (ix4 b t ⟨4 * c.val + h.val, by have := dev_lt c; omega⟩ d) := by
  unfold vV
  rw [pay15_at, refV_at]
  refine Finset.sum_congr rfl fun k _ => ?_
  rw [call_at H, wuvc_at H]
  exact congrArg₂ _ (congrArg (refC A) (ix3_eq (by dsimp only; omega) (by dsimp only; omega) rfl))
    (congrArg A.wuv (ix2_eq rfl (by dsimp only; omega)))

theorem q_left (H : Holds m A) (c : Dev nD) (b h : Fin 4) (t : Fin 256) (e : Fin 128) :
    qV m c (ix2 ⟨256 * b.val + t.val, by omega⟩ ⟨192 * h.val + e.val, by omega⟩)
      = refQ A (ix4 b t ⟨4 * c.val + h.val, by have := dev_lt c; omega⟩ e) := by
  unfold qV qcV
  rw [pay16_left, pay13_at, refQ_at]
  have := dev_lt c
  refine Finset.sum_congr rfl fun d _ => ?_
  rw [xb_at H]
  show _ * (arg m c main_arg4 : Vec Ideal S4096x4096 .f32) (at2 4096 4096 d.val (512 * c.val + (128 * h.val + e.val))) = _
  rw [at2_eq, H.wq c]
  exact congrArg₂ _ (congrArg A.x (ix3_eq (by dsimp only; omega) (by dsimp only; omega) rfl))
    (congrArg A.wq (ix2_eq (by dsimp only; omega) (by dsimp only; omega)))

theorem q_right (H : Holds m A) (c : Dev nD) (b h : Fin 4) (t : Fin 256) (e : Fin 64) :
    qV m c (ix2 ⟨256 * b.val + t.val, by omega⟩ ⟨192 * h.val + (128 + e.val), by omega⟩)
      = refQr A (ix4 b t ⟨4 * c.val + h.val, by have := dev_lt c; omega⟩ e) := by
  unfold qV qrV
  rw [pay16_right, pay14_at, refQr_at]
  have := dev_lt c
  refine Finset.sum_congr rfl fun d _ => ?_
  rw [xb_at H]
  show _ * (arg m c main_arg5 : Vec Ideal S4096x2048 .f32) (at2 4096 2048 d.val (256 * c.val + (64 * h.val + e.val))) = _
  rw [at2_eq, H.wqr c]
  exact congrArg₂ _ (congrArg A.x (ix3_eq (by dsimp only; omega) (by dsimp only; omega) rfl))
    (congrArg A.wqr (ix2_eq (by dsimp only; omega) (by dsimp only; omega)))

theorem k_left (H : Holds m A) (c : Dev nD) (b h : Fin 4) (t : Fin 256) (e : Fin 128) :
    kV m c (ix2 ⟨256 * b.val + t.val, by omega⟩ ⟨192 * h.val + e.val, by omega⟩)
      = refK A (ix4 b t ⟨4 * c.val + h.val, by have := dev_lt c; omega⟩ e) := by
  unfold kV
  rw [pay17_left, refK_at]
  refine Finset.sum_congr rfl fun k _ => ?_
  rw [call_at H, wukc_at H]
  exact congrArg₂ _ (congrArg (refC A) (ix3_eq (by dsimp only; omega) (by dsimp only; omega) rfl))
    (congrArg A.wuk (ix2_eq rfl (by dsimp only; omega)))

theorem k_right (H : Holds m A) (c : Dev nD) (b h : Fin 4) (t : Fin 256) (e : Fin 64) :
    kV m c (ix2 ⟨256 * b.val + t.val, by omega⟩ ⟨192 * h.val + (128 + e.val), by omega⟩)
      = refKr A (ix4 b t ⟨4 * c.val + h.val, by have := dev_lt c; omega⟩ e) := by
  unfold kV krV
  rw [pay17_right, pay12_at, refKr_at]
  refine Finset.sum_congr rfl fun d _ => ?_
  rw [xb_at H, H.wkr c]
  exact congrArg₂ _ (congrArg A.x (ix3_eq (by dsimp only; omega) (by dsimp only; omega) rfl)) rfl

/-- A sum over 192 columns is one over the first 128 and one over the last 64. -/
theorem sum_192 (f : Fin 192 → EReal) :
    ∑ e : Fin 192, f e = ∑ e : Fin 128, f ⟨e.val, by omega⟩ + ∑ e : Fin 64, f ⟨128 + e.val, by omega⟩ :=
  Fin.sum_univ_add (a := 128) (b := 64) f

theorem score_at (H : Holds m A) (c : Dev nD) (b h : Fin 4) (s t : Fin 256) :
    scoreK (qV m c) (kV m c) b h s t = refS A (ix4 b ⟨4 * c.val + h.val, by have := dev_lt c; omega⟩ s t) := by
  unfold scoreK
  rw [refS_at, sum_192]
  refine congrArg (· * _) (congrArg₂ _ ?_ ?_)
  · refine Finset.sum_congr rfl fun e _ => ?_
    exact congrArg₂ _ (q_left H c b h s e) (k_left H c b h t e)
  · refine Finset.sum_congr rfl fun e _ => ?_
    exact congrArg₂ _ (q_right H c b h s e) (k_right H c b h t e)

/-! ## Scores are numbers -/

/-- Every entry that a score is computed from is a number. -/
structure Tame (A : Arrays) : Prop where
  x : ∀ i, Num (A.x i)
  wdkv : ∀ i, Num (A.wdkv i)
  wuk : ∀ i, Num (A.wuk i)
  wq : ∀ i, Num (A.wq i)
  wqr : ∀ i, Num (A.wqr i)
  wkr : ∀ i, Num (A.wkr i)

theorem num_scale : Num (Ideal.ofBits .f32 0x3D93CD3A#32) := ⟨_, rfl⟩

theorem num_refS (T : Tame A) (b : Fin 4) (h : Fin 32) (s t : Fin 256) : Num (refS A (ix4 b h s t)) := by
  rw [refS_at]
  refine Num.mul (Num.add (Num.sum _ fun e => Num.mul ?_ ?_) (Num.sum _ fun e => Num.mul ?_ ?_)) num_scale
  · rw [refQ_at]; exact Num.sum _ fun d => (T.x _).mul (T.wq _)
  · rw [refK_at]; exact Num.sum _ fun k => Num.mul (by rw [refC_at]; exact Num.sum _ fun d => (T.x _).mul (T.wdkv _)) (T.wuk _)
  · rw [refQr_at]; exact Num.sum _ fun d => (T.x _).mul (T.wqr _)
  · rw [refKr_at]; exact Num.sum _ fun d => (T.x _).mul (T.wkr _)

theorem ninf : Ideal.ofBits .f32 0xFF800000#32 = (⊥ : EReal) := rfl

/-! ## A device's heads -/

theorem obuf_at (H : Holds m A) (T : Tame A) (c : Dev nD) (r : Fin 1024) (j : Fin 512) :
    obufV m c (ix2 r j) = refO A (ix3 ⟨r.val / 256, by omega⟩ ⟨r.val % 256, by omega⟩ ⟨512 * c.val + j.val, by have := dev_lt c; omega⟩) := by
  have hc := dev_lt c
  show headV (vV m c) (qV m c) (kV m c) (Fin.ofNat 4 (r.val / 256)) (Fin.ofNat 4 (j.val / 128)) (at2 256 128 r.val j.val) = _
  have eb : Fin.ofNat 4 (r.val / 256) = (⟨r.val / 256, by omega⟩ : Fin 4) := Fin.ext (by show r.val / 256 % 4 = _; dsimp only; omega)
  have eh : Fin.ofNat 4 (j.val / 128) = (⟨j.val / 128, by omega⟩ : Fin 4) := Fin.ext (by show j.val / 128 % 4 = _; dsimp only; omega)
  rw [at2_eq, eb, eh, headV_at, refO_at]
  simp only [score_at H, v_at H, refP_at, refE_at, refM_at, ninf]
  rw [softmax_eq (fun t => refS A (ix4 _ _ _ t)) _ fun t => num_refS T _ _ _ _]
  have e1 : (⟨(512 * c.val + j.val) / 128, by omega⟩ : Fin 32) = ⟨4 * c.val + j.val / 128, by omega⟩ := Fin.ext (by dsimp only; omega)
  have e2 : (⟨(512 * c.val + j.val) % 128, by omega⟩ : Fin 128) = ⟨j.val % 128, by omega⟩ := Fin.ext (by dsimp only; omega)
  simp only [e1, e2]
  refine congrArg₂ _ (Finset.sum_congr rfl fun t _ => congrArg₂ _ rfl ?_) rfl
  exact v_at H c ⟨r.val / 256, by omega⟩ ⟨j.val / 128, by omega⟩ t ⟨j.val % 128, by omega⟩

end Cert.Mla
-- ==== Proof.Project.lean ====
/-
# The output projection

A device adds up eight products, one per block of heads, starting from its own block and going around the ring. The sum is
the reference's, over all columns at once, so the kernel's result is the reference's.
-/
module

public import proofs.«01_k».proof.Proof.Attention

@[expose] public section

noncomputable section

namespace Cert.Mla

open Cert.KernelIdeal Cert.KernelIdeal.Gen
open Idealize.ShloMosaic
open Idealize.ShloMosaic.TcCoe

variable {m : (ℓ : Loc nD τ sig) → Buf (Elt Ideal) ℓ} {A : Arrays}

/-! ## The output projection -/

theorem orB_at (H : Holds m A) (T : Tame A) (c : Dev nD) (p : ℕ) (hp : p < 8) (r : Fin 128) (k : Fin 512) :
    orB m c p (ix2 r k) = refO A (ix3 ⟨(128 * c.val + r.val) / 256, by have := dev_lt c; omega⟩
      ⟨(128 * c.val + r.val) % 256, by have := dev_lt c; omega⟩ ⟨512 * p + k.val, by omega⟩) := by
  have hc := dev_lt c
  show orowsV m c (at2 1024 512 (128 * p + r.val) k.val) = _
  show obufV m (Fin.ofNat nD ((128 * p + r.val) % 1024 / 128)) (at2 1024 512 (128 * c.val + (128 * p + r.val) % 1024 % 128) (k.val % 512)) = _
  rw [at2_eq, obuf_at H T]
  exact congrArg (refO A) (ix3_eq (by dsimp only; omega) (by dsimp only; omega) (by dsimp only; rw [ofNat_val]; omega))

theorem wo_at (H : Holds m A) (c : Dev nD) (p h : ℕ) (hp : p < 8) (hh : h < 2) (k : Fin 512) (n : Fin 2048) :
    woV m c p h (ix3 0 k n) = A.wo (ix2 ⟨512 * p + k.val, by omega⟩ ⟨2048 * h + n.val, by omega⟩) := by
  show (arg m c main_arg7 : Vec Ideal S4096x4096 .f32) (at2 4096 4096 (512 * p + k.val) (2048 * h + n.val)) = _
  rw [at2_eq, H.wo c]
  exact congrArg A.wo (ix2_eq (by dsimp only; omega) (by dsimp only; omega))

/-- The part of an entry of the result that block `p` of the heads contributes. -/
def part (A : Arrays) (r n : ℕ) (hr : r < 1024) (hn : n < 4096) (p : Fin 8) : EReal :=
  ∑ k : Fin 512, refO A (ix3 ⟨r / 256, by omega⟩ ⟨r % 256, by omega⟩ ⟨512 * p.val + k.val, by omega⟩)
    * A.wo (ix2 ⟨512 * p.val + k.val, by omega⟩ ⟨n, hn⟩)

theorem block_at (H : Holds m A) (T : Tame A) (c : Dev nD) (p : Fin 8) (h : ℕ) (hh : h < 2) (r : Fin 128) (n : Fin 2048) :
    (∑ k : Fin 512, orB m c p.val (ix2 r k) * woV m c p.val h (ix3 0 k n))
      = part A (128 * c.val + r.val) (2048 * h + n.val) (by have := dev_lt c; omega) (by omega) p :=
  Finset.sum_congr rfl fun k _ => by rw [orB_at H T c p.val p.isLt, wo_at H c p.val h p.isLt hh]

/-- The blocks, taken from `c` on around the ring, add up to the sum over all columns. -/
theorem sum_parts (r n : ℕ) (hr : r < 1024) (hn : n < 4096) (c : Fin 8) :
    ∑ j : Fin 8, part A r n hr hn (c + j)
      = ∑ k : Fin 4096, refO A (ix3 ⟨r / 256, by omega⟩ ⟨r % 256, by omega⟩ k) * A.wo (ix2 k ⟨n, hn⟩) := by
  refine (Equiv.sum_comp (Equiv.addLeft c) (part A r n hr hn)).trans ?_
  unfold part
  rw [← Fintype.sum_prod_type' (f := fun (p : Fin 8) (k : Fin 512) => refO A (ix3 ⟨r / 256, by omega⟩ ⟨r % 256, by omega⟩ ⟨512 * p.val + k.val, by omega⟩)
    * A.wo (ix2 ⟨512 * p.val + k.val, by omega⟩ ⟨n, hn⟩))]
  refine (Equiv.sum_comp (finProdFinEquiv (m := 8) (n := 512))
    (fun k : Fin 4096 => refO A (ix3 ⟨r / 256, by omega⟩ ⟨r % 256, by omega⟩ k) * A.wo (ix2 k ⟨n, hn⟩))).symm.trans ?_ |>.symm
  refine Finset.sum_congr rfl fun q _ => ?_
  have e : finProdFinEquiv (m := 8) (n := 512) q = (⟨512 * q.1.val + q.2.val, by omega⟩ : Fin 4096) :=
    Fin.ext (by show q.2.val + 512 * q.1.val = _; dsimp only; omega)
  rw [e]

theorem ring_val (c : Dev nD) (j : Fin 8) : ((⟨c.val, dev_lt c⟩ : Fin 8) + j).val = (c.val + j.val) % 8 := rfl

theorem chunk_at (H : Holds m A) (T : Tame A) (c : Dev nD) (h : ℕ) (hh : h < 2) (r : Fin 128) (n : Fin 2048) :
    chunkV m c h (ix2 r n) = ∑ j : Fin 8, part A (128 * c.val + r.val) (2048 * h + n.val) (by have := dev_lt c; omega) (by omega)
      ((⟨c.val, dev_lt c⟩ : Fin 8) + j) := by
  have hb : ∀ j : Fin 8, (∑ k : Fin 512, orB m c ((c.val + j.val) % 8) (ix2 r k) * woV m c ((c.val + j.val) % 8) h (ix3 0 k n))
      = part A (128 * c.val + r.val) (2048 * h + n.val) (by have := dev_lt c; omega) (by omega) ((⟨c.val, dev_lt c⟩ : Fin 8) + j) :=
    fun j => by
      have e := block_at H T c ((⟨c.val, dev_lt c⟩ : Fin 8) + j) h hh r n
      rw [ring_val c j] at e
      exact e
  have hacc : ∀ j : ℕ, (hj : j ≤ 8) → accV m c h j (ix2 r n)
      = ∑ i : Fin j, part A (128 * c.val + r.val) (2048 * h + n.val) (by have := dev_lt c; omega) (by omega)
          ((⟨c.val, dev_lt c⟩ : Fin 8) + ⟨i.val, by omega⟩) := by
    intro j
    induction j with
    | zero => intro _; rw [Fin.sum_univ_zero]; exact pay54_at r n
    | succ j ih =>
      intro hj
      rw [Fin.sum_univ_castSucc]
      show k0_pay55 (accV m c h j) _ _ (ix2 r n) = _
      rw [pay55_at, ih (by omega)]
      exact congrArg₂ _ rfl (hb ⟨j, by omega⟩)
  unfold chunkV
  rw [pay62_at, hacc 7 (by omega), Fin.sum_univ_castSucc (n := 7)]
  exact congrArg₂ _ rfl (hb ⟨7, by omega⟩)

/-- The kernel's result is the reference's. -/
theorem out_eq (H : Holds m A) (T : Tame A) : outV m = refOut A := by
  funext i
  obtain ⟨r, n, rfl⟩ : ∃ (r : Fin 1024) (n : Fin 4096), i = ix2 r n := ⟨i 0, i 1, idx2_ext rfl rfl⟩
  have h0 : 128 * (Fin.ofNat nD (r.val / 128)).val + r.val % 128 = r.val := by rw [ofNat_val]; omega
  have h1 : 2048 * (n.val / 2048) + n.val % 2048 = n.val := by omega
  show chunkV m (Fin.ofNat nD (r.val / 128)) (n.val / 2048) (at2 128 2048 r.val n.val) = _
  rw [at2_eq, chunk_at H T _ _ (by omega), sum_parts, refOut_at]
  simp only [h0, h1]

end Cert.Mla
-- ==== Proof.Algebra.lean ====
/-
# The kernel computes the reference

On memories that hold the same arrays, of finite entries where a score is computed from them, the kernel and the reference
end with the same result on every device.
-/
module

public import proofs.«01_k».proof.Defs
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Project
public import Idealize.ShloMosaic.Lib.LayoutAt

@[expose] public section

noncomputable section

namespace Cert.Mla

open Cert.KernelIdeal Cert.KernelIdeal.Gen
open Idealize.ShloMosaic
open Idealize.ShloMosaic.TcCoe

/-- The side conditions of the precondition's operations. -/
instance preFacts : Cert.Pre_finite_KernelIdeal.Facts where
  bcast_S_S4x256x4096 := by decide
  bcast_S_S4096x128 := by decide
  bcast_S_S128x4096 := by decide
  bcast_S_S4096x4096 := by decide
  bcast_S_S4096x2048 := by decide
  bcast_S_S4096x64 := by decide

/-- What the precondition says of one entry. -/
theorem num_of_cmp {x : EReal} (h : Ideal.cmp .olt (max x (-x)) (Ideal.ofBits .f32 0x7F800000#32) = 1#1) : Num x := by
  refine num_of_abs ?_
  have e : Ideal.ofBits .f32 0x7F800000#32 = (⊤ : EReal) := rfl
  rw [e] at h
  by_contra hn
  have hd : Ideal.cmp .olt (max x (-x)) ⊤ = BitVec.ofBool (decide (max x (-x) < ⊤)) := rfl
  rw [hd, decide_eq_false hn] at h
  exact absurd h (by decide)

/-- The side conditions of the same predicate, taken of the whole arrays. -/
instance preFactsRef : Cert.Pre_finite_ReferenceIdeal.Facts := by constructor <;> decide

attribute [local instance] Cert.KernelIdeal.Gen.facts Cert.ReferenceIdeal.Gen.facts

section
variable {m : (ℓ : Loc nD τ sig) → Buf (Elt Ideal) ℓ}
  {m' : (ℓ : Loc Cert.ReferenceIdeal.nD Cert.ReferenceIdeal.τ Cert.ReferenceIdeal.sig) → Buf (Elt Ideal) ℓ}

/-- Block `c` along axis 1 of an array, at an index. -/
theorem block_cols (v : FVec Ideal ⟨2, ![4096, 1024]⟩ .f32) (c : Dev nD) (d : Fin 4096) (k : Fin 128) :
    Layout.block ⟨2, ![4096, 128]⟩ ⟨2, ![4096, 1024]⟩ 1 8 c v (by decide) (ix2 d k)
      = v (ix2 d ⟨128 * c.val + k.val, by have := dev_lt c; omega⟩) := by
  rw [Layout.block_apply]
  refine congrArg v (idx2_ext ?_ ?_)
  · rw [Layout.Tiles.idx_val_of_ne _ _ _ _ (by decide)]; rfl
  · rw [Layout.Tiles.idx_val_self _ _ _ _ (by decide)]
    show c.val * 128 + k.val = 128 * c.val + k.val
    omega

/-- Block `c` along axis 0 of an array, at an index. -/
theorem block_rows (v : FVec Ideal ⟨2, ![1024, 4096]⟩ .f32) (c : Dev nD) (k : Fin 128) (n : Fin 4096) :
    Layout.block ⟨2, ![128, 4096]⟩ ⟨2, ![1024, 4096]⟩ 0 8 c v (by decide) (ix2 k n)
      = v (ix2 ⟨128 * c.val + k.val, by have := dev_lt c; omega⟩ n) := by
  rw [Layout.block_apply]
  refine congrArg v (idx2_ext ?_ ?_)
  · rw [Layout.Tiles.idx_val_self _ _ _ _ (by decide)]
    show c.val * 128 + k.val = 128 * c.val + k.val
    omega
  · rw [Layout.Tiles.idx_val_of_ne _ _ _ _ (by decide)]; rfl

end

/-- Every index of a two-axis shape is a pair. -/
theorem eq_ix2 {n0 n1 : ℕ} (i : (⟨2, ![n0, n1]⟩ : Shape).Idx) : ∃ (a : Fin n0) (b : Fin n1), i = ix2 a b := ⟨i 0, i 1, idx2_ext rfl rfl⟩

/-- The value claim: the common result is the reference's, which the kernel's description `outV` equals. -/
theorem algebra : Cert.algebraic_KernelIdeal_ReferenceIdeal_pre_finite_KernelIdeal (hKernelIdeal := Cert.KernelIdeal.Gen.facts)
    (hReferenceIdeal := Cert.ReferenceIdeal.Gen.facts) (hPre_finite_KernelIdeal := preFacts) := by
  intro m g m' g' hp ha
  have H : Holds m (Arrays.ofMem m' 0) :=
    { x := fun c => (ha c).1
      wdkv := fun c d k => (congrFun (ha c).2.1 (ix2 d k)).trans (block_cols _ c d k)
      wuk := fun c k n => (congrFun (ha c).2.2.1 (ix2 k n)).trans (block_rows _ c k n)
      wuv := fun c k n => (congrFun (ha c).2.2.2.1 (ix2 k n)).trans (block_rows _ c k n)
      wq := fun c => (ha c).2.2.2.2.1
      wqr := fun c => (ha c).2.2.2.2.2.1
      wkr := fun c => (wkr_whole m c).trans (ha c).2.2.2.2.2.2.1
      wo := fun c => (ha c).2.2.2.2.2.2.2 }
  have T : Tame (Arrays.ofMem m' 0) :=
    { x := fun i => (congrFun (H.x 0) i) ▸ num_of_cmp (congrFun (hp 0).1 i)
      wdkv := fun i => by
        obtain ⟨d, k, rfl⟩ := eq_ix2 (n0 := 4096) (n1 := 1024) i
        have e := H.wdkv ⟨k.val / 128, by show _ < 8; omega⟩ d ⟨k.val % 128, by omega⟩
        rw [show ix2 d k = ix2 d ⟨128 * (k.val / 128) + k.val % 128, by omega⟩ from ix2_eq rfl (by dsimp only; omega)]
        exact e ▸ num_of_cmp (congrFun (hp _).2.1 _)
      wuk := fun i => by
        obtain ⟨k, n, rfl⟩ := eq_ix2 (n0 := 1024) (n1 := 4096) i
        have e := H.wuk ⟨k.val / 128, by show _ < 8; omega⟩ ⟨k.val % 128, by omega⟩ n
        rw [show ix2 k n = ix2 ⟨128 * (k.val / 128) + k.val % 128, by omega⟩ n from ix2_eq (by dsimp only; omega) rfl]
        exact e ▸ num_of_cmp (congrFun (hp _).2.2.1 _)
      wq := fun i => (congrFun (H.wq 0) i) ▸ num_of_cmp (congrFun (hp 0).2.2.2.1 i)
      wqr := fun i => (congrFun (H.wqr 0) i) ▸ num_of_cmp (congrFun (hp 0).2.2.2.2.1 i)
      wkr := fun i => (congrFun ((wkr_whole m 0).symm.trans (H.wkr 0)) i) ▸ num_of_cmp (congrFun (hp 0).2.2.2.2.2 i) }
  refine ⟨outV m, ?_, ?_⟩
  · exact (θ_run Cert.KernelIdeal.defs _ _).mono
      (fun _ h c => ⟨(h.1 c).1, (h.1 c).2.1 0, (h.1 c).2.1 1, (h.1 c).2.1 2, (h.1 c).2.1 3, (h.1 c).2.1 4, (h.1 c).2.1 5,
        (h.1 c).2.2, (h.1 c).2.1 6⟩)
      (run_main (F := Ideal) m g)
  · exact (θ_run Cert.ReferenceIdeal.defs _ _).mono
      (fun _ h => ⟨(h 0).1.trans ((res_eq m' 0).trans (out_eq H T).symm), (h 0).2⟩)
      (Cert.ReferenceIdeal.Value.run m' g')

end Cert.Mla
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Algebra

@[expose] public section

noncomputable section

namespace Cert.Proof

theorem claim : Cert.Claim :=
  ⟨Cert.Kernel.Gen.facts, Cert.KernelIdeal.Gen.facts, Cert.ReferenceIdeal.Gen.facts, Cert.Mla.preFacts, Cert.Mla.preFactsRef,
    Cert.Mla.frame_kernel, Cert.Mla.frame_kernelIdeal, fun m g _ => Cert.Mla.frame_kernelIdeal m g trivial,
    Cert.Mla.frame_reference, fun m g _ => Cert.Mla.frame_reference m g trivial, trivial, Cert.Mla.algebra⟩

end Cert.Proof

end

end
